-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Experts [hPre_plan_ok : Cert.Pre_plan_ok.Facts] (m : (ℓ : Loc Cert.Experts.nD Cert.Experts.τ Cert.Experts.sig) → Buf (Elt Bits) ℓ) : Prop :=
  ∀ c : Dev Cert.Experts.nD,
    (Cert.Pre_plan_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).1 = (fun _ => 1#1)
    ∧ (Cert.Pre_plan_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.1 = (fun _ => 1#1)
    ∧ (Cert.Pre_plan_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2 = (fun _ => 1#1)

def Pre_ExpertsIdeal [hPre_plan_ok : Cert.Pre_plan_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_plan_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).1 = (fun _ => 1#1)
    ∧ (Cert.Pre_plan_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.1 = (fun _ => 1#1)
    ∧ (Cert.Pre_plan_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_plan_ok [hPre_plan_ok : Cert.Pre_plan_ok.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_plan_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).1 = (fun _ => 1#1)
    ∧ (Cert.Pre_plan_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.1 = (fun _ => 1#1)
    ∧ (Cert.Pre_plan_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2 = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_plan_ok : Cert.Pre_plan_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_plan_ok : Cert.Pre_plan_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_plan_ok [hExpertsReferenceIdeal : Cert.ExpertsReferenceIdeal.Facts] [hPre_plan_ok : Cert.Pre_plan_ok.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_plan_ok m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_plan_ok : Cert.Pre_plan_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v46) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)) →
    ∃ (v0 : (c : Dev Cert.ProjectionIdeal.nD) → Buf (Elt Ideal) ((c.tc : Thread Cert.ProjectionIdeal.nD Cert.ProjectionIdeal.τ).loc Cert.ProjectionIdeal.main_v7)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v7) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v73) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v99_1)) (v1 : (c : Dev Cert.QkvIdeal.nD) → Buf (Elt Ideal) ((c.tc : Thread Cert.QkvIdeal.nD Cert.QkvIdeal.τ).loc Cert.QkvIdeal.main_v99_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v99_1) = v0 c
          ∧ r.2.mem ((c.tc : Thread Cert.QkvIdeal.nD Cert.QkvIdeal.τ).loc Cert.QkvIdeal.main_v99_2) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v48) = v0 c
          ∧ r.2.mem ((c.tc : Thread Cert.QkvReferenceIdeal.nD Cert.QkvReferenceIdeal.τ).loc Cert.QkvReferenceIdeal.main_v49) = v1 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hQkv : Cert.Qkv.Facts) (hQkvIdeal : Cert.QkvIdeal.Facts) (hQkvReferenceIdeal : Cert.QkvReferenceIdeal.Facts) (hPre_finite : Cert.Pre_finite.Facts) (hPre_plan_ok : Cert.Pre_plan_ok.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_plan_ok := hPre_plan_ok)
    ∧ quiescent_ExpertsIdeal (hExpertsIdeal := hExpertsIdeal) (hPre_plan_ok := hPre_plan_ok)
    ∧ quiescent_ExpertsReferenceIdeal (hExpertsReferenceIdeal := hExpertsReferenceIdeal)
    ∧ quiescent_ExpertsReferenceIdeal_pre_plan_ok (hExpertsReferenceIdeal := hExpertsReferenceIdeal) (hPre_plan_ok := hPre_plan_ok)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_plan_ok := hPre_plan_ok)
    ∧ preserves_Projection_ProjectionIdeal
    ∧ algebraic_ProjectionIdeal_ProjectionReferenceIdeal (hProjectionIdeal := hProjectionIdeal) (hProjectionReferenceIdeal := hProjectionReferenceIdeal)
    ∧ preserves_Qkv_QkvIdeal
    ∧ algebraic_QkvIdeal_QkvReferenceIdeal (hQkvIdeal := hQkvIdeal) (hQkvReferenceIdeal := hQkvReferenceIdeal)
-- ==== Pre_finite.lean ====
abbrev S32x16x256x64 : Shape := ⟨4, ![32, 16, 256, 64]⟩
abbrev S2x16x2048x64 : Shape := ⟨4, ![2, 16, 2048, 64]⟩
abbrev S2x4x2048x64 : Shape := ⟨4, ![2, 4, 2048, 64]⟩
abbrev S2x1x4x256x64 : Shape := ⟨5, ![2, 1, 4, 256, 64]⟩
abbrev S_ : Shape := ⟨0, ![]⟩

class Facts : Prop where
  bcast_S_S2x16x2048x64 : S_.BroadcastsInDim S2x16x2048x64 (![] : Fin 0 → Fin S2x16x2048x64.rank)
  bcast_S_S2x4x2048x64 : S_.BroadcastsInDim S2x4x2048x64 (![] : Fin 0 → Fin S2x4x2048x64.rank)
  bcast_S_S2x1x4x256x64 : S_.BroadcastsInDim S2x1x4x256x64 (![] : Fin 0 → Fin S2x1x4x256x64.rank)

variable [Facts]

def fn {F : FTy → Type} [FloatOps F] (main_arg0 : FVec F S32x16x256x64 .f32) (main_arg1 : FVec F S2x16x2048x64 .f32) (main_arg2 : FVec F S2x4x2048x64 .f32) (main_arg3 : FVec F S2x4x2048x64 .f32) (main_arg4 : FVec F S2x1x4x256x64 .f32) (main_arg5 : FVec F S2x1x4x256x64 .f32) : IVec S2x16x2048x64 1 × IVec S2x4x2048x64 1 × IVec S2x1x4x256x64 1 :=
  let main_v0 : FVec F S2x16x2048x64 .f32 := Host.absf main_arg1
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_v3 : FVec F S2x4x2048x64 .f32 := Host.absf main_arg2
  let main_cst_0 : FVec F S_ .f32 := constant S_ .f32 0x7F800000#32
  let main_v4 : FVec F S2x4x2048x64 .f32 := broadcastInDim S2x4x2048x64 ![] bcast_S_S2x4x2048x64 main_cst_0
  let main_v5 : IVec S2x4x2048x64 1 := cmpf .olt main_v3 main_v4
  let main_v6 : FVec F S2x1x4x256x64 .f32 := Host.absf main_arg4
  let main_cst_1 : FVec F S_ .f32 := constant S_ .f32 0x7F800000#32
  let main_v7 : FVec F S2x1x4x256x64 .f32 := broadcastInDim S2x1x4x256x64 ![] bcast_S_S2x1x4x256x64 main_cst_1
  let main_v8 : IVec S2x1x4x256x64 1 := cmpf .olt main_v6 main_v7
  (main_v2, main_v5, main_v8)
-- ==== Pre_plan_ok.lean ====
abbrev S8x128 : Shape := ⟨2, ![8, 128]⟩
abbrev S5120x4x8x256 : Shape := ⟨4, ![5120, 4, 8, 256]⟩
abbrev S2x32x1024x256 : Shape := ⟨4, ![2, 32, 1024, 256]⟩
abbrev S2x32x256x1024 : Shape := ⟨4, ![2, 32, 256, 1024]⟩
abbrev S1x128 : Shape := ⟨2, ![1, 128]⟩
abbrev S128 : Shape := ⟨1, ![128]⟩
abbrev S_ : Shape := ⟨0, ![]⟩
abbrev S1x1 : Shape := ⟨2, ![1, 1]⟩

class Facts : Prop where
  slices_S8x128_S1x128_0_0 : S8x128.Slices ![0, 0] S1x128
  shapeCasts_S1x128_S128 : S1x128.ShapeCasts S128
  bcast_S_S128 : S_.BroadcastsInDim S128 (![] : Fin 0 → Fin S128.rank)
  slices_S8x128_S1x1_1_0 : S8x128.Slices ![1, 0] S1x1
  shapeCasts_S1x1_S_ : S1x1.ShapeCasts S_

variable [Facts]

def fn {F : FTy → Type} [FloatOps F] (main_arg0 : IVec S8x128 32) (main_arg1 : FVec F S5120x4x8x256 .bf16) (main_arg2 : FVec F S2x32x1024x256 .f32) (main_arg3 : FVec F S2x32x1024x256 .f32) (main_arg4 : FVec F S2x32x256x1024 .f32) : IVec S128 1 × IVec S128 1 × IVec S_ 1 :=
  let main_v0 : IVec S1x128 32 := (extractStridedSlice S1x128 ![0, 0] · slices_S8x128_S1x128_0_0) main_arg0
  let main_v1 : IVec S128 32 := shapeCast S128 main_v0 shapeCasts_S1x128_S128
  let main_c : IVec S_ 32 := constantI S_ 32 0#32
  let main_v2 : IVec S128 32 := broadcastInDim S128 ![] bcast_S_S128 main_c
  let main_v3 : IVec S128 1 := cmpi .sge main_v1 main_v2
  let main_v4 : IVec S1x128 32 := (extractStridedSlice S1x128 ![0, 0] · slices_S8x128_S1x128_0_0) main_arg0
  let main_v5 : IVec S128 32 := shapeCast S128 main_v4 shapeCasts_S1x128_S128
  let main_c_0 : IVec S_ 32 := constantI S_ 32 32#32
  let main_v6 : IVec S128 32 := broadcastInDim S128 ![] bcast_S_S128 main_c_0
  let main_v7 : IVec S128 1 := cmpi .slt main_v5 main_v6
  let main_v8 : IVec S1x1 32 := (extractStridedSlice S1x1 ![1, 0] · slices_S8x128_S1x1_1_0) main_arg0
  let main_v9 : IVec S_ 32 := shapeCast S_ main_v8 shapeCasts_S1x1_S_
  let main_c_1 : IVec S_ 32 := constantI S_ 32 1#32
  let main_v10 : IVec S_ 1 := cmpi .sge main_v9 main_c_1
  (main_v3, main_v7, main_v10)
-- ==== Kernel.lean ====
abbrev S32x16x256x64 : Shape := ⟨4, ![32, 16, 256, 64]⟩
abbrev S2x16x2048x64 : Shape := ⟨4, ![2, 16, 2048, 64]⟩
abbrev S2x4x2048x64 : Shape := ⟨4, ![2, 4, 2048, 64]⟩
abbrev S2x1x4x256x64 : Shape := ⟨5, ![2, 1, 4, 256, 64]⟩
abbrev S32x256x16x64 : Shape := ⟨4, ![32, 256, 16, 64]⟩
abbrev S8192x1024 : Shape := ⟨2, ![8192, 1024]⟩
abbrev S2x2048x16x64 : Shape := ⟨4, ![2, 2048, 16, 64]⟩
abbrev S4096x1024 : Shape := ⟨2, ![4096, 1024]⟩
abbrev S12288x1024 : Shape := ⟨2, ![12288, 1024]⟩
abbrev S_ : Shape := ⟨0, ![]⟩
abbrev S1x2x1x4x1x2048x1x64 : Shape := ⟨8, ![1, 2, 1, 4, 1, 2048, 1, 64]⟩
abbrev S1x2x1x4x1x2048x4x64 : Shape := ⟨8, ![1, 2, 1, 4, 1, 2048, 4, 64]⟩
abbrev S2x4x2048x256 : Shape := ⟨4, ![2, 4, 2048, 256]⟩
abbrev S2x4x256x2048 : Shape := ⟨4, ![2, 4, 256, 2048]⟩
abbrev S2x4x256x64 : Shape := ⟨4, ![2, 4, 256, 64]⟩
abbrev S1x2x1x4x1x256x1x64 : Shape := ⟨8, ![1, 2, 1, 4, 1, 256, 1, 64]⟩
abbrev S1x2x1x4x1x256x4x64 : Shape := ⟨8, ![1, 2, 1, 4, 1, 256, 4, 64]⟩
abbrev S2x4x256x256 : Shape := ⟨4, ![2, 4, 256, 256]⟩
abbrev S1024x256 : Shape := ⟨2, ![1024, 256]⟩
abbrev S1x1x256x2048 : Shape := ⟨4, ![1, 1, 256, 2048]⟩
abbrev S1x1x256x256 : Shape := ⟨4, ![1, 1, 256, 256]⟩
abbrev S1x1x2048x256 : Shape := ⟨4, ![1, 1, 2048, 256]⟩
abbrev S1x256 : Shape := ⟨2, ![1, 256]⟩
abbrev S256x2048 : Shape := ⟨2, ![256, 2048]⟩
abbrev S1024x2048 : Shape := ⟨2, ![1024, 2048]⟩
abbrev S256x256 : Shape := ⟨2, ![256, 256]⟩
abbrev S1024 : Shape := ⟨1, ![1024]⟩
abbrev S1024x1 : Shape := ⟨2, ![1024, 1]⟩
abbrev S2048x256 : Shape := ⟨2, ![2048, 256]⟩

abbrev nBuf : Space → Nat
  | .hbm => 36
  | .vmem => 12
  | .smem => 0
  | _ => 0

abbrev bufTy : (tb : Table) → Fin (tcTables nBuf tb) → BufTy
  | .hbm, ⟨0, _⟩ => ⟨S32x16x256x64, .f32⟩
  | .hbm, ⟨1, _⟩ => ⟨S2x16x2048x64, .f32⟩
  | .hbm, ⟨2, _⟩ => ⟨S2x4x2048x64, .f32⟩
  | .hbm, ⟨3, _⟩ => ⟨S2x4x2048x64, .f32⟩
  | .hbm, ⟨4, _⟩ => ⟨S2x1x4x256x64, .f32⟩
  | .hbm, ⟨5, _⟩ => ⟨S2x1x4x256x64, .f32⟩
  | .hbm, ⟨6, _⟩ => ⟨S32x256x16x64, .f32⟩
  | .hbm, ⟨7, _⟩ => ⟨S8192x1024, .f32⟩
  | .hbm, ⟨8, _⟩ => ⟨S2x2048x16x64, .f32⟩
  | .hbm, ⟨9, _⟩ => ⟨S4096x1024, .f32⟩
  | .hbm, ⟨10, _⟩ => ⟨S12288x1024, .f32⟩
  | .hbm, ⟨11, _⟩ => ⟨S_, .f32⟩
  | .hbm, ⟨12, _⟩ => ⟨S12288x1024, .f32⟩
  | .hbm, ⟨13, _⟩ => ⟨S12288x1024, .f32⟩
  | .hbm, ⟨14, _⟩ => ⟨S12288x1024, .bf16⟩
  | .hbm, ⟨15, _⟩ => ⟨S2x4x2048x64, .bf16⟩
  | .hbm, ⟨16, _⟩ => ⟨S1x2x1x4x1x2048x1x64, .bf16⟩
  | .hbm, ⟨17, _⟩ => ⟨S1x2x1x4x1x2048x4x64, .bf16⟩
  | .hbm, ⟨18, _⟩ => ⟨S2x4x2048x256, .bf16⟩
  | .hbm, ⟨19, _⟩ => ⟨S2x4x256x2048, .bf16⟩
  | .hbm, ⟨20, _⟩ => ⟨S2x4x2048x64, .bf16⟩
  | .hbm, ⟨21, _⟩ => ⟨S1x2x1x4x1x2048x1x64, .bf16⟩
  | .hbm, ⟨22, _⟩ => ⟨S1x2x1x4x1x2048x4x64, .bf16⟩
  | .hbm, ⟨23, _⟩ => ⟨S2x4x2048x256, .bf16⟩
  | .hbm, ⟨24, _⟩ => ⟨S2x4x256x64, .f32⟩
  | .hbm, ⟨25, _⟩ => ⟨S2x4x256x64, .bf16⟩
  | .hbm, ⟨26, _⟩ => ⟨S1x2x1x4x1x256x1x64, .bf16⟩
  | .hbm, ⟨27, _⟩ => ⟨S1x2x1x4x1x256x4x64, .bf16⟩
  | .hbm, ⟨28, _⟩ => ⟨S2x4x256x256, .bf16⟩
  | .hbm, ⟨29, _⟩ => ⟨S2x4x256x256, .bf16⟩
  | .hbm, ⟨30, _⟩ => ⟨S2x4x256x64, .f32⟩
  | .hbm, ⟨31, _⟩ => ⟨S2x4x256x64, .bf16⟩
  | .hbm, ⟨32, _⟩ => ⟨S1x2x1x4x1x256x1x64, .bf16⟩
  | .hbm, ⟨33, _⟩ => ⟨S1x2x1x4x1x256x4x64, .bf16⟩
  | .hbm, ⟨34, _⟩ => ⟨S2x4x256x256, .bf16⟩
  | .hbm, ⟨35, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1x256x2048, .bf16⟩
  | .local _ .vmem, ⟨3, _⟩ => ⟨S1x1x256x2048, .bf16⟩
  | .local _ .vmem, ⟨4, _⟩ => ⟨S1x1x256x256, .bf16⟩
  | .local _ .vmem, ⟨5, _⟩ => ⟨S1x1x256x256, .bf16⟩
  | .local _ .vmem, ⟨6, _⟩ => ⟨S1x1x2048x256, .bf16⟩
  | .local _ .vmem, ⟨7, _⟩ => ⟨S1x1x2048x256, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S1024x256, .bf16⟩
  | .local _ .vmem, ⟨11, _⟩ => ⟨S1024x256, .bf16⟩
  | _, _ => ⟨S32x16x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg2
  let c0_i32 : BitVec 32 := 0#32
  ![v2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32x16x256x64 : Shape := ⟨4, ![32, 16, 256, 64]⟩
abbrev S2x16x2048x64 : Shape := ⟨4, ![2, 16, 2048, 64]⟩
abbrev S2x4x2048x64 : Shape := ⟨4, ![2, 4, 2048, 64]⟩
abbrev S2x1x4x256x64 : Shape := ⟨5, ![2, 1, 4, 256, 64]⟩
abbrev S2x4x256x64 : Shape := ⟨4, ![2, 4, 256, 64]⟩
abbrev S2x4x2304x64 : Shape := ⟨4, ![2, 4, 2304, 64]⟩
abbrev S2x4x4x2048x64 : Shape := ⟨5, ![2, 4, 4, 2048, 64]⟩
abbrev S2x4x4x2048x2304 : Shape := ⟨5, ![2, 4, 4, 2048, 2304]⟩
abbrev S_ : Shape := ⟨0, ![]⟩
abbrev S2x4x4x2048 : Shape := ⟨4, ![2, 4, 4, 2048]⟩
abbrev S2x4x4x2048x1 : Shape := ⟨5, ![2, 4, 4, 2048, 1]⟩
abbrev S2x2048x16x64 : Shape := ⟨4, ![2, 2048, 16, 64]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32x16x256x64, .f32⟩
  | .hbm, ⟨1, _⟩ => ⟨S2x16x2048x64, .f32⟩
  | .hbm, ⟨2, _⟩ => ⟨S2x4x2048x64, .f32⟩
  | .hbm, ⟨3, _⟩ => ⟨S2x4x2048x64, .f32⟩
  | .hbm, ⟨4, _⟩ => ⟨S2x1x4x256x64, .f32⟩
  | .hbm, ⟨5, _⟩ => ⟨S2x1x4x256x64, .f32⟩
  | .hbm, ⟨6, _⟩ => ⟨S2x4x256x64, .f32⟩
  | .hbm, ⟨7, _⟩ => ⟨S2x4x2304x64, .f32⟩
  | .hbm, ⟨8, _⟩ => ⟨S2x4x256x64, .f32⟩
  | .hbm, ⟨9, _⟩ => ⟨S2x4x2304x64, .f32⟩
  | .hbm, ⟨10, _⟩ => ⟨S2x4x4x2048x64, .f32⟩
  | .hbm, ⟨11, _⟩ => ⟨S2x4x4x2048x2304, .f32⟩
  | .hbm, ⟨12, _⟩ => ⟨S_, .f32⟩
  | .hbm, ⟨13, _⟩ => ⟨S2x4x4x2048x2304, .f32⟩
  | .hbm, ⟨14, _⟩ => ⟨S2x4x4x2048x2304, .f32⟩
  | .hbm, ⟨15, _⟩ => ⟨S_, .f32⟩
  | .hbm, ⟨16, _⟩ => ⟨S2x4x4x2048, .f32⟩
  | .hbm, ⟨17, _⟩ => ⟨S_, .f32⟩
  | .hbm, ⟨18, _⟩ => ⟨S2x4x4x2048, .f32⟩
  | .hbm, ⟨19, _⟩ => ⟨S2x4x4x2048, .f32⟩
  | .hbm, ⟨20, _⟩ => ⟨S2x4x4x2048x1, .f32⟩
  | .hbm, ⟨21, _⟩ => ⟨S2x4x4x2048x2304, .f32⟩
  | .hbm, ⟨22, _⟩ => ⟨S2x4x4x2048x2304, .f32⟩
  | .hbm, ⟨23, _⟩ => ⟨S2x4x4x2048x2304, .f32⟩
  | .hbm, ⟨24, _⟩ => ⟨S_, .f32⟩
  | .hbm, ⟨25, _⟩ => ⟨S2x4x4x2048, .f32⟩
  | .hbm, ⟨26, _⟩ => ⟨S2x4x4x2048x1, .f32⟩
  | .hbm, ⟨27, _⟩ => ⟨S2x4x4x2048x2304, .f32⟩
  | .hbm, ⟨28, _⟩ => ⟨S2x4x4x2048x2304, .f32⟩
  | .hbm, ⟨29, _⟩ => ⟨S2x4x4x2048x64, .f32⟩
  | .hbm, ⟨30, _⟩ => ⟨S2x16x2048x64, .f32⟩
  | .hbm, ⟨31, _⟩ => ⟨S2x2048x16x64, .f32⟩
  | .hbm, ⟨32, _⟩ => ⟨S4096x1024, .f32⟩
  | .hbm, ⟨33, _⟩ => ⟨S4096x1024, .bf16⟩
  | _, _ => ⟨S32x16x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Experts.lean ====
abbrev S8x128 : Shape := ⟨2, ![8, 128]⟩
abbrev S5120x4x8x256 : Shape := ⟨4, ![5120, 4, 8, 256]⟩
abbrev S2x32x1024x256 : Shape := ⟨4, ![2, 32, 1024, 256]⟩
abbrev S2x32x256x1024 : Shape := ⟨4, ![2, 32, 256, 1024]⟩
abbrev S64x4x8x256 : Shape := ⟨4, ![64, 4, 8, 256]⟩
abbrev S1x1 : Shape := ⟨2, ![1, 1]⟩
abbrev S1x1x1024x256 : Shape := ⟨4, ![1, 1, 1024, 256]⟩
abbrev S1x1x256x1024 : Shape := ⟨4, ![1, 1, 256, 1024]⟩
abbrev S1024x512 : Shape := ⟨2, ![1024, 512]⟩
abbrev S256x1024 : Shape := ⟨2, ![256, 1024]⟩
abbrev S1024x256 : Shape := ⟨2, ![1024, 256]⟩
abbrev S64x1x8x256 : Shape := ⟨4, ![64, 1, 8, 256]⟩
abbrev S64x8x256 : Shape := ⟨3, ![64, 8, 256]⟩
abbrev S512x256 : Shape := ⟨2, ![512, 256]⟩
abbrev S512x1024 : Shape := ⟨2, ![512, 1024]⟩
abbrev S512x512 : Shape := ⟨2, ![512, 512]⟩

abbrev nBuf : Space → Nat
  | .hbm => 5
  | .vmem => 12
  | .smem => 1
  | _ => 0

abbrev bufTy : (tb : Table) → Fin (tcTables nBuf tb) → BufTy
  | .hbm, ⟨0, _⟩ => ⟨S5120x4x8x256, .bf16⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S5120x4x8x256, .bf16⟩
  | .local _ .vmem, ⟨0, _⟩ => ⟨S64x4x8x256, .bf16⟩
  | .local _ .vmem, ⟨1, _⟩ => ⟨S64x4x8x256, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S64x4x8x256, .bf16⟩
  | .local _ .vmem, ⟨9, _⟩ => ⟨S64x4x8x256, .bf16⟩
  | .local _ .vmem, ⟨10, _⟩ => ⟨S1024x512, .bf16⟩
  | .local _ .vmem, ⟨11, _⟩ => ⟨S256x1024, .bf16⟩
  | .local _ .smem, ⟨0, _⟩ => ⟨S8x128, .i32⟩
  | _, _ => ⟨S5120x4x8x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c0_2 : Index := 0#32
  let arg0 : BitVec 32 := BitVec.ofNat 32 (i 0).val
  let c1_i32 : BitVec 32 := 1#32
  let v5 : BitVec 32 := Scalar.subi arg0 c1_i32
  let c0_i32_1 : BitVec 32 := 0#32
  let v6 : BitVec 32 := Scalar.maxsi v5 c0_i32_1
  let v7 : Index := Scalar.indexCast v6
  ![0, v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_4 : BitVec 32 := 0#32
  let v15 : BitVec 1 := Scalar.cmpi .ne v14 c0_i32_4
  v15

def cc0_transform_0 (inb_S8x128_S1x1_1_0 : ∀ a, (![1, 0] : Fin 2 → Nat) a + S1x1.size a ≤ S8x128.size a) (numel1_S1x1 : S1x1.numel = 1) (pf : pre0.Contents (Elt F)) (i : grid0.Coords) : Fin 4 → Nat :=
  let arg0 : BitVec 32 := BitVec.ofNat 32 (i 0).val
  let c1 : Index := 1#32
  let c0 : Index := 0#32
  let v0 : BitVec 32 := pf.at 0 (Rect.unit (s := S8x128) ![1, 0] S1x1.size inb_S8x128_S1x1_1_0) numel1_S1x1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_1 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 0 (Rect.unit (s := S8x128) ![0, v0.toNat] S1x1.size (k0_off1_inb i)) numel1_S1x1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 0 (Rect.unit (s := S8x128) ![0, v0.toNat] S1x1.size (k0_off1_inb i)) numel1_S1x1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 0 (Rect.unit (s := S8x128) ![0, v0.toNat] S1x1.size (k0_off1_inb i)) numel1_S1x1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (inb_S8x128_S1x1_1_0 : ∀ a, (![1, 0] : Fin 2 → Nat) a + S1x1.size a ≤ S8x128.size a) (numel1_S1x1 : S1x1.numel = 1) (pf : pre0.Contents (Elt F)) (i : grid0.Coords) : Fin 4 → Nat :=
  let arg0 : BitVec 32 := BitVec.ofNat 32 (i 0).val
  let c1 : Index := 1#32
  let c0 : Index := 0#32
  let v0 : BitVec 32 := pf.at 0 (Rect.unit (s := S8x128) ![1, 0] S1x1.size inb_S8x128_S1x1_1_0) numel1_S1x1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

abbrev stage0_0 : Fin 2 → Memref sig .tc .vmem S64x4x8x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4x8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S8x128 : Shape := ⟨2, ![8, 128]⟩
abbrev S5120x4x8x256 : Shape := ⟨4, ![5120, 4, 8, 256]⟩
abbrev S2x32x1024x256 : Shape := ⟨4, ![2, 32, 1024, 256]⟩
abbrev S2x32x256x1024 : Shape := ⟨4, ![2, 32, 256, 1024]⟩
abbrev S1x80 : Shape := ⟨2, ![1, 80]⟩
abbrev S80 : Shape := ⟨1, ![80]⟩
abbrev S5120x8x4x256 : Shape := ⟨4, ![5120, 8, 4, 256]⟩
abbrev S80x512x1024 : Shape := ⟨3, ![80, 512, 1024]⟩
abbrev S1x32x1024x256 : Shape := ⟨4, ![1, 32, 1024, 256]⟩
abbrev S32x1024x256 : Shape := ⟨3, ![32, 1024, 256]⟩
abbrev S_ : Shape := ⟨0, ![]⟩
abbrev S80x1 : Shape := ⟨2, ![80, 1]⟩
abbrev S80x1024x256 : Shape := ⟨3, ![80, 1024, 256]⟩
abbrev S80x512x256 : Shape := ⟨3, ![80, 512, 256]⟩
abbrev S1x32x256x1024 : Shape := ⟨4, ![1, 32, 256, 1024]⟩
abbrev S32x256x1024 : Shape := ⟨3, ![32, 256, 1024]⟩
abbrev S80x256x1024 : Shape := ⟨3, ![80, 256, 1024]⟩
abbrev S1x1 : Shape := ⟨2, ![1, 1]⟩
abbrev S80x1x1 : Shape := ⟨3, ![80, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S5120x4x8x256, .bf16⟩
  | .hbm, ⟨2, _⟩ => ⟨S2x32x1024x256, .f32⟩
  | .hbm, ⟨3, _⟩ => ⟨S2x32x1024x256, .f32⟩
  | .hbm, ⟨4, _⟩ => ⟨S2x32x256x1024, .f32⟩
  | .hbm, ⟨5, _⟩ => ⟨S1x80, .i32⟩
  | .hbm, ⟨6, _⟩ => ⟨S80, .i32⟩
  | .hbm, ⟨7, _⟩ => ⟨S5120x4x8x256, .f32⟩
  | .hbm, ⟨8, _⟩ => ⟨S5120x8x4x256, .f32⟩
  | .hbm, ⟨9, _⟩ => ⟨S80x512x1024, .f32⟩
  | .hbm, ⟨10, _⟩ => ⟨S1x32x1024x256, .f32⟩
  | .hbm, ⟨11, _⟩ => ⟨S32x1024x256, .f32⟩
  | .hbm, ⟨12, _⟩ => ⟨S_, .i32⟩
  | .hbm, ⟨13, _⟩ => ⟨S80, .i32⟩
  | .hbm, ⟨14, _⟩ => ⟨S80, .i1⟩
  | .hbm, ⟨15, _⟩ => ⟨S_, .i32⟩
  | .hbm, ⟨16, _⟩ => ⟨S80, .i32⟩
  | .hbm, ⟨17, _⟩ => ⟨S80, .i32⟩
  | .hbm, ⟨18, _⟩ => ⟨S80, .i32⟩
  | .hbm, ⟨19, _⟩ => ⟨S80x1, .i32⟩
  | .hbm, ⟨20, _⟩ => ⟨S80x1024x256, .f32⟩
  | .hbm, ⟨21, _⟩ => ⟨S80x512x256, .f32⟩
  | .hbm, ⟨22, _⟩ => ⟨S1x32x1024x256, .f32⟩
  | .hbm, ⟨23, _⟩ => ⟨S32x1024x256, .f32⟩
  | .hbm, ⟨24, _⟩ => ⟨S_, .i32⟩
  | .hbm, ⟨25, _⟩ => ⟨S80, .i32⟩
  | .hbm, ⟨26, _⟩ => ⟨S80, .i1⟩
  | .hbm, ⟨27, _⟩ => ⟨S_, .i32⟩
  | .hbm, ⟨28, _⟩ => ⟨S80, .i32⟩
  | .hbm, ⟨29, _⟩ => ⟨S80, .i32⟩
  | .hbm, ⟨30, _⟩ => ⟨S80, .i32⟩
  | .hbm, ⟨31, _⟩ => ⟨S80x1, .i32⟩
  | .hbm, ⟨32, _⟩ => ⟨S80x1024x256, .f32⟩
  | .hbm, ⟨33, _⟩ => ⟨S80x512x256, .f32⟩
  | .hbm, ⟨34, _⟩ => ⟨S80x512x256, .f32⟩
  | .hbm, ⟨35, _⟩ => ⟨S80x512x256, .f32⟩
  | .hbm, ⟨36, _⟩ => ⟨S_, .f32⟩
  | .hbm, ⟨37, _⟩ => ⟨S80x512x256, .f32⟩
  | .hbm, ⟨38, _⟩ => ⟨S80x512x256, .f32⟩
  | .hbm, ⟨39, _⟩ => ⟨S_, .f32⟩
  | .hbm, ⟨40, _⟩ => ⟨S80x512x256, .f32⟩
  | .hbm, ⟨41, _⟩ => ⟨S80x512x256, .f32⟩
  | .hbm, ⟨42, _⟩ => ⟨S80x512x256, .f32⟩
  | .hbm, ⟨43, _⟩ => ⟨S80x512x256, .f32⟩
  | .hbm, ⟨44, _⟩ => ⟨S1x32x256x1024, .f32⟩
  | .hbm, ⟨45, _⟩ => ⟨S32x256x1024, .f32⟩
  | .hbm, ⟨46, _⟩ => ⟨S_, .i32⟩
  | .hbm, ⟨47, _⟩ => ⟨S80, .i32⟩
  | .hbm, ⟨48, _⟩ => ⟨S80, .i1⟩
  | .hbm, ⟨49, _⟩ => ⟨S_, .i32⟩
  | .hbm, ⟨50, _⟩ => ⟨S80, .i32⟩
  | .hbm, ⟨51, _⟩ => ⟨S80, .i32⟩
  | .hbm, ⟨52, _⟩ => ⟨S80, .i32⟩
  | .hbm, ⟨53, _⟩ => ⟨S80x1, .i32⟩
  | .hbm, ⟨54, _⟩ => ⟨S80x256x1024, .f32⟩
  | .hbm, ⟨55, _⟩ => ⟨S80x512x1024, .f32⟩
  | .hbm, ⟨56, _⟩ => ⟨S80, .i32⟩
  | .hbm, ⟨57, _⟩ => ⟨S1x1, .i32⟩
  | .hbm, ⟨58, _⟩ => ⟨S_, .i32⟩
  | .hbm, ⟨59, _⟩ => ⟨S80, .i32⟩
  | .hbm, ⟨60, _⟩ => ⟨S80, .i1⟩
  | .hbm, ⟨61, _⟩ => ⟨S80x1x1, .i1⟩
  | .hbm, ⟨62, _⟩ => ⟨S80x512x1024, .i1⟩
  | .hbm, ⟨63, _⟩ => ⟨S80x512x1024, .f32⟩
  | .hbm, ⟨64, _⟩ => ⟨S80x512x1024, .bf16⟩
  | .hbm, ⟨65, _⟩ => ⟨S5120x8x4x256, .bf16⟩
  | .hbm, ⟨66, _⟩ => ⟨S5120x4x8x256, .bf16⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Projection.lean ====
abbrev S12288x1024 : Shape := ⟨2, ![12288, 1024]⟩
abbrev S8x6x1024 : Shape := ⟨3, ![8, 6, 1024]⟩
abbrev S2x1024 : Shape := ⟨2, ![2, 1024]⟩
abbrev S1x1024x3072 : Shape := ⟨3, ![1, 1024, 3072]⟩
abbrev S1x3072 : Shape := ⟨2, ![1, 3072]⟩
abbrev S1x1024 : Shape := ⟨2, ![1, 1024]⟩
abbrev S1024 : Shape := ⟨1, ![1024]⟩
abbrev S1024x3072 : Shape := ⟨2, ![1024, 3072]⟩
abbrev S3072 : Shape := ⟨1, ![3072]⟩
abbrev S12288x3072 : Shape := ⟨2, ![12288, 3072]⟩
abbrev S1024x1024 : Shape := ⟨2, ![1024, 1024]⟩
abbrev S1x6x1024 : Shape := ⟨3, ![1, 6, 1024]⟩
abbrev S1024x1 : Shape := ⟨2, ![1024, 1]⟩
abbrev S1x1x1024 : Shape := ⟨3, ![1, 1, 1024]⟩

abbrev nBuf : Space → Nat
  | .hbm => 13
  | .vmem => 9
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S2x1024, .f32⟩
  | .hbm, ⟨3, _⟩ => ⟨S1x1024x3072, .f32⟩
  | .hbm, ⟨4, _⟩ => ⟨S1x3072, .f32⟩
  | .hbm, ⟨5, _⟩ => ⟨S1x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x1024, .f32⟩
  | .hbm, ⟨11, _⟩ => ⟨S1x3072, .f32⟩
  | .hbm, ⟨12, _⟩ => ⟨S12288x3072, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x3072, .f32⟩
  | .local _ .vmem, ⟨7, _⟩ => ⟨S1024x3072, .bf16⟩
  | .local _ .vmem, ⟨8, _⟩ => ⟨S1024x3072, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectionReferenceIdeal.lean ====
abbrev S12288x1024 : Shape := ⟨2, ![12288, 1024]⟩
abbrev S8x6x1024 : Shape := ⟨3, ![8, 6, 1024]⟩
abbrev S2x1024 : Shape := ⟨2, ![2, 1024]⟩
abbrev S1x1024x3072 : Shape := ⟨3, ![1, 1024, 3072]⟩
abbrev S1x3072 : Shape := ⟨2, ![1, 3072]⟩
abbrev S8192x1024 : Shape := ⟨2, ![8192, 1024]⟩
abbrev S32x256x1024 : Shape := ⟨3, ![32, 256, 1024]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S1024 : Shape := ⟨1, ![1024]⟩
abbrev S1024x3072 : Shape := ⟨2, ![1024, 3072]⟩
abbrev S32x256x3072 : Shape := ⟨3, ![32, 256, 3072]⟩
abbrev S3072 : Shape := ⟨1, ![3072]⟩
abbrev S1x1x3072 : Shape := ⟨3, ![1, 1, 3072]⟩
abbrev S4096x1024 : Shape := ⟨2, ![4096, 1024]⟩
abbrev S2x2048x1024 : Shape := ⟨3, ![2, 2048, 1024]⟩
abbrev S2x1x1024 : Shape := ⟨3, ![2, 1, 1024]⟩
abbrev S2x2048 : Shape := ⟨2, ![2, 2048]⟩
abbrev S2x2048x1 : Shape := ⟨3, ![2, 2048, 1]⟩
abbrev S2x2048x3072 : Shape := ⟨3, ![2, 2048, 3072]⟩
abbrev S8192x3072 : Shape := ⟨2, ![8192, 3072]⟩
abbrev S4096x3072 : Shape := ⟨2, ![4096, 3072]⟩
abbrev S12288x3072 : Shape := ⟨2, ![12288, 3072]⟩

abbrev nBuf : Space → Nat
  | .hbm => 87
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S2x1024, .f32⟩
  | .hbm, ⟨3, _⟩ => ⟨S1x1024x3072, .f32⟩
  | .hbm, ⟨4, _⟩ => ⟨S1x3072, .f32⟩
  | .hbm, ⟨5, _⟩ => ⟨S8192x1024, .f32⟩
  | .hbm, ⟨6, _⟩ => ⟨S32x256x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1024, .f32⟩
  | .hbm, ⟨11, _⟩ => ⟨S32x256x1024, .f32⟩
  | .hbm, ⟨12, _⟩ => ⟨S_, .f32⟩
  | .hbm, ⟨13, _⟩ => ⟨S32x256, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1, .f32⟩
  | .hbm, ⟨22, _⟩ => ⟨S32x256x1024, .f32⟩
  | .hbm, ⟨23, _⟩ => ⟨S32x256x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S1x1x1024, .f32⟩
  | .hbm, ⟨36, _⟩ => ⟨S32x256x1024, .f32⟩
  | .hbm, ⟨37, _⟩ => ⟨S32x256x1024, .f32⟩
  | .hbm, ⟨38, _⟩ => ⟨S1024x3072, .f32⟩
  | .hbm, ⟨39, _⟩ => ⟨S32x256x3072, .f32⟩
  | .hbm, ⟨40, _⟩ => ⟨S3072, .f32⟩
  | .hbm, ⟨41, _⟩ => ⟨S1x1x3072, .f32⟩
  | .hbm, ⟨42, _⟩ => ⟨S32x256x3072, .f32⟩
  | .hbm, ⟨43, _⟩ => ⟨S32x256x3072, .f32⟩
  | .hbm, ⟨44, _⟩ => ⟨S4096x1024, .f32⟩
  | .hbm, ⟨45, _⟩ => ⟨S2x2048x1024, .f32⟩
  | .hbm, ⟨46, _⟩ => ⟨S2x1x1024, .f32⟩
  | .hbm, ⟨47, _⟩ => ⟨S2x1024, .f32⟩
  | .hbm, ⟨48, _⟩ => ⟨S2x1x1024, .f32⟩
  | .hbm, ⟨49, _⟩ => ⟨S2x1024, .f32⟩
  | .hbm, ⟨50, _⟩ => ⟨S2x2048x1024, .f32⟩
  | .hbm, ⟨51, _⟩ => ⟨S_, .f32⟩
  | .hbm, ⟨52, _⟩ => ⟨S2x2048, .f32⟩
  | .hbm, ⟨53, _⟩ => ⟨S2x2048x1, .f32⟩
  | .hbm, ⟨54, _⟩ => ⟨S_, .f32⟩
  | .hbm, ⟨55, _⟩ => ⟨S2x2048x1, .f32⟩
  | .hbm, ⟨56, _⟩ => ⟨S2x2048x1, .f32⟩
  | .hbm, ⟨57, _⟩ => ⟨S_, .f32⟩
  | .hbm, ⟨58, _⟩ => ⟨S2x2048x1, .f32⟩
  | .hbm, ⟨59, _⟩ => ⟨S2x2048x1, .f32⟩
  | .hbm, ⟨60, _⟩ => ⟨S2x2048x1, .f32⟩
  | .hbm, ⟨61, _⟩ => ⟨S2x2048x1024, .f32⟩
  | .hbm, ⟨62, _⟩ => ⟨S2x2048x1024, .f32⟩
  | .hbm, ⟨63, _⟩ => ⟨S1x1024, .f32⟩
  | .hbm, ⟨64, _⟩ => ⟨S1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S2x1x1024, .f32⟩
  | .hbm, ⟨69, _⟩ => ⟨S_, .f32⟩
  | .hbm, ⟨70, _⟩ => ⟨S2x1x1024, .f32⟩
  | .hbm, ⟨71, _⟩ => ⟨S2x1x1024, .f32⟩
  | .hbm, ⟨72, _⟩ => ⟨S2x2048x1024, .f32⟩
  | .hbm, ⟨73, _⟩ => ⟨S2x2048x1024, .f32⟩
  | .hbm, ⟨74, _⟩ => ⟨S2x1x1024, .f32⟩
  | .hbm, ⟨75, _⟩ => ⟨S2x2048x1024, .f32⟩
  | .hbm, ⟨76, _⟩ => ⟨S2x2048x1024, .f32⟩
  | .hbm, ⟨77, _⟩ => ⟨S1024x3072, .f32⟩
  | .hbm, ⟨78, _⟩ => ⟨S2x2048x3072, .f32⟩
  | .hbm, ⟨79, _⟩ => ⟨S3072, .f32⟩
  | .hbm, ⟨80, _⟩ => ⟨S1x1x3072, .f32⟩
  | .hbm, ⟨81, _⟩ => ⟨S2x2048x3072, .f32⟩
  | .hbm, ⟨82, _⟩ => ⟨S2x2048x3072, .f32⟩
  | .hbm, ⟨83, _⟩ => ⟨S8192x3072, .f32⟩
  | .hbm, ⟨84, _⟩ => ⟨S4096x3072, .f32⟩
  | .hbm, ⟨85, _⟩ => ⟨S12288x3072, .f32⟩
  | .hbm, ⟨86, _⟩ => ⟨S12288x3072, .bf16⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]
-- ==== Qkv.lean ====
abbrev S32x256x1024 : Shape := ⟨3, ![32, 256, 1024]⟩
abbrev S2x2048x1024 : Shape := ⟨3, ![2, 2048, 1024]⟩
abbrev S8x6x1024 : Shape := ⟨3, ![8, 6, 1024]⟩
abbrev S2x1024 : Shape := ⟨2, ![2, 1024]⟩
abbrev S1x1024x1024 : Shape := ⟨3, ![1, 1024, 1024]⟩
abbrev S1x1024x512 : Shape := ⟨3, ![1, 1024, 512]⟩
abbrev S1x64 : Shape := ⟨2, ![1, 64]⟩
abbrev S256x256 : Shape := ⟨2, ![256, 256]⟩
abbrev S8192x1024 : Shape := ⟨2, ![8192, 1024]⟩
abbrev S4096x1024 : Shape := ⟨2, ![4096, 1024]⟩
abbrev S1024x1024 : Shape := ⟨2, ![1024, 1024]⟩
abbrev S1024x512 : Shape := ⟨2, ![1024, 512]⟩
abbrev S1024x1536 : Shape := ⟨2, ![1024, 1536]⟩
abbrev S1x1024 : Shape := ⟨2, ![1, 1024]⟩
abbrev S1024 : Shape := ⟨1, ![1024]⟩
abbrev S64 : Shape := ⟨1, ![64]⟩
abbrev S2048 : Shape := ⟨1, ![2048]⟩
abbrev S_ : Shape := ⟨0, ![]⟩
abbrev S16 : Shape := ⟨1, ![16]⟩
abbrev S256 : Shape := ⟨1, ![256]⟩
abbrev S1x256 : Shape := ⟨2, ![1, 256]⟩
abbrev S2048x1 : Shape := ⟨2, ![2048, 1]⟩
abbrev S2048x256 : Shape := ⟨2, ![2048, 256]⟩
abbrev S256x1 : Shape := ⟨2, ![256, 1]⟩
abbrev S512x256 : Shape := ⟨2, ![512, 256]⟩
abbrev S2560x256 : Shape := ⟨2, ![2560, 256]⟩
abbrev S4x64 : Shape := ⟨2, ![4, 64]⟩
abbrev S256x1024 : Shape := ⟨2, ![256, 1024]⟩
abbrev S1024x256 : Shape := ⟨2, ![1024, 256]⟩
abbrev S12288x1024 : Shape := ⟨2, ![12288, 1024]⟩
abbrev S32x4x256x64 : Shape := ⟨4, ![32, 4, 256, 64]⟩
abbrev S32x4x256x256 : Shape := ⟨4, ![32, 4, 256, 256]⟩
abbrev S2x4x256x2048 : Shape := ⟨4, ![2, 4, 256, 2048]⟩
abbrev S2x4x2048x256 : Shape := ⟨4, ![2, 4, 2048, 256]⟩
abbrev S512x1024 : Shape := ⟨2, ![512, 1024]⟩
abbrev S1x6x1024 : Shape := ⟨3, ![1, 6, 1024]⟩
abbrev S2x4x256x64 : Shape := ⟨4, ![2, 4, 256, 64]⟩
abbrev S2x4x256x256 : Shape := ⟨4, ![2, 4, 256, 256]⟩
abbrev S1x4x256x512 : Shape := ⟨4, ![1, 4, 256, 512]⟩
abbrev S1x4x512x256 : Shape := ⟨4, ![1, 4, 512, 256]⟩
abbrev S512 : Shape := ⟨1, ![512]⟩
abbrev S512x1 : Shape := ⟨2, ![512, 1]⟩
abbrev S1x1x1024 : Shape := ⟨3, ![1, 1, 1024]⟩
abbrev S512x1536 : Shape := ⟨2, ![512, 1536]⟩
abbrev S256x64 : Shape := ⟨2, ![256, 64]⟩
abbrev S1x1x256x64 : Shape := ⟨4, ![1, 1, 256, 64]⟩
abbrev S1x1x256x256 : Shape := ⟨4, ![1, 1, 256, 256]⟩
abbrev S256x512 : Shape := ⟨2, ![256, 512]⟩
abbrev S1x1x256x512 : Shape := ⟨4, ![1, 1, 256, 512]⟩
abbrev S1x1x512x256 : Shape := ⟨4, ![1, 1, 512, 256]⟩

abbrev nBuf : Space → Nat
  | .hbm => 328
  | .vmem => 31
  | .smem => 0
  | _ => 0

abbrev hbmTy0_0 (i : Nat) : BufTy := match i % 128 with
  | 0 => ⟨S32x256x1024, .f32⟩
  | 1 => ⟨S2x2048x1024, .f32⟩
  | 2 => ⟨S8x6x1024, .f32⟩
  | 3 => ⟨S2x1024, .f32⟩
  | 4 => ⟨S1x1024x1024, .f32⟩
  | 5 => ⟨S1x1024x512, .f32⟩
  | 6 => ⟨S1x64, .f32⟩
  | 7 => ⟨S1x64, .f32⟩
  | 8 => ⟨S256x256, .f32⟩
  | 9 => ⟨S8192x1024, .f32⟩
  | 10 => ⟨S4096x1024, .f32⟩
  | 11 => ⟨S1024x1024, .f32⟩
  | 12 => ⟨S1024x512, .f32⟩
  | 13 => ⟨S1024x1536, .f32⟩
  | 14 => ⟨S1024x1536, .bf16⟩
  | 15 => ⟨S1x1024, .f32⟩
  | 16 => ⟨S1024, .f32⟩
  | 17 => ⟨S64, .f32⟩
  | 18 => ⟨S64, .f32⟩
  | 19 => ⟨S2048, .i32⟩
  | 20 => ⟨S_, .i32⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048, .i32⟩
  | 29 => ⟨S2048, .i32⟩
  | 30 => ⟨S_, .i32⟩
  | 31 => ⟨S2048, .i32⟩
  | 32 => ⟨S2048, .i1⟩
  | 33 => ⟨S2048, .i1⟩
  | 34 => ⟨S_, .i32⟩
  | 35 => ⟨S2048, .i32⟩
  | 36 => ⟨S2048, .i32⟩
  | 37 => ⟨S2048, .i32⟩
  | 38 => ⟨S2048, .f32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i1⟩
  | 50 => ⟨S_, .i32⟩
  | 51 => ⟨S2048, .i32⟩
  | 52 => ⟨S2048, .i1⟩
  | 53 => ⟨S_, .i32⟩
  | 54 => ⟨S_, .i1⟩
  | 55 => ⟨S2048, .i1⟩
  | 56 => ⟨S2048, .i1⟩
  | 57 => ⟨S2048, .i1⟩
  | 58 => ⟨S2048, .i32⟩
  | 59 => ⟨S2048, .i32⟩
  | 60 => ⟨S2048, .i32⟩
  | 61 => ⟨S2048, .f32⟩
  | 62 => ⟨S16, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S256, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S256, .i32⟩
  | 85 => ⟨S256, .i32⟩
  | 86 => ⟨S_, .i32⟩
  | 87 => ⟨S256, .i32⟩
  | 88 => ⟨S256, .i1⟩
  | 89 => ⟨S_, .i32⟩
  | 90 => ⟨S256, .i32⟩
  | 91 => ⟨S256, .i1⟩
  | 92 => ⟨S_, .i32⟩
  | 93 => ⟨S_, .i1⟩
  | 94 => ⟨S256, .i1⟩
  | 95 => ⟨S256, .i1⟩
  | 96 => ⟨S256, .i1⟩
  | 97 => ⟨S256, .i32⟩
  | 98 => ⟨S256, .i32⟩
  | 99 => ⟨S256, .i32⟩
  | 100 => ⟨S_, .i32⟩
  | 101 => ⟨S_, .i32⟩
  | 102 => ⟨S256, .i32⟩
  | 103 => ⟨S256, .i32⟩
  | 104 => ⟨S256, .i32⟩
  | 105 => ⟨S_, .i32⟩
  | 106 => ⟨S256, .i32⟩
  | 107 => ⟨S256, .i1⟩
  | 108 => ⟨S256, .i32⟩
  | 109 => ⟨S256, .i32⟩
  | 110 => ⟨S_, .i32⟩
  | 111 => ⟨S256, .i32⟩
  | 112 => ⟨S256, .i1⟩
  | 113 => ⟨S256, .i1⟩
  | 114 => ⟨S_, .i32⟩
  | 115 => ⟨S256, .i32⟩
  | 116 => ⟨S256, .i32⟩
  | 117 => ⟨S256, .i32⟩
  | 118 => ⟨S_, .i32⟩
  | 119 => ⟨S256, .i32⟩
  | 120 => ⟨S256, .i1⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S256, .i32⟩
  | _ => ⟨S32x256x1024, .f32⟩

abbrev hbmTy0_1 (i : Nat) : BufTy := match i % 128 with
  | 0 => ⟨S256, .i32⟩
  | 1 => ⟨S_, .i32⟩
  | 2 => ⟨S256, .i32⟩
  | 3 => ⟨S256, .i1⟩
  | 4 => ⟨S_, .i32⟩
  | 5 => ⟨S256, .i32⟩
  | 6 => ⟨S256, .i1⟩
  | 7 => ⟨S_, .i32⟩
  | 8 => ⟨S_, .i1⟩
  | 9 => ⟨S256, .i1⟩
  | 10 => ⟨S256, .i1⟩
  | 11 => ⟨S256, .i1⟩
  | 12 => ⟨S256, .i32⟩
  | 13 => ⟨S256, .i32⟩
  | 14 => ⟨S256, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S256, .i32⟩
  | 22 => ⟨S256, .i32⟩
  | 23 => ⟨S_, .i32⟩
  | 24 => ⟨S256, .i32⟩
  | 25 => ⟨S256, .i1⟩
  | 26 => ⟨S_, .i32⟩
  | 27 => ⟨S256, .i32⟩
  | 28 => ⟨S256, .i1⟩
  | 29 => ⟨S_, .i32⟩
  | 30 => ⟨S_, .i1⟩
  | 31 => ⟨S256, .i1⟩
  | 32 => ⟨S256, .i1⟩
  | 33 => ⟨S256, .i1⟩
  | 34 => ⟨S256, .i32⟩
  | 35 => ⟨S256, .i32⟩
  | 36 => ⟨S256, .i32⟩
  | 37 => ⟨S_, .i32⟩
  | 38 => ⟨S256, .i32⟩
  | 39 => ⟨S256, .i1⟩
  | 40 => ⟨S1x256, .i1⟩
  | 41 => ⟨S2048x1, .f32⟩
  | 42 => ⟨S2048x1, .f32⟩
  | 43 => ⟨S2048x256, .i1⟩
  | 44 => ⟨S2048x256, .f32⟩
  | 45 => ⟨S2048x256, .f32⟩
  | 46 => ⟨S2048x256, .f32⟩
  | 47 => ⟨S_, .i32⟩
  | 48 => ⟨S256, .i32⟩
  | 49 => ⟨S256, .i1⟩
  | 50 => ⟨S_, .i32⟩
  | 51 => ⟨S256, .i32⟩
  | 52 => ⟨S256, .i32⟩
  | 53 => ⟨S256, .i32⟩
  | 54 => ⟨S256x1, .i32⟩
  | 55 => ⟨S256, .f32⟩
  | 56 => ⟨S1x256, .f32⟩
  | 57 => ⟨S2048x256, .f32⟩
  | 58 => ⟨S2048x256, .f32⟩
  | 59 => ⟨S2048x256, .f32⟩
  | 60 => ⟨S2048x256, .f32⟩
  | 61 => ⟨S_, .f32⟩
  | 62 => ⟨S_, .f32⟩
  | 63 => ⟨S256, .f32⟩
  | 64 => ⟨S256, .f32⟩
  | 65 => ⟨S256, .f32⟩
  | 66 => ⟨S1x256, .f32⟩
  | 67 => ⟨S1x256, .f32⟩
  | 68 => ⟨S2048x256, .f32⟩
  | 69 => ⟨S2048x256, .f32⟩
  | 70 => ⟨S_, .f32⟩
  | 71 => ⟨S512x256, .f32⟩
  | 72 => ⟨S2560x256, .f32⟩
  | 73 => ⟨S_, .f32⟩
  | 74 => ⟨S512x256, .f32⟩
  | 75 => ⟨S2560x256, .f32⟩
  | 76 => ⟨S1x1024, .f32⟩
  | 77 => ⟨S1x64, .f32⟩
  | 78 => ⟨S4x64, .f32⟩
  | 79 => ⟨S256, .f32⟩
  | 80 => ⟨S1x256, .f32⟩
  | 81 => ⟨S1x64, .f32⟩
  | 82 => ⟨S4x64, .f32⟩
  | 83 => ⟨S256, .f32⟩
  | 84 => ⟨S1x256, .f32⟩
  | 85 => ⟨S256x256, .bf16⟩
  | 86 => ⟨S1024, .i32⟩
  | 87 => ⟨S_, .i32⟩
  | 88 => ⟨S_, .i32⟩
  | 89 => ⟨S1024, .i32⟩
  | 90 => ⟨S1024, .i32⟩
  | 91 => ⟨S1024, .i32⟩
  | 92 => ⟨S_, .i32⟩
  | 93 => ⟨S1024, .i32⟩
  | 94 => ⟨S1024, .i1⟩
  | 95 => ⟨S1024, .i32⟩
  | 96 => ⟨S1024, .i32⟩
  | 97 => ⟨S_, .i32⟩
  | 98 => ⟨S1024, .i32⟩
  | 99 => ⟨S1024, .i1⟩
  | 100 => ⟨S1024, .i1⟩
  | 101 => ⟨S_, .i32⟩
  | 102 => ⟨S1024, .i32⟩
  | 103 => ⟨S1024, .i32⟩
  | 104 => ⟨S1024, .i32⟩
  | 105 => ⟨S_, .i32⟩
  | 106 => ⟨S1024, .i32⟩
  | 107 => ⟨S1024, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S1024, .i32⟩
  | 115 => ⟨S1024, .i32⟩
  | 116 => ⟨S_, .i32⟩
  | 117 => ⟨S1024, .i32⟩
  | 118 => ⟨S1024, .i1⟩
  | 119 => ⟨S_, .i32⟩
  | 120 => ⟨S1024, .i32⟩
  | 121 => ⟨S1024, .i1⟩
  | 122 => ⟨S_, .i32⟩
  | 123 => ⟨S_, .i1⟩
  | 124 => ⟨S1024, .i1⟩
  | 125 => ⟨S1024, .i1⟩
  | 126 => ⟨S1024, .i1⟩
  | 127 => ⟨S1024, .i32⟩
  | _ => ⟨S32x256x1024, .f32⟩

abbrev hbmTy0_2 (i : Nat) : BufTy := match i % 128 with
  | 0 => ⟨S1024, .i32⟩
  | 1 => ⟨S1024, .i32⟩
  | 2 => ⟨S1024, .i32⟩
  | 3 => ⟨S256, .i32⟩
  | 4 => ⟨S256x1, .i32⟩
  | 5 => ⟨S1x1024, .i32⟩
  | 6 => ⟨S256x1024, .i32⟩
  | 7 => ⟨S256x1024, .i32⟩
  | 8 => ⟨S256x1024, .i1⟩
  | 9 => ⟨S256x1024, .f32⟩
  | 10 => ⟨S256x1024, .bf16⟩
  | 11 => ⟨S1024, .i32⟩
  | 12 => ⟨S_, .i32⟩
  | 13 => ⟨S_, .i32⟩
  | 14 => ⟨S1024, .i32⟩
  | 15 => ⟨S1024, .i32⟩
  | 16 => ⟨S1024, .i32⟩
  | 17 => ⟨S_, .i32⟩
  | 18 => ⟨S1024, .i32⟩
  | 19 => ⟨S1024, .i1⟩
  | 20 => ⟨S1024, .i32⟩
  | 21 => ⟨S1024, .i32⟩
  | 22 => ⟨S_, .i32⟩
  | 23 => ⟨S1024, .i32⟩
  | 24 => ⟨S1024, .i1⟩
  | 25 => ⟨S1024, .i1⟩
  | 26 => ⟨S_, .i32⟩
  | 27 => ⟨S1024, .i32⟩
  | 28 => ⟨S1024, .i32⟩
  | 29 => ⟨S1024, .i32⟩
  | 30 => ⟨S_, .i32⟩
  | 31 => ⟨S1024, .i32⟩
  | 32 => ⟨S1024, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S1024, .i32⟩
  | 40 => ⟨S1024, .i32⟩
  | 41 => ⟨S_, .i32⟩
  | 42 => ⟨S1024, .i32⟩
  | 43 => ⟨S1024, .i1⟩
  | 44 => ⟨S_, .i32⟩
  | 45 => ⟨S1024, .i32⟩
  | 46 => ⟨S1024, .i1⟩
  | 47 => ⟨S_, .i32⟩
  | 48 => ⟨S_, .i1⟩
  | 49 => ⟨S1024, .i1⟩
  | 50 => ⟨S1024, .i1⟩
  | 51 => ⟨S1024, .i1⟩
  | 52 => ⟨S1024, .i32⟩
  | 53 => ⟨S1024, .i32⟩
  | 54 => ⟨S1024, .i32⟩
  | 55 => ⟨S1024, .i32⟩
  | 56 => ⟨S256, .i32⟩
  | 57 => ⟨S256x1, .i32⟩
  | 58 => ⟨S1x1024, .i32⟩
  | 59 => ⟨S256x1024, .i32⟩
  | 60 => ⟨S256x1024, .i32⟩
  | 61 => ⟨S256x1024, .i1⟩
  | 62 => ⟨S256x1024, .f32⟩
  | 63 => ⟨S1024x256, .f32⟩
  | 64 => ⟨S1024x256, .bf16⟩
  | 65 => ⟨S12288x1024, .bf16⟩
  | 66 => ⟨S32x4x256x64, .f32⟩
  | 67 => ⟨S32x4x256x64, .f32⟩
  | 68 => ⟨S32x4x256x256, .bf16⟩
  | 69 => ⟨S32x4x256x256, .bf16⟩
  | 70 => ⟨S2x4x256x2048, .bf16⟩
  | 71 => ⟨S2x4x2048x256, .bf16⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1536, .bf16⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S256x1024, .bf16⟩
  | .local _ .vmem, ⟨16, _⟩ => ⟨S1024x256, .bf16⟩
  | .local _ .vmem, ⟨17, _⟩ => ⟨S512x1024, .bf16⟩
  | .local _ .vmem, ⟨18, _⟩ => ⟨S512x1024, .bf16⟩
  | .local _ .vmem, ⟨19, _⟩ => ⟨S2x4x256x64, .f32⟩
  | .local _ .vmem, ⟨20, _⟩ => ⟨S2x4x256x64, .f32⟩
  | .local _ .vmem, ⟨21, _⟩ => ⟨S2x4x256x64, .f32⟩
  | .local _ .vmem, ⟨22, _⟩ => ⟨S2x4x256x64, .f32⟩
  | .local _ .vmem, ⟨23, _⟩ => ⟨S2x4x256x256, .bf16⟩
  | .local _ .vmem, ⟨24, _⟩ => ⟨S2x4x256x256, .bf16⟩
  | .local _ .vmem, ⟨25, _⟩ => ⟨S2x4x256x256, .bf16⟩
  | .local _ .vmem, ⟨26, _⟩ => ⟨S2x4x256x256, .bf16⟩
  | .local _ .vmem, ⟨27, _⟩ => ⟨S1x4x256x512, .bf16⟩
  | .local _ .vmem, ⟨28, _⟩ => ⟨S1x4x256x512, .bf16⟩
  | .local _ .vmem, ⟨29, _⟩ => ⟨S1x4x512x256, .bf16⟩
  | .local _ .vmem, ⟨30, _⟩ => ⟨S1x4x512x256, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v11 : Ref sig .tc := ⟨.hbm, 37, rfl⟩
abbrev main_v12 : Ref sig .tc := ⟨.hbm, 38, rfl⟩
abbrev main_c_0 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_1 : Ref sig .tc := ⟨.hbm, 63, rfl⟩
abbrev main_v16 : Ref sig .tc := ⟨.hbm, 64, rfl⟩
abbrev main_v17 : Ref sig .tc := ⟨.hbm, 65, rfl⟩
abbrev main_c_2 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_3 : Ref sig .tc := ⟨.hbm, 71, rfl⟩
abbrev main_v22 : Ref sig .tc := ⟨.hbm, 72, rfl⟩
abbrev main_v23 : Ref sig .tc := ⟨.hbm, 73, rfl⟩
abbrev main_cst_4 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_5 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v27 : Ref sig .tc := ⟨.hbm, 99, rfl⟩
abbrev main_c_6 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_c : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_0 : Ref sig .tc := ⟨.hbm, 114, rfl⟩
abbrev main_call3_v12 : Ref sig .tc := ⟨.hbm, 115, rfl⟩
abbrev main_call3_v13 : Ref sig .tc := ⟨.hbm, 116, rfl⟩
abbrev main_v28 : Ref sig .tc := ⟨.hbm, 117, rfl⟩
abbrev main_c_7 : Ref sig .tc := ⟨.hbm, 118, rfl⟩
abbrev main_v29 : Ref sig .tc := ⟨.hbm, 119, rfl⟩
abbrev main_v30 : Ref sig .tc := ⟨.hbm, 120, rfl⟩
abbrev main_c_8 : Ref sig .tc := ⟨.hbm, 121, rfl⟩
abbrev main_call4_v0 : Ref sig .tc := ⟨.hbm, 122, rfl⟩
abbrev main_call4_c : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_c_1 : Ref sig .tc := ⟨.hbm, 129, rfl⟩
abbrev main_call4_v5 : Ref sig .tc := ⟨.hbm, 130, rfl⟩
abbrev main_call4_v6 : Ref sig .tc := ⟨.hbm, 131, rfl⟩
abbrev main_call4_c_2 : Ref sig .tc := ⟨.hbm, 132, rfl⟩
abbrev main_call4_v7 : Ref sig .tc := ⟨.hbm, 133, rfl⟩
abbrev main_call4_v8 : Ref sig .tc := ⟨.hbm, 134, rfl⟩
abbrev main_call4_c_3 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_v31 : Ref sig .tc := ⟨.hbm, 142, rfl⟩
abbrev main_c_9 : Ref sig .tc := ⟨.hbm, 143, rfl⟩
abbrev main_call5_v0 : Ref sig .tc := ⟨.hbm, 144, rfl⟩
abbrev main_call5_c : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_c_1 : Ref sig .tc := ⟨.hbm, 151, rfl⟩
abbrev main_call5_v5 : Ref sig .tc := ⟨.hbm, 152, rfl⟩
abbrev main_call5_v6 : Ref sig .tc := ⟨.hbm, 153, rfl⟩
abbrev main_call5_c_2 : Ref sig .tc := ⟨.hbm, 154, rfl⟩
abbrev main_call5_v7 : Ref sig .tc := ⟨.hbm, 155, rfl⟩
abbrev main_call5_v8 : Ref sig .tc := ⟨.hbm, 156, rfl⟩
abbrev main_call5_c_3 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_v32 : Ref sig .tc := ⟨.hbm, 164, rfl⟩
abbrev main_c_10 : Ref sig .tc := ⟨.hbm, 165, rfl⟩
abbrev main_v33 : Ref sig .tc := ⟨.hbm, 166, rfl⟩
abbrev main_v34 : Ref sig .tc := ⟨.hbm, 167, rfl⟩
abbrev main_v35 : Ref sig .tc := ⟨.hbm, 168, rfl⟩
abbrev main_v36 : Ref sig .tc := ⟨.hbm, 169, rfl⟩
abbrev main_v37 : Ref sig .tc := ⟨.hbm, 170, rfl⟩
abbrev main_call6_v0 : Ref sig .tc := ⟨.hbm, 171, rfl⟩
abbrev main_call6_v1 : Ref sig .tc := ⟨.hbm, 172, rfl⟩
abbrev main_call6_v2 : Ref sig .tc := ⟨.hbm, 173, rfl⟩
abbrev main_v38 : Ref sig .tc := ⟨.hbm, 174, rfl⟩
abbrev main_c_11 : Ref sig .tc := ⟨.hbm, 175, rfl⟩
abbrev main_v39 : Ref sig .tc := ⟨.hbm, 176, rfl⟩
abbrev main_v40 : Ref sig .tc := ⟨.hbm, 177, rfl⟩
abbrev main_c_12 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_v44 : Ref sig .tc := ⟨.hbm, 182, rfl⟩
abbrev main_v45 : Ref sig .tc := ⟨.hbm, 183, rfl⟩
abbrev main_v46 : Ref sig .tc := ⟨.hbm, 184, rfl⟩
abbrev main_v47 : Ref sig .tc := ⟨.hbm, 185, rfl⟩
abbrev main_v48 : Ref sig .tc := ⟨.hbm, 186, rfl⟩
abbrev main_v49 : Ref sig .tc := ⟨.hbm, 187, rfl⟩
abbrev main_v50 : Ref sig .tc := ⟨.hbm, 188, rfl⟩
abbrev main_cst_13 : Ref sig .tc := ⟨.hbm, 189, rfl⟩
abbrev main_cst_14 : Ref sig .tc := ⟨.hbm, 190, rfl⟩
abbrev main_call7_v0 : Ref sig .tc := ⟨.hbm, 191, rfl⟩
abbrev main_call7_v1 : Ref sig .tc := ⟨.hbm, 192, rfl⟩
abbrev main_v51 : Ref sig .tc := ⟨.hbm, 193, rfl⟩
abbrev main_v52 : Ref sig .tc := ⟨.hbm, 194, rfl⟩
abbrev main_v53 : Ref sig .tc := ⟨.hbm, 195, rfl⟩
abbrev main_v54 : Ref sig .tc := ⟨.hbm, 196, rfl⟩
abbrev main_v55 : Ref sig .tc := ⟨.hbm, 197, rfl⟩
abbrev main_cst_15 : Ref sig .tc := ⟨.hbm, 198, rfl⟩
abbrev main_v56 : Ref sig .tc := ⟨.hbm, 199, rfl⟩
abbrev main_v57 : Ref sig .tc := ⟨.hbm, 200, rfl⟩
abbrev main_cst_16 : Ref sig .tc := ⟨.hbm, 201, rfl⟩
abbrev main_v58 : Ref sig .tc := ⟨.hbm, 202, rfl⟩
abbrev main_v59 : Ref sig .tc := ⟨.hbm, 203, rfl⟩
abbrev main_v60 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_v68 : Ref sig .tc := ⟨.hbm, 212, rfl⟩
abbrev main_v69 : Ref sig .tc := ⟨.hbm, 213, rfl⟩
abbrev main_v70 : Ref sig .tc := ⟨.hbm, 214, rfl⟩
abbrev main_c_17 : Ref sig .tc := ⟨.hbm, 215, rfl⟩
abbrev main_call8_v0 : Ref sig .tc := ⟨.hbm, 216, rfl⟩
abbrev main_call8_v1 : Ref sig .tc := ⟨.hbm, 217, rfl⟩
abbrev main_call8_v2 : Ref sig .tc := ⟨.hbm, 218, rfl⟩
abbrev main_call8_v3 : Ref sig .tc := ⟨.hbm, 219, rfl⟩
abbrev main_call8_v4 : Ref sig .tc := ⟨.hbm, 220, rfl⟩
abbrev main_call8_v5 : Ref sig .tc := ⟨.hbm, 221, rfl⟩
abbrev main_call8_v6 : Ref sig .tc := ⟨.hbm, 222, rfl⟩
abbrev main_call8_v7 : Ref sig .tc := ⟨.hbm, 223, rfl⟩
abbrev main_call8_v8 : Ref sig .tc := ⟨.hbm, 224, rfl⟩
abbrev main_call8_c : Ref sig .tc := ⟨.hbm, 225, rfl⟩
abbrev main_call8_v9 : Ref sig .tc := ⟨.hbm, 226, rfl⟩
abbrev main_call8_v10 : Ref sig .tc := ⟨.hbm, 227, rfl⟩
abbrev main_call8_v11 : Ref sig .tc := ⟨.hbm, 228, rfl⟩
abbrev main_call8_c_0 : Ref sig .tc := ⟨.hbm, 229, rfl⟩
abbrev main_call8_v12 : Ref sig .tc := ⟨.hbm, 230, rfl⟩
abbrev main_call8_v13 : Ref sig .tc := ⟨.hbm, 231, rfl⟩
abbrev main_v71 : Ref sig .tc := ⟨.hbm, 232, rfl⟩
abbrev main_c_18 : Ref sig .tc := ⟨.hbm, 233, rfl⟩
abbrev main_v72 : Ref sig .tc := ⟨.hbm, 234, rfl⟩
abbrev main_v73 : Ref sig .tc := ⟨.hbm, 235, rfl⟩
abbrev main_c_19 : Ref sig .tc := ⟨.hbm, 236, rfl⟩
abbrev main_call9_v0 : Ref sig .tc := ⟨.hbm, 237, rfl⟩
abbrev main_call9_c : Ref sig .tc := ⟨.hbm, 238, rfl⟩
abbrev main_call9_v1 : Ref sig .tc := ⟨.hbm, 239, rfl⟩
abbrev main_call9_c_0 : Ref sig .tc := ⟨.hbm, 240, rfl⟩
abbrev main_call9_v2 : Ref sig .tc := ⟨.hbm, 241, rfl⟩
abbrev main_call9_v3 : Ref sig .tc := ⟨.hbm, 242, rfl⟩
abbrev main_call9_v4 : Ref sig .tc := ⟨.hbm, 243, rfl⟩
abbrev main_call9_c_1 : Ref sig .tc := ⟨.hbm, 244, rfl⟩
abbrev main_call9_v5 : Ref sig .tc := ⟨.hbm, 245, rfl⟩
abbrev main_call9_v6 : Ref sig .tc := ⟨.hbm, 246, rfl⟩
abbrev main_call9_c_2 : Ref sig .tc := ⟨.hbm, 247, rfl⟩
abbrev main_call9_v7 : Ref sig .tc := ⟨.hbm, 248, rfl⟩
abbrev main_call9_v8 : Ref sig .tc := ⟨.hbm, 249, rfl⟩
abbrev main_call9_c_3 : Ref sig .tc := ⟨.hbm, 250, rfl⟩
abbrev main_call9_v9 : Ref sig .tc := ⟨.hbm, 251, rfl⟩
abbrev main_call9_v10 : Ref sig .tc := ⟨.hbm, 252, rfl⟩
abbrev main_call9_v11 : Ref sig .tc := ⟨.hbm, 253, rfl⟩
abbrev main_call9_v12 : Ref sig .tc := ⟨.hbm, 254, rfl⟩
abbrev main_call9_v13 : Ref sig .tc := ⟨.hbm, 255, rfl⟩
abbrev main_call9_v14 : Ref sig .tc := ⟨.hbm, 256, rfl⟩
abbrev main_v74 : Ref sig .tc := ⟨.hbm, 257, rfl⟩
abbrev main_v75 : Ref sig .tc := ⟨.hbm, 258, rfl⟩
abbrev main_v76 : Ref sig .tc := ⟨.hbm, 259, rfl⟩
abbrev main_v77 : Ref sig .tc := ⟨.hbm, 260, rfl⟩
abbrev main_v78 : Ref sig .tc := ⟨.hbm, 261, rfl⟩
abbrev main_v79 : Ref sig .tc := ⟨.hbm, 262, rfl⟩
abbrev main_v80 : Ref sig .tc := ⟨.hbm, 263, rfl⟩
abbrev main_v81 : Ref sig .tc := ⟨.hbm, 264, rfl⟩
abbrev main_v82 : Ref sig .tc := ⟨.hbm, 265, rfl⟩
abbrev main_v83 : Ref sig .tc := ⟨.hbm, 266, rfl⟩
abbrev main_v84 : Ref sig .tc := ⟨.hbm, 267, rfl⟩
abbrev main_c_20 : Ref sig .tc := ⟨.hbm, 268, rfl⟩
abbrev main_call10_v0 : Ref sig .tc := ⟨.hbm, 269, rfl⟩
abbrev main_call10_v1 : Ref sig .tc := ⟨.hbm, 270, rfl⟩
abbrev main_call10_v2 : Ref sig .tc := ⟨.hbm, 271, rfl⟩
abbrev main_call10_v3 : Ref sig .tc := ⟨.hbm, 272, rfl⟩
abbrev main_call10_v4 : Ref sig .tc := ⟨.hbm, 273, rfl⟩
abbrev main_call10_v5 : Ref sig .tc := ⟨.hbm, 274, rfl⟩
abbrev main_call10_v6 : Ref sig .tc := ⟨.hbm, 275, rfl⟩
abbrev main_call10_v7 : Ref sig .tc := ⟨.hbm, 276, rfl⟩
abbrev main_call10_v8 : Ref sig .tc := ⟨.hbm, 277, rfl⟩
abbrev main_call10_c : Ref sig .tc := ⟨.hbm, 278, rfl⟩
abbrev main_call10_v9 : Ref sig .tc := ⟨.hbm, 279, rfl⟩
abbrev main_call10_v10 : Ref sig .tc := ⟨.hbm, 280, rfl⟩
abbrev main_call10_v11 : Ref sig .tc := ⟨.hbm, 281, rfl⟩
abbrev main_call10_c_0 : Ref sig .tc := ⟨.hbm, 282, rfl⟩
abbrev main_call10_v12 : Ref sig .tc := ⟨.hbm, 283, rfl⟩
abbrev main_call10_v13 : Ref sig .tc := ⟨.hbm, 284, rfl⟩
abbrev main_v85 : Ref sig .tc := ⟨.hbm, 285, rfl⟩
abbrev main_c_21 : Ref sig .tc := ⟨.hbm, 286, rfl⟩
abbrev main_v86 : Ref sig .tc := ⟨.hbm, 287, rfl⟩
abbrev main_v87 : Ref sig .tc := ⟨.hbm, 288, rfl⟩
abbrev main_c_22 : Ref sig .tc := ⟨.hbm, 289, rfl⟩
abbrev main_call11_v0 : Ref sig .tc := ⟨.hbm, 290, rfl⟩
abbrev main_call11_c : Ref sig .tc := ⟨.hbm, 291, rfl⟩
abbrev main_call11_v1 : Ref sig .tc := ⟨.hbm, 292, rfl⟩
abbrev main_call11_c_0 : Ref sig .tc := ⟨.hbm, 293, rfl⟩
abbrev main_call11_v2 : Ref sig .tc := ⟨.hbm, 294, rfl⟩
abbrev main_call11_v3 : Ref sig .tc := ⟨.hbm, 295, rfl⟩
abbrev main_call11_v4 : Ref sig .tc := ⟨.hbm, 296, rfl⟩
abbrev main_call11_c_1 : Ref sig .tc := ⟨.hbm, 297, rfl⟩
abbrev main_call11_v5 : Ref sig .tc := ⟨.hbm, 298, rfl⟩
abbrev main_call11_v6 : Ref sig .tc := ⟨.hbm, 299, rfl⟩
abbrev main_call11_c_2 : Ref sig .tc := ⟨.hbm, 300, rfl⟩
abbrev main_call11_v7 : Ref sig .tc := ⟨.hbm, 301, rfl⟩
abbrev main_call11_v8 : Ref sig .tc := ⟨.hbm, 302, rfl⟩
abbrev main_call11_c_3 : Ref sig .tc := ⟨.hbm, 303, rfl⟩
abbrev main_call11_v9 : Ref sig .tc := ⟨.hbm, 304, rfl⟩
abbrev main_call11_v10 : Ref sig .tc := ⟨.hbm, 305, rfl⟩
abbrev main_call11_v11 : Ref sig .tc := ⟨.hbm, 306, rfl⟩
abbrev main_call11_v12 : Ref sig .tc := ⟨.hbm, 307, rfl⟩
abbrev main_call11_v13 : Ref sig .tc := ⟨.hbm, 308, rfl⟩
abbrev main_call11_v14 : Ref sig .tc := ⟨.hbm, 309, rfl⟩
abbrev main_v88 : Ref sig .tc := ⟨.hbm, 310, rfl⟩
abbrev main_v89 : Ref sig .tc := ⟨.hbm, 311, rfl⟩
abbrev main_v90 : Ref sig .tc := ⟨.hbm, 312, rfl⟩
abbrev main_v91 : Ref sig .tc := ⟨.hbm, 313, rfl⟩
abbrev main_v92 : Ref sig .tc := ⟨.hbm, 314, rfl⟩
abbrev main_v93 : Ref sig .tc := ⟨.hbm, 315, rfl⟩
abbrev main_v94 : Ref sig .tc := ⟨.hbm, 316, rfl⟩
abbrev main_v95 : Ref sig .tc := ⟨.hbm, 317, rfl⟩
abbrev main_v96 : Ref sig .tc := ⟨.hbm, 318, rfl⟩
abbrev main_v97 : Ref sig .tc := ⟨.hbm, 319, rfl⟩
abbrev main_v98 : Ref sig .tc := ⟨.hbm, 320, rfl⟩
abbrev main_v99_0 : Ref sig .tc := ⟨.hbm, 321, rfl⟩
abbrev main_v99_1 : Ref sig .tc := ⟨.hbm, 322, rfl⟩
abbrev main_v99_2 : Ref sig .tc := ⟨.hbm, 323, rfl⟩
abbrev main_v99_3 : Ref sig .tc := ⟨.hbm, 324, rfl⟩
abbrev main_v99_4 : Ref sig .tc := ⟨.hbm, 325, rfl⟩
abbrev main_v99_5 : Ref sig .tc := ⟨.hbm, 326, rfl⟩
abbrev main_v99_6 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32_80 : BitVec 32 := 16#32
  let v198 : BitVec 1 := Scalar.cmpi .slt arg0 c16_i32_80
  let v199 : BitVec 32 := Scalar.extui v198
  let c0_i32_81 : BitVec 32 := 0#32
  let v200 : BitVec 1 := Scalar.cmpi .ne v199 c0_i32_81
  v200

def k0_cond2 (i : grid0.Coords) : BitVec 1 :=
  let arg0 : BitVec 32 := BitVec.ofNat 32 (i 0).val
  let c16_i32_80 : BitVec 32 := 16#32
  let v198 : BitVec 1 := Scalar.cmpi .slt arg0 c16_i32_80
  let v_true : BitVec 1 := 1#1
  let v201 : BitVec 1 := Scalar.xori v198 v_true
  let v202 : BitVec 32 := Scalar.extui v201
  let c0_i32_82 : BitVec 32 := 0#32
  let v203 : BitVec 1 := Scalar.cmpi .ne v202 c0_i32_82
  v203

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_9 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_14 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_15 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_16 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_17 (i : grid0.Coords) : Fin 4 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v18.toNat, c0_i32_11.toNat, c0_i32_12.toNat, v28.toNat]

def cc0_transform_18 (i : grid0.Coords) : Fin 4 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v18.toNat, c0_i32_11.toNat, v28.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x4x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x4x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x4x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== QkvReferenceIdeal.lean ====
abbrev S32x256x1024 : Shape := ⟨3, ![32, 256, 1024]⟩
abbrev S2x2048x1024 : Shape := ⟨3, ![2, 2048, 1024]⟩
abbrev S8x6x1024 : Shape := ⟨3, ![8, 6, 1024]⟩
abbrev S2x1024 : Shape := ⟨2, ![2, 1024]⟩
abbrev S1x1024x1024 : Shape := ⟨3, ![1, 1024, 1024]⟩
abbrev S1x1024x512 : Shape := ⟨3, ![1, 1024, 512]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x512 : Shape := ⟨2, ![1024, 512]⟩
abbrev S32x256x512 : Shape := ⟨3, ![32, 256, 512]⟩
abbrev S32x256x2x4x64 : Shape := ⟨5, ![32, 256, 2, 4, 64]⟩
abbrev S32x256x1x4x64 : Shape := ⟨5, ![32, 256, 1, 4, 64]⟩
abbrev S32x256x4x64 : Shape := ⟨4, ![32, 256, 4, 64]⟩
abbrev S64 : Shape := ⟨1, ![64]⟩
abbrev S32x256x4 : Shape := ⟨3, ![32, 256, 4]⟩
abbrev S32x256x4x1 : Shape := ⟨4, ![32, 256, 4, 1]⟩
abbrev S1x1x1x64 : Shape := ⟨4, ![1, 1, 1, 64]⟩
abbrev S32x4x256x64 : Shape := ⟨4, ![32, 4, 256, 64]⟩

abbrev nBuf : Space → Nat
  | .hbm => 65
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x2048x1024, .f32⟩
  | .hbm, ⟨2, _⟩ => ⟨S8x6x1024, .f32⟩
  | .hbm, ⟨3, _⟩ => ⟨S2x1024, .f32⟩
  | .hbm, ⟨4, _⟩ => ⟨S1x1024x1024, .f32⟩
  | .hbm, ⟨5, _⟩ => ⟨S1x1024x512, .f32⟩
  | .hbm, ⟨6, _⟩ => ⟨S1x64, .f32⟩
  | .hbm, ⟨7, _⟩ => ⟨S1x64, .f32⟩
  | .hbm, ⟨8, _⟩ => ⟨S1x1024, .f32⟩
  | .hbm, ⟨9, _⟩ => ⟨S1024, .f32⟩
  | .hbm, ⟨10, _⟩ => ⟨S32x256x1024, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x1024, .f32⟩
  | .hbm, ⟨22, _⟩ => ⟨S32x256x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S1x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S1x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S1024x512, .f32⟩
  | .hbm, ⟨40, _⟩ => ⟨S32x256x512, .f32⟩
  | .hbm, ⟨41, _⟩ => ⟨S32x256x2x4x64, .f32⟩
  | .hbm, ⟨42, _⟩ => ⟨S32x256x1x4x64, .f32⟩
  | .hbm, ⟨43, _⟩ => ⟨S32x256x4x64, .f32⟩
  | .hbm, ⟨44, _⟩ => ⟨S32x256x1x4x64, .f32⟩
  | .hbm, ⟨45, _⟩ => ⟨S32x256x4x64, .f32⟩
  | .hbm, ⟨46, _⟩ => ⟨S64, .f32⟩
  | .hbm, ⟨47, _⟩ => ⟨S32x256x4x64, .f32⟩
  | .hbm, ⟨48, _⟩ => ⟨S_, .f32⟩
  | .hbm, ⟨49, _⟩ => ⟨S32x256x4, .f32⟩
  | .hbm, ⟨50, _⟩ => ⟨S32x256x4x1, .f32⟩
  | .hbm, ⟨51, _⟩ => ⟨S_, .f32⟩
  | .hbm, ⟨52, _⟩ => ⟨S32x256x4x1, .f32⟩
  | .hbm, ⟨53, _⟩ => ⟨S32x256x4x1, .f32⟩
  | .hbm, ⟨54, _⟩ => ⟨S_, .f32⟩
  | .hbm, ⟨55, _⟩ => ⟨S32x256x4x1, .f32⟩
  | .hbm, ⟨56, _⟩ => ⟨S32x256x4x1, .f32⟩
  | .hbm, ⟨57, _⟩ => ⟨S32x256x4x1, .f32⟩
  | .hbm, ⟨58, _⟩ => ⟨S32x256x4x64, .f32⟩
  | .hbm, ⟨59, _⟩ => ⟨S32x256x4x64, .f32⟩
  | .hbm, ⟨60, _⟩ => ⟨S1x1x1x64, .f32⟩
  | .hbm, ⟨61, _⟩ => ⟨S32x256x4x64, .f32⟩
  | .hbm, ⟨62, _⟩ => ⟨S32x256x4x64, .f32⟩
  | .hbm, ⟨63, _⟩ => ⟨S32x4x256x64, .f32⟩
  | .hbm, ⟨64, _⟩ => ⟨S32x4x256x64, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.Softmax.lean ====
/-
  Softmax over extended reals: a row of weights, its largest entry, and the two ways of normalising a weighted sum by
  the sum of the exponentials — by the reciprocal afterwards, or weight by weight.
-/
module

public import Idealize.ShloMosaic.PureOps.Ideal

@[expose] public section

noncomputable section

namespace Cert.Softmax

open Idealize.ShloMosaic

/-- An extended real that is neither infinity. -/
def Fin' (x : EReal) : Prop := x ≠ ⊥ ∧ x ≠ ⊤

theorem Fin'.coe (x : ℝ) : Fin' (x : EReal) := ⟨EReal.coe_ne_bot x, EReal.coe_ne_top x⟩

theorem Fin'.exists {x : EReal} (h : Fin' x) : ∃ r : ℝ, x = r := ⟨x.toReal, (EReal.coe_toReal h.2 h.1).symm⟩

/-- A product of finite values is finite. -/
theorem Fin'.mul {x y : EReal} (hx : Fin' x) (hy : Fin' y) : Fin' (x * y) := by
  obtain ⟨a, rfl⟩ := hx.exists
  obtain ⟨b, rfl⟩ := hy.exists
  rw [← EReal.coe_mul]
  exact Fin'.coe _

/-- A finite sum of finite values is finite. -/
theorem Fin'.sum {ι : Type} (s : Finset ι) (f : ι → EReal) (h : ∀ i, Fin' (f i)) : Fin' (∑ i ∈ s, f i) := by
  classical
  induction s using Finset.induction_on with
  | empty => simpa using Fin'.coe 0
  | insert a s ha ih =>
    rw [Finset.sum_insert ha]
    obtain ⟨x, hx⟩ := (h a).exists
    obtain ⟨y, hy⟩ := ih.exists
    rw [hx, hy, ← EReal.coe_add]
    exact Fin'.coe _

/-- The pattern of minus infinity. -/
theorem ofBits_minus_infinity : Ideal.ofBits .f32 0xFF800000#32 = (⊥ : EReal) := by simp [Ideal.ofBits, Ideal.ieee]

/-- The pattern of infinity. -/
theorem ofBits_infinity : Ideal.ofBits .f32 0x7F800000#32 = (⊤ : EReal) := by simp [Ideal.ofBits, Ideal.ieee]

/-- The pattern of an eighth, the scale of the scores. -/
theorem ofBits_eighth : Ideal.ofBits .f32 0x3E000000#32 = ((1 / 8 : ℝ) : EReal) := by
  simp [Ideal.ofBits, Ideal.ieee]; norm_num
  rw [← EReal.coe_mul]; norm_num

/-- The largest entry of a row, `⊥` for an empty row. -/
abbrev rowMax {n : ℕ} (f : Fin n → EReal) : EReal := Finset.univ.fold max ⊥ f

theorem le_rowMax {n : ℕ} (f : Fin n → EReal) (k : Fin n) : f k ≤ rowMax f :=
  (Finset.le_fold_max _).2 (.inr ⟨k, Finset.mem_univ k, le_rfl⟩)

theorem rowMax_le {n : ℕ} (f : Fin n → EReal) (c : EReal) (h : ∀ k, f k ≤ c) : rowMax f ≤ c :=
  (Finset.fold_max_le _).2 ⟨bot_le, fun k _ => h k⟩

/-- The largest entry of finite entries is not `⊤`. -/
theorem rowMax_ne_top {n : ℕ} (f : Fin n → EReal) (h : ∀ k, Fin' (f k)) : rowMax f ≠ ⊤ := by
  have : rowMax f < ⊤ := (Finset.fold_max_lt _).2 ⟨bot_lt_top, fun k _ => lt_top_iff_ne_top.2 (h k).2⟩
  exact this.ne

/-- Multiplication by a positive real distributes over a sum of extended reals. -/
theorem sum_mul_coe {ι : Type} (s : Finset ι) (f : ι → EReal) (c : ℝ) (hc : 0 ≤ c) :
    (∑ i ∈ s, f i) * (c : EReal) = ∑ i ∈ s, f i * c := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The exponential of a finite value less a finite value is a positive real. -/
theorem exp_sub_pos {a t : EReal} (ha : Fin' a) (ht : Fin' t) : ∃ p : ℝ, 0 < p ∧ Ideal.exp (a - t) = p := by
  obtain ⟨x, rfl⟩ := ha.exists
  obtain ⟨y, rfl⟩ := ht.exists
  rw [← EReal.coe_sub]
  exact ⟨Real.exp (x - y), Real.exp_pos _, rfl⟩

/-- The sum of the exponentials of a nonempty finite row, less a finite value, is a positive real. -/
theorem sum_exp_pos {n : ℕ} (hn : 0 < n) (f : Fin n → EReal) (t : EReal) (h : ∀ k, Fin' (f k)) (ht : Fin' t) :
    ∃ z : ℝ, 0 < z ∧ ∑ k, Ideal.exp (f k - t) = z := by
  choose p hp he using fun k => exp_sub_pos (h k) ht
  refine ⟨∑ k, p k, Finset.sum_pos (fun k _ => hp k) ⟨⟨0, hn⟩, Finset.mem_univ _⟩, ?_⟩
  simp only [he]
  exact (map_sum (⟨⟨((↑) : ℝ → EReal), EReal.coe_zero⟩, EReal.coe_add⟩ : ℝ →+ EReal) p Finset.univ).symm

/-- A row's softmax against values, weight by weight: each exponential (the row's largest entry subtracted) divided by
    the sum of the exponentials, times its value. -/
def attend {n : ℕ} (S v : Fin n → EReal) : EReal :=
  ∑ s, Ideal.div (Ideal.exp (S s - rowMax S)) (∑ u, Ideal.exp (S u - rowMax S)) * v s

/-- The same with the weighted sum formed first and multiplied by the reciprocal of the sum of the exponentials. -/
theorem attend_eq {n : ℕ} (hn : 0 < n) (S v : Fin n → EReal) (h : ∀ k, Fin' (S k)) :
    (∑ s, Ideal.exp (S s - rowMax S) * v s) * Ideal.div 1 (∑ u, Ideal.exp (S u - rowMax S)) = attend S v := by
  have ht : Fin' (rowMax S) :=
    ⟨fun hb => (h ⟨0, hn⟩).1 (le_bot_iff.1 (hb ▸ le_rowMax S ⟨0, hn⟩)), rowMax_ne_top S h⟩
  obtain ⟨z, hz, he⟩ := sum_exp_pos hn S (rowMax S) h ht
  unfold attend
  rw [he, Ideal.div_coe hz.ne', one_mul, sum_mul_coe _ _ _ (by positivity)]
  refine Finset.sum_congr rfl fun s _ => ?_
  rw [Ideal.div_coe hz.ne', mul_right_comm]

/-- A sum over a row in two segments. -/
theorem sum_segments {N n₁ n₂ : ℕ} (hN : N = n₁ + n₂) (f : Fin N → EReal) (a : Fin n₁ → EReal) (b : Fin n₂ → EReal)
    (ha : ∀ s : Fin n₁, f ⟨s.1, by omega⟩ = a s) (hb : ∀ s : Fin n₂, f ⟨n₁ + s.1, by omega⟩ = b s) :
    ∑ s, f s = ∑ s, a s + ∑ s, b s := by
  subst hN
  rw [Fin.sum_univ_add]
  exact congrArg₂ _ (Finset.sum_congr rfl fun s _ => ha s) (Finset.sum_congr rfl fun s _ => hb s)

/-- The largest entry of a row in two segments is the larger of the segments' largest. -/
theorem rowMax_segments {N n₁ n₂ : ℕ} (hN : N = n₁ + n₂) (f : Fin N → EReal) (a : Fin n₁ → EReal) (b : Fin n₂ → EReal)
    (ha : ∀ s : Fin n₁, f ⟨s.1, by omega⟩ = a s) (hb : ∀ s : Fin n₂, f ⟨n₁ + s.1, by omega⟩ = b s) :
    rowMax f = max (rowMax a) (rowMax b) := by
  apply le_antisymm
  · refine rowMax_le _ _ fun k => ?_
    by_cases hk : k.1 < n₁
    · exact (ha ⟨k.1, hk⟩ ▸ le_rowMax a ⟨k.1, hk⟩).trans (le_max_left _ _)
    · have e : k = ⟨n₁ + (k.1 - n₁), by omega⟩ := Fin.ext (by simp; omega)
      rw [e, hb ⟨k.1 - n₁, by omega⟩]
      exact (le_rowMax b _).trans (le_max_right _ _)
  · refine max_le (rowMax_le _ _ fun k => ?_) (rowMax_le _ _ fun k => ?_)
    · rw [← ha k]; exact le_rowMax f _
    · rw [← hb k]; exact le_rowMax f _

/-- Softmax over a row in two segments, each with its own weighted sum and its own sum of exponentials, normalised
    afterwards: it is the softmax over the whole row, weight by weight. -/
theorem attend_segments {N n₁ n₂ : ℕ} (hN : N = n₁ + n₂) (hn : 0 < n₁) (S v : Fin N → EReal)
    (a va : Fin n₁ → EReal) (b vb : Fin n₂ → EReal) (h : ∀ k, Fin' (S k))
    (ha : ∀ s : Fin n₁, S ⟨s.1, by omega⟩ = a s) (hb : ∀ s : Fin n₂, S ⟨n₁ + s.1, by omega⟩ = b s)
    (hva : ∀ s : Fin n₁, v ⟨s.1, by omega⟩ = va s) (hvb : ∀ s : Fin n₂, v ⟨n₁ + s.1, by omega⟩ = vb s) :
    (∑ s, Ideal.exp (a s - max (rowMax a) (rowMax b)) * va s + ∑ s, Ideal.exp (b s - max (rowMax a) (rowMax b)) * vb s)
        * Ideal.div 1 (∑ s, Ideal.exp (a s - max (rowMax a) (rowMax b)) + ∑ s, Ideal.exp (b s - max (rowMax a) (rowMax b)))
      = attend S v := by
  rw [← attend_eq (by omega) S v h, rowMax_segments hN S a b ha hb]
  congr 1
  · exact (sum_segments hN _ _ _ (fun s => by rw [ha, hva]) (fun s => by rw [hb, hvb])).symm
  · exact congrArg _ (sum_segments hN _ _ _ (fun s => by rw [ha]) (fun s => by rw [hb])).symm

end Cert.Softmax

end
-- ==== Proof.Block.lean ====
/-
  What the latent attention kernel computes on one block: for every query row and every lane, the softmax of the row's
  scores against the lane's values, each head on the lanes of its own.
-/
module

public import proofs.«01_k».proof.Proof.Gen.KernelIdeal.Value
public import proofs.«01_k».proof.Proof.Softmax
public import Idealize.ShloMosaic.Lib.Pointwise
public import Idealize.ShloMosaic.Lib.IdealHost

@[expose] public section

set_option maxRecDepth 16384

noncomputable section

namespace Cert.Block

open Cert.KernelIdeal Cert.KernelIdeal.Gen Idealize.ShloMosaic Idealize.ShloMosaic.Pointwise Cert.Softmax

/-! ## The payload as four heads -/

/-- Cached values with ones on the masked lanes. -/
def onesCached (mo : IVec S1x256 1) (v : FVec Ideal S1x1x256x256 .bf16) : FVec Ideal S256x256 .bf16 :=
  select (broadcastTo S256x256 (shapeCast S1x256 mo shapeCasts_S1x256_S1x256) broadcasts_S1x256_S256x256)
    (broadcast S256x256 (Scalar.ofBits .bf16 0x3F80#16)) (shapeCast S256x256 v shapeCasts_S1x1x256x256_S256x256)

/-- A head's weights applied to the latent and the cached values, each with ones on the masked lanes. -/
def applied (mo : IVec S1x256 1) (p : FVec Ideal S1024x2048 .bf16) (p' : FVec Ideal S1024x256 .bf16)
    (v : FVec Ideal S1x1x2048x256 .bf16) (v' : FVec Ideal S1x1x256x256 .bf16) : FVec Ideal S1024x256 .f32 :=
  addf (addf (broadcast S1024x256 (Scalar.ofBits .f32 0x00000000#32))
      (matmul dot_S1024x2048_S2048x256_S1024x256_1_0_0_1_n_n none p (k0_pay24 mo v) (constant S1024x256 .f32 0x00000000#32)))
    (matmul dot_S1024x256_S256x256_S1024x256_1_0_0_1_n_n none p' (onesCached mo v') (constant S1024x256 .f32 0x00000000#32))

/-- A head's lanes of its normalised output, zero on the others. -/
def part (m : IVec S1x256 1) (og : FVec Ideal S1024x256 .f32) (den : FVec Ideal S1024x1 .f32) : FVec Ideal S1024x256 .f32 :=
  select (broadcastTo S1024x256 (shapeCast S1x256 m shapeCasts_S1x256_S1x256) broadcasts_S1x256_S1024x256)
    (mulf og (broadcastTo S1024x256 (divf (broadcast S1024x1 (Scalar.ofBits .f32 0x3F800000#32)) den) broadcasts_S1024x1_S1024x256))
    (broadcast S1024x256 (Scalar.ofBits .f32 0x00000000#32))

/-- One head: the weights from the queries on the lanes `m`, applied to the values with ones on the lanes `mo`. -/
def head (m mo : IVec S1x256 1) (q : FVec Ideal S1024x256 .bf16) (k : FVec Ideal S1x1x256x2048 .bf16) (k' : FVec Ideal S1x1x256x256 .bf16)
    (v : FVec Ideal S1x1x2048x256 .bf16) (v' : FVec Ideal S1x1x256x256 .bf16) : FVec Ideal S1024x256 .f32 :=
  applied mo (k0_pay22 m q k k') (k0_pay23 m q k k') v v'

/-- The block's payload as the sum of its four heads. -/
def payload (x0 : FVec Ideal S1024x256 .bf16) (x1 : FVec Ideal S1x1x256x2048 .bf16) (x2 : FVec Ideal S1x1x256x256 .bf16)
    (x3 : FVec Ideal S1x1x2048x256 .bf16) (x4 : FVec Ideal S1x1x256x256 .bf16) : FVec Ideal S1024x256 .bf16 :=
  truncf .bf16 (addf (addf (addf (addf (k0_pay7 (F := Ideal))
    (part k0_pay2 (head k0_pay2 k0_pay3 (k0_pay6 x0) x1 x2 x3 x4)
      (extractStridedSlice S1024x1 ![0, 64] (head k0_pay2 k0_pay3 (k0_pay6 x0) x1 x2 x3 x4) slices_S1024x256_o0_64_S1024x1)))
    (part k0_pay3 (head k0_pay3 k0_pay4 (k0_pay6 x0) x1 x2 x3 x4)
      (extractStridedSlice S1024x1 ![0, 128] (head k0_pay3 k0_pay4 (k0_pay6 x0) x1 x2 x3 x4) slices_S1024x256_o0_128_S1024x1)))
    (part k0_pay4 (head k0_pay4 k0_pay5 (k0_pay6 x0) x1 x2 x3 x4)
      (extractStridedSlice S1024x1 ![0, 192] (head k0_pay4 k0_pay5 (k0_pay6 x0) x1 x2 x3 x4) slices_S1024x256_o0_192_S1024x1)))
    (part k0_pay5 (head k0_pay5 k0_pay2 (k0_pay6 x0) x1 x2 x3 x4)
      (extractStridedSlice S1024x1 ![0, 0] (head k0_pay5 k0_pay2 (k0_pay6 x0) x1 x2 x3 x4) slices_S1024x256_o0_0_S1024x1)))
    bitsLt_bf16_f32

theorem hz2 : (![0, 0] : Fin 2 → ℕ) = fun _ => 0 := by funext a; match a with | ⟨0, _⟩ => rfl | ⟨1, _⟩ => rfl
theorem hz4 : (![0, 0, 0, 0] : Fin 4 → ℕ) = fun _ => 0 := by
  funext a; match a with | ⟨0, _⟩ => rfl | ⟨1, _⟩ => rfl | ⟨2, _⟩ => rfl | ⟨3, _⟩ => rfl

/-- What the body leaves in the output's staging buffer is the payload of the input blocks. -/
theorem out_eq (x0 : FVec Ideal S1024x256 .bf16) (x1 : FVec Ideal S1x1x256x2048 .bf16) (x2 : FVec Ideal S1x1x256x256 .bf16)
    (x3 : FVec Ideal S1x1x2048x256 .bf16) (x4 : FVec Ideal S1x1x256x256 .bf16) :
    out0_5 (F := Ideal) x0 x1 x2 x3 x4 = payload x0 x1 x2 x3 x4 := by
  unfold_out out0_5
  have e0 : View.ld (Val := Elt Ideal) (e' := .bf16) x0 r0_0 = x0 := View.ld_unit_zero (Val := Elt Ideal) hz2 _ _
  have e1 : View.ld (Val := Elt Ideal) (e' := .bf16) x1 r0_1 = x1 := View.ld_unit_zero (Val := Elt Ideal) hz4 _ _
  have e2 : View.ld (Val := Elt Ideal) (e' := .bf16) x2 r0_2 = x2 := View.ld_unit_zero (Val := Elt Ideal) hz4 _ _
  have e3 : View.ld (Val := Elt Ideal) (e' := .bf16) x3 r0_3 = x3 := View.ld_unit_zero (Val := Elt Ideal) hz4 _ _
  have e4 : View.ld (Val := Elt Ideal) (e' := .bf16) x4 r0_2 = x4 := View.ld_unit_zero (Val := Elt Ideal) hz4 _ _
  rw [e0, e1, e2, e3, e4]
  refine (View.canon_unit_zero hz2 _ _).trans ?_
  rfl

/-! ## Each piece at an index -/

theorem mask0 (k : Fin 256) : k0_pay2 (ix2 0 k) = if k.1 / 64 = 0 then 1#1 else 0#1 := by revert k; decide +kernel
theorem mask1 (k : Fin 256) : k0_pay3 (ix2 0 k) = if k.1 / 64 = 1 then 1#1 else 0#1 := by revert k; decide +kernel
theorem mask2 (k : Fin 256) : k0_pay4 (ix2 0 k) = if k.1 / 64 = 2 then 1#1 else 0#1 := by revert k; decide +kernel
theorem mask3 (k : Fin 256) : k0_pay5 (ix2 0 k) = if k.1 / 64 = 3 then 1#1 else 0#1 := by revert k; decide +kernel

/-- The queries on one head's lanes, zero on the others. -/
theorem masked_apply (m : IVec S1x256 1) (q : FVec Ideal S1024x256 .bf16) (r : Fin 1024) (k : Fin 256) :
    k0_pay18 (F := Ideal) m q (ix2 r k) = if m (ix2 0 k) = 1#1 then q (ix2 r k) else 0 := by
  pointwise [k0_pay18]
  rfl

/-- A latent score contracts the masked queries with the latent keys. -/
theorem latent_score (m : IVec S1x256 1) (q : FVec Ideal S1024x256 .bf16) (k : FVec Ideal S1x1x256x2048 .bf16) (r : Fin 1024) (s : Fin 2048) :
    k0_pay19 (F := Ideal) m q k (ix2 r s) = ∑ d : Fin 256, k0_pay18 (F := Ideal) m q (ix2 r d) * k (ix4 0 0 d s) := by
  pointwise [k0_pay19]

/-- A cached score contracts the masked queries with the cached keys. -/
theorem cached_score (m : IVec S1x256 1) (q : FVec Ideal S1024x256 .bf16) (k : FVec Ideal S1x1x256x256 .bf16) (r : Fin 1024) (s : Fin 256) :
    k0_pay20 (F := Ideal) m q k (ix2 r s) = ∑ d : Fin 256, k0_pay18 (F := Ideal) m q (ix2 r d) * k (ix4 0 0 d s) := by
  pointwise [k0_pay20]

/-- The latent segment's largest scores, row by row. -/
def latentTop (x : FVec Ideal S1024x2048 .f32) : FVec Ideal S1024x1 .f32 :=
  shapeCast S1024x1 (multiReduction .maximumf [1] S1024 x 0xFF800000#32 reduces_S1024x2048_S1024 (.inl rfl) rfl) shapeCasts_S1024_S1024x1

/-- The cached segment's largest scores, row by row. -/
def cachedTop (y : FVec Ideal S1024x256 .f32) : FVec Ideal S1024x1 .f32 :=
  shapeCast S1024x1 (multiReduction .maximumf [1] S1024 y 0xFF800000#32 reduces_S1024x256_S1024 (.inl rfl) rfl) shapeCasts_S1024_S1024x1

theorem latentTop_apply (x : FVec Ideal S1024x2048 .f32) (r : Fin 1024) :
    latentTop x (ix2 r 0) = Finset.univ.fold max (Ideal.ofBits .f32 0xFF800000#32) fun s : Fin 2048 => x (ix2 r s) := by
  pointwise [latentTop]

theorem cachedTop_apply (y : FVec Ideal S1024x256 .f32) (r : Fin 1024) :
    cachedTop y (ix2 r 0) = Finset.univ.fold max (Ideal.ofBits .f32 0xFF800000#32) fun s : Fin 256 => y (ix2 r s) := by
  pointwise [cachedTop]

theorem larger_apply (a b : FVec Ideal S1024x1 .f32) (r : Fin 1024) : maximumf a b (ix2 r 0) = max (a (ix2 r 0)) (b (ix2 r 0)) := by
  pointwise []

theorem topOf_apply (x : FVec Ideal S1024x2048 .f32) (y : FVec Ideal S1024x256 .f32) (r : Fin 1024) :
    maximumf (latentTop x) (cachedTop y) (ix2 r 0) = max (rowMax fun s : Fin 2048 => x (ix2 r s)) (rowMax fun s : Fin 256 => y (ix2 r s)) := by
  rw [larger_apply, latentTop_apply, cachedTop_apply, ofBits_minus_infinity]

/-- The largest of a row's scores is the larger of the two segments' largest. -/
theorem top_apply (m : IVec S1x256 1) (q : FVec Ideal S1024x256 .bf16) (k : FVec Ideal S1x1x256x2048 .bf16) (k' : FVec Ideal S1x1x256x256 .bf16) (r : Fin 1024) :
    k0_pay21 (F := Ideal) m q k k' (ix2 r 0)
      = max (rowMax fun s : Fin 2048 => k0_pay19 (F := Ideal) m q k (ix2 r s)) (rowMax fun s : Fin 256 => k0_pay20 (F := Ideal) m q k' (ix2 r s)) :=
  topOf_apply _ _ r

theorem latent_weight_of (x : FVec Ideal S1024x2048 .f32) (t : FVec Ideal S1024x1 .f32) (r : Fin 1024) (s : Fin 2048) :
    exp (truncf .bf16 (subf x (broadcastTo S1024x2048 t broadcasts_S1024x1_S1024x2048)) bitsLt_bf16_f32) (ix2 r s)
      = Ideal.exp (x (ix2 r s) - t (ix2 r 0)) := by
  pointwise []

theorem cached_weight_of (x : FVec Ideal S1024x256 .f32) (t : FVec Ideal S1024x1 .f32) (r : Fin 1024) (s : Fin 256) :
    exp (truncf .bf16 (subf x (broadcastTo S1024x256 t broadcasts_S1024x1_S1024x256)) bitsLt_bf16_f32) (ix2 r s)
      = Ideal.exp (x (ix2 r s) - t (ix2 r 0)) := by
  pointwise []

theorem latent_weight (m : IVec S1x256 1) (q : FVec Ideal S1024x256 .bf16) (k : FVec Ideal S1x1x256x2048 .bf16) (k' : FVec Ideal S1x1x256x256 .bf16)
    (r : Fin 1024) (s : Fin 2048) :
    k0_pay22 (F := Ideal) m q k k' (ix2 r s) = Ideal.exp (k0_pay19 (F := Ideal) m q k (ix2 r s) - k0_pay21 (F := Ideal) m q k k' (ix2 r 0)) :=
  latent_weight_of _ _ r s

theorem cached_weight (m : IVec S1x256 1) (q : FVec Ideal S1024x256 .bf16) (k : FVec Ideal S1x1x256x2048 .bf16) (k' : FVec Ideal S1x1x256x256 .bf16)
    (r : Fin 1024) (s : Fin 256) :
    k0_pay23 (F := Ideal) m q k k' (ix2 r s) = Ideal.exp (k0_pay20 (F := Ideal) m q k' (ix2 r s) - k0_pay21 (F := Ideal) m q k k' (ix2 r 0)) :=
  cached_weight_of _ _ r s

/-- The weights applied to the values, the masked lanes holding ones. -/
theorem applied_apply (mo : IVec S1x256 1) (p : FVec Ideal S1024x2048 .bf16) (p' : FVec Ideal S1024x256 .bf16)
    (v : FVec Ideal S1x1x2048x256 .bf16) (v' : FVec Ideal S1x1x256x256 .bf16) (r : Fin 1024) (l : Fin 256) :
    applied mo p p' v v' (ix2 r l)
      = ∑ s, p (ix2 r s) * Scalar.select (mo (ix2 0 l)) 1 (v (ix4 0 0 s l))
        + ∑ s, p' (ix2 r s) * Scalar.select (mo (ix2 0 l)) 1 (v' (ix4 0 0 s l)) := by
  pointwise [applied, k0_pay24, onesCached]

theorem part_apply (m : IVec S1x256 1) (og : FVec Ideal S1024x256 .f32) (den : FVec Ideal S1024x1 .f32) (r : Fin 1024) (l : Fin 256) :
    part m og den (ix2 r l) = Scalar.select (m (ix2 0 l)) (og (ix2 r l) * Ideal.div 1 (den (ix2 r 0))) 0 := by
  pointwise [part]

/-! ## One head and the block -/

/-- The scores of one head against the latent keys, as the kernel contracts them. -/
def latent (q : FVec Ideal S1024x256 .bf16) (k : FVec Ideal S1x1x256x2048 .bf16) (g : ℕ) (r : Fin 1024) (s : Fin 2048) : EReal :=
  ∑ d : Fin 256, (if d.1 / 64 = g then q (ix2 r d) else 0) * k (ix4 0 0 d s)

/-- The scores of one head against the cached keys, as the kernel contracts them. -/
def cached (q : FVec Ideal S1024x256 .bf16) (k : FVec Ideal S1x1x256x256 .bf16) (g : ℕ) (r : Fin 1024) (s : Fin 256) : EReal :=
  ∑ d : Fin 256, (if d.1 / 64 = g then q (ix2 r d) else 0) * k (ix4 0 0 d s)

/-- The larger of a row's two largest scores. -/
def top (q : FVec Ideal S1024x256 .bf16) (k : FVec Ideal S1x1x256x2048 .bf16) (k' : FVec Ideal S1x1x256x256 .bf16) (g : ℕ) (r : Fin 1024) : EReal :=
  max (rowMax (latent q k g r)) (rowMax (cached q k' g r))

/-- A head's normalised output on one of its lanes. -/
def value (q : FVec Ideal S1024x256 .bf16) (k : FVec Ideal S1x1x256x2048 .bf16) (k' : FVec Ideal S1x1x256x256 .bf16)
    (v : FVec Ideal S1x1x2048x256 .bf16) (v' : FVec Ideal S1x1x256x256 .bf16) (g : ℕ) (r : Fin 1024) (l : Fin 256) : EReal :=
  (∑ s, Ideal.exp (latent q k g r s - top q k k' g r) * v (ix4 0 0 s l) + ∑ s, Ideal.exp (cached q k' g r s - top q k k' g r) * v' (ix4 0 0 s l))
    * Ideal.div 1 (∑ s, Ideal.exp (latent q k g r s - top q k k' g r) + ∑ s, Ideal.exp (cached q k' g r s - top q k k' g r))

section
variable (q : FVec Ideal S1024x256 .bf16) (k : FVec Ideal S1x1x256x2048 .bf16) (k' : FVec Ideal S1x1x256x256 .bf16)
  (v : FVec Ideal S1x1x2048x256 .bf16) (v' : FVec Ideal S1x1x256x256 .bf16) (m mo : IVec S1x256 1) (g : ℕ)
  (hm : ∀ k : Fin 256, m (ix2 0 k) = if k.1 / 64 = g then 1#1 else 0#1)
include hm

theorem masked_eq (r : Fin 1024) (d : Fin 256) : k0_pay18 (F := Ideal) m q (ix2 r d) = if d.1 / 64 = g then q (ix2 r d) else 0 := by
  rw [masked_apply, hm]
  by_cases h : d.1 / 64 = g
  · rw [if_pos h, if_pos rfl, if_pos h]
  · rw [if_neg h, if_neg (by decide), if_neg h]

theorem latent_eq (r : Fin 1024) (s : Fin 2048) : k0_pay19 (F := Ideal) m q k (ix2 r s) = latent q k g r s := by
  rw [latent_score]
  exact Finset.sum_congr rfl fun d _ => by rw [masked_eq q m g hm]

theorem cached_eq (r : Fin 1024) (s : Fin 256) : k0_pay20 (F := Ideal) m q k' (ix2 r s) = cached q k' g r s := by
  rw [cached_score]
  exact Finset.sum_congr rfl fun d _ => by rw [masked_eq q m g hm]

theorem top_eq (r : Fin 1024) : k0_pay21 (F := Ideal) m q k k' (ix2 r 0) = top q k k' g r := by
  rw [top_apply]
  simp only [latent_eq q k m g hm, cached_eq q k' m g hm]
  rfl

/-- On a lane that holds values, a head's product is the weighted sum of the values. -/
theorem head_values (r : Fin 1024) (l : Fin 256) (ho : mo (ix2 0 l) = 0#1) :
    head m mo q k k' v v' (ix2 r l)
      = ∑ s, Ideal.exp (latent q k g r s - top q k k' g r) * v (ix4 0 0 s l) + ∑ s, Ideal.exp (cached q k' g r s - top q k k' g r) * v' (ix4 0 0 s l) := by
  unfold head
  rw [applied_apply, ho]
  simp only [latent_weight, cached_weight, latent_eq q k m g hm, cached_eq q k' m g hm, top_eq q k k' m g hm]
  rfl

/-- On a lane that holds ones, a head's product is the sum of its weights. -/
theorem head_ones (r : Fin 1024) (l : Fin 256) (ho : mo (ix2 0 l) = 1#1) :
    head m mo q k k' v v' (ix2 r l)
      = ∑ s, Ideal.exp (latent q k g r s - top q k k' g r) + ∑ s, Ideal.exp (cached q k' g r s - top q k k' g r) := by
  unfold head
  rw [applied_apply, ho]
  simp only [latent_weight, cached_weight, latent_eq q k m g hm, cached_eq q k' m g hm, top_eq q k k' m g hm]
  have e : ∀ x : EReal, Scalar.select (1#1) 1 x = 1 := fun _ => rfl
  simp only [e, mul_one]

/-- A head's contribution on its own lanes is its normalised output. -/
theorem part_own (r : Fin 1024) (l c : Fin 256) (den : FVec Ideal S1024x1 .f32) (hden : den (ix2 r 0) = head m mo q k k' v v' (ix2 r c))
    (hl : l.1 / 64 = g) (ho : mo (ix2 0 l) = 0#1) (hc : mo (ix2 0 c) = 1#1) :
    part m (head m mo q k k' v v') den (ix2 r l) = value q k k' v v' g r l := by
  rw [part_apply, hm, if_pos hl, hden, head_values q k k' v v' m mo g hm r l ho, head_ones q k k' v v' m mo g hm r c hc]
  rfl

omit hm in
/-- A head contributes nothing on the other heads' lanes. -/
theorem part_other (og : FVec Ideal S1024x256 .f32) (den : FVec Ideal S1024x1 .f32) (r : Fin 1024) (l : Fin 256) (h : m (ix2 0 l) = 0#1) :
    part m og den (ix2 r l) = 0 := by
  rw [part_apply, h]
  rfl

end

theorem zero_apply (r : Fin 1024) (l : Fin 256) : k0_pay7 (F := Ideal) (ix2 r l) = 0 := by
  pointwise [k0_pay7]

theorem slice_apply (og : FVec Ideal S1024x256 .f32) (c : Fin 256) (h : S1024x256.Slices ![0, c.1] S1024x1) (r : Fin 1024) :
    extractStridedSlice S1024x1 ![0, c.1] og h (ix2 r 0) = og (ix2 r c) := by
  unfold extractStridedSlice
  congr 1
  funext a
  apply Fin.ext
  match a with
  | ⟨0, _⟩ => exact Nat.zero_add _
  | ⟨1, _⟩ => rfl

theorem total_apply (z a b c d : FVec Ideal S1024x256 .f32) (r : Fin 1024) (l : Fin 256) :
    truncf .bf16 (addf (addf (addf (addf z a) b) c) d) bitsLt_bf16_f32 (ix2 r l) = z (ix2 r l) + a (ix2 r l) + b (ix2 r l) + c (ix2 r l) + d (ix2 r l) := by
  pointwise []

/-- The payload at a row and a lane: the normalised output of the head the lane belongs to. -/
theorem payload_apply (x0 : FVec Ideal S1024x256 .bf16) (k : FVec Ideal S1x1x256x2048 .bf16) (k' : FVec Ideal S1x1x256x256 .bf16)
    (v : FVec Ideal S1x1x2048x256 .bf16) (v' : FVec Ideal S1x1x256x256 .bf16) (r : Fin 1024) (l : Fin 256) :
    payload x0 k k' v v' (ix2 r l) = value (k0_pay6 x0) k k' v v' (l.1 / 64) r l := by
  have h0 := part_own (k0_pay6 x0) k k' v v' k0_pay2 k0_pay3 0 mask0 r l 64 _ (slice_apply _ 64 slices_S1024x256_o0_64_S1024x1 r)
  have h1 := part_own (k0_pay6 x0) k k' v v' k0_pay3 k0_pay4 1 mask1 r l 128 _ (slice_apply _ 128 slices_S1024x256_o0_128_S1024x1 r)
  have h2 := part_own (k0_pay6 x0) k k' v v' k0_pay4 k0_pay5 2 mask2 r l 192 _ (slice_apply _ 192 slices_S1024x256_o0_192_S1024x1 r)
  have h3 := part_own (k0_pay6 x0) k k' v v' k0_pay5 k0_pay2 3 mask3 r l 0 _ (slice_apply _ 0 slices_S1024x256_o0_0_S1024x1 r)
  have m0 := mask0 l
  have m1 := mask1 l
  have m2 := mask2 l
  have m3 := mask3 l
  unfold payload
  rw [total_apply, zero_apply, zero_add]
  have hl : l.1 / 64 = 0 ∨ l.1 / 64 = 1 ∨ l.1 / 64 = 2 ∨ l.1 / 64 = 3 := by omega
  rcases hl with e | e | e | e <;> rw [e] at m0 m1 m2 m3 ⊢ <;> norm_num at m0 m1 m2 m3
  · rw [part_other k0_pay3 _ _ _ _ m1, part_other k0_pay4 _ _ _ _ m2, part_other k0_pay5 _ _ _ _ m3, add_zero, add_zero, add_zero]
    exact h0 e m1 ((mask1 64).trans rfl)
  · rw [part_other k0_pay2 _ _ _ _ m0, part_other k0_pay4 _ _ _ _ m2, part_other k0_pay5 _ _ _ _ m3, add_zero, add_zero, zero_add]
    exact h1 e m2 ((mask2 128).trans rfl)
  · rw [part_other k0_pay2 _ _ _ _ m0, part_other k0_pay3 _ _ _ _ m1, part_other k0_pay5 _ _ _ _ m3, add_zero, add_zero, zero_add]
    exact h2 e m3 ((mask3 192).trans rfl)
  · rw [part_other k0_pay2 _ _ _ _ m0, part_other k0_pay3 _ _ _ _ m1, part_other k0_pay4 _ _ _ _ m2, add_zero, add_zero, zero_add]
    exact h3 e m0 ((mask0 0).trans rfl)

end Cert.Block

end
-- ==== Proof.Host.lean ====
/-
  What the arrays the latent attention's call is launched on hold, index by index: the scaled queries laid out a token
  a row, and the keys and values of every key head repeated over the lanes of its four query heads.
-/
module

public import proofs.«01_k».proof.Proof.Gen.KernelIdeal.Value
public import Idealize.ShloMosaic.Lib.Pointwise
public import Idealize.ShloMosaic.Lib.IdealHost
public import Idealize.ShloMosaic.Lib.StableHlo.ReadAt

@[expose] public section

set_option maxRecDepth 16384

noncomputable section

namespace Cert.Host

open Cert.KernelIdeal Cert.KernelIdeal.Gen Idealize.ShloMosaic Idealize.ShloMosaic.Pointwise Idealize.ShloMosaic.TcCoe

variable (m : (ℓ : Loc nD τ sig) → Buf (Elt Ideal) ℓ) (c : Dev nD)

/-- The queries of the launch. -/
abbrev queries : FVec Ideal S2x16x2048x64 .f32 := m ((c : Thread nD τ).loc main_arg1)
/-- The latent keys of the launch. -/
abbrev keys : FVec Ideal S2x4x2048x64 .f32 := m ((c : Thread nD τ).loc main_arg2)
/-- The latent values of the launch. -/
abbrev values : FVec Ideal S2x4x2048x64 .f32 := m ((c : Thread nD τ).loc main_arg3)
/-- The cached keys of the launch. -/
abbrev cacheK : FVec Ideal S2x1x4x256x64 .f32 := m ((c : Thread nD τ).loc main_arg4)
/-- The cached values of the launch. -/
abbrev cacheV : FVec Ideal S2x1x4x256x64 .f32 := m ((c : Thread nD τ).loc main_arg5)

/-- Lane `l` of the repeated values holds component `l % 64` of the key head's value. -/
theorem values_apply (b : Fin 2) (h : Fin 4) (s : Fin 2048) (l : Fin 256) :
    V m c main_v16 (ix4 b h s l) = values m c (ix4 b h s ⟨l.1 % 64, by omega⟩) := by
  unfold V
  after_reads_at

/-- The same of the cached values. -/
theorem cacheV_apply (b : Fin 2) (h : Fin 4) (s : Fin 256) (l : Fin 256) :
    V m c main_v27 (ix4 b h s l) = cacheV m c (ix5 b 0 h s ⟨l.1 % 64, by omega⟩) := by
  unfold V
  after_reads_at

/-- Row `l` of the repeated, transposed keys holds component `l % 64` of the key head's keys. -/
theorem keys_apply (b : Fin 2) (h : Fin 4) (s : Fin 2048) (l : Fin 256) :
    V m c main_v12 (ix4 b h l s) = keys m c (ix4 b h s ⟨l.1 % 64, by omega⟩) := by
  unfold V
  after_reads_at

/-- The same of the cached keys. -/
theorem cacheK_apply (b : Fin 2) (h : Fin 4) (s : Fin 256) (l : Fin 256) :
    V m c main_v22 (ix4 b h l s) = cacheK m c (ix5 b 0 h s ⟨l.1 % 64, by omega⟩) := by
  unfold V
  after_reads_at

/-- Past the prompt's 8192 rows, row `r` of the query matrix holds the latent token `r`'s queries, scaled by ⅛. -/
theorem queries_apply (r : Fin 4096) (l : Fin 1024) :
    V m c main_v7 (ix2 (⟨8192 + r.1, by omega⟩ : Fin 12288) l)
      = queries m c (ix4 (⟨r.1 / 2048, by omega⟩ : Fin 2) (⟨l.1 / 64, by omega⟩ : Fin 16) (⟨r.1 % 2048, by omega⟩ : Fin 2048) (⟨l.1 % 64, by omega⟩ : Fin 64))
        * Ideal.ofBits .f32 0x3E000000#32 := by
  unfold V
  after_reads_at
  congr 1
  unfold StableHlo.upto
  after_reads_at

end Cert.Host

end
-- ==== Proof.Array.lean ====
/-
  What the latent attention's result array holds after the run: at every grid point's block, the body's payload on that
  point's input blocks, which are read off the launched arrays.
-/
module

public import proofs.«01_k».proof.Proof.Block
public import proofs.«01_k».proof.Proof.Host

@[expose] public section

set_option maxRecDepth 16384

noncomputable section

namespace Cert.Array

open Cert.KernelIdeal Cert.KernelIdeal.Gen Idealize.ShloMosaic Idealize.ShloMosaic.Pointwise Idealize.ShloMosaic.TcCoe

variable (m : (ℓ : Loc nD τ sig) → Buf (Elt Ideal) ℓ) (c : Dev nD)

/-- The batch entry of a grid point. -/
abbrev batch (t : Fin cfg0.N) : Fin 2 := ⟨t.1 / 8, by have := t.2; have : cfg0.N = 16 := N_0; omega⟩
/-- The key head of a grid point. -/
abbrev group (t : Fin cfg0.N) : Fin 4 := ⟨t.1 / 2 % 4, by omega⟩

theorem index0 : ∀ t : Fin cfg0.N, win0_0.index t = ![8 + t.1 / 8 * 2 + t.1 % 2, t.1 / 2 % 4] :=
  (by decide +kernel : ∀ t : Fin grid0.N, win0_0.index t = ![8 + t.1 / 8 * 2 + t.1 % 2, t.1 / 2 % 4])
theorem index1 : ∀ t : Fin cfg0.N, win0_1.index t = ![t.1 / 8, t.1 / 2 % 4, 0, 0] :=
  (by decide +kernel : ∀ t : Fin grid0.N, win0_1.index t = ![t.1 / 8, t.1 / 2 % 4, 0, 0])
theorem index2 : ∀ t : Fin cfg0.N, win0_2.index t = ![t.1 / 8, t.1 / 2 % 4, 0, 0] :=
  (by decide +kernel : ∀ t : Fin grid0.N, win0_2.index t = ![t.1 / 8, t.1 / 2 % 4, 0, 0])
theorem index3 : ∀ t : Fin cfg0.N, win0_3.index t = ![t.1 / 8, t.1 / 2 % 4, 0, 0] :=
  (by decide +kernel : ∀ t : Fin grid0.N, win0_3.index t = ![t.1 / 8, t.1 / 2 % 4, 0, 0])
theorem index4 : ∀ t : Fin cfg0.N, win0_4.index t = ![t.1 / 8, t.1 / 2 % 4, 0, 0] :=
  (by decide +kernel : ∀ t : Fin grid0.N, win0_4.index t = ![t.1 / 8, t.1 / 2 % 4, 0, 0])
theorem index5 : ∀ t : Fin cfg0.N, win0_5.index t = ![t.1 / 8 * 2 + t.1 % 2, t.1 / 2 % 4] :=
  (by decide +kernel : ∀ t : Fin grid0.N, win0_5.index t = ![t.1 / 8 * 2 + t.1 % 2, t.1 / 2 % 4])

/-- A grid point's query block. -/
theorem block0 (t : Fin cfg0.N) (r : Fin 1024) (l : Fin 256) (R : Fin 12288) (L : Fin 1024)
    (hR : R.1 = (8 + t.1 / 8 * 2 + t.1 % 2) * 1024 + r.1) (hL : L.1 = t.1 / 2 % 4 * 256 + l.1) :
    iblk m c 0 t (ix2 r l) = V m c main_v7 (ix2 R L) := by
  unfold iblk
  rw [View.read_apply]
  show V m c main_v7 _ = _
  congr 1
  funext a
  apply Fin.ext
  match a with
  | ⟨0, _⟩ => show win0_0.index t 0 * 1024 + 1 * r.1 = R.1; rw [index0, hR]; show (8 + t.1 / 8 * 2 + t.1 % 2) * 1024 + 1 * r.1 = _; omega
  | ⟨1, _⟩ => show win0_0.index t 1 * 256 + 1 * l.1 = L.1; rw [index0, hL]; show t.1 / 2 % 4 * 256 + 1 * l.1 = _; omega

/-- A grid point's latent keys. -/
theorem block1 (t : Fin cfg0.N) (d : Fin 256) (s : Fin 2048) :
    iblk m c 1 t (ix4 0 0 d s) = V m c main_v12 (ix4 (batch t) (group t) d s) := by
  unfold iblk
  rw [View.read_apply]
  show V m c main_v12 _ = _
  congr 1
  funext a
  apply Fin.ext
  match a with
  | ⟨0, _⟩ => show win0_1.index t 0 * 1 + _ = _; rw [index1]; exact Nat.mul_one _
  | ⟨1, _⟩ => show win0_1.index t 1 * 1 + _ = _; rw [index1]; exact Nat.mul_one _
  | ⟨2, _⟩ => show win0_1.index t 2 * 256 + 1 * d.1 = d.1; rw [index1]; show 0 * 256 + 1 * d.1 = d.1; omega
  | ⟨3, _⟩ => show win0_1.index t 3 * 2048 + 1 * s.1 = s.1; rw [index1]; show 0 * 2048 + 1 * s.1 = s.1; omega

/-- A grid point's cached keys. -/
theorem block2 (t : Fin cfg0.N) (d : Fin 256) (s : Fin 256) :
    iblk m c 2 t (ix4 0 0 d s) = V m c main_v22 (ix4 (batch t) (group t) d s) := by
  unfold iblk
  rw [View.read_apply]
  show V m c main_v22 _ = _
  congr 1
  funext a
  apply Fin.ext
  match a with
  | ⟨0, _⟩ => show win0_2.index t 0 * 1 + _ = _; rw [index2]; exact Nat.mul_one _
  | ⟨1, _⟩ => show win0_2.index t 1 * 1 + _ = _; rw [index2]; exact Nat.mul_one _
  | ⟨2, _⟩ => show win0_2.index t 2 * 256 + 1 * d.1 = d.1; rw [index2]; show 0 * 256 + 1 * d.1 = d.1; omega
  | ⟨3, _⟩ => show win0_2.index t 3 * 256 + 1 * s.1 = s.1; rw [index2]; show 0 * 256 + 1 * s.1 = s.1; omega

/-- A grid point's latent values. -/
theorem block3 (t : Fin cfg0.N) (s : Fin 2048) (l : Fin 256) :
    iblk m c 3 t (ix4 0 0 s l) = V m c main_v16 (ix4 (batch t) (group t) s l) := by
  unfold iblk
  rw [View.read_apply]
  show V m c main_v16 _ = _
  congr 1
  funext a
  apply Fin.ext
  match a with
  | ⟨0, _⟩ => show win0_3.index t 0 * 1 + _ = _; rw [index3]; exact Nat.mul_one _
  | ⟨1, _⟩ => show win0_3.index t 1 * 1 + _ = _; rw [index3]; exact Nat.mul_one _
  | ⟨2, _⟩ => show win0_3.index t 2 * 2048 + 1 * s.1 = s.1; rw [index3]; show 0 * 2048 + 1 * s.1 = s.1; omega
  | ⟨3, _⟩ => show win0_3.index t 3 * 256 + 1 * l.1 = l.1; rw [index3]; show 0 * 256 + 1 * l.1 = l.1; omega

/-- A grid point's cached values. -/
theorem block4 (t : Fin cfg0.N) (s : Fin 256) (l : Fin 256) :
    iblk m c 4 t (ix4 0 0 s l) = V m c main_v27 (ix4 (batch t) (group t) s l) := by
  unfold iblk
  rw [View.read_apply]
  show V m c main_v27 _ = _
  congr 1
  funext a
  apply Fin.ext
  match a with
  | ⟨0, _⟩ => show win0_4.index t 0 * 1 + _ = _; rw [index4]; exact Nat.mul_one _
  | ⟨1, _⟩ => show win0_4.index t 1 * 1 + _ = _; rw [index4]; exact Nat.mul_one _
  | ⟨2, _⟩ => show win0_4.index t 2 * 256 + 1 * s.1 = s.1; rw [index4]; show 0 * 256 + 1 * s.1 = s.1; omega
  | ⟨3, _⟩ => show win0_4.index t 3 * 256 + 1 * l.1 = l.1; rw [index4]; show 0 * 256 + 1 * l.1 = l.1; omega

/-- The result array on a grid point's block is the payload of the point's input blocks. -/
theorem array_apply (t : Fin cfg0.N) (r : Fin 1024) (l : Fin 256) (R : Fin 4096) (L : Fin 1024)
    (hR : R.1 = (t.1 / 8 * 2 + t.1 % 2) * 1024 + r.1) (hL : L.1 = t.1 / 2 % 4 * 256 + l.1) :
    (dats m 0 c).arrAt 5 cfg0.N (ix2 R L)
      = Block.payload (iblk m c 0 t) (iblk m c 1 t) (iblk m c 2 t) (iblk m c 3 t) (iblk m c 4 t) (ix2 r l) := by
  have h := congrFun (Value.blocks5 m c t (flush0_5 t)) (ix2 r l)
  rw [Value.flushed5, Block.out_eq, View.read_apply] at h
  refine Eq.trans ?_ h
  show (dats m 0 c).arrAt 5 cfg0.N _ = (dats m 0 c).arrAt 5 cfg0.N _
  congr 1
  funext a
  apply Fin.ext
  match a with
  | ⟨0, _⟩ => show R.1 = win0_5.index t 0 * 1024 + 1 * r.1; rw [index5, hR]; show _ = (t.1 / 8 * 2 + t.1 % 2) * 1024 + 1 * r.1; omega
  | ⟨1, _⟩ => show L.1 = win0_5.index t 1 * 256 + 1 * l.1; rw [index5, hL]; show _ = t.1 / 2 % 4 * 256 + 1 * l.1; omega

end Cert.Array

end
-- ==== Proof.Reference.lean ====
/-
  What the reference computes: the softmax attention of the latent queries over the latent and the cached keys, read at
  an index of the result.
-/
module

public import proofs.«01_k».proof.Proof.Gen.ReferenceIdeal.Run
public import proofs.«01_k».proof.Proof.Softmax
public import Idealize.ShloMosaic.Lib.Pointwise
public import Idealize.ShloMosaic.Lib.IdealHost

@[expose] public section

set_option maxRecDepth 16384

noncomputable section

namespace Cert.Reference

open Cert.ReferenceIdeal Cert.ReferenceIdeal.Gen Idealize.ShloMosaic Idealize.ShloMosaic.TcCoe Idealize.SL.Sem Idealize.ShloMosaic.Pointwise Cert.Softmax

/-- Latent rows followed by cached rows. -/
def joined (x : FVec Ideal S2x4x2048x64 .f32) (c : FVec Ideal S2x1x4x256x64 .f32) : FVec Ideal S2x4x2304x64 .f32 :=
  concatenate S2x4x2304x64 2 [⟨S2x4x2048x64, x⟩, ⟨S2x4x256x64, (shapeCast _ c shapeCasts_S2x1x4x256x64_S2x4x256x64)⟩]
    concatenates_S2x4x2048x64_S2x4x256x64_S2x4x2304x64_d2

/-- The scaled scores of every query against every key. -/
def scores (q : FVec Ideal S2x16x2048x64 .f32) (k : FVec Ideal S2x4x2304x64 .f32) : FVec Ideal S2x4x4x2048x2304 .f32 :=
  mulf (Host.dotGeneral (F := Ideal) (φ₁ := .f32) (φ₂ := .f32) dot_S2x4x4x2048x64_S2x4x2304x64_S2x4x4x2048x2304_4_3_23_2_01_01 none
    (shapeCast _ q shapeCasts_S2x16x2048x64_S2x4x4x2048x64) k)
    (broadcastInDim S2x4x4x2048x2304 ![] bcast_S_S2x4x4x2048x2304 (constant S_ .f32 0x3E000000#32))

/-- Each row's largest score. -/
def largest (s : FVec Ideal S2x4x4x2048x2304 .f32) : FVec Ideal S2x4x4x2048 .f32 :=
  Host.reduce FloatOps.maximumf s (constant S_ .f32 0xFF800000#32) reducesTo_S2x4x4x2048x2304_S2x4x4x2048_d4 h_S_

/-- Each row's largest score, at the least the constant the fold starts from. -/
def floored (x : FVec Ideal S2x4x4x2048 .f32) : FVec Ideal S2x4x4x2048 .f32 :=
  maximumf (broadcastInDim S2x4x4x2048 ![] bcast_S_S2x4x4x2048 (constant S_ .f32 0xFF800000#32)) x

/-- One value per row, along the whole row. -/
def spread (x : FVec Ideal S2x4x4x2048 .f32) : FVec Ideal S2x4x4x2048x2304 .f32 :=
  broadcastInDim S2x4x4x2048x2304 ![0, 1, 2, 3, 4] bcast_S2x4x4x2048x1_S2x4x4x2048x2304_0_1_2_3_4
    (broadcastInDim S2x4x4x2048x1 ![0, 1, 2, 3] bcast_S2x4x4x2048_S2x4x4x2048x1_0_1_2_3 x)

/-- The exponentials of the scores, each row's largest score subtracted. -/
def weights (s : FVec Ideal S2x4x4x2048x2304 .f32) : FVec Ideal S2x4x4x2048x2304 .f32 :=
  Host.exp (subf s (spread (floored (largest s))))

/-- The weights, each divided by its row's sum. -/
def normalised (w : FVec Ideal S2x4x4x2048x2304 .f32) : FVec Ideal S2x4x4x2048x2304 .f32 :=
  Host.divf w (spread (Host.reduceAdd w (constant S_ .f32 0x00000000#32) reducesTo_S2x4x4x2048x2304_S2x4x4x2048_d4 h_S_))

/-- The normalised weights applied to the values, the heads side by side. -/
def output (w : FVec Ideal S2x4x4x2048x2304 .f32) (v : FVec Ideal S2x4x2304x64 .f32) : FVec Ideal S4096x1024 .bf16 :=
  truncf .bf16 (shapeCast S4096x1024 (transpose S2x2048x16x64 [0, 2, 1, 3] (shapeCast S2x16x2048x64 (Host.dotGeneral (F := Ideal) (φ₁ := .f32) (φ₂ := .f32) dot_S2x4x4x2048x2304_S2x4x2304x64_S2x4x4x2048x64_4_2_23_3_01_01 none w v) shapeCasts_S2x4x4x2048x64_S2x16x2048x64) transposes_S2x16x2048x64_S2x2048x16x64_0_2_1_3) shapeCasts_S2x2048x16x64_S4096x1024) bitsLt_bf16_f32

theorem joined_latent (x : FVec Ideal S2x4x2048x64 .f32) (c : FVec Ideal S2x1x4x256x64 .f32)
    (b : Fin 2) (h : Fin 4) (s : Fin 2048) (d : Fin 64) :
    joined x c (ix4 b h (⟨s.1, by omega⟩ : Fin 2304) d) = x (ix4 b h s d) := by
  pointwise [joined]

theorem joined_cached (x : FVec Ideal S2x4x2048x64 .f32) (c : FVec Ideal S2x1x4x256x64 .f32)
    (b : Fin 2) (h : Fin 4) (s : Fin 256) (d : Fin 64) :
    joined x c (ix4 b h (⟨2048 + s.1, by omega⟩ : Fin 2304) d) = c (ix5 b 0 h s d) := by
  pointwise [joined]

theorem scores_apply (q : FVec Ideal S2x16x2048x64 .f32) (k : FVec Ideal S2x4x2304x64 .f32)
    (b : Fin 2) (h : Fin 4) (g : Fin 4) (t : Fin 2048) (s : Fin 2304) :
    scores q k (ix5 b h g t s)
      = (∑ d : Fin 64, q (ix4 b (⟨h.1 * 4 + g.1, by omega⟩ : Fin 16) t d) * k (ix4 b h s d)) * Ideal.ofBits .f32 0x3E000000#32 := by
  pointwise [scores]

theorem largest_apply (x : FVec Ideal S2x4x4x2048x2304 .f32) (b : Fin 2) (h : Fin 4) (g : Fin 4) (t : Fin 2048) :
    largest x (ix4 b h g t)
      = (Finset.univ : Finset (Fin 2304)).fold max (Ideal.ofBits .f32 0xFF800000#32) fun s => x (ix5 b h g t s) := by
  pointwise [largest]

theorem floored_apply (x : FVec Ideal S2x4x4x2048 .f32) (b : Fin 2) (h : Fin 4) (g : Fin 4) (t : Fin 2048) :
    floored x (ix4 b h g t) = max (Ideal.ofBits .f32 0xFF800000#32) (x (ix4 b h g t)) := by
  pointwise [floored]

theorem spread_apply (x : FVec Ideal S2x4x4x2048 .f32) (b : Fin 2) (h : Fin 4) (g : Fin 4) (t : Fin 2048) (s : Fin 2304) :
    spread x (ix5 b h g t s) = x (ix4 b h g t) := by
  pointwise [spread]

/-- A weight is the exponential of its score less the row's largest score. -/
theorem weights_apply (x : FVec Ideal S2x4x4x2048x2304 .f32) (b : Fin 2) (h : Fin 4) (g : Fin 4) (t : Fin 2048) (s : Fin 2304) :
    weights x (ix5 b h g t s) = Ideal.exp (x (ix5 b h g t s) - rowMax fun u : Fin 2304 => x (ix5 b h g t u)) := by
  show Ideal.exp (x _ - spread (floored (largest x)) (ix5 b h g t s)) = _
  rw [spread_apply, floored_apply, largest_apply, ofBits_minus_infinity, max_eq_right bot_le]

theorem rowSum_apply (w : FVec Ideal S2x4x4x2048x2304 .f32) (b : Fin 2) (h : Fin 4) (g : Fin 4) (t : Fin 2048) :
    Host.reduceAdd w (constant S_ .f32 0x00000000#32) reducesTo_S2x4x4x2048x2304_S2x4x4x2048_d4 h_S_ (ix4 b h g t)
      = ∑ s : Fin 2304, w (ix5 b h g t s) := by
  pointwise

theorem normalised_apply (w : FVec Ideal S2x4x4x2048x2304 .f32) (b : Fin 2) (h : Fin 4) (g : Fin 4) (t : Fin 2048) (s : Fin 2304) :
    normalised w (ix5 b h g t s) = Ideal.div (w (ix5 b h g t s)) (∑ u : Fin 2304, w (ix5 b h g t u)) := by
  show Ideal.div (w _) (spread _ (ix5 b h g t s)) = _
  rw [spread_apply, rowSum_apply]

theorem output_apply (w : FVec Ideal S2x4x4x2048x2304 .f32) (v : FVec Ideal S2x4x2304x64 .f32) (r : Fin 4096) (l : Fin 1024) :
    output w v (ix2 r l) = ∑ s : Fin 2304,
      w (ix5 (⟨r.1 / 2048, by omega⟩ : Fin 2) (⟨l.1 / 64 / 4, by omega⟩ : Fin 4) (⟨l.1 / 64 % 4, by omega⟩ : Fin 4) (⟨r.1 % 2048, by omega⟩ : Fin 2048) s)
        * v (ix4 (⟨r.1 / 2048, by omega⟩ : Fin 2) (⟨l.1 / 64 / 4, by omega⟩ : Fin 4) s (⟨l.1 % 64, by omega⟩ : Fin 64)) := by
  pointwise [output]

/-- The reference's result as one function of its five arrays. -/
def result (q : FVec Ideal S2x16x2048x64 .f32) (k v : FVec Ideal S2x4x2048x64 .f32) (ck cv : FVec Ideal S2x1x4x256x64 .f32) :
    FVec Ideal S4096x1024 .bf16 :=
  output (normalised (weights (scores q (joined k ck)))) (joined v cv)

/-- Row `r`, lane `l` of the result is the softmax of the query's scores against lane `l % 64` of its values. -/
theorem result_apply (q : FVec Ideal S2x16x2048x64 .f32) (k v : FVec Ideal S2x4x2048x64 .f32) (ck cv : FVec Ideal S2x1x4x256x64 .f32)
    (r : Fin 4096) (l : Fin 1024) (b : Fin 2) (h g : Fin 4) (t : Fin 2048) (d : Fin 64)
    (hb : b.1 = r.1 / 2048) (ht : t.1 = r.1 % 2048) (hh : h.1 = l.1 / 64 / 4) (hg : g.1 = l.1 / 64 % 4) (hd : d.1 = l.1 % 64) :
    result q k v ck cv (ix2 r l)
      = attend (fun s : Fin 2304 => scores q (joined k ck) (ix5 b h g t s)) (fun s => joined v cv (ix4 b h s d)) := by
  unfold result
  rw [output_apply]
  have eb : (⟨r.1 / 2048, by omega⟩ : Fin 2) = b := Fin.ext hb.symm
  have et : (⟨r.1 % 2048, by omega⟩ : Fin 2048) = t := Fin.ext ht.symm
  have eh : (⟨l.1 / 64 / 4, by omega⟩ : Fin 4) = h := Fin.ext hh.symm
  have eg : (⟨l.1 / 64 % 4, by omega⟩ : Fin 4) = g := Fin.ext hg.symm
  have ed : (⟨l.1 % 64, by omega⟩ : Fin 64) = d := Fin.ext hd.symm
  rw [eb, et, eh, eg, ed]
  unfold attend
  refine Finset.sum_congr rfl fun s _ => ?_
  rw [normalised_apply, weights_apply]
  simp only [weights_apply]

/-- The reference's run ends with `result` of its arguments in its result buffer and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

end Cert.Reference

end
-- ==== Proof.Equation.lean ====
/-
  The latent attention's result array is the reference's, for finite queries and keys.
-/
module

public import proofs.«01_k».proof.Proof.Array
public import proofs.«01_k».proof.Proof.Reference

@[expose] public section

set_option maxRecDepth 16384

noncomputable section

namespace Cert.Equation

open Cert.KernelIdeal Cert.KernelIdeal.Gen Idealize.ShloMosaic Idealize.ShloMosaic.Pointwise Idealize.ShloMosaic.TcCoe Cert.Softmax Cert.Array Cert.Host

/-- A contraction over 256 lanes of which only one head's 64 count is the contraction over those 64. -/
theorem lanes (f e : Fin 256 → EReal) (g : Fin 4) :
    ∑ d : Fin 256, (if d.1 / 64 = g.1 then f d else 0) * e d
      = ∑ d : Fin 64, f ⟨g.1 * 64 + d.1, by omega⟩ * e ⟨g.1 * 64 + d.1, by omega⟩ := by
  have hv : ∀ (a : Fin 4) (b : Fin 64), (finProdFinEquiv (m := 4) (n := 64) (a, b) : Fin 256) = ⟨a.1 * 64 + b.1, by omega⟩ :=
    fun a b => Fin.ext (by rw [finProdFinEquiv_apply_val]; simp only; omega)
  rw [← (finProdFinEquiv (m := 4) (n := 64)).sum_comp, Fintype.sum_prod_type, Finset.sum_eq_single g]
  · refine Finset.sum_congr rfl fun d _ => ?_
    rw [hv, if_pos (by simp only; omega)]
  · intro a _ ha
    refine Finset.sum_eq_zero fun d _ => ?_
    have : a.1 ≠ g.1 := fun h => ha (Fin.ext h)
    rw [hv, if_neg (by simp only; omega), zero_mul]
  · exact fun h => absurd (Finset.mem_univ g) h

/-- A factor common to the products of a contraction comes out of it. -/
theorem scaled (f e : Fin 64 → EReal) :
    ∑ d, f d * Ideal.ofBits .f32 0x3E000000#32 * e d = (∑ d, f d * e d) * Ideal.ofBits .f32 0x3E000000#32 := by
  rw [ofBits_eighth, sum_mul_coe _ _ _ (by norm_num)]
  exact Finset.sum_congr rfl fun d _ => by rw [mul_right_comm]

theorem whole_block (x : FVec Ideal S1024x256 .bf16) (r : Fin 1024) (l : Fin 256) : k0_pay6 (F := Ideal) x (ix2 r l) = x (ix2 r l) := by
  pointwise [k0_pay6]

variable (m : (ℓ : Loc nD τ sig) → Buf (Elt Ideal) ℓ) (c : Dev nD)

/-- A grid point's query block holds the scaled queries of its tokens and heads. -/
theorem query_block (t : Fin cfg0.N) (r : Fin 1024) (l : Fin 256) (b : Fin 2) (h : Fin 16) (T : Fin 2048) (d : Fin 64)
    (hb : b.1 = t.1 / 8) (hh : h.1 = t.1 / 2 % 4 * 4 + l.1 / 64) (hT : T.1 = t.1 % 2 * 1024 + r.1) (hd : d.1 = l.1 % 64) :
    k0_pay6 (F := Ideal) (iblk m c 0 t) (ix2 r l) = queries m c (ix4 b h T d) * Ideal.ofBits .f32 0x3E000000#32 := by
  have ht : t.1 < 16 := by have := t.2; have : cfg0.N = 16 := N_0; omega
  rw [whole_block, block0 m c t r l (⟨8192 + (t.1 / 8 * 2048 + t.1 % 2 * 1024 + r.1), by omega⟩) (⟨t.1 / 2 % 4 * 256 + l.1, by omega⟩)
    (by simp only; omega) rfl,
    queries_apply m c (⟨t.1 / 8 * 2048 + t.1 % 2 * 1024 + r.1, by omega⟩) (⟨t.1 / 2 % 4 * 256 + l.1, by omega⟩)]
  congr 2
  have e1 : (⟨(t.1 / 8 * 2048 + t.1 % 2 * 1024 + r.1) / 2048, by omega⟩ : Fin 2) = b := Fin.ext (by simp only; omega)
  have e2 : (⟨(t.1 / 2 % 4 * 256 + l.1) / 64, by omega⟩ : Fin 16) = h := Fin.ext (by simp only; omega)
  have e3 : (⟨(t.1 / 8 * 2048 + t.1 % 2 * 1024 + r.1) % 2048, by omega⟩ : Fin 2048) = T := Fin.ext (by simp only; omega)
  have e4 : (⟨(t.1 / 2 % 4 * 256 + l.1) % 64, by omega⟩ : Fin 64) = d := Fin.ext (by simp only; omega)
  rw [e1, e2, e3, e4]

/-- A head's kernel scores against the latent keys are the reference's. -/
theorem latent_scores (t : Fin cfg0.N) (g : Fin 4) (r : Fin 1024) (T : Fin 2048) (hT : T.1 = t.1 % 2 * 1024 + r.1) (s : Fin 2048) :
    Block.latent (k0_pay6 (F := Ideal) (iblk m c 0 t)) (iblk m c 1 t) g.1 r s
      = Reference.scores (queries m c) (Reference.joined (keys m c) (cacheK m c)) (ix5 (batch t) (group t) g T (⟨s.1, by omega⟩ : Fin 2304)) := by
  unfold Block.latent
  rw [lanes, Reference.scores_apply, ← scaled]
  refine Finset.sum_congr rfl fun d _ => ?_
  rw [query_block m c t r _ (batch t) (⟨(group t).1 * 4 + g.1, by omega⟩) T d rfl (by simp only; omega) hT (by simp only; omega),
    block1, keys_apply, Reference.joined_latent]
  congr 3
  exact Fin.ext (by simp only; omega)

/-- A head's kernel scores against the cached keys are the reference's. -/
theorem cached_scores (t : Fin cfg0.N) (g : Fin 4) (r : Fin 1024) (T : Fin 2048) (hT : T.1 = t.1 % 2 * 1024 + r.1) (s : Fin 256) :
    Block.cached (k0_pay6 (F := Ideal) (iblk m c 0 t)) (iblk m c 2 t) g.1 r s
      = Reference.scores (queries m c) (Reference.joined (keys m c) (cacheK m c)) (ix5 (batch t) (group t) g T (⟨2048 + s.1, by omega⟩ : Fin 2304)) := by
  unfold Block.cached
  rw [lanes, Reference.scores_apply, ← scaled]
  refine Finset.sum_congr rfl fun d _ => ?_
  rw [query_block m c t r _ (batch t) (⟨(group t).1 * 4 + g.1, by omega⟩) T d rfl (by simp only; omega) hT (by simp only; omega),
    block2, cacheK_apply, Reference.joined_cached]
  congr 3
  exact Fin.ext (by simp only; omega)

/-- The scores of finite queries and keys are finite. -/
theorem scores_finite (q : FVec Ideal S2x16x2048x64 .f32) (k : FVec Ideal Cert.ReferenceIdeal.S2x4x2304x64 .f32) (hq : ∀ i, Fin' (q i)) (hk : ∀ i, Fin' (k i))
    (b : Fin 2) (h g : Fin 4) (t : Fin 2048) (s : Fin 2304) : Fin' (Reference.scores q k (ix5 b h g t s)) := by
  rw [Reference.scores_apply, ofBits_eighth]
  exact (Fin'.sum _ _ fun d => (hq _).mul (hk _)).mul (Fin'.coe _)

/-- Joined finite keys are finite. -/
theorem joined_finite (k : FVec Ideal S2x4x2048x64 .f32) (ck : FVec Ideal S2x1x4x256x64 .f32) (hk : ∀ i, Fin' (k i)) (hc : ∀ i, Fin' (ck i))
    (b : Fin 2) (h : Fin 4) (s : Fin 2304) (d : Fin 64) : Fin' (Reference.joined k ck (ix4 b h s d)) := by
  by_cases hs : s.1 < 2048
  · have e := Reference.joined_latent k ck b h ⟨s.1, hs⟩ d
    exact (congrArg Fin' e).mpr (hk _)
  · have e := Reference.joined_cached k ck b h ⟨s.1 - 2048, by omega⟩ d
    have es : (⟨2048 + (s.1 - 2048), by omega⟩ : Fin 2304) = s := Fin.ext (by simp only; omega)
    rw [es] at e
    rw [e]
    exact hc _

/-- The joined keys of finite latent and cached keys are finite at every index. -/
theorem joined_finite_all (k : FVec Ideal S2x4x2048x64 .f32) (ck : FVec Ideal S2x1x4x256x64 .f32) (hk : ∀ i, Fin' (k i)) (hc : ∀ i, Fin' (ck i))
    (i : Cert.ReferenceIdeal.S2x4x2304x64.Idx) : Fin' (Reference.joined k ck i) := by
  rw [eq_ix4 i]
  exact joined_finite k ck hk hc _ _ _ _

/-- A head's normalised output on a grid point's block is the reference's attention of that token and head. -/
theorem value_eq (hq : ∀ i, Fin' (queries m c i)) (hk : ∀ i, Fin' (keys m c i)) (hc : ∀ i, Fin' (cacheK m c i))
    (t : Fin cfg0.N) (g : Fin 4) (r : Fin 1024) (l : Fin 256) (T : Fin 2048) (d : Fin 64) (hT : T.1 = t.1 % 2 * 1024 + r.1) (hd : d.1 = l.1 % 64) :
    Block.value (k0_pay6 (F := Ideal) (iblk m c 0 t)) (iblk m c 1 t) (iblk m c 2 t) (iblk m c 3 t) (iblk m c 4 t) g.1 r l
      = attend (fun s : Fin 2304 => Reference.scores (queries m c) (Reference.joined (keys m c) (cacheK m c)) (ix5 (batch t) (group t) g T s))
          (fun s => Reference.joined (values m c) (cacheV m c) (ix4 (batch t) (group t) s d)) := by
  have e : d = ⟨l.1 % 64, by omega⟩ := Fin.ext hd
  unfold Block.value Block.top
  refine attend_segments (N := 2304) (n₁ := 2048) (n₂ := 256) rfl (by norm_num)
    (fun s : Fin 2304 => Reference.scores (queries m c) (Reference.joined (keys m c) (cacheK m c)) (ix5 (batch t) (group t) g T s))
    (fun s : Fin 2304 => Reference.joined (values m c) (cacheV m c) (ix4 (batch t) (group t) s d))
    (Block.latent (k0_pay6 (F := Ideal) (iblk m c 0 t)) (iblk m c 1 t) g.1 r)
    (fun s => iblk m c 3 t (ix4 0 0 s l))
    (Block.cached (k0_pay6 (F := Ideal) (iblk m c 0 t)) (iblk m c 2 t) g.1 r)
    (fun s => iblk m c 4 t (ix4 0 0 s l)) ?_ ?_ ?_ ?_ ?_
  · exact fun s => scores_finite _ _ hq (joined_finite_all _ _ hk hc) _ _ _ _ s
  · exact fun s => (latent_scores m c t g r T hT s).symm
  · exact fun s => (cached_scores m c t g r T hT s).symm
  · intro s
    beta_reduce
    rw [block3, values_apply, Reference.joined_latent, e]
  · intro s
    beta_reduce
    rw [block4, cacheV_apply, Reference.joined_cached, e]

/-- The result array after the run is the reference's function of the launched arrays. -/
theorem array_eq (hq : ∀ i, Fin' (queries m c i)) (hk : ∀ i, Fin' (keys m c i)) (hc : ∀ i, Fin' (cacheK m c i)) :
    (dats m 0 c).arrAt 5 cfg0.N = Reference.result (queries m c) (keys m c) (values m c) (cacheK m c) (cacheV m c) := by
  funext i
  obtain ⟨R, L, rfl⟩ : ∃ (R : Fin 4096) (L : Fin 1024), i = ix2 R L := ⟨i 0, i 1, eq_ix2 i⟩
  have hN : cfg0.N = 16 := N_0
  obtain ⟨t, ht⟩ : ∃ t : Fin cfg0.N, t.1 = R.1 / 2048 * 8 + L.1 / 256 * 2 + R.1 / 1024 % 2 := ⟨⟨_, by omega⟩, rfl⟩
  obtain ⟨r, hr⟩ : ∃ r : Fin 1024, r.1 = R.1 % 1024 := ⟨⟨_, by omega⟩, rfl⟩
  obtain ⟨l, hl⟩ : ∃ l : Fin 256, l.1 = L.1 % 256 := ⟨⟨_, by omega⟩, rfl⟩
  obtain ⟨g, hg⟩ : ∃ g : Fin 4, g.1 = l.1 / 64 := ⟨⟨_, by omega⟩, rfl⟩
  obtain ⟨T, hT⟩ : ∃ T : Fin 2048, T.1 = R.1 % 2048 := ⟨⟨_, by omega⟩, rfl⟩
  obtain ⟨d, hd⟩ : ∃ d : Fin 64, d.1 = L.1 % 64 := ⟨⟨_, by omega⟩, rfl⟩
  rw [array_apply m c t r l R L (by omega) (by omega), Block.payload_apply, ← hg,
    value_eq m c hq hk hc t g r l T d (by omega) (by omega)]
  exact (Reference.result_apply _ _ _ _ _ R L (batch t) (group t) g T d (by simp only [batch]; omega) hT (by simp only [group]; omega) (by omega) hd).symm

end Cert.Equation

end
-- ==== Proof.Finite.lean ====
/-
  The precondition, read: where it holds the queries, the latent keys and the cached keys are finite.
-/
module

public import proofs.«01_k».proof.Defs
public import proofs.«01_k».proof.Proof.Softmax
public import Idealize.ShloMosaic.Lib.Pointwise
public import Idealize.ShloMosaic.Lib.IdealHost

@[expose] public section

set_option maxRecDepth 16384

noncomputable section

namespace Cert.Finite

open Cert.Pre_finite Idealize.ShloMosaic Idealize.ShloMosaic.Pointwise Cert.Softmax

/-- The side conditions the precondition's operations take. -/
theorem facts : Cert.Pre_finite.Facts where
  bcast_S_S2x16x2048x64 := by decide
  bcast_S_S2x4x2048x64 := by decide
  bcast_S_S2x1x4x256x64 := by decide

/-- An array whose absolute values compare below infinity is finite at every index. -/
theorem finite_of {S : Shape} (x : FVec Ideal S .f32) (h : S_.BroadcastsInDim S (![] : Fin 0 → Fin S.rank))
    (e : cmpf .olt (Host.absf x) (broadcastInDim S ![] h (constant S_ .f32 0x7F800000#32)) = fun _ => 1#1) (i : S.Idx) : Fin' (x i) := by
  have e' : BitVec.ofBool (decide (max (x i) (-(x i)) < Ideal.ofBits .f32 0x7F800000#32)) = 1#1 := congrFun e i
  rw [ofBits_infinity] at e'
  constructor
  · intro hb
    rw [hb] at e'
    simp at e'
  · intro ht
    rw [ht] at e'
    simp at e'

attribute [local instance] facts in
/-- Where the precondition holds of the launched arrays, the queries and both key arrays are finite. -/
theorem of_pre (m : (ℓ : Loc Cert.KernelIdeal.nD Cert.KernelIdeal.τ Cert.KernelIdeal.sig) → Buf (Elt Ideal) ℓ)
    (h : Pre_KernelIdeal_finite (hPre_finite := facts) m) (c : Dev Cert.KernelIdeal.nD) :
    (∀ i : S2x16x2048x64.Idx, Fin' (m ((c.tc : Thread Cert.KernelIdeal.nD Cert.KernelIdeal.τ).loc Cert.KernelIdeal.main_arg1) i))
    ∧ (∀ i : S2x4x2048x64.Idx, Fin' (m ((c.tc : Thread Cert.KernelIdeal.nD Cert.KernelIdeal.τ).loc Cert.KernelIdeal.main_arg2) i))
    ∧ (∀ i : S2x1x4x256x64.Idx, Fin' (m ((c.tc : Thread Cert.KernelIdeal.nD Cert.KernelIdeal.τ).loc Cert.KernelIdeal.main_arg4) i)) := by
  obtain ⟨h1, h2, h3⟩ := h c
  exact ⟨finite_of _ _ h1, finite_of _ _ h2, finite_of _ _ h3⟩

end Cert.Finite

end
-- ==== Proof.ExpertsFacts.lean ====
/-
  The side conditions of the idealized experts program.
-/
module

public import proofs.«01_k».proof.ExpertsIdeal
public import Idealize.ShloMosaic.Lib.Affine
public import Idealize.ShloMosaic.Lib.Decide
public import Idealize.ShloMosaic.Lib.Exec

@[expose] public section

-- nested conditions need deep `Decidable` instances
set_option synthInstance.maxSize 4096
-- one declaration at a time, so that the evaluations over the grid points don't run side by side
set_option Elab.async false

namespace Cert.ExpertsIdeal.Gen

open Idealize.ShloMosaic Idealize.SL.Sem
/-! ## The facts over the vocabulary (`Facts₀`) -/

theorem inb_S8x128_S1x1_1_0 : ∀ a, (![1, 0] : Fin 2 → Nat) a + S1x1.size a ≤ S8x128.size a := by decide
theorem numel1_S1x1 : S1x1.numel = 1 := by decide
theorem inb_S1x1x1024x256_S1x1x1024x256_0_0_0_0 : ∀ a, (![0, 0, 0, 0] : Fin 4 → Nat) a + S1x1x1024x256.size a ≤ S1x1x1024x256.size a := by decide
theorem h_S1x1x1024x256 : 0 < S1x1x1024x256.numel := by decide
theorem shapeCasts_S1x1x1024x256_S1024x256 : S1x1x1024x256.ShapeCasts S1024x256 := by decide
theorem bitsLt_bf16_f32 : FTy.bits .bf16 < FTy.bits .f32 := by decide
theorem inb_S1024x512_S1024x256_0_0 : ∀ a, (![0, 0] : Fin 2 → Nat) a + S1024x256.size a ≤ S1024x512.size a := by decide
theorem h_S1024x256 : 0 < S1024x256.numel := by decide
theorem shapeCasts_S1024x256_S1024x256 : S1024x256.ShapeCasts S1024x256 := by decide
theorem packedbf16_S1024x512_S1024x256_0_0 : (Rect.unit (s := S1024x512) ![0, 0] S1024x256.size inb_S1024x512_S1024x256_0_0).PackedRows (EltTy.packing .bf16) := by decide
theorem inb_S1024x512_S1024x256_0_256 : ∀ a, (![0, 256] : Fin 2 → Nat) a + S1024x256.size a ≤ S1024x512.size a := by decide
theorem packedbf16_S1024x512_S1024x256_0_256 : (Rect.unit (s := S1024x512) ![0, 256] S1024x256.size inb_S1024x512_S1024x256_0_256).PackedRows (EltTy.packing .bf16) := by decide
theorem inb_S1x1x256x1024_S1x1x256x1024_0_0_0_0 : ∀ a, (![0, 0, 0, 0] : Fin 4 → Nat) a + S1x1x256x1024.size a ≤ S1x1x256x1024.size a := by decide
theorem h_S1x1x256x1024 : 0 < S1x1x256x1024.numel := by decide
theorem shapeCasts_S1x1x256x1024_S256x1024 : S1x1x256x1024.ShapeCasts S256x1024 := by decide
theorem inb_S256x1024_S256x1024_0_0 : ∀ a, (![0, 0] : Fin 2 → Nat) a + S256x1024.size a ≤ S256x1024.size a := by decide
theorem h_S256x1024 : 0 < S256x1024.numel := by decide
theorem shapeCasts_S256x1024_S256x1024 : S256x1024.ShapeCasts S256x1024 := by decide
theorem packedbf16_S256x1024_S256x1024_0_0 : (Rect.unit (s := S256x1024) ![0, 0] S256x1024.size inb_S256x1024_S256x1024_0_0).PackedRows (EltTy.packing .bf16) := by decide
theorem inb_S64x4x8x256_S64x1x8x256_0_0_0_0 : ∀ a, (![0, 0, 0, 0] : Fin 4 → Nat) a + S64x1x8x256.size a ≤ S64x4x8x256.size a := by decide
theorem h_S64x1x8x256 : 0 < S64x1x8x256.numel := by decide
theorem shapeCasts_S64x1x8x256_S64x8x256 : S64x1x8x256.ShapeCasts S64x8x256 := by decide
theorem shapeCasts_S64x8x256_S512x256 : S64x8x256.ShapeCasts S512x256 := by decide
theorem inb_S64x4x8x256_S64x1x8x256_0_1_0_0 : ∀ a, (![0, 1, 0, 0] : Fin 4 → Nat) a + S64x1x8x256.size a ≤ S64x4x8x256.size a := by decide
theorem inb_S64x4x8x256_S64x1x8x256_0_2_0_0 : ∀ a, (![0, 2, 0, 0] : Fin 4 → Nat) a + S64x1x8x256.size a ≤ S64x4x8x256.size a := by decide
theorem inb_S64x4x8x256_S64x1x8x256_0_3_0_0 : ∀ a, (![0, 3, 0, 0] : Fin 4 → Nat) a + S64x1x8x256.size a ≤ S64x4x8x256.size a := by decide
theorem concatenates_S512x256_S512x256_S512x256_S512x256_S512x1024_d1 : Shape.Concatenates [S512x256, S512x256, S512x256, S512x256] S512x1024 1 := by decide
theorem inb_S1024x512_S1024x512_0_0 : ∀ a, (![0, 0] : Fin 2 → Nat) a + S1024x512.size a ≤ S1024x512.size a := by decide
theorem h_S1024x512 : 0 < S1024x512.numel := by decide
theorem slices_S512x512_o0_0_S512x256 : S512x512.Slices ![0, 0] S512x256 := by decide
theorem slices_S512x512_o0_256_S512x256 : S512x512.Slices ![0, 256] S512x256 := by decide
theorem slices_S512x1024_o0_0_S512x256 : S512x1024.Slices ![0, 0] S512x256 := by decide
theorem shapeCasts_S512x256_S64x8x256 : S512x256.ShapeCasts S64x8x256 := by decide
theorem shapeCasts_S64x8x256_S64x1x8x256 : S64x8x256.ShapeCasts S64x1x8x256 := by decide
theorem packedbf16_S64x4x8x256_S64x1x8x256_0_0_0_0 : (Rect.unit (s := S64x4x8x256) ![0, 0, 0, 0] S64x1x8x256.size inb_S64x4x8x256_S64x1x8x256_0_0_0_0).PackedRows (EltTy.packing .bf16) := by decide
theorem slices_S512x1024_o0_256_S512x256 : S512x1024.Slices ![0, 256] S512x256 := by decide
theorem packedbf16_S64x4x8x256_S64x1x8x256_0_1_0_0 : (Rect.unit (s := S64x4x8x256) ![0, 1, 0, 0] S64x1x8x256.size inb_S64x4x8x256_S64x1x8x256_0_1_0_0).PackedRows (EltTy.packing .bf16) := by decide
theorem slices_S512x1024_o0_512_S512x256 : S512x1024.Slices ![0, 512] S512x256 := by decide
theorem packedbf16_S64x4x8x256_S64x1x8x256_0_2_0_0 : (Rect.unit (s := S64x4x8x256) ![0, 2, 0, 0] S64x1x8x256.size inb_S64x4x8x256_S64x1x8x256_0_2_0_0).PackedRows (EltTy.packing .bf16) := by decide
theorem slices_S512x1024_o0_768_S512x256 : S512x1024.Slices ![0, 768] S512x256 := by decide
theorem packedbf16_S64x4x8x256_S64x1x8x256_0_3_0_0 : (Rect.unit (s := S64x4x8x256) ![0, 3, 0, 0] S64x1x8x256.size inb_S64x4x8x256_S64x1x8x256_0_3_0_0).PackedRows (EltTy.packing .bf16) := by decide
theorem dot_S512x1024_S1024x512_S512x512_1_0_0_1_n_n_wf : DotDims.WF S512x1024 S1024x512 S512x512 [1] [0] [0] [1] [] [] := by decide
theorem dot_S512x256_S256x1024_S512x1024_1_0_0_1_n_n_wf : DotDims.WF S512x256 S256x1024 S512x1024 [1] [0] [0] [1] [] [] := by decide
theorem hrank0 : 0 < grid0.rank := by decide
theorem k0_off1_inb : ∀ i : grid0.Coords, ∀ a, (k0_off1 i) a + S1x1.size a ≤ S8x128.size a := by decide +kernel
theorem k0_off2_inb : ∀ i : grid0.Coords, ∀ a, (k0_off2 i) a + S1x1.size a ≤ S8x128.size a := by decide +kernel
theorem hstage0_0 : ∀ j, (stage0_0 j).IsWhole := fun | 0 => Memref.isWhole_whole _ | 1 => Memref.isWhole_whole _ | ⟨_ + 2, h⟩ => absurd h (Nat.not_lt.2 (Nat.le_add_left _ _))
theorem nbuf0_0 : grid0.bufCount reads0_0 false = 2 := by decide
theorem hreads0_0 : ∀ {F : FTy → Type} [FloatOps F] (pf : pre0.Contents (Elt F)) (i i' : grid0.Coords), (∀ a, reads0_0 a = true → i a = i' a) → cc0_transform_0 inb_S8x128_S1x1_1_0 numel1_S1x1 pf i = cc0_transform_0 inb_S8x128_S1x1_1_0 numel1_S1x1 pf i' := fun pf i i' h => by unfold cc0_transform_0; simp only [h 0 rfl]
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ {F : FTy → Type} [FloatOps F] (pf : pre0.Contents (Elt F)) (i i' : grid0.Coords), (∀ a, reads0_1 a = true → i a = i' a) → cc0_transform_1 k0_off1_inb numel1_S1x1 pf i = cc0_transform_1 k0_off1_inb numel1_S1x1 pf i' := fun pf i i' h => by unfold cc0_transform_1; simp only [h 0 rfl]
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ {F : FTy → Type} [FloatOps F] (pf : pre0.Contents (Elt F)) (i i' : grid0.Coords), (∀ a, reads0_2 a = true → i a = i' a) → cc0_transform_2 k0_off1_inb numel1_S1x1 pf i = cc0_transform_2 k0_off1_inb numel1_S1x1 pf i' := fun pf i i' h => by unfold cc0_transform_2; simp only [h 0 rfl]
theorem hstage0_3 : ∀ j, (stage0_3 j).IsWhole := fun | 0 => Memref.isWhole_whole _ | 1 => Memref.isWhole_whole _ | ⟨_ + 2, h⟩ => absurd h (Nat.not_lt.2 (Nat.le_add_left _ _))
theorem nbuf0_3 : grid0.bufCount reads0_3 false = 2 := by decide
theorem hreads0_3 : ∀ {F : FTy → Type} [FloatOps F] (pf : pre0.Contents (Elt F)) (i i' : grid0.Coords), (∀ a, reads0_3 a = true → i a = i' a) → cc0_transform_3 k0_off1_inb numel1_S1x1 pf i = cc0_transform_3 k0_off1_inb numel1_S1x1 pf i' := fun pf i i' h => by unfold cc0_transform_3; simp only [h 0 rfl]
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ {F : FTy → Type} [FloatOps F] (pf : pre0.Contents (Elt F)) (i i' : grid0.Coords), (∀ a, reads0_4 a = true → i a = i' a) → cc0_transform_4 inb_S8x128_S1x1_1_0 numel1_S1x1 pf i = cc0_transform_4 inb_S8x128_S1x1_1_0 numel1_S1x1 pf i' := fun pf i i' h => by unfold cc0_transform_4; simp only [h 0 rfl]

/-- The program's facts over its vocabulary, proved: the instance its windows take. -/
instance facts₀ : Cert.ExpertsIdeal.Facts₀ where
  inb_S8x128_S1x1_1_0 := @inb_S8x128_S1x1_1_0
  numel1_S1x1 := @numel1_S1x1
  inb_S1x1x1024x256_S1x1x1024x256_0_0_0_0 := @inb_S1x1x1024x256_S1x1x1024x256_0_0_0_0
  h_S1x1x1024x256 := @h_S1x1x1024x256
  shapeCasts_S1x1x1024x256_S1024x256 := @shapeCasts_S1x1x1024x256_S1024x256
  bitsLt_bf16_f32 := @bitsLt_bf16_f32
  inb_S1024x512_S1024x256_0_0 := @inb_S1024x512_S1024x256_0_0
  h_S1024x256 := @h_S1024x256
  shapeCasts_S1024x256_S1024x256 := @shapeCasts_S1024x256_S1024x256
  packedbf16_S1024x512_S1024x256_0_0 := @packedbf16_S1024x512_S1024x256_0_0
  inb_S1024x512_S1024x256_0_256 := @inb_S1024x512_S1024x256_0_256
  packedbf16_S1024x512_S1024x256_0_256 := @packedbf16_S1024x512_S1024x256_0_256
  inb_S1x1x256x1024_S1x1x256x1024_0_0_0_0 := @inb_S1x1x256x1024_S1x1x256x1024_0_0_0_0
  h_S1x1x256x1024 := @h_S1x1x256x1024
  shapeCasts_S1x1x256x1024_S256x1024 := @shapeCasts_S1x1x256x1024_S256x1024
  inb_S256x1024_S256x1024_0_0 := @inb_S256x1024_S256x1024_0_0
  h_S256x1024 := @h_S256x1024
  shapeCasts_S256x1024_S256x1024 := @shapeCasts_S256x1024_S256x1024
  packedbf16_S256x1024_S256x1024_0_0 := @packedbf16_S256x1024_S256x1024_0_0
  inb_S64x4x8x256_S64x1x8x256_0_0_0_0 := @inb_S64x4x8x256_S64x1x8x256_0_0_0_0
  h_S64x1x8x256 := @h_S64x1x8x256
  shapeCasts_S64x1x8x256_S64x8x256 := @shapeCasts_S64x1x8x256_S64x8x256
  shapeCasts_S64x8x256_S512x256 := @shapeCasts_S64x8x256_S512x256
  inb_S64x4x8x256_S64x1x8x256_0_1_0_0 := @inb_S64x4x8x256_S64x1x8x256_0_1_0_0
  inb_S64x4x8x256_S64x1x8x256_0_2_0_0 := @inb_S64x4x8x256_S64x1x8x256_0_2_0_0
  inb_S64x4x8x256_S64x1x8x256_0_3_0_0 := @inb_S64x4x8x256_S64x1x8x256_0_3_0_0
  concatenates_S512x256_S512x256_S512x256_S512x256_S512x1024_d1 := @concatenates_S512x256_S512x256_S512x256_S512x256_S512x1024_d1
  inb_S1024x512_S1024x512_0_0 := @inb_S1024x512_S1024x512_0_0
  h_S1024x512 := @h_S1024x512
  slices_S512x512_o0_0_S512x256 := @slices_S512x512_o0_0_S512x256
  slices_S512x512_o0_256_S512x256 := @slices_S512x512_o0_256_S512x256
  slices_S512x1024_o0_0_S512x256 := @slices_S512x1024_o0_0_S512x256
  shapeCasts_S512x256_S64x8x256 := @shapeCasts_S512x256_S64x8x256
  shapeCasts_S64x8x256_S64x1x8x256 := @shapeCasts_S64x8x256_S64x1x8x256
  packedbf16_S64x4x8x256_S64x1x8x256_0_0_0_0 := @packedbf16_S64x4x8x256_S64x1x8x256_0_0_0_0
  slices_S512x1024_o0_256_S512x256 := @slices_S512x1024_o0_256_S512x256
  packedbf16_S64x4x8x256_S64x1x8x256_0_1_0_0 := @packedbf16_S64x4x8x256_S64x1x8x256_0_1_0_0
  slices_S512x1024_o0_512_S512x256 := @slices_S512x1024_o0_512_S512x256
  packedbf16_S64x4x8x256_S64x1x8x256_0_2_0_0 := @packedbf16_S64x4x8x256_S64x1x8x256_0_2_0_0
  slices_S512x1024_o0_768_S512x256 := @slices_S512x1024_o0_768_S512x256
  packedbf16_S64x4x8x256_S64x1x8x256_0_3_0_0 := @packedbf16_S64x4x8x256_S64x1x8x256_0_3_0_0
  dot_S512x1024_S1024x512_S512x512_1_0_0_1_n_n_wf := @dot_S512x1024_S1024x512_S512x512_1_0_0_1_n_n_wf
  dot_S512x256_S256x1024_S512x1024_1_0_0_1_n_n_wf := @dot_S512x256_S256x1024_S512x1024_1_0_0_1_n_n_wf
  hrank0 := @hrank0
  k0_off1_inb := @k0_off1_inb
  k0_off2_inb := @k0_off2_inb
  hstage0_0 := @hstage0_0
  nbuf0_0 := @nbuf0_0
  hreads0_0 := @hreads0_0
  hstage0_1 := @hstage0_1
  nbuf0_1 := @nbuf0_1
  hreads0_1 := @hreads0_1
  hstage0_2 := @hstage0_2
  nbuf0_2 := @nbuf0_2
  hreads0_2 := @hreads0_2
  hstage0_3 := @hstage0_3
  nbuf0_3 := @nbuf0_3
  hreads0_3 := @hreads0_3
  hstage0_4 := @hstage0_4
  nbuf0_4 := @nbuf0_4
  hreads0_4 := @hreads0_4

/-! ## The facts over the windows (`Facts`) -/

theorem harr0 : ∀ w, (spec0 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))

/-- Every fact the program states, proved: the instance its functions and a certificate's claims take. -/
instance facts : Cert.ExpertsIdeal.Facts where
  harr0 := @harr0

/-! ## Closed forms

The offsets of an access as expressions of the grid coordinates. -/

/-- The first offset of the plan's access: the grid point's column. -/
theorem k0_off1_eq : ∀ i : grid0.Coords, k0_off1 i = ![0, (i 0).val] := by decide +kernel
instance closedOff_k0_off1 (i : grid0.Coords) : ClosedOff (k0_off1 i) := ⟨![0, (i 0).val], k0_off1_eq i⟩

end Cert.ExpertsIdeal.Gen
-- ==== Proof.ExpertsSkeleton.lean ====
/-
  The experts kernel's body as its memory operations over the values that it stores.
-/
module

public import proofs.«01_k».proof.Proof.ExpertsFacts

@[expose] public section

set_option synthInstance.maxSize 4096

noncomputable section

namespace Cert.ExpertsIdeal.Gen

open Idealize.ShloMosaic Idealize.SL.Sem

variable {F : FTy → Type} [FloatOps F]
/-! ## `cc0_moe_experts` -/

/-- The gate weights of an expert, cast and stored. -/
noncomputable def k0_pay1 (v16 : Vec F S1x1x1024x256 .f32) : FVec F S1024x256 .bf16 :=
  have v17 : FVec F S1024x256 .f32 := shapeCast S1024x256 v16 shapeCasts_S1x1x1024x256_S1024x256
  have v18 : FVec F S1024x256 .bf16 := truncf .bf16 v17 bitsLt_bf16_f32
  have v21 : FVec F S1024x256 .bf16 := shapeCast S1024x256 v18 shapeCasts_S1024x256_S1024x256
  v21

/-- The up weights of an expert, cast and stored. -/
noncomputable def k0_pay2 (v22 : Vec F S1x1x1024x256 .f32) : FVec F S1024x256 .bf16 :=
  have v23 : FVec F S1024x256 .f32 := shapeCast S1024x256 v22 shapeCasts_S1x1x1024x256_S1024x256
  have v24 : FVec F S1024x256 .bf16 := truncf .bf16 v23 bitsLt_bf16_f32
  have v27 : FVec F S1024x256 .bf16 := shapeCast S1024x256 v24 shapeCasts_S1024x256_S1024x256
  v27

/-- The down weights of an expert, cast and stored. -/
noncomputable def k0_pay3 (v28 : Vec F S1x1x256x1024 .f32) : FVec F S256x1024 .bf16 :=
  have v29 : FVec F S256x1024 .f32 := shapeCast S256x1024 v28 shapeCasts_S1x1x256x1024_S256x1024
  have v30 : FVec F S256x1024 .bf16 := truncf .bf16 v29 bitsLt_bf16_f32
  have v33 : FVec F S256x1024 .bf16 := shapeCast S256x1024 v30 shapeCasts_S256x1024_S256x1024
  v33

/-- The first quarter of a tile's result, as stored. -/
noncomputable def k0_pay4 (v47 : FVec F S64x8x256 .bf16) : FVec F S64x1x8x256 .bf16 :=
  have v50 : FVec F S64x1x8x256 .bf16 := shapeCast S64x1x8x256 v47 shapeCasts_S64x8x256_S64x1x8x256
  v50

/-- The second quarter of a tile's result, as stored. -/
noncomputable def k0_pay5 (v44 : FVec F S512x1024 .f32) : FVec F S64x1x8x256 .bf16 :=
  have v51 : FVec F S512x256 .f32 := extractStridedSlice S512x256 ![0, 256] v44 slices_S512x1024_o0_256_S512x256
  have v52 : FVec F S512x256 .bf16 := truncf .bf16 v51 bitsLt_bf16_f32
  have v53 : FVec F S64x8x256 .bf16 := shapeCast S64x8x256 v52 shapeCasts_S512x256_S64x8x256
  have v56 : FVec F S64x1x8x256 .bf16 := shapeCast S64x1x8x256 v53 shapeCasts_S64x8x256_S64x1x8x256
  v56

/-- The third quarter of a tile's result, as stored. -/
noncomputable def k0_pay6 (v44 : FVec F S512x1024 .f32) : FVec F S64x1x8x256 .bf16 :=
  have v57 : FVec F S512x256 .f32 := extractStridedSlice S512x256 ![0, 512] v44 slices_S512x1024_o0_512_S512x256
  have v58 : FVec F S512x256 .bf16 := truncf .bf16 v57 bitsLt_bf16_f32
  have v59 : FVec F S64x8x256 .bf16 := shapeCast S64x8x256 v58 shapeCasts_S512x256_S64x8x256
  have v62 : FVec F S64x1x8x256 .bf16 := shapeCast S64x1x8x256 v59 shapeCasts_S64x8x256_S64x1x8x256
  v62

/-- The fourth quarter of a tile's result, as stored. -/
noncomputable def k0_pay7 (v44 : FVec F S512x1024 .f32) : FVec F S64x1x8x256 .bf16 :=
  have v63 : FVec F S512x256 .f32 := extractStridedSlice S512x256 ![0, 768] v44 slices_S512x1024_o0_768_S512x256
  have v64 : FVec F S512x256 .bf16 := truncf .bf16 v63 bitsLt_bf16_f32
  have v65 : FVec F S64x8x256 .bf16 := shapeCast S64x8x256 v64 shapeCasts_S512x256_S64x8x256
  have v68 : FVec F S64x1x8x256 .bf16 := shapeCast S64x1x8x256 v65 shapeCasts_S64x8x256_S64x1x8x256
  v68

/-- A tile's rows through its expert, from its four quarters and the stored weights. -/
noncomputable def k0_pay8 (v16 : Vec F S64x1x8x256 .bf16) (v19 : Vec F S64x1x8x256 .bf16) (v22 : Vec F S64x1x8x256 .bf16) (v25 : Vec F S64x1x8x256 .bf16) (v29 : Vec F S1024x512 .bf16) (v43 : Vec F S256x1024 .bf16) : FVec F S512x1024 .f32 :=
  have v17 : FVec F S64x8x256 .bf16 := shapeCast S64x8x256 v16 shapeCasts_S64x1x8x256_S64x8x256
  have v18 : FVec F S512x256 .bf16 := shapeCast S512x256 v17 shapeCasts_S64x8x256_S512x256
  have v20 : FVec F S64x8x256 .bf16 := shapeCast S64x8x256 v19 shapeCasts_S64x1x8x256_S64x8x256
  have v21 : FVec F S512x256 .bf16 := shapeCast S512x256 v20 shapeCasts_S64x8x256_S512x256
  have v23 : FVec F S64x8x256 .bf16 := shapeCast S64x8x256 v22 shapeCasts_S64x1x8x256_S64x8x256
  have v24 : FVec F S512x256 .bf16 := shapeCast S512x256 v23 shapeCasts_S64x8x256_S512x256
  have v26 : FVec F S64x8x256 .bf16 := shapeCast S64x8x256 v25 shapeCasts_S64x1x8x256_S64x8x256
  have v27 : FVec F S512x256 .bf16 := shapeCast S512x256 v26 shapeCasts_S64x8x256_S512x256
  have v28 : FVec F S512x1024 .bf16 := concatenate S512x1024 1 [⟨S512x256, v18⟩, ⟨S512x256, v21⟩, ⟨S512x256, v24⟩, ⟨S512x256, v27⟩] concatenates_S512x256_S512x256_S512x256_S512x256_S512x1024_d1
  have cst : FVec F S512x512 .f32 := constant S512x512 .f32 0x00000000#32
  have v30 : FVec F S512x512 .f32 := matmul dot_S512x1024_S1024x512_S512x512_1_0_0_1_n_n none v28 v29 cst
  have v31 : FVec F S512x256 .f32 := extractStridedSlice S512x256 ![0, 0] v30 slices_S512x512_o0_0_S512x256
  have v32 : FVec F S512x256 .f32 := extractStridedSlice S512x256 ![0, 256] v30 slices_S512x512_o0_256_S512x256
  have cst_21 : F .f32 := Scalar.ofBits .f32 0x00000000#32
  have v33 : FVec F S512x256 .f32 := broadcast S512x256 cst_21
  have v34 : FVec F S512x256 .f32 := subf v33 v31
  have v35 : FVec F S512x256 .f32 := exp v34
  have cst_22 : F .f32 := Scalar.ofBits .f32 0x3F800000#32
  have v36 : FVec F S512x256 .f32 := broadcast S512x256 cst_22
  have v37 : FVec F S512x256 .f32 := addf v36 v35
  have cst_23 : F .f32 := Scalar.ofBits .f32 0x3F800000#32
  have v38 : FVec F S512x256 .f32 := broadcast S512x256 cst_23
  have v39 : FVec F S512x256 .f32 := divf v38 v37
  have v40 : FVec F S512x256 .f32 := mulf v31 v39
  have v41 : FVec F S512x256 .f32 := mulf v40 v32
  have v42 : FVec F S512x256 .bf16 := truncf .bf16 v41 bitsLt_bf16_f32
  have cst_26 : FVec F S512x1024 .f32 := constant S512x1024 .f32 0x00000000#32
  have v44 : FVec F S512x1024 .f32 := matmul dot_S512x256_S256x1024_S512x1024_1_0_0_1_n_n none v42 v43 cst_26
  v44

/-- The first quarter of a tile's result. -/
noncomputable def k0_pay9 (v16 : Vec F S64x1x8x256 .bf16) (v19 : Vec F S64x1x8x256 .bf16) (v22 : Vec F S64x1x8x256 .bf16) (v25 : Vec F S64x1x8x256 .bf16) (v29 : Vec F S1024x512 .bf16) (v43 : Vec F S256x1024 .bf16) : FVec F S64x8x256 .bf16 :=
  have v45 : FVec F S512x256 .f32 := extractStridedSlice S512x256 ![0, 0] (k0_pay8 v16 v19 v22 v25 v29 v43) slices_S512x1024_o0_0_S512x256
  have v46 : FVec F S512x256 .bf16 := truncf .bf16 v45 bitsLt_bf16_f32
  have v47 : FVec F S64x8x256 .bf16 := shapeCast S64x8x256 v46 shapeCasts_S512x256_S64x8x256
  v47

/-- `cc0_moe_experts` as a skeleton of memory operations over payloads. -/
noncomputable def cc0_moe_experts_skel (i : grid0.Coords) (arg1 : Memref sig .tc .smem S8x128 .i32) (harg1 : arg1.IsWhole) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (arg7 : Memref sig .tc .vmem S1024x512 .bf16) (harg7 : arg7.IsWhole) (arg8 : Memref sig .tc .vmem S256x1024 .bf16) (harg8 : arg8.IsWhole) :
    Prog (TpuEff nD τ sig (Elt F) Λ₀ .tc) PUnit := do
  let arg0 : BitVec 32 := BitVec.ofNat 32 (i 0).val
  let v0 : Elt F .i32 ← smemLoad arg1 (Rect.unit (s := S8x128) ![1, 0] S1x1.size inb_S8x128_S1x1_1_0) numel1_S1x1 rfl
  let v1 : BitVec 1 := Scalar.cmpi .slt arg0 v0
  let v2 : BitVec 1 := Scalar.cmpi .eq arg0 0#32
  let v4 : Elt F .i32 ← smemLoad arg1 (Rect.unit (s := S8x128) (k0_off1 i) S1x1.size (k0_off1_inb i)) numel1_S1x1 rfl
  let v8 : Elt F .i32 ← smemLoad arg1 (Rect.unit (s := S8x128) (k0_off2 i) S1x1.size (k0_off2_inb i)) numel1_S1x1 rfl
  let v9 : BitVec 1 := Scalar.cmpi .ne v4 v8
  let v10 : BitVec 1 := Scalar.ori v2 v9
  let v11 : BitVec 1 := Scalar.andi v1 v10
  let v12 : BitVec 32 := Scalar.extui v11
  let v13 : BitVec 1 := Scalar.cmpi .ne v12 0#32
  if v13 = 1#1 then do
    let v16 : Vec F S1x1x1024x256 .f32 ← Prog.lift (.load arg3 (Rect.unit (s := S1x1x1024x256) ![0, 0, 0, 0] S1x1x1024x256.size inb_S1x1x1024x256_S1x1x1024x256_0_0_0_0).toLoadRect (View.loadsAt_vmem h_S1x1x1024x256))
    let v19 : Vec F S1024x256 .bf16 ← Prog.lift (.load arg7 (Rect.unit (s := S1024x512) ![0, 0] S1024x256.size inb_S1024x512_S1024x256_0_0).toLoadRect (View.loadsAt_vmem h_S1024x256))
    Prog.lift (.store arg7 (Rect.unit (s := S1024x512) ![0, 0] S1024x256.size inb_S1024x512_S1024x256_0_0) (k0_pay1 v16) Finset.univ (View.stores_vmem h_S1024x256 (harg7.storeExact_slice rfl _ packedbf16_S1024x512_S1024x256_0_0) (fun _ => rfl)) (.inl rfl))
    let v22 : Vec F S1x1x1024x256 .f32 ← Prog.lift (.load arg4 (Rect.unit (s := S1x1x1024x256) ![0, 0, 0, 0] S1x1x1024x256.size inb_S1x1x1024x256_S1x1x1024x256_0_0_0_0).toLoadRect (View.loadsAt_vmem h_S1x1x1024x256))
    let v25 : Vec F S1024x256 .bf16 ← Prog.lift (.load arg7 (Rect.unit (s := S1024x512) ![0, 256] S1024x256.size inb_S1024x512_S1024x256_0_256).toLoadRect (View.loadsAt_vmem h_S1024x256))
    Prog.lift (.store arg7 (Rect.unit (s := S1024x512) ![0, 256] S1024x256.size inb_S1024x512_S1024x256_0_256) (k0_pay2 v22) Finset.univ (View.stores_vmem h_S1024x256 (harg7.storeExact_slice rfl _ packedbf16_S1024x512_S1024x256_0_256) (fun _ => rfl)) (.inl rfl))
    let v28 : Vec F S1x1x256x1024 .f32 ← Prog.lift (.load arg5 (Rect.unit (s := S1x1x256x1024) ![0, 0, 0, 0] S1x1x256x1024.size inb_S1x1x256x1024_S1x1x256x1024_0_0_0_0).toLoadRect (View.loadsAt_vmem h_S1x1x256x1024))
    let v31 : Vec F S256x1024 .bf16 ← Prog.lift (.load arg8 (Rect.unit (s := S256x1024) ![0, 0] S256x1024.size inb_S256x1024_S256x1024_0_0).toLoadRect (View.loadsAt_vmem h_S256x1024))
    Prog.lift (.store arg8 (Rect.unit (s := S256x1024) ![0, 0] S256x1024.size inb_S256x1024_S256x1024_0_0) (k0_pay3 v28) Finset.univ (View.stores_vmem h_S256x1024 (harg8.storeExact_slice rfl _ packedbf16_S256x1024_S256x1024_0_0) (fun _ => rfl)) (.inl rfl))
    pure ⟨⟩
  else do
    pure ⟨⟩
  if k0_h2 : k0_cond2 i v0 = 1#1 then do
    let ⟨v44, v47⟩ : Σ' (v44 : FVec F S512x1024 .f32), FVec F S64x8x256 .bf16 ← k0_part1 i arg1 harg1 arg2 harg2 arg3 harg3 arg4 harg4 arg5 harg5 arg6 harg6 arg7 harg7 arg8 harg8
    let v48 : Vec F S64x1x8x256 .bf16 ← Prog.lift (.load arg6 (Rect.unit (s := S64x4x8x256) ![0, 0, 0, 0] S64x1x8x256.size inb_S64x4x8x256_S64x1x8x256_0_0_0_0).toLoadRect (View.loadsAt_vmem h_S64x1x8x256))
    Prog.lift (.store arg6 (Rect.unit (s := S64x4x8x256) ![0, 0, 0, 0] S64x1x8x256.size inb_S64x4x8x256_S64x1x8x256_0_0_0_0) (k0_pay4 v47) Finset.univ (View.stores_vmem h_S64x1x8x256 (harg6.storeExact_slice rfl _ packedbf16_S64x4x8x256_S64x1x8x256_0_0_0_0) (fun _ => rfl)) (.inl rfl))
    let v54 : Vec F S64x1x8x256 .bf16 ← Prog.lift (.load arg6 (Rect.unit (s := S64x4x8x256) ![0, 1, 0, 0] S64x1x8x256.size inb_S64x4x8x256_S64x1x8x256_0_1_0_0).toLoadRect (View.loadsAt_vmem h_S64x1x8x256))
    Prog.lift (.store arg6 (Rect.unit (s := S64x4x8x256) ![0, 1, 0, 0] S64x1x8x256.size inb_S64x4x8x256_S64x1x8x256_0_1_0_0) (k0_pay5 v44) Finset.univ (View.stores_vmem h_S64x1x8x256 (harg6.storeExact_slice rfl _ packedbf16_S64x4x8x256_S64x1x8x256_0_1_0_0) (fun _ => rfl)) (.inl rfl))
    let v60 : Vec F S64x1x8x256 .bf16 ← Prog.lift (.load arg6 (Rect.unit (s := S64x4x8x256) ![0, 2, 0, 0] S64x1x8x256.size inb_S64x4x8x256_S64x1x8x256_0_2_0_0).toLoadRect (View.loadsAt_vmem h_S64x1x8x256))
    Prog.lift (.store arg6 (Rect.unit (s := S64x4x8x256) ![0, 2, 0, 0] S64x1x8x256.size inb_S64x4x8x256_S64x1x8x256_0_2_0_0) (k0_pay6 v44) Finset.univ (View.stores_vmem h_S64x1x8x256 (harg6.storeExact_slice rfl _ packedbf16_S64x4x8x256_S64x1x8x256_0_2_0_0) (fun _ => rfl)) (.inl rfl))
    let v66 : Vec F S64x1x8x256 .bf16 ← Prog.lift (.load arg6 (Rect.unit (s := S64x4x8x256) ![0, 3, 0, 0] S64x1x8x256.size inb_S64x4x8x256_S64x1x8x256_0_3_0_0).toLoadRect (View.loadsAt_vmem h_S64x1x8x256))
    Prog.lift (.store arg6 (Rect.unit (s := S64x4x8x256) ![0, 3, 0, 0] S64x1x8x256.size inb_S64x4x8x256_S64x1x8x256_0_3_0_0) (k0_pay7 v44) Finset.univ (View.stores_vmem h_S64x1x8x256 (harg6.storeExact_slice rfl _ packedbf16_S64x4x8x256_S64x1x8x256_0_3_0_0) (fun _ => rfl)) (.inl rfl))
    pure ⟨⟩
  else do
    pure ⟨⟩
  pure ⟨⟩

set_option maxRecDepth 65536 in
/-- `cc0_moe_experts` is its skeleton. -/
theorem cc0_moe_experts_eq_skeleton : cc0_moe_experts (F := F) = cc0_moe_experts_skel (F := F) := rfl

/-- `k0_part1` as a skeleton of memory operations over payloads. -/
noncomputable def k0_part1_skel (i : grid0.Coords) (arg1 : Memref sig .tc .smem S8x128 .i32) (harg1 : arg1.IsWhole) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (arg7 : Memref sig .tc .vmem S1024x512 .bf16) (harg7 : arg7.IsWhole) (arg8 : Memref sig .tc .vmem S256x1024 .bf16) (harg8 : arg8.IsWhole) :
    Prog (TpuEff nD τ sig (Elt F) Λ₀ .tc) (Σ' (v44 : FVec F S512x1024 .f32), FVec F S64x8x256 .bf16) := do
  let v16 : Vec F S64x1x8x256 .bf16 ← Prog.lift (.load arg2 (Rect.unit (s := S64x4x8x256) ![0, 0, 0, 0] S64x1x8x256.size inb_S64x4x8x256_S64x1x8x256_0_0_0_0).toLoadRect (View.loadsAt_vmem h_S64x1x8x256))
  let v19 : Vec F S64x1x8x256 .bf16 ← Prog.lift (.load arg2 (Rect.unit (s := S64x4x8x256) ![0, 1, 0, 0] S64x1x8x256.size inb_S64x4x8x256_S64x1x8x256_0_1_0_0).toLoadRect (View.loadsAt_vmem h_S64x1x8x256))
  let v22 : Vec F S64x1x8x256 .bf16 ← Prog.lift (.load arg2 (Rect.unit (s := S64x4x8x256) ![0, 2, 0, 0] S64x1x8x256.size inb_S64x4x8x256_S64x1x8x256_0_2_0_0).toLoadRect (View.loadsAt_vmem h_S64x1x8x256))
  let v25 : Vec F S64x1x8x256 .bf16 ← Prog.lift (.load arg2 (Rect.unit (s := S64x4x8x256) ![0, 3, 0, 0] S64x1x8x256.size inb_S64x4x8x256_S64x1x8x256_0_3_0_0).toLoadRect (View.loadsAt_vmem h_S64x1x8x256))
  let v29 : Vec F S1024x512 .bf16 ← Prog.lift (.load arg7 (Rect.unit (s := S1024x512) ![0, 0] S1024x512.size inb_S1024x512_S1024x512_0_0).toLoadRect (View.loadsAt_vmem h_S1024x512))
  let v43 : Vec F S256x1024 .bf16 ← Prog.lift (.load arg8 (Rect.unit (s := S256x1024) ![0, 0] S256x1024.size inb_S256x1024_S256x1024_0_0).toLoadRect (View.loadsAt_vmem h_S256x1024))
  pure ⟨k0_pay8 v16 v19 v22 v25 v29 v43, k0_pay9 v16 v19 v22 v25 v29 v43⟩

set_option maxRecDepth 65536 in
/-- `k0_part1` is its skeleton. -/
theorem k0_part1_eq_skeleton : k0_part1 (F := F) = k0_part1_skel (F := F) := rfl

end Cert.ExpertsIdeal.Gen

end
-- ==== Proof.ExpertsLaunch.lean ====
/-
  What the launch of the experts call needs: distinct buffers and semaphores, and the host program's items.
-/
module

public import proofs.«01_k».proof.Proof.ExpertsFacts
public import Idealize.ShloMosaic.Lib.Pipeline.Kit
public import Idealize.ShloMosaic.Lib.Pipeline.Regions

@[expose] public section

noncomputable section

namespace Cert.ExpertsIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct, its pipelines pinned at any contents of their tables. -/
theorem cellOf_inj (a : (p : Fin 1) → (pcfgs (F := F) p).Adm) :
    Function.Injective (Pipeline.cellOf (nD := nD) (τ := τ) (Pipeline.pin (pcfgs (F := F)) a)) :=
  Pipeline.cellOf_injective_of_table (Pipeline.pin (pcfgs (F := F)) a) semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- The prefetched tables unscoped, distinct, and no window's array. -/
theorem preFacts0 : Pipeline.PreFacts spec0 pre0 := by decide
/-- No window's block is empty. -/
theorem block_pos0 : ∀ w : Fin 5, 0 < (spec0 w).block.numel := by decide
/-- The windows' arrays and the staging memrefs are whole buffers. -/
theorem arr_whole0 : ∀ w : Fin 5, (spec0 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole0 : ∀ (w : Fin 5) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | ⟨_ + 5, h⟩ => absurd h (Nat.not_lt.2 (Nat.le_add_left _ _))
/-- What the launch needs, bundled. -/
theorem launch0 : Pipeline.PLaunchFacts (nD := nD) (τ := τ) (pcfgs (F := F)) 0 :=
  ⟨cellOf_inj, winFacts0, preFacts0, block_pos0, arr_whole0, stage_whole0⟩

/-- The grid has 80 points. -/
theorem N_0 : grid0.N = 80 := by decide

/-- The windows conjoined one by one. -/
theorem bigSep_W0 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
/-- The core's scoped buffers that are no staging buffer of custom_call 0, each whole at some contents:
    `cc0_scratch0`, `cc0_scratch1`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f)) :=
  Pipeline.scopedRest_eq_of_list spec0 c [cc0_scratch0, cc0_scratch1] (by decide) (by decide)
/-- Its unscoped buffers that are neither a window's array nor a prefetched table, each whole at contents `V`:
    none. -/
theorem unscopedRestP0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRestP (Ix := Ix) (Name := Name) (U := U) (Lvl := Lvl) pre0 spec0 c V : sProp (MT nD τ sig Ix Val Name U Lvl))
      = (BI.emp : sProp (MT nD τ sig Ix Val Name U Lvl)) :=
  Pipeline.unscopedRestP_eq_of_list spec0 c pre0 V [] (by decide) (by decide)

/-! ## The host program as a chain of its items -/

/-- The one operation before the call: the copy of the rows that the call overwrites. -/
abbrev hostOps0 : List (HloOp τ sig (Elt F)) :=
  [ StableHlo.unary main_arg1 main_v0 id ]
/-- It touches TensorCore references only. -/
theorem hostOps0_sub : (hostOps0 : List (HloOp τ sig (Elt F))).Forall fun op => op.bufs ⊆ StableHlo.tcRefs τ sig :=
  StableHlo.unary_bufs_sub ..
/-- The host program is the copy, then the call. -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- The host program as the run of its segments. -/
theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0)
    (h0 : H0.prog = StableHlo.seq hostOps0)
    (c : Dev nD) :
    main c = Pipeline.Seg.run [.host H0, .region R0] := by
  simp only [Pipeline.Seg.run]
  rw [h0]
  rfl

end Cert.ExpertsIdeal.Gen

end
-- ==== Proof.ExpertsRuns.lean ====
/-
  The experts kernel's body run on each of its three paths.
-/
module

public import proofs.«01_k».proof.Proof.ExpertsSkeleton
public import proofs.«01_k».proof.Proof.ExpertsLaunch
public import Idealize.ShloMosaic.Lib.Pipeline.Kit
public import Idealize.ShloMosaic.Lib.Pipeline.TableIdle
public import Idealize.ShloMosaic.Lib.Pipeline.AliasedRuns
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- one declaration at a time, so that the runs don't go on side by side
set_option Elab.async false

noncomputable section

namespace Cert.ExpertsIdeal.Gen

open Cert.ExpertsIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The plan and the two scratch buffers. -/
abbrev tbM0_0 : Memref sig .tc .smem S8x128 .i32 := Memref.whole main_arg0
abbrev scM0_0 : Memref sig .tc .vmem S1024x512 .bf16 := Memref.whole cc0_scratch0
abbrev scM0_1 : Memref sig .tc .vmem S256x1024 .bf16 := Memref.whole cc0_scratch1

/-! ## The kernel's body on each of its three paths -/

/-- A buffer of the output's block, through which its contents are stated. -/
abbrev VO0_4 : View sig .tc .vmem S64x4x8x256 .bf16 := (Memref.whole cc0_stg4_0 : Memref sig .tc .vmem S64x4x8x256 .bf16).view

set_option backward.proofsInPublic true in
set_option maxHeartbeats 8000000 in
/-- A tile in use whose expert is new: the body stores the weights, then the tile's result. What it leaves in the output
    block and in the two scratch buffers, with the proof that it runs to them. -/
noncomputable def kernelRun0_A (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : (S8x128.Idx → Elt F .i32))
     (x0 : (S64x4x8x256.Idx → Elt F .bf16)) (x1 : (S1x1x1024x256.Idx → Elt F .f32)) (x2 : (S1x1x1024x256.Idx → Elt F .f32)) (x3 : (S1x1x256x1024.Idx → Elt F .f32)) (hc0 : (Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T0 (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T0 (Shape.Idx.first (numel1_S1x1.symm ▸ Nat.one_pos))) (View.readAt (Elt F) (tbM0_0).view (Rect.unit (s := S8x128) (k0_off2 i) S1x1.size (k0_off2_inb i)).toLoadRect T0 (Shape.Idx.first (numel1_S1x1.symm ▸ Nat.one_pos))))))) 0#32) = 1#1) (k0_h2 : k0_cond2 i (View.readAt (Elt F) (tbM0_0).view (Rect.unit (s := S8x128) ![1, 0] S1x1.size inb_S8x128_S1x1_1_0).toLoadRect T0 (Shape.Idx.first (numel1_S1x1.symm ▸ Nat.one_pos))) = 1#1) :
    Σ' (out0 : List (View.Piece (Elt F) S64x4x8x256 .bf16)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (tbM0_0.view.loc (c : Thread nD τ) ↦{fullShare.right} T0)
          ∗ (∃ d, owns (c : Thread nD τ) arg6 fullShare d)
          ∗ (scM0_0.view.loc (c : Thread nD τ) ↦{fullShare} xa0)
          ∗ (scM0_1.view.loc (c : Thread nD τ) ↦{fullShare} xa1)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (tbM0_0.view.loc (c : Thread nD τ) ↦{fullShare.right} T0)
              ∗ (∃ f, arg6.view.loc (c : Thread nD τ) ↦[arg6.view.set]{fullShare} arg6.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) arg2 harg2 arg3 harg3 arg4 harg4 arg5 harg5 arg6 harg6 scM0_0 (Memref.isWhole_whole _) scM0_1 (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_moe_experts_eq_skeleton]; unfold cc0_moe_experts_skel
    iintro ⟨H0, H1, H2, H3, HT0, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    isplitl [HS0]; · iexact HS0
    iexact HS1⟩

/-- The four stores of a tile's result cover the output block (path A). -/
theorem cover0_A_4 (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : (S8x128.Idx → Elt F .i32))
     (x0 : (S64x4x8x256.Idx → Elt F .bf16)) (x1 : (S1x1x1024x256.Idx → Elt F .f32)) (x2 : (S1x1x1024x256.Idx → Elt F .f32)) (x3 : (S1x1x256x1024.Idx → Elt F .f32)) (hc0 : (Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T0 (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T0 (Shape.Idx.first (numel1_S1x1.symm ▸ Nat.one_pos))) (View.readAt (Elt F) (tbM0_0).view (Rect.unit (s := S8x128) (k0_off2 i) S1x1.size (k0_off2_inb i)).toLoadRect T0 (Shape.Idx.first (numel1_S1x1.symm ▸ Nat.one_pos))))))) 0#32) = 1#1) (k0_h2 : k0_cond2 i (View.readAt (Elt F) (tbM0_0).view (Rect.unit (s := S8x128) ![1, 0] S1x1.size inb_S8x128_S1x1_1_0).toLoadRect T0 (Shape.Idx.first (numel1_S1x1.symm ▸ Nat.one_pos))) = 1#1) (y : S64x4x8x256.Idx) :
    ∃ pc ∈ (kernelRun0_A c i arg2 harg2 arg3 harg3 arg4 harg4 arg5 harg5 arg6 harg6 T0 x0 x1 x2 x3 hc0 k0_h2).1, y ∈ pc.1.set :=
  View.cover_of_tiledL (kernelRun0_A c i arg2 harg2 arg3 harg3 arg4 harg4 arg5 harg5 arg6 harg6 T0 x0 x1 x2 x3 hc0 k0_h2).1 S64x1x8x256.size (by sl_kernel_rfl) y

/-- What path A leaves in the output block. -/
def out0_A_4 (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : (S8x128.Idx → Elt F .i32))
     (x0 : (S64x4x8x256.Idx → Elt F .bf16)) (x1 : (S1x1x1024x256.Idx → Elt F .f32)) (x2 : (S1x1x1024x256.Idx → Elt F .f32)) (x3 : (S1x1x256x1024.Idx → Elt F .f32)) (hc0 : (Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T0 (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T0 (Shape.Idx.first (numel1_S1x1.symm ▸ Nat.one_pos))) (View.readAt (Elt F) (tbM0_0).view (Rect.unit (s := S8x128) (k0_off2 i) S1x1.size (k0_off2_inb i)).toLoadRect T0 (Shape.Idx.first (numel1_S1x1.symm ▸ Nat.one_pos))))))) 0#32) = 1#1) (k0_h2 : k0_cond2 i (View.readAt (Elt F) (tbM0_0).view (Rect.unit (s := S8x128) ![1, 0] S1x1.size inb_S8x128_S1x1_1_0).toLoadRect T0 (Shape.Idx.first (numel1_S1x1.symm ▸ Nat.one_pos))) = 1#1) : (S64x4x8x256.Idx → Elt F .bf16) :=
  VO0_4.read (Elt F) (VO0_4.writes (Elt F) VO0_4.junk (kernelRun0_A c i arg2 harg2 arg3 harg3 arg4 harg4 arg5 harg5 arg6 harg6 T0 x0 x1 x2 x3 hc0 k0_h2).1)

set_option backward.proofsInPublic true in
set_option maxHeartbeats 8000000 in
/-- A tile in use whose expert is the one before it: the body keeps the stored weights and stores the tile's result. What
    it leaves, with the proof that it runs to it. -/
noncomputable def kernelRun0_B (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : (S8x128.Idx → Elt F .i32))
     (x0 : (S64x4x8x256.Idx → Elt F .bf16)) (x1 : (S1x1x1024x256.Idx → Elt F .f32)) (x2 : (S1x1x1024x256.Idx → Elt F .f32)) (x3 : (S1x1x256x1024.Idx → Elt F .f32)) (xa0 : Buf (Elt F) ((c : Thread nD τ).loc cc0_scratch0)) (xa1 : Buf (Elt F) ((c : Thread nD τ).loc cc0_scratch1)) (hc0 : ¬((Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T0 (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T0 (Shape.Idx.first (numel1_S1x1.symm ▸ Nat.one_pos))) (View.readAt (Elt F) (tbM0_0).view (Rect.unit (s := S8x128) (k0_off2 i) S1x1.size (k0_off2_inb i)).toLoadRect T0 (Shape.Idx.first (numel1_S1x1.symm ▸ Nat.one_pos))))))) 0#32) = 1#1)) (k0_h2 : k0_cond2 i (View.readAt (Elt F) (tbM0_0).view (Rect.unit (s := S8x128) ![1, 0] S1x1.size inb_S8x128_S1x1_1_0).toLoadRect T0 (Shape.Idx.first (numel1_S1x1.symm ▸ Nat.one_pos))) = 1#1) :
    Σ' (out0 : List (View.Piece (Elt F) S64x4x8x256 .bf16)) (out1 : Buf (Elt F) ((c : Thread nD τ).loc cc0_scratch0)), { out2 : Buf (Elt F) ((c : Thread nD τ).loc cc0_scratch1) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (tbM0_0.view.loc (c : Thread nD τ) ↦{fullShare.right} T0)
          ∗ (∃ d, owns (c : Thread nD τ) arg6 fullShare d)
          ∗ (scM0_0.view.loc (c : Thread nD τ) ↦{fullShare} xa0)
          ∗ (scM0_1.view.loc (c : Thread nD τ) ↦{fullShare} xa1)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (tbM0_0.view.loc (c : Thread nD τ) ↦{fullShare.right} T0)
              ∗ (∃ f, arg6.view.loc (c : Thread nD τ) ↦[arg6.view.set]{fullShare} arg6.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) arg2 harg2 arg3 harg3 arg4 harg4 arg5 harg5 arg6 harg6 scM0_0 (Memref.isWhole_whole _) scM0_1 (Memref.isWhole_whole _)) K } :=
  ⟨_, _, _, fun K => by
    unfold owns
    rw [cc0_moe_experts_eq_skeleton]; unfold cc0_moe_experts_skel
    iintro ⟨H0, H1, H2, H3, HT0, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    isplitl [HS0]; · iexact HS0
    iexact HS1⟩

/-- The four stores of a tile's result cover the output block (path B). -/
theorem cover0_B_4 (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : (S8x128.Idx → Elt F .i32))
     (x0 : (S64x4x8x256.Idx → Elt F .bf16)) (x1 : (S1x1x1024x256.Idx → Elt F .f32)) (x2 : (S1x1x1024x256.Idx → Elt F .f32)) (x3 : (S1x1x256x1024.Idx → Elt F .f32)) (xa0 : Buf (Elt F) ((c : Thread nD τ).loc cc0_scratch0)) (xa1 : Buf (Elt F) ((c : Thread nD τ).loc cc0_scratch1)) (hc0 : ¬((Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T0 (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T0 (Shape.Idx.first (numel1_S1x1.symm ▸ Nat.one_pos))) (View.readAt (Elt F) (tbM0_0).view (Rect.unit (s := S8x128) (k0_off2 i) S1x1.size (k0_off2_inb i)).toLoadRect T0 (Shape.Idx.first (numel1_S1x1.symm ▸ Nat.one_pos))))))) 0#32) = 1#1)) (k0_h2 : k0_cond2 i (View.readAt (Elt F) (tbM0_0).view (Rect.unit (s := S8x128) ![1, 0] S1x1.size inb_S8x128_S1x1_1_0).toLoadRect T0 (Shape.Idx.first (numel1_S1x1.symm ▸ Nat.one_pos))) = 1#1) (y : S64x4x8x256.Idx) :
    ∃ pc ∈ (kernelRun0_B c i arg2 harg2 arg3 harg3 arg4 harg4 arg5 harg5 arg6 harg6 T0 x0 x1 x2 x3 xa0 xa1 hc0 k0_h2).1, y ∈ pc.1.set :=
  View.cover_of_tiledL (kernelRun0_B c i arg2 harg2 arg3 harg3 arg4 harg4 arg5 harg5 arg6 harg6 T0 x0 x1 x2 x3 xa0 xa1 hc0 k0_h2).1 S64x1x8x256.size (by sl_kernel_rfl) y

/-- What path B leaves in the output block. -/
def out0_B_4 (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : (S8x128.Idx → Elt F .i32))
     (x0 : (S64x4x8x256.Idx → Elt F .bf16)) (x1 : (S1x1x1024x256.Idx → Elt F .f32)) (x2 : (S1x1x1024x256.Idx → Elt F .f32)) (x3 : (S1x1x256x1024.Idx → Elt F .f32)) (xa0 : Buf (Elt F) ((c : Thread nD τ).loc cc0_scratch0)) (xa1 : Buf (Elt F) ((c : Thread nD τ).loc cc0_scratch1)) (hc0 : ¬((Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T0 (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T0 (Shape.Idx.first (numel1_S1x1.symm ▸ Nat.one_pos))) (View.readAt (Elt F) (tbM0_0).view (Rect.unit (s := S8x128) (k0_off2 i) S1x1.size (k0_off2_inb i)).toLoadRect T0 (Shape.Idx.first (numel1_S1x1.symm ▸ Nat.one_pos))))))) 0#32) = 1#1)) (k0_h2 : k0_cond2 i (View.readAt (Elt F) (tbM0_0).view (Rect.unit (s := S8x128) ![1, 0] S1x1.size inb_S8x128_S1x1_1_0).toLoadRect T0 (Shape.Idx.first (numel1_S1x1.symm ▸ Nat.one_pos))) = 1#1) : (S64x4x8x256.Idx → Elt F .bf16) :=
  VO0_4.read (Elt F) (VO0_4.writes (Elt F) VO0_4.junk (kernelRun0_B c i arg2 harg2 arg3 harg3 arg4 harg4 arg5 harg5 arg6 harg6 T0 x0 x1 x2 x3 xa0 xa1 hc0 k0_h2).1)

set_option backward.proofsInPublic true in
set_option maxHeartbeats 8000000 in
/-- A tile not in use: the body leaves everything as it is. -/
noncomputable def kernelRun0_C (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : (S8x128.Idx → Elt F .i32))
     (x0 : (S64x4x8x256.Idx → Elt F .bf16)) (x1 : (S1x1x1024x256.Idx → Elt F .f32)) (x2 : (S1x1x1024x256.Idx → Elt F .f32)) (x3 : (S1x1x256x1024.Idx → Elt F .f32)) (xa0 : Buf (Elt F) ((c : Thread nD τ).loc cc0_scratch0)) (xa1 : Buf (Elt F) ((c : Thread nD τ).loc cc0_scratch1)) (hc0 : ¬((Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T0 (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T0 (Shape.Idx.first (numel1_S1x1.symm ▸ Nat.one_pos))) (View.readAt (Elt F) (tbM0_0).view (Rect.unit (s := S8x128) (k0_off2 i) S1x1.size (k0_off2_inb i)).toLoadRect T0 (Shape.Idx.first (numel1_S1x1.symm ▸ Nat.one_pos))))))) 0#32) = 1#1)) (k0_h2 : ¬(k0_cond2 i (View.readAt (Elt F) (tbM0_0).view (Rect.unit (s := S8x128) ![1, 0] S1x1.size inb_S8x128_S1x1_1_0).toLoadRect T0 (Shape.Idx.first (numel1_S1x1.symm ▸ Nat.one_pos))) = 1#1)) :
    Σ' (out0 : Buf (Elt F) ((c : Thread nD τ).loc cc0_scratch0)), { out1 : Buf (Elt F) ((c : Thread nD τ).loc cc0_scratch1) //
      ∀ (y4 : (S64x4x8x256.Idx → Elt F .bf16)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (tbM0_0.view.loc (c : Thread nD τ) ↦{fullShare.right} T0)
          ∗ owns (c : Thread nD τ) arg6 fullShare y4
          ∗ (scM0_0.view.loc (c : Thread nD τ) ↦{fullShare} xa0)
          ∗ (scM0_1.view.loc (c : Thread nD τ) ↦{fullShare} xa1)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (tbM0_0.view.loc (c : Thread nD τ) ↦{fullShare.right} T0)
              ∗ owns (c : Thread nD τ) arg6 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_moe_experts i tbM0_0 (Memref.isWhole_whole _) arg2 harg2 arg3 harg3 arg4 harg4 arg5 harg5 arg6 harg6 scM0_0 (Memref.isWhole_whole _) scM0_1 (Memref.isWhole_whole _)) K } :=
  ⟨_, _, fun (y4 : (S64x4x8x256.Idx → Elt F .bf16)) K => by
    unfold owns
    rw [cc0_moe_experts_eq_skeleton]; unfold cc0_moe_experts_skel
    iintro ⟨H0, H1, H2, H3, HT0, ⟨%f4, %hf4, HO4⟩, HS0, HS1, Hk⟩
    obtain rfl := harg6.eq_unread hf4
    have hS0 : scM0_0.IsWhole := Memref.isWhole_whole _
    have hS1 : scM0_1.IsWhole := Memref.isWhole_whole _
    have hT0 : tbM0_0.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HO4]
    · iexists _; isplitr; · ipureintro; exact harg6.read_unread _
      iexact HO4
    isplitl [HS0]; · iexact HS0
    iexact HS1⟩

end Cert.ExpertsIdeal.Gen

end
-- ==== Proof.ExpertsPlan.lean ====
/-
  The experts kernel's schedule at any plan: which block each window reads, which tile's expert is computed, when the
  expert's weights are stored anew and when the output is written back.
-/
module

public import proofs.«01_k».proof.Proof.ExpertsRuns

@[expose] public section

set_option maxRecDepth 16384

noncomputable section

namespace Cert.ExpertsIdeal.Gen

open Cert.ExpertsIdeal
open Idealize.ShloMosaic
open Idealize.ShloMosaic.TcCoe

variable {F : FTy → Type} [FloatOps F]

/-- A plan's word at row `a`, lane `b`. -/
abbrev word (T : S8x128.Idx → BitVec 32) (a : Fin 8) (b : Fin 128) : BitVec 32 :=
  T (fun | ⟨0, _⟩ => a | ⟨1, _⟩ => b)

/-- A plan the kernel is called with: every expert number in range, at least one tile in use. -/
structure PlanOK (T : S8x128.Idx → BitVec 32) : Prop where
  ex : ∀ j : Fin 128, (word T 0 j).toNat < 32
  pos : 0 < (word T 1 0).toNat
  small : (word T 1 0).toNat < 2 ^ 31

/-- How many tiles are in use. -/
def used (T : S8x128.Idx → BitVec 32) : ℕ := (word T 1 0).toNat

/-! ## Words -/

theorem toNat_ofNat_small (t : ℕ) (ht : t < 80) : (BitVec.ofNat 32 t).toNat = t := by
  rw [BitVec.toNat_ofNat]; omega

theorem toInt_small (v : BitVec 32) (h : v.toNat < 2 ^ 31) : v.toInt = (v.toNat : ℤ) := by
  rw [BitVec.toInt_eq_toNat_cond]; split <;> omega

theorem slt_small (x y : BitVec 32) (hx : x.toNat < 2 ^ 31) (hy : y.toNat < 2 ^ 31) : x.slt y = decide (x.toNat < y.toNat) := by
  rw [BitVec.slt, toInt_small x hx, toInt_small y hy]
  exact decide_eq_decide.2 Int.ofNat_lt

theorem last_word (t : ℕ) (ht : t < 80) (v : BitVec 32) (h0 : 0 < v.toNat) (h1 : v.toNat < 2 ^ 31) :
    (Scalar.minsi (BitVec.ofNat 32 t) (Scalar.maxsi (Scalar.subi v 1#32) 0#32)).toNat = min t (v.toNat - 1) := by
  have e0 : (BitVec.ofNat 32 t).toNat = t := toNat_ofNat_small t ht
  have e1 : (v - 1#32).toNat = v.toNat - 1 := by
    rw [BitVec.toNat_sub]; simp; omega
  have m : Scalar.maxsi (Scalar.subi v 1#32) 0#32 = v - 1#32 := by
    show (if (0#32).slt (v - 1#32) then v - 1#32 else 0#32) = v - 1#32
    rw [slt_small _ _ (by decide) (by omega), e1]
    by_cases h : (0#32 : BitVec 32).toNat < v.toNat - 1
    · rw [decide_eq_true h]; rfl
    · rw [decide_eq_false h]
      apply BitVec.eq_of_toNat_eq
      rw [e1]
      have : (0#32 : BitVec 32).toNat = 0 := rfl
      simp only [Bool.false_eq_true, if_false]
      omega
  rw [m]
  show (if (BitVec.ofNat 32 t).slt (v - 1#32) then BitVec.ofNat 32 t else v - 1#32).toNat = _
  rw [slt_small _ _ (by omega) (by omega), e0, e1]
  by_cases h : t < v.toNat - 1
  · rw [decide_eq_true h, if_pos rfl, e0]; omega
  · rw [decide_eq_false h, if_neg Bool.false_ne_true, e1]; omega

theorem cmpi_bit (b : Bool) : Scalar.cmpi .ne (Scalar.extui (BitVec.ofBool b)) 0#32 = BitVec.ofBool b := by
  cases b <;> rfl

theorem ofBool_one (b : Bool) : BitVec.ofBool b = 1#1 ↔ b = true := by cases b <;> decide

theorem slt_word (t : ℕ) (ht : t < 80) (v : BitVec 32) (h1 : v.toNat < 2 ^ 31) :
    Scalar.cmpi .slt (BitVec.ofNat 32 t) v = BitVec.ofBool (decide (t < v.toNat)) := by
  have e0 := toNat_ofNat_small t ht
  show BitVec.ofBool ((BitVec.ofNat 32 t).slt v) = _
  rw [slt_small _ _ (by omega) h1, e0]

theorem cond_word (t : ℕ) (ht : t < 80) (v : BitVec 32) (h1 : v.toNat < 2 ^ 31) :
    Scalar.cmpi .ne (Scalar.extui (Scalar.cmpi .slt (BitVec.ofNat 32 t) v)) 0#32 = 1#1 ↔ t < v.toNat := by
  rw [slt_word t ht v h1, cmpi_bit, ofBool_one, decide_eq_true_iff]

theorem store_word (t : ℕ) (ht : t < 80) (v a b : BitVec 32) (h1 : v.toNat < 2 ^ 31) :
    Scalar.cmpi .ne (Scalar.extui (Scalar.andi (Scalar.cmpi .slt (BitVec.ofNat 32 t) v)
        (Scalar.ori (Scalar.cmpi .eq (BitVec.ofNat 32 t) 0#32) (Scalar.cmpi .ne a b)))) 0#32 = 1#1
      ↔ t < v.toNat ∧ (t = 0 ∨ a ≠ b) := by
  have e0 := toNat_ofNat_small t ht
  have z : (BitVec.ofNat 32 t == 0#32) = decide (t = 0) := by
    rw [Bool.eq_iff_iff, beq_iff_eq, decide_eq_true_iff]
    constructor
    · intro h; rw [← e0, h]; rfl
    · rintro rfl; rfl
  have e : Scalar.andi (Scalar.cmpi .slt (BitVec.ofNat 32 t) v)
        (Scalar.ori (Scalar.cmpi .eq (BitVec.ofNat 32 t) 0#32) (Scalar.cmpi .ne a b))
      = BitVec.ofBool (decide (t < v.toNat) && (decide (t = 0) || (a != b))) := by
    rw [slt_word t ht v h1]
    show BitVec.ofBool _ &&& (BitVec.ofBool (BitVec.ofNat 32 t == 0#32) ||| BitVec.ofBool (a != b)) = _
    rw [z, BitVec.ofBool_or_ofBool, BitVec.ofBool_and_ofBool]
  rw [e, cmpi_bit, ofBool_one]
  simp

/-! ## The plan's words as the kernel and its windows read them -/

theorem off2_eq : ∀ i : grid0.Coords, k0_off2 i = ![0, (i 0).val - 1] := by decide +kernel

theorem row (i : grid0.Coords) : (i 0).val < 80 := (i 0).isLt

/-- A one-element rectangle of the plan reads the word there. -/
theorem at_eq (T : S8x128.Idx → BitVec 32) (off : Fin 2 → ℕ) (h) (a : Fin 8) (b : Fin 128) (ha : off 0 = a.1) (hb : off 1 = b.1)
    (x : S1x1.Idx) : T ((Rect.unit (s := S8x128) off S1x1.size h).emb x) = word T a b := by
  congr 1
  funext k
  apply Fin.ext
  have hx : ∀ k, (x k).val = 0 := fun k => by
    have := (x k).isLt
    match k with
    | ⟨0, _⟩ => exact Nat.lt_one_iff.1 this
    | ⟨1, _⟩ => exact Nat.lt_one_iff.1 this
  match k with
  | ⟨0, _⟩ => show off 0 + 1 * (x 0).val = a.1; rw [hx, ha]; omega
  | ⟨1, _⟩ => show off 1 + 1 * (x 1).val = b.1; rw [hx, hb]; omega

variable (T : S8x128.Idx → BitVec 32)

/-- The plan as the one prefetched table. -/
def pfN : pre0.Contents (Elt F) := fun | ⟨0, _⟩ => T | ⟨_ + 1, h⟩ => absurd h (by simp)

/-- The tile whose rows point `t` reads and writes. -/
def last (t : ℕ) : ℕ := min t (used T - 1)

/-- The expert of tile `t`. -/
def expert (t : ℕ) (ht : t < 80) : ℕ := (word T 0 ⟨t, by omega⟩).toNat

theorem transform0_eq (hT : PlanOK T) (i : grid0.Coords) :
    cc0_transform_0 inb_S8x128_S1x1_1_0 numel1_S1x1 (pfN (F := F) T) i = ![last T (i 0).val, 0, 0, 0] := by
  have e := last_word (i 0).val (row i) (word T 1 0) hT.pos hT.small
  have w := at_eq T ![1, 0] inb_S8x128_S1x1_1_0 1 0 rfl rfl (Shape.Idx.first (numel1_S1x1.symm ▸ Nat.one_pos))
  rw [← w] at e
  refine (congrArg (fun n => ![n, 0, 0, 0]) e).trans ?_
  rw [w]; rfl

theorem transform4_eq (hT : PlanOK T) (i : grid0.Coords) :
    cc0_transform_4 inb_S8x128_S1x1_1_0 numel1_S1x1 (pfN (F := F) T) i = ![last T (i 0).val, 0, 0, 0] :=
  transform0_eq (F := F) T hT i

theorem transform1_eq (i : grid0.Coords) :
    cc0_transform_1 k0_off1_inb numel1_S1x1 (pfN (F := F) T) i = ![1, expert T (i 0).val (row i), 0, 0] := by
  have w := at_eq T (k0_off1 i) (k0_off1_inb i) 0 ⟨(i 0).val, by have := row i; omega⟩ (by rw [k0_off1_eq]; rfl) (by rw [k0_off1_eq]; rfl)
    (Shape.Idx.first (numel1_S1x1.symm ▸ Nat.one_pos))
  exact congrArg (fun v : BitVec 32 => ![1, v.toNat, 0, 0]) w

theorem transform2_eq (i : grid0.Coords) :
    cc0_transform_2 k0_off1_inb numel1_S1x1 (pfN (F := F) T) i = ![1, expert T (i 0).val (row i), 0, 0] := transform1_eq (F := F) T i

theorem transform3_eq (i : grid0.Coords) :
    cc0_transform_3 k0_off1_inb numel1_S1x1 (pfN (F := F) T) i = ![1, expert T (i 0).val (row i), 0, 0] := transform1_eq (F := F) T i

/-! ## The windows' blocks lie inside their arrays -/

theorem last_lt (t : ℕ) (ht : t < 80) : last T t < 80 := by unfold last; omega

theorem coords_val (t : Fin grid0.N) : (grid0.coords t 0).val = t.val := by
  revert t; decide +kernel

theorem ok0_0 (hT : PlanOK T) (i : grid0.Coords) (a : Fin 4) :
    (cc0_transform_0 inb_S8x128_S1x1_1_0 numel1_S1x1 (pfN (F := F) T) i a + 1) * S64x4x8x256.size a ≤ S5120x4x8x256.size a := by
  rw [transform0_eq T hT i]
  have := last_lt T (i 0).val (row i)
  match a with
  | ⟨0, _⟩ => show (last T (i 0).val + 1) * 64 ≤ 5120; omega
  | ⟨1, _⟩ => exact Nat.le_refl _
  | ⟨2, _⟩ => exact Nat.le_refl _
  | ⟨3, _⟩ => exact Nat.le_refl _

theorem ok0_1 (hT : PlanOK T) (i : grid0.Coords) (a : Fin 4) :
    (cc0_transform_1 k0_off1_inb numel1_S1x1 (pfN (F := F) T) i a + 1) * S1x1x1024x256.size a ≤ S2x32x1024x256.size a := by
  rw [transform1_eq T i]
  have : expert T (i 0).val (row i) < 32 := hT.ex _
  match a with
  | ⟨0, _⟩ => exact Nat.le_refl _
  | ⟨1, _⟩ => show (expert T (i 0).val (row i) + 1) * 1 ≤ 32; omega
  | ⟨2, _⟩ => exact Nat.le_refl _
  | ⟨3, _⟩ => exact Nat.le_refl _

theorem ok0_3 (hT : PlanOK T) (i : grid0.Coords) (a : Fin 4) :
    (cc0_transform_3 k0_off1_inb numel1_S1x1 (pfN (F := F) T) i a + 1) * S1x1x256x1024.size a ≤ S2x32x256x1024.size a := by
  rw [transform3_eq T i]
  have : expert T (i 0).val (row i) < 32 := hT.ex _
  match a with
  | ⟨0, _⟩ => exact Nat.le_refl _
  | ⟨1, _⟩ => show (expert T (i 0).val (row i) + 1) * 1 ≤ 32; omega
  | ⟨2, _⟩ => exact Nat.le_refl _
  | ⟨3, _⟩ => exact Nat.le_refl _

theorem ix4_eq (hT : PlanOK T) (t : Fin grid0.N) : ix0 (pfN (F := F) T) 4 (grid0.coords t) = ![last T t.val, 0, 0, 0] := by
  have := transform4_eq (F := F) T hT (grid0.coords t)
  rw [coords_val] at this
  exact this

theorem vec_ne {a b : ℕ} (h : (![a, 0, 0, 0] : Fin 4 → ℕ) ≠ ![b, 0, 0, 0]) : a ≠ b := fun e => h (by rw [e])
theorem vec_eq {a b : ℕ} (h : (![a, 0, 0, 0] : Fin 4 → ℕ) = ![b, 0, 0, 0]) : a = b := congrFun h 0

theorem ok0_5 (hT : PlanOK T) : Pipeline.WinSpec.Aliased (G := grid0) spec0 (ix0 (pfN (F := F) T)) 0 4 where
  isIn := by decide
  isOut := by decide
  rank := by decide
  size := by decide
  index := by intro x a a' h; cases (Fin.ext h : a = a'); rfl
  ordered := by
    intro u u' hlt _ hfl heq
    have heq' : last T u'.val = last T u.val := vec_eq ((ix4_eq (F := F) T hT u').symm.trans (heq.trans (ix4_eq T hT u)))
    have hu := u.isLt
    simp only [Pipeline.WinSpec.flushAt, Bool.and_eq_true, Bool.or_eq_true, decide_eq_true_eq] at hfl
    rcases hfl.2 with h | ⟨h, hne⟩
    · omega
    · have hne' : last T (u'.val + 1) ≠ last T u'.val :=
        vec_ne (fun e => hne (((ix4_eq (F := F) T hT ⟨u'.val + 1, h⟩).trans e).trans (ix4_eq T hT u').symm))
      unfold last at heq' hne'
      omega

/-- The pipeline runs at any such plan. -/
theorem ok_pfN (hT : PlanOK T) : ok0 (F := F) (pfN T) :=
  ⟨fun i => ⟨ok0_0 T hT i, .inr (Affine.block_words_dvd (s := S5120x4x8x256) (p := EltTy.packing .bf16) (by decide) (by decide))⟩,
    fun i => ⟨ok0_1 T hT i, .inl rfl⟩, fun i => ⟨ok0_1 T hT i, .inl rfl⟩, fun i => ⟨ok0_3 T hT i, .inl rfl⟩,
    fun i => ⟨ok0_0 T hT i, .inr (Affine.block_words_dvd (s := S5120x4x8x256) (p := EltTy.packing .bf16) (by decide) (by decide))⟩,
    ok0_5 T hT⟩

variable (hT : PlanOK T)

/-- The plan as contents the pipeline runs at, and the pipeline there. -/
def adm : (pcfg0 (F := F)).Adm := ⟨pfN T, ok_pfN T hT⟩
abbrev cfgA : Pipeline.Cfg sig Λ₀ := cfg0 (F := F) (adm T hT)

/-! ## The decisions at a point -/

abbrev crd (t : Fin (cfgA (F := F) T hT).N) : (cfgA (F := F) T hT).grid.Coords := (cfgA (F := F) T hT).grid.coords t

theorem crd_val (t : Fin (cfgA (F := F) T hT).N) : ((crd T hT t) 0).val = t.val := coords_val t
theorem pt_lt (t : Fin (cfgA (F := F) T hT).N) : t.val < 80 := t.isLt

/-- The condition under which the body stores the expert's weights anew. -/
abbrev StoreAt (i : grid0.Coords) : Prop := (Scalar.cmpi .ne (Scalar.extui (Scalar.andi (Scalar.cmpi .slt (BitVec.ofNat 32 (i 0).val) (View.readAt (Elt F) (tbM0_0).view (Rect.unit (s := S8x128) ![1, 0] S1x1.size inb_S8x128_S1x1_1_0).toLoadRect T (Shape.Idx.first (numel1_S1x1.symm ▸ Nat.one_pos)))) (Scalar.ori (Scalar.cmpi .eq (BitVec.ofNat 32 (i 0).val) 0#32) (Scalar.cmpi .ne (View.readAt (Elt F) (tbM0_0).view (Rect.unit (s := S8x128) (k0_off1 i) S1x1.size (k0_off1_inb i)).toLoadRect T (Shape.Idx.first (numel1_S1x1.symm ▸ Nat.one_pos))) (View.readAt (Elt F) (tbM0_0).view (Rect.unit (s := S8x128) (k0_off2 i) S1x1.size (k0_off2_inb i)).toLoadRect T (Shape.Idx.first (numel1_S1x1.symm ▸ Nat.one_pos))))))) 0#32) = 1#1
/-- The condition under which the body computes the tile. -/
abbrev ComputeAt (i : grid0.Coords) : Prop := k0_cond2 i (View.readAt (Elt F) (tbM0_0).view (Rect.unit (s := S8x128) ![1, 0] S1x1.size inb_S8x128_S1x1_1_0).toLoadRect T (Shape.Idx.first (numel1_S1x1.symm ▸ Nat.one_pos))) = 1#1

include hT in
theorem storeAt_iff (i : grid0.Coords) : StoreAt (F := F) T i ↔ (i 0).val < used T ∧ ((i 0).val = 0 ∨
    word T 0 ⟨(i 0).val, by have := row i; omega⟩ ≠ word T 0 ⟨(i 0).val - 1, by have := row i; omega⟩) := by
  have w := at_eq T ![1, 0] inb_S8x128_S1x1_1_0 1 0 rfl rfl (Shape.Idx.first (numel1_S1x1.symm ▸ Nat.one_pos))
  have w1 := at_eq T (k0_off1 i) (k0_off1_inb i) 0 ⟨(i 0).val, by have := row i; omega⟩ (by rw [k0_off1_eq]; rfl) (by rw [k0_off1_eq]; rfl)
    (Shape.Idx.first (numel1_S1x1.symm ▸ Nat.one_pos))
  have w2 := at_eq T (k0_off2 i) (k0_off2_inb i) 0 ⟨(i 0).val - 1, by have := row i; omega⟩ (by rw [off2_eq]; rfl) (by rw [off2_eq]; rfl)
    (Shape.Idx.first (numel1_S1x1.symm ▸ Nat.one_pos))
  have e := store_word (i 0).val (row i) (word T 1 0) (word T 0 ⟨(i 0).val, by have := row i; omega⟩) (word T 0 ⟨(i 0).val - 1, by have := row i; omega⟩) hT.small
  rw [← w, ← w1, ← w2] at e
  refine Iff.trans e ?_
  rw [w, w1, w2]; rfl

include hT in
theorem computeAt_iff (i : grid0.Coords) : ComputeAt (F := F) T i ↔ (i 0).val < used T := by
  have w := at_eq T ![1, 0] inb_S8x128_S1x1_1_0 1 0 rfl rfl (Shape.Idx.first (numel1_S1x1.symm ▸ Nat.one_pos))
  have e := cond_word (i 0).val (row i) (word T 1 0) hT.small
  rw [← w] at e
  refine Iff.trans e ?_
  rw [w]; rfl

/-- The output window is left alone at the points past the tiles in use, -/
theorem idle_eq (t : Fin (cfgA (F := F) T hT).N) :
    (cfgA (F := F) T hT).idle (4 : Fin 5) ((cfgA (F := F) T hT).grid.coords t) = !decide (t.val < used T) := by
  have e := cond_word t.val t.isLt (word T 1 0) hT.small
  have w : (pfN (F := F) T).atD 0 ![1, 0] = word T 1 0 := by
    refine (dif_pos (fun a => ?_)).trans ?_
    · match a with
      | ⟨0, _⟩ => show 1 + 1 ≤ 8; omega
      | ⟨1, _⟩ => show 0 + 1 ≤ 128; omega
    · refine congrArg T (funext fun a => ?_)
      match a with
      | ⟨0, _⟩ => rfl
      | ⟨1, _⟩ => rfl
  show (!(k0_cond2 (crd T hT t) ((pfN (F := F) T).atD 0 ![1, 0]) == 1#1)) = _
  rw [w]
  congr 1
  rw [Bool.eq_iff_iff, beq_iff_eq, decide_eq_true_iff]
  refine Iff.trans ?_ e
  rw [← coords_val t]; rfl

/-- and written back at the end and wherever the next point has another tile. -/
theorem flush_eq (t : Fin (cfgA (F := F) T hT).N) :
    ((cfgA (F := F) T hT).win (4 : Fin 5)).flush t = (decide (t.val + 1 = 80) || decide (t.val + 1 < used T)) := by
  have ht := pt_lt T hT t
  rw [Bool.eq_iff_iff]
  simp only [Pipeline.Window.flush, Bool.and_eq_true, Bool.or_eq_true, decide_eq_true_eq]
  constructor
  · rintro ⟨-, h | ⟨h, hne⟩⟩
    · exact .inl h
    · have hne' : last T (t.val + 1) ≠ last T t.val :=
        vec_ne (fun e => hne (((ix4_eq (F := F) T hT ⟨t.val + 1, h⟩).trans e).trans (ix4_eq T hT t).symm))
      unfold last at hne'
      exact .inr (by omega)
  · rintro h
    refine ⟨trivial, ?_⟩
    by_cases h80 : t.val + 1 = 80
    · exact .inl h80
    · refine .inr ⟨show t.val + 1 < 80 by omega, fun e => ?_⟩
      have e' : last T (t.val + 1) = last T t.val := vec_eq ((ix4_eq (F := F) T hT ⟨t.val + 1, show t.val + 1 < 80 by omega⟩).symm.trans (e.trans (ix4_eq T hT t)))
      unfold last at e'
      omega

/-- What the output's staging buffer holds is the body's own exactly past the tiles in use. -/
theorem fresh_eq (t : Fin (cfgA (F := F) T hT).N) : (cfgA (F := F) T hT).fresh (4 : Fin 5) t.val = decide (t.val < used T) := by
  have hp : 0 < used T := hT.pos
  have e := Pipeline.Cfg.fresh_tab (cfgA (F := F) T hT) (4 : Fin 5) (fun n => decide (n < used T) || decide (n = 80))
    (by simp [hp]) (fun s => by
      have hs := pt_lt T hT s
      rw [flush_eq, idle_eq, Bool.eq_iff_iff]
      simp only [Bool.and_eq_true, Bool.or_eq_true, decide_eq_true_eq, Bool.not_eq_true', decide_eq_false_iff_not]
      omega) t.val (Nat.le_of_lt t.isLt)
  have ht := pt_lt T hT t
  rw [e, decide_eq_false (show ¬t.val = 80 by omega), Bool.or_false]

end Cert.ExpertsIdeal.Gen
end
-- ==== Proof.ExpertsTile.lean ====
/-
  What one tile's expert leaves in the scratch buffers and in the output block, from the tile's rows and the expert's weights.
-/
module
public import proofs.«01_k».proof.Proof.ExpertsPlan
@[expose] public section
set_option maxRecDepth 16384
noncomputable section
namespace Cert.ExpertsIdeal.Gen
open Cert.ExpertsIdeal
open Idealize.ShloMosaic Idealize.ShloMosaic.TcCoe
variable {F : FTy → Type} [FloatOps F]

/-- What the two projections' weights of one expert leave side by side in the first scratch buffer. -/
def gu (x1 x2 : S1x1x1024x256.Idx → Elt F .f32) : S1024x512.Idx → Elt F .bf16 :=
  (View.whole cc0_scratch0).writes (Elt F) (View.whole cc0_scratch0).junk
    [⟨Rect.unit ![0, 256] S1024x256.size inb_S1024x512_S1024x256_0_256,
        k0_pay2 fun y => x2 ((Rect.unit ![0, 0, 0, 0] S1x1x1024x256.size inb_S1x1x1024x256_S1x1x1024x256_0_0_0_0).toLoadRect.idx y)⟩,
      ⟨Rect.unit ![0, 0] S1024x256.size inb_S1024x512_S1024x256_0_0,
        k0_pay1 fun y => x1 ((Rect.unit ![0, 0, 0, 0] S1x1x1024x256.size inb_S1x1x1024x256_S1x1x1024x256_0_0_0_0).toLoadRect.idx y)⟩]

/-- What the last projection's weights leave in the second scratch buffer. -/
def dn (x3 : S1x1x256x1024.Idx → Elt F .f32) : S256x1024.Idx → Elt F .bf16 :=
  (View.whole cc0_scratch1).writes (Elt F) (View.whole cc0_scratch1).junk
    [⟨Rect.unit ![0, 0] S256x1024.size inb_S256x1024_S256x1024_0_0,
        k0_pay3 fun y => x3 ((Rect.unit ![0, 0, 0, 0] S1x1x256x1024.size inb_S1x1x256x1024_S1x1x256x1024_0_0_0_0).toLoadRect.idx y)⟩]

/-- The rows' lanes `256 q ‥` of a block. -/
abbrev lanes0 (x0 : S64x4x8x256.Idx → Elt F .bf16) : S64x1x8x256.Idx → Elt F .bf16 :=
  fun y => x0 ((Rect.unit (s := S64x4x8x256) ![0, 0, 0, 0] S64x1x8x256.size inb_S64x4x8x256_S64x1x8x256_0_0_0_0).toLoadRect.idx y)
abbrev lanes1 (x0 : S64x4x8x256.Idx → Elt F .bf16) : S64x1x8x256.Idx → Elt F .bf16 :=
  fun y => x0 ((Rect.unit (s := S64x4x8x256) ![0, 1, 0, 0] S64x1x8x256.size inb_S64x4x8x256_S64x1x8x256_0_1_0_0).toLoadRect.idx y)
abbrev lanes2 (x0 : S64x4x8x256.Idx → Elt F .bf16) : S64x1x8x256.Idx → Elt F .bf16 :=
  fun y => x0 ((Rect.unit (s := S64x4x8x256) ![0, 2, 0, 0] S64x1x8x256.size inb_S64x4x8x256_S64x1x8x256_0_2_0_0).toLoadRect.idx y)
abbrev lanes3 (x0 : S64x4x8x256.Idx → Elt F .bf16) : S64x1x8x256.Idx → Elt F .bf16 :=
  fun y => x0 ((Rect.unit (s := S64x4x8x256) ![0, 3, 0, 0] S64x1x8x256.size inb_S64x4x8x256_S64x1x8x256_0_3_0_0).toLoadRect.idx y)

abbrev whole0 (a0 : S1024x512.Idx → Elt F .bf16) : S1024x512.Idx → Elt F .bf16 :=
  View.readAt (Elt F) scM0_0.view (Rect.unit ![0, 0] S1024x512.size inb_S1024x512_S1024x512_0_0).toLoadRect a0
abbrev whole1 (a1 : S256x1024.Idx → Elt F .bf16) : S256x1024.Idx → Elt F .bf16 :=
  View.readAt (Elt F) scM0_1.view (Rect.unit ![0, 0] S256x1024.size inb_S256x1024_S256x1024_0_0).toLoadRect a1

/-- The tile's rows after the expert. -/
def rows (x0 : S64x4x8x256.Idx → Elt F .bf16) (a0 : S1024x512.Idx → Elt F .bf16) (a1 : S256x1024.Idx → Elt F .bf16) : FVec F S512x1024 .f32 :=
  k0_pay8 (lanes0 x0) (lanes1 x0) (lanes2 x0) (lanes3 x0) (whole0 a0) (whole1 a1)
/-- Their first lanes. -/
def rows0 (x0 : S64x4x8x256.Idx → Elt F .bf16) (a0 : S1024x512.Idx → Elt F .bf16) (a1 : S256x1024.Idx → Elt F .bf16) : FVec F S64x8x256 .bf16 :=
  k0_pay9 (lanes0 x0) (lanes1 x0) (lanes2 x0) (lanes3 x0) (whole0 a0) (whole1 a1)

/-- The four stores of a tile. -/
def tilePieces (x0 : S64x4x8x256.Idx → Elt F .bf16) (a0 : S1024x512.Idx → Elt F .bf16) (a1 : S256x1024.Idx → Elt F .bf16) :
    List (View.Piece (Elt F) S64x4x8x256 .bf16) :=
  [⟨Rect.unit ![0, 3, 0, 0] S64x1x8x256.size inb_S64x4x8x256_S64x1x8x256_0_3_0_0, k0_pay7 (rows x0 a0 a1)⟩,
    ⟨Rect.unit ![0, 2, 0, 0] S64x1x8x256.size inb_S64x4x8x256_S64x1x8x256_0_2_0_0, k0_pay6 (rows x0 a0 a1)⟩,
    ⟨Rect.unit ![0, 1, 0, 0] S64x1x8x256.size inb_S64x4x8x256_S64x1x8x256_0_1_0_0, k0_pay5 (rows x0 a0 a1)⟩,
    ⟨Rect.unit ![0, 0, 0, 0] S64x1x8x256.size inb_S64x4x8x256_S64x1x8x256_0_0_0_0, k0_pay4 (rows0 x0 a0 a1)⟩]

/-- What computing a tile leaves in the output's staging buffer. -/
def tile (x0 : S64x4x8x256.Idx → Elt F .bf16) (a0 : S1024x512.Idx → Elt F .bf16) (a1 : S256x1024.Idx → Elt F .bf16) : S64x4x8x256.Idx → Elt F .bf16 :=
  VO0_4.read (Elt F) (VO0_4.writes (Elt F) VO0_4.junk (tilePieces x0 a0 a1))

variable (c : Dev nD) (i : grid0.Coords) (arg2 : Memref sig .tc .vmem S64x4x8x256 .bf16) (harg2 : arg2.IsWhole) (arg3 : Memref sig .tc .vmem S1x1x1024x256 .f32) (harg3 : arg3.IsWhole) (arg4 : Memref sig .tc .vmem S1x1x1024x256 .f32) (harg4 : arg4.IsWhole) (arg5 : Memref sig .tc .vmem S1x1x256x1024 .f32) (harg5 : arg5.IsWhole) (arg6 : Memref sig .tc .vmem S64x4x8x256 .bf16) (harg6 : arg6.IsWhole) (T0 : S8x128.Idx → Elt F .i32)
  (x0 : (S64x4x8x256.Idx → Elt F .bf16)) (x1 : (S1x1x1024x256.Idx → Elt F .f32)) (x2 : (S1x1x1024x256.Idx → Elt F .f32)) (x3 : (S1x1x256x1024.Idx → Elt F .f32))
  (xa0 : Buf (Elt F) ((c : Thread nD τ).loc cc0_scratch0)) (xa1 : Buf (Elt F) ((c : Thread nD τ).loc cc0_scratch1))

theorem storeA_scratch0 (h) (h') : (kernelRun0_A c i arg2 harg2 arg3 harg3 arg4 harg4 arg5 harg5 arg6 harg6 T0 x0 x1 x2 x3 h h').2.1 = gu x1 x2 := by
  unfold kernelRun0_A; dsimp only
  unfold kernelRun0_A.sl.HS0_2 gu
  rw [View.readAt_rep, View.readAt_rep]
  rfl

theorem storeA_scratch1 (h) (h') : (kernelRun0_A c i arg2 harg2 arg3 harg3 arg4 harg4 arg5 harg5 arg6 harg6 T0 x0 x1 x2 x3 h h').2.2.1 = dn x3 := by
  unfold kernelRun0_A; dsimp only
  unfold kernelRun0_A.sl.HS1_1 dn
  rw [View.readAt_rep]
  rfl

theorem storeB_scratch0 (h) (h') : (kernelRun0_B c i arg2 harg2 arg3 harg3 arg4 harg4 arg5 harg5 arg6 harg6 T0 x0 x1 x2 x3 xa0 xa1 h h').2.1 = xa0 := by
  unfold kernelRun0_B; rfl
theorem storeB_scratch1 (h) (h') : (kernelRun0_B c i arg2 harg2 arg3 harg3 arg4 harg4 arg5 harg5 arg6 harg6 T0 x0 x1 x2 x3 xa0 xa1 h h').2.2.1 = xa1 := by
  unfold kernelRun0_B; rfl
theorem storeC_scratch0 (h) (h') : (kernelRun0_C c i arg2 harg2 arg3 harg3 arg4 harg4 arg5 harg5 arg6 harg6 T0 x0 x1 x2 x3 xa0 xa1 h h').1 = xa0 := by
  unfold kernelRun0_C; rfl
theorem storeC_scratch1 (h) (h') : (kernelRun0_C c i arg2 harg2 arg3 harg3 arg4 harg4 arg5 harg5 arg6 harg6 T0 x0 x1 x2 x3 xa0 xa1 h h').2.1 = xa1 := by
  unfold kernelRun0_C; rfl

theorem storeB_pieces (h) (h') : (kernelRun0_B c i arg2 harg2 arg3 harg3 arg4 harg4 arg5 harg5 arg6 harg6 T0 x0 x1 x2 x3 xa0 xa1 h h').1 = tilePieces x0 xa0 xa1 := by
  unfold kernelRun0_B; dsimp only
  have r3 : kernelRun0_B.sl.r_3 c arg2 x0 xa0 xa1 = rows x0 xa0 xa1 := by
    unfold kernelRun0_B.sl.r_3 rows
    rw [View.readAt_rep, View.readAt_rep, View.readAt_rep, View.readAt_rep]
    rfl
  have r4 : kernelRun0_B.sl.r_4 c arg2 x0 xa0 xa1 = rows0 x0 xa0 xa1 := by
    unfold kernelRun0_B.sl.r_4 rows0
    rw [View.readAt_rep, View.readAt_rep, View.readAt_rep, View.readAt_rep]
    rfl
  unfold kernelRun0_B.sl.HO4_4
  rw [r3, r4]
  rfl

theorem storeA_pieces (h) (h') : (kernelRun0_A c i arg2 harg2 arg3 harg3 arg4 harg4 arg5 harg5 arg6 harg6 T0 x0 x1 x2 x3 h h').1 = tilePieces x0 (gu x1 x2) (dn x3) := by
  unfold kernelRun0_A; dsimp only
  have e29 : kernelRun0_A.sl.v29 arg3 arg4 x1 x2 = whole0 (gu x1 x2) := by
    unfold kernelRun0_A.sl.v29 kernelRun0_A.sl.HS0_2 View.readCov
    rw [View.readAt_rep, View.readAt_rep]
    rfl
  have e43 : kernelRun0_A.sl.v43 arg5 x3 = whole1 (dn x3) := by
    unfold kernelRun0_A.sl.v43 kernelRun0_A.sl.HS1_1 View.readCov
    rw [View.readAt_rep]
    rfl
  have r3 : kernelRun0_A.sl.r_3 arg2 arg3 arg4 arg5 x0 x1 x2 x3 = rows x0 (gu x1 x2) (dn x3) := by
    unfold kernelRun0_A.sl.r_3 rows
    rw [View.readAt_rep, View.readAt_rep, View.readAt_rep, View.readAt_rep, e29, e43]
    rfl
  have r4 : kernelRun0_A.sl.r_4 arg2 arg3 arg4 arg5 x0 x1 x2 x3 = rows0 x0 (gu x1 x2) (dn x3) := by
    unfold kernelRun0_A.sl.r_4 rows0
    rw [View.readAt_rep, View.readAt_rep, View.readAt_rep, View.readAt_rep, e29, e43]
    rfl
  unfold kernelRun0_A.sl.HO4_4
  rw [r3, r4]
  rfl
end Cert.ExpertsIdeal.Gen
end
-- ==== Proof.ExpertsValue.lean ====
/-
  What the experts' kernel computes on one tile: every row against the two input projections of the tile's expert side by
  side, the gated hidden units, and the output projection, lane by lane.
-/
module

public import proofs.«01_k».proof.Proof.ExpertsTile
public import Idealize.ShloMosaic.Lib.Pipeline.Value
public import Idealize.ShloMosaic.Lib.Pointwise
public import Idealize.ShloMosaic.Lib.IdealHost

@[expose] public section

set_option maxRecDepth 16384

noncomputable section

namespace Cert.ExpertsValue

open Cert.ExpertsIdeal Cert.ExpertsIdeal.Gen Idealize.ShloMosaic Idealize.ShloMosaic.Pointwise

/-! ## One row of one expert -/

/-- A hidden unit's gate: the unit times its logistic. -/
def gate (a : EReal) : EReal := a * Ideal.div 1 (1 + Ideal.exp (-a))

/-- Lane `j` of a row `x` after an expert with input weights `wg`, `wu` and output weights `wd`. -/
def row (x : Fin 1024 → EReal) (wg wu : Fin 1024 → Fin 256 → EReal) (wd : Fin 256 → Fin 1024 → EReal) (j : Fin 1024) : EReal :=
  ∑ h : Fin 256, gate (∑ d : Fin 1024, x d * wg d h) * (∑ d : Fin 1024, x d * wu d h) * wd h j

/-! ## The weights in the scratch buffers -/

theorem hz2 : (![0, 0] : Fin 2 → ℕ) = fun _ => 0 := by funext a; match a with | ⟨0, _⟩ => rfl | ⟨1, _⟩ => rfl

theorem pay1_apply (x : FVec Ideal S1x1x1024x256 .f32) (d : Fin 1024) (h : Fin 256) : k0_pay1 (F := Ideal) x (ix2 d h) = x (ix4 0 0 d h) := by
  pointwise [k0_pay1]
theorem pay2_apply (x : FVec Ideal S1x1x1024x256 .f32) (d : Fin 1024) (h : Fin 256) : k0_pay2 (F := Ideal) x (ix2 d h) = x (ix4 0 0 d h) := by
  pointwise [k0_pay2]
theorem pay3_apply (x : FVec Ideal S1x1x256x1024 .f32) (h : Fin 256) (d : Fin 1024) : k0_pay3 (F := Ideal) x (ix2 h d) = x (ix4 0 0 h d) := by
  pointwise [k0_pay3]

/-! ## The rows of a block -/

/-- The block's rows, their four groups of lanes side by side. -/
def joined (l0 l1 l2 l3 : FVec Ideal S64x1x8x256 .bf16) : FVec Ideal S512x1024 .bf16 :=
  concatenate S512x1024 1
    [⟨S512x256, shapeCast S512x256 (shapeCast S64x8x256 l0 shapeCasts_S64x1x8x256_S64x8x256) shapeCasts_S64x8x256_S512x256⟩,
      ⟨S512x256, shapeCast S512x256 (shapeCast S64x8x256 l1 shapeCasts_S64x1x8x256_S64x8x256) shapeCasts_S64x8x256_S512x256⟩,
      ⟨S512x256, shapeCast S512x256 (shapeCast S64x8x256 l2 shapeCasts_S64x1x8x256_S64x8x256) shapeCasts_S64x8x256_S512x256⟩,
      ⟨S512x256, shapeCast S512x256 (shapeCast S64x8x256 l3 shapeCasts_S64x1x8x256_S64x8x256) shapeCasts_S64x8x256_S512x256⟩]
    concatenates_S512x256_S512x256_S512x256_S512x256_S512x1024_d1

/-- Both input projections of the rows. -/
def projected (x : FVec Ideal S512x1024 .bf16) (w : FVec Ideal S1024x512 .bf16) : FVec Ideal S512x512 .f32 :=
  matmul dot_S512x1024_S1024x512_S512x512_1_0_0_1_n_n none x w (constant S512x512 .f32 0x00000000#32)

/-- The gated hidden units. -/
def gated (p : FVec Ideal S512x512 .f32) : FVec Ideal S512x256 .bf16 :=
  truncf .bf16 (mulf (mulf (extractStridedSlice S512x256 ![0, 0] p slices_S512x512_o0_0_S512x256)
    (divf (broadcast S512x256 (Scalar.ofBits .f32 0x3F800000#32)) (addf (broadcast S512x256 (Scalar.ofBits .f32 0x3F800000#32))
      (exp (subf (broadcast S512x256 (Scalar.ofBits .f32 0x00000000#32)) (extractStridedSlice S512x256 ![0, 0] p slices_S512x512_o0_0_S512x256))))))
    (extractStridedSlice S512x256 ![0, 256] p slices_S512x512_o0_256_S512x256)) bitsLt_bf16_f32

/-- The output projection of the hidden units. -/
def leaving (h : FVec Ideal S512x256 .bf16) (w : FVec Ideal S256x1024 .bf16) : FVec Ideal S512x1024 .f32 :=
  matmul dot_S512x256_S256x1024_S512x1024_1_0_0_1_n_n none h w (constant S512x1024 .f32 0x00000000#32)

theorem pay8_eq (l0 l1 l2 l3 : FVec Ideal S64x1x8x256 .bf16) (w : FVec Ideal S1024x512 .bf16) (v : FVec Ideal S256x1024 .bf16) :
    k0_pay8 (F := Ideal) l0 l1 l2 l3 w v = leaving (gated (projected (joined l0 l1 l2 l3) w)) v := rfl

theorem projected_apply (x : FVec Ideal S512x1024 .bf16) (w : FVec Ideal S1024x512 .bf16) (n k : Fin 512) :
    projected x w (ix2 n k) = ∑ d : Fin 1024, x (ix2 n d) * w (ix2 d k) := by
  pointwise [projected]

theorem leaving_apply (h : FVec Ideal S512x256 .bf16) (w : FVec Ideal S256x1024 .bf16) (n : Fin 512) (j : Fin 1024) :
    leaving h w (ix2 n j) = ∑ k : Fin 256, h (ix2 n k) * w (ix2 k j) := by
  pointwise [leaving]

theorem gated_apply (p : FVec Ideal S512x512 .f32) (n : Fin 512) (k : Fin 256) :
    gated p (ix2 n k) = gate (p (ix2 n (⟨k.1, by omega⟩ : Fin 512))) * p (ix2 n (⟨256 + k.1, by omega⟩ : Fin 512)) := by
  pointwise [gated]
  rw [zero_sub]
  rfl

/-- A row of the joined block is the block's row, its lanes in order. -/
theorem joined_apply (l0 l1 l2 l3 : FVec Ideal S64x1x8x256 .bf16) (x : FVec Ideal S64x4x8x256 .bf16)
    (h0 : ∀ r s l, l0 (ix4 r 0 s l) = x (ix4 r 0 s l)) (h1 : ∀ r s l, l1 (ix4 r 0 s l) = x (ix4 r 1 s l))
    (h2 : ∀ r s l, l2 (ix4 r 0 s l) = x (ix4 r 2 s l)) (h3 : ∀ r s l, l3 (ix4 r 0 s l) = x (ix4 r 3 s l))
    (n : Fin 512) (d : Fin 1024) :
    joined l0 l1 l2 l3 (ix2 n d)
      = x (ix4 (⟨n.1 / 8, by omega⟩ : Fin 64) (⟨d.1 / 256, by omega⟩ : Fin 4) (⟨n.1 % 8, by omega⟩ : Fin 8) (⟨d.1 % 256, by omega⟩ : Fin 256)) := by
  pointwise [joined]
  have hd := d.isLt
  split
  · rw [h0]
    congr 2 <;> apply Fin.ext <;> show _ = _ <;> simp only [Fin.val_zero] <;> omega
  · split
    · rw [h1]
      congr 2 <;> apply Fin.ext <;> show _ = _ <;> simp only [Fin.val_one] <;> omega
    · split
      · rw [h2]
        congr 2 <;> apply Fin.ext <;> show _ = _ <;> simp only [Fin.val_two] <;> omega
      · rw [h3]
        congr 2 <;> apply Fin.ext
        · show 3 = d.1 / 256; omega
        · show d.1 - 256 - 256 - 256 = d.1 % 256; omega

theorem lanes0_apply (x : FVec Ideal S64x4x8x256 .bf16) (r : Fin 64) (s : Fin 8) (l : Fin 256) :
    lanes0 (F := Ideal) x (ix4 r 0 s l) = x (ix4 r 0 s l) := by
  refine congrArg x (funext fun a => Fin.ext ?_)
  match a with
  | ⟨0, _⟩ => show 0 + 1 * r.1 = r.1; omega
  | ⟨1, _⟩ => rfl
  | ⟨2, _⟩ => show 0 + 1 * s.1 = s.1; omega
  | ⟨3, _⟩ => show 0 + 1 * l.1 = l.1; omega
theorem lanes1_apply (x : FVec Ideal S64x4x8x256 .bf16) (r : Fin 64) (s : Fin 8) (l : Fin 256) :
    lanes1 (F := Ideal) x (ix4 r 0 s l) = x (ix4 r 1 s l) := by
  refine congrArg x (funext fun a => Fin.ext ?_)
  match a with
  | ⟨0, _⟩ => show 0 + 1 * r.1 = r.1; omega
  | ⟨1, _⟩ => rfl
  | ⟨2, _⟩ => show 0 + 1 * s.1 = s.1; omega
  | ⟨3, _⟩ => show 0 + 1 * l.1 = l.1; omega
theorem lanes2_apply (x : FVec Ideal S64x4x8x256 .bf16) (r : Fin 64) (s : Fin 8) (l : Fin 256) :
    lanes2 (F := Ideal) x (ix4 r 0 s l) = x (ix4 r 2 s l) := by
  refine congrArg x (funext fun a => Fin.ext ?_)
  match a with
  | ⟨0, _⟩ => show 0 + 1 * r.1 = r.1; omega
  | ⟨1, _⟩ => rfl
  | ⟨2, _⟩ => show 0 + 1 * s.1 = s.1; omega
  | ⟨3, _⟩ => show 0 + 1 * l.1 = l.1; omega
theorem lanes3_apply (x : FVec Ideal S64x4x8x256 .bf16) (r : Fin 64) (s : Fin 8) (l : Fin 256) :
    lanes3 (F := Ideal) x (ix4 r 0 s l) = x (ix4 r 3 s l) := by
  refine congrArg x (funext fun a => Fin.ext ?_)
  match a with
  | ⟨0, _⟩ => show 0 + 1 * r.1 = r.1; omega
  | ⟨1, _⟩ => rfl
  | ⟨2, _⟩ => show 0 + 1 * s.1 = s.1; omega
  | ⟨3, _⟩ => show 0 + 1 * l.1 = l.1; omega

theorem whole0_apply (a : FVec Ideal S1024x512 .bf16) (d : Fin 1024) (k : Fin 512) : whole0 (F := Ideal) a (ix2 d k) = a (ix2 d k) := by
  refine congrArg a (funext fun b => Fin.ext ?_)
  match b with
  | ⟨0, _⟩ => show 0 + 1 * d.1 = d.1; omega
  | ⟨1, _⟩ => show 0 + 1 * k.1 = k.1; omega
theorem whole1_apply (a : FVec Ideal S256x1024 .bf16) (h : Fin 256) (d : Fin 1024) : whole1 (F := Ideal) a (ix2 h d) = a (ix2 h d) := by
  refine congrArg a (funext fun b => Fin.ext ?_)
  match b with
  | ⟨0, _⟩ => show 0 + 1 * h.1 = h.1; omega
  | ⟨1, _⟩ => show 0 + 1 * d.1 = d.1; omega

/-- The first scratch buffer, written in two halves, read in its first, -/
theorem halves_first (f : (View.whole cc0_scratch0).ty.Contents (Elt Ideal)) (w1 w2 : S1024x256.Idx → Elt Ideal .bf16) (d : Fin 1024) (h : Fin 256) :
    (View.whole cc0_scratch0).read (Elt Ideal) ((View.whole cc0_scratch0).writes (Elt Ideal) f
      [⟨Rect.unit ![0, 256] S1024x256.size inb_S1024x512_S1024x256_0_256, w2⟩, ⟨Rect.unit ![0, 0] S1024x256.size inb_S1024x512_S1024x256_0_0, w1⟩])
      (ix2 d (⟨h.1, by omega⟩ : Fin 512)) = w1 (ix2 d h) := by
  rw [View.read_writes_cons_miss_of_axis (View.whole cc0_scratch0) f _ _ (ix2 d (⟨h.1, by omega⟩ : Fin 512)) 1 256 256 rfl rfl rfl (.inl h.isLt)]
  refine View.read_writes_cons_hit_of_coords (View.whole cc0_scratch0) f (Rect.unit ![0, 0] S1024x256.size inb_S1024x512_S1024x256_0_0) w1 _ (ix2 d h : S1024x256.Idx) _ fun a => ?_
  match a with
  | ⟨0, _⟩ => show d.1 = 0 + 1 * d.1; omega
  | ⟨1, _⟩ => show h.1 = 0 + 1 * h.1; omega

/-- and in its second. -/
theorem halves_second (f : (View.whole cc0_scratch0).ty.Contents (Elt Ideal)) (w1 w2 : S1024x256.Idx → Elt Ideal .bf16) (d : Fin 1024) (h : Fin 256) :
    (View.whole cc0_scratch0).read (Elt Ideal) ((View.whole cc0_scratch0).writes (Elt Ideal) f
      [⟨Rect.unit ![0, 256] S1024x256.size inb_S1024x512_S1024x256_0_256, w2⟩, ⟨Rect.unit ![0, 0] S1024x256.size inb_S1024x512_S1024x256_0_0, w1⟩])
      (ix2 d (⟨256 + h.1, by omega⟩ : Fin 512)) = w2 (ix2 d h) := by
  refine View.read_writes_cons_hit_of_coords (View.whole cc0_scratch0) f (Rect.unit ![0, 256] S1024x256.size inb_S1024x512_S1024x256_0_256) w2 _ (ix2 d h : S1024x256.Idx) _ fun a => ?_
  match a with
  | ⟨0, _⟩ => show d.1 = 0 + 1 * d.1; omega
  | ⟨1, _⟩ => show 256 + h.1 = 256 + 1 * h.1; omega

/-- The second scratch buffer, written at once. -/
theorem one_write (f : (View.whole cc0_scratch1).ty.Contents (Elt Ideal)) (w : S256x1024.Idx → Elt Ideal .bf16) (h : Fin 256) (d : Fin 1024) :
    (View.whole cc0_scratch1).read (Elt Ideal) ((View.whole cc0_scratch1).writes (Elt Ideal) f
      [⟨Rect.unit ![0, 0] S256x1024.size inb_S256x1024_S256x1024_0_0, w⟩]) (ix2 h d) = w (ix2 h d) := by
  refine View.read_writes_cons_hit_of_coords (View.whole cc0_scratch1) f (Rect.unit ![0, 0] S256x1024.size inb_S256x1024_S256x1024_0_0) w _ (ix2 h d : S256x1024.Idx) _ fun a => ?_
  match a with
  | ⟨0, _⟩ => show h.1 = 0 + 1 * h.1; omega
  | ⟨1, _⟩ => show d.1 = 0 + 1 * d.1; omega

theorem read_scratch0 (f : S1024x512.Idx → Elt Ideal .bf16) (y : S1024x512.Idx) : f y = (View.whole cc0_scratch0).read (Elt Ideal) f y := rfl
theorem read_scratch1 (f : S256x1024.Idx → Elt Ideal .bf16) (y : S256x1024.Idx) : f y = (View.whole cc0_scratch1).read (Elt Ideal) f y := rfl

/-- A weight's block is loaded whole. -/
theorem whole_in (x : FVec Ideal S1x1x1024x256 .f32) (d : Fin 1024) (h : Fin 256) :
    x ((Rect.unit ![0, 0, 0, 0] S1x1x1024x256.size inb_S1x1x1024x256_S1x1x1024x256_0_0_0_0).toLoadRect.idx (ix4 0 0 d h)) = x (ix4 0 0 d h) := by
  refine congrArg x (funext fun b => Fin.ext ?_)
  match b with
  | ⟨0, _⟩ => rfl
  | ⟨1, _⟩ => rfl
  | ⟨2, _⟩ => show 0 + 1 * d.1 = d.1; omega
  | ⟨3, _⟩ => show 0 + 1 * h.1 = h.1; omega
theorem whole_out (x : FVec Ideal S1x1x256x1024 .f32) (h : Fin 256) (d : Fin 1024) :
    x ((Rect.unit ![0, 0, 0, 0] S1x1x256x1024.size inb_S1x1x256x1024_S1x1x256x1024_0_0_0_0).toLoadRect.idx (ix4 0 0 h d)) = x (ix4 0 0 h d) := by
  refine congrArg x (funext fun b => Fin.ext ?_)
  match b with
  | ⟨0, _⟩ => rfl
  | ⟨1, _⟩ => rfl
  | ⟨2, _⟩ => show 0 + 1 * h.1 = h.1; omega
  | ⟨3, _⟩ => show 0 + 1 * d.1 = d.1; omega

/-- The first input weights lie in the first scratch buffer's first columns, -/
theorem gu_first (x1 x2 : FVec Ideal S1x1x1024x256 .f32) (d : Fin 1024) (h : Fin 256) :
    gu (F := Ideal) x1 x2 (ix2 d (⟨h.1, by omega⟩ : Fin 512)) = x1 (ix4 0 0 d h) := by
  refine (read_scratch0 _ _).trans ?_
  unfold gu
  rw [halves_first, pay1_apply]
  exact whole_in x1 d h

/-- the second in its last, -/
theorem gu_second (x1 x2 : FVec Ideal S1x1x1024x256 .f32) (d : Fin 1024) (h : Fin 256) :
    gu (F := Ideal) x1 x2 (ix2 d (⟨256 + h.1, by omega⟩ : Fin 512)) = x2 (ix4 0 0 d h) := by
  refine (read_scratch0 _ _).trans ?_
  unfold gu
  rw [halves_second, pay2_apply]
  exact whole_in x2 d h

/-- and the output weights in the second scratch buffer. -/
theorem dn_apply (x3 : FVec Ideal S1x1x256x1024 .f32) (h : Fin 256) (d : Fin 1024) :
    dn (F := Ideal) x3 (ix2 h d) = x3 (ix4 0 0 h d) := by
  refine (read_scratch1 _ _).trans ?_
  unfold dn
  rw [one_write, pay3_apply]
  exact whole_out x3 h d

/-- A block's rows after the expert whose weights the scratch buffers hold. -/
theorem rows_apply (x0 : FVec Ideal S64x4x8x256 .bf16) (x1 x2 : FVec Ideal S1x1x1024x256 .f32) (x3 : FVec Ideal S1x1x256x1024 .f32)
    (n : Fin 512) (j : Fin 1024) :
    rows (F := Ideal) x0 (gu (F := Ideal) x1 x2) (dn (F := Ideal) x3) (ix2 n j)
      = row (fun d => x0 (ix4 (⟨n.1 / 8, by omega⟩ : Fin 64) (⟨d.1 / 256, by omega⟩ : Fin 4) (⟨n.1 % 8, by omega⟩ : Fin 8) (⟨d.1 % 256, by omega⟩ : Fin 256)))
          (fun d h => x1 (ix4 0 0 d h)) (fun d h => x2 (ix4 0 0 d h)) (fun h d => x3 (ix4 0 0 h d)) j := by
  unfold rows
  rw [pay8_eq, leaving_apply]
  unfold row
  refine Finset.sum_congr rfl fun h _ => ?_
  rw [gated_apply, projected_apply, projected_apply, whole1_apply, dn_apply]
  simp only [whole0_apply, gu_first, gu_second,
    joined_apply _ _ _ _ x0 (lanes0_apply x0) (lanes1_apply x0) (lanes2_apply x0) (lanes3_apply x0)]

/-! ## The tile -/

theorem pay4_apply (y : FVec Ideal S64x8x256 .bf16) (r : Fin 64) (s : Fin 8) (l : Fin 256) : k0_pay4 (F := Ideal) y (ix4 r 0 s l) = y (ix3 r s l) := by
  pointwise [k0_pay4]
theorem first_apply (y : FVec Ideal S512x1024 .f32) (r : Fin 64) (s : Fin 8) (l : Fin 256) :
    shapeCast S64x8x256 (truncf .bf16 (extractStridedSlice S512x256 ![0, 0] y slices_S512x1024_o0_0_S512x256) bitsLt_bf16_f32) shapeCasts_S512x256_S64x8x256 (ix3 r s l)
      = y (ix2 (⟨r.1 * 8 + s.1, by omega⟩ : Fin 512) (⟨l.1, by omega⟩ : Fin 1024)) := by
  pointwise
theorem pay5_apply (y : FVec Ideal S512x1024 .f32) (r : Fin 64) (s : Fin 8) (l : Fin 256) :
    k0_pay5 (F := Ideal) y (ix4 r 0 s l) = y (ix2 (⟨r.1 * 8 + s.1, by omega⟩ : Fin 512) (⟨256 + l.1, by omega⟩ : Fin 1024)) := by
  pointwise [k0_pay5]
theorem pay6_apply (y : FVec Ideal S512x1024 .f32) (r : Fin 64) (s : Fin 8) (l : Fin 256) :
    k0_pay6 (F := Ideal) y (ix4 r 0 s l) = y (ix2 (⟨r.1 * 8 + s.1, by omega⟩ : Fin 512) (⟨512 + l.1, by omega⟩ : Fin 1024)) := by
  pointwise [k0_pay6]
theorem pay7_apply (y : FVec Ideal S512x1024 .f32) (r : Fin 64) (s : Fin 8) (l : Fin 256) :
    k0_pay7 (F := Ideal) y (ix4 r 0 s l) = y (ix2 (⟨r.1 * 8 + s.1, by omega⟩ : Fin 512) (⟨768 + l.1, by omega⟩ : Fin 1024)) := by
  pointwise [k0_pay7]

theorem rows0_eq (x0 : S64x4x8x256.Idx → Elt Ideal .bf16) (a0 : S1024x512.Idx → Elt Ideal .bf16) (a1 : S256x1024.Idx → Elt Ideal .bf16) :
    rows0 (F := Ideal) x0 a0 a1 = shapeCast S64x8x256 (truncf (F := Ideal) .bf16 (extractStridedSlice S512x256 ![0, 0] (rows (F := Ideal) x0 a0 a1) slices_S512x1024_o0_0_S512x256) bitsLt_bf16_f32) shapeCasts_S512x256_S64x8x256 := rfl

/-- A row's four groups of lanes, stored one after the other, are the row. -/
theorem groups_apply (f : VO0_4.ty.Contents (Elt Ideal)) (w0 w1 w2 w3 : S64x1x8x256.Idx → Elt Ideal .bf16) (r : Fin 64) (s : Fin 8) (l : Fin 256)
    (y : FVec Ideal S512x1024 .f32)
    (h0 : w0 (ix4 r 0 s l) = y (ix2 (⟨r.1 * 8 + s.1, by omega⟩ : Fin 512) (⟨l.1, by omega⟩ : Fin 1024)))
    (h1 : w1 (ix4 r 0 s l) = y (ix2 (⟨r.1 * 8 + s.1, by omega⟩ : Fin 512) (⟨256 + l.1, by omega⟩ : Fin 1024)))
    (h2 : w2 (ix4 r 0 s l) = y (ix2 (⟨r.1 * 8 + s.1, by omega⟩ : Fin 512) (⟨512 + l.1, by omega⟩ : Fin 1024)))
    (h3 : w3 (ix4 r 0 s l) = y (ix2 (⟨r.1 * 8 + s.1, by omega⟩ : Fin 512) (⟨768 + l.1, by omega⟩ : Fin 1024))) (q : Fin 4) :
    VO0_4.read (Elt Ideal) (VO0_4.writes (Elt Ideal) f
      [⟨Rect.unit ![0, 3, 0, 0] S64x1x8x256.size inb_S64x4x8x256_S64x1x8x256_0_3_0_0, w3⟩,
        ⟨Rect.unit ![0, 2, 0, 0] S64x1x8x256.size inb_S64x4x8x256_S64x1x8x256_0_2_0_0, w2⟩,
        ⟨Rect.unit ![0, 1, 0, 0] S64x1x8x256.size inb_S64x4x8x256_S64x1x8x256_0_1_0_0, w1⟩,
        ⟨Rect.unit ![0, 0, 0, 0] S64x1x8x256.size inb_S64x4x8x256_S64x1x8x256_0_0_0_0, w0⟩]) (ix4 r q s l)
      = y (ix2 (⟨r.1 * 8 + s.1, by omega⟩ : Fin 512) (⟨256 * q.1 + l.1, by omega⟩ : Fin 1024)) := by
  match q with
  | ⟨3, _⟩ =>
    refine (View.read_writes_cons_hit_of_coords VO0_4 f (Rect.unit ![0, 3, 0, 0] S64x1x8x256.size inb_S64x4x8x256_S64x1x8x256_0_3_0_0) w3 _ (ix4 r 0 s l : S64x1x8x256.Idx) _ fun a => ?_).trans h3
    match a with
    | ⟨0, _⟩ => show r.1 = 0 + 1 * r.1; omega
    | ⟨1, _⟩ => rfl
    | ⟨2, _⟩ => show s.1 = 0 + 1 * s.1; omega
    | ⟨3, _⟩ => show l.1 = 0 + 1 * l.1; omega
  | ⟨2, _⟩ =>
    rw [View.read_writes_cons_miss_of_axis VO0_4 f _ _ _ 1 3 1 rfl rfl rfl (.inl (show 2 < 3 by omega))]
    refine (View.read_writes_cons_hit_of_coords VO0_4 f (Rect.unit ![0, 2, 0, 0] S64x1x8x256.size inb_S64x4x8x256_S64x1x8x256_0_2_0_0) w2 _ (ix4 r 0 s l : S64x1x8x256.Idx) _ fun a => ?_).trans h2
    match a with
    | ⟨0, _⟩ => show r.1 = 0 + 1 * r.1; omega
    | ⟨1, _⟩ => rfl
    | ⟨2, _⟩ => show s.1 = 0 + 1 * s.1; omega
    | ⟨3, _⟩ => show l.1 = 0 + 1 * l.1; omega
  | ⟨1, _⟩ =>
    rw [View.read_writes_cons_miss_of_axis VO0_4 f _ _ _ 1 3 1 rfl rfl rfl (.inl (show 1 < 3 by omega)),
      View.read_writes_cons_miss_of_axis VO0_4 f _ _ _ 1 2 1 rfl rfl rfl (.inl (show 1 < 2 by omega))]
    refine (View.read_writes_cons_hit_of_coords VO0_4 f (Rect.unit ![0, 1, 0, 0] S64x1x8x256.size inb_S64x4x8x256_S64x1x8x256_0_1_0_0) w1 _ (ix4 r 0 s l : S64x1x8x256.Idx) _ fun a => ?_).trans h1
    match a with
    | ⟨0, _⟩ => show r.1 = 0 + 1 * r.1; omega
    | ⟨1, _⟩ => rfl
    | ⟨2, _⟩ => show s.1 = 0 + 1 * s.1; omega
    | ⟨3, _⟩ => show l.1 = 0 + 1 * l.1; omega
  | ⟨0, _⟩ =>
    rw [View.read_writes_cons_miss_of_axis VO0_4 f _ _ _ 1 3 1 rfl rfl rfl (.inl (show 0 < 3 by omega)),
      View.read_writes_cons_miss_of_axis VO0_4 f _ _ _ 1 2 1 rfl rfl rfl (.inl (show 0 < 2 by omega)),
      View.read_writes_cons_miss_of_axis VO0_4 f _ _ _ 1 1 1 rfl rfl rfl (.inl (show 0 < 1 by omega))]
    refine (View.read_writes_cons_hit_of_coords VO0_4 f (Rect.unit ![0, 0, 0, 0] S64x1x8x256.size inb_S64x4x8x256_S64x1x8x256_0_0_0_0) w0 _ (ix4 r 0 s l : S64x1x8x256.Idx) _ fun a => ?_).trans (h0.trans ?_)
    · match a with
      | ⟨0, _⟩ => show r.1 = 0 + 1 * r.1; omega
      | ⟨1, _⟩ => rfl
      | ⟨2, _⟩ => show s.1 = 0 + 1 * s.1; omega
      | ⟨3, _⟩ => show l.1 = 0 + 1 * l.1; omega
    · congr 2
      exact Fin.ext (show l.1 = 256 * 0 + l.1 by omega)

/-- The tile computed from a block: its rows after the expert. -/
theorem tile_apply (x0 : FVec Ideal S64x4x8x256 .bf16) (x1 x2 : FVec Ideal S1x1x1024x256 .f32) (x3 : FVec Ideal S1x1x256x1024 .f32)
    (r : Fin 64) (q : Fin 4) (s : Fin 8) (l : Fin 256) :
    tile (F := Ideal) x0 (gu (F := Ideal) x1 x2) (dn (F := Ideal) x3) (ix4 r q s l)
      = row (fun d => x0 (ix4 r (⟨d.1 / 256, by omega⟩ : Fin 4) s (⟨d.1 % 256, by omega⟩ : Fin 256)))
          (fun d h => x1 (ix4 0 0 d h)) (fun d h => x2 (ix4 0 0 d h)) (fun h d => x3 (ix4 0 0 h d)) ⟨256 * q.1 + l.1, by omega⟩ := by
  unfold tile tilePieces
  refine (groups_apply _ _ _ _ _ r s l (rows (F := Ideal) x0 (gu (F := Ideal) x1 x2) (dn (F := Ideal) x3)) ?_ ?_ ?_ ?_ q).trans ?_
  · rw [pay4_apply, rows0_eq, first_apply]
  · exact pay5_apply _ r s l
  · exact pay6_apply _ r s l
  · exact pay7_apply _ r s l
  · rw [rows_apply]
    congr 1
    funext d
    congr 2 <;> apply Fin.ext
    · show (r.1 * 8 + s.1) / 8 = r.1; omega
    · show (r.1 * 8 + s.1) % 8 = s.1; omega

end Cert.ExpertsValue

end
-- ==== Proof.ExpertsBlocks.lean ====
/-
  The experts program up to its pipeline, at any plan: the arrays the pipeline finds, and each input window's block as
  an entry of them.
-/
module

public import proofs.«01_k».proof.Proof.ExpertsTile
public import proofs.«01_k».proof.Proof.ExpertsLaunch
public import proofs.«01_k».proof.Defs
public import Idealize.ShloMosaic.Lib.Pipeline.Quiescent
public import Idealize.ShloMosaic.Lib.Claim
public import Idealize.ShloMosaic.Lib.Pointwise

@[expose] public section

set_option maxRecDepth 16384
set_option Elab.async false

noncomputable section

namespace Cert.ExpertsIdeal.Gen

open Cert.ExpertsIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F] (T : S8x128.Idx → BitVec 32) (hT : PlanOK T)

/-- The one pipeline at the plan. -/
abbrev pcs : Fin 1 → Pipeline.Cfg sig Λ₀ := Pipeline.pin (pcfgs (F := F)) fun _ => adm T hT

variable (m : (ℓ : Loc nD τ sig) → Buf (Elt F) ℓ) (c : Dev nD)

/-- A core's buffers when the pipeline is entered. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor

/-- The reference each host operation writes. -/
abbrev hostOps0_W : List (Ref sig .tc) := [main_v0]
theorem hostOps0_writes : ((hostOps0 (F := F)) : List (HloOp τ sig (Elt F))).Forall fun op => op.writes ⊆ (hostOps0_W.map (Proc.devRef (τ := τ) .tc)).toFinset :=
  StableHlo.forall_writes_sub_of_map rfl

set_option maxHeartbeats 800000 in
/-- The program up to the pipeline. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main (hostOps0 (F := F)) hostOps0_sub hostOps0_fresh main_chain

theorem V_main_arg0 : V m c main_arg0 = m ((c : Thread nD τ).loc main_arg0) :=
  StableHlo.after_of_writes_sub (hostOps0 (F := F)) _ hostOps0_writes (by decide)
theorem V_main_arg1 : V m c main_arg1 = m ((c : Thread nD τ).loc main_arg1) :=
  StableHlo.after_of_writes_sub (hostOps0 (F := F)) _ hostOps0_writes (by decide)
theorem V_main_arg2 : V m c main_arg2 = m ((c : Thread nD τ).loc main_arg2) :=
  StableHlo.after_of_writes_sub (hostOps0 (F := F)) _ hostOps0_writes (by decide)
theorem V_main_arg3 : V m c main_arg3 = m ((c : Thread nD τ).loc main_arg3) :=
  StableHlo.after_of_writes_sub (hostOps0 (F := F)) _ hostOps0_writes (by decide)
theorem V_main_arg4 : V m c main_arg4 = m ((c : Thread nD τ).loc main_arg4) :=
  StableHlo.after_of_writes_sub (hostOps0 (F := F)) _ hostOps0_writes (by decide)

/-! ## The staging buffers and the blocks at a point -/

abbrev ms0_0 (t : Fin (cfgA (F := F) T hT).N) : Memref sig .tc .vmem S64x4x8x256 .bf16 := spec0_0.stage ((cfgA (F := F) T hT).slots t (0 : Fin 5))
abbrev hs0_0 (t : Fin (cfgA (F := F) T hT).N) : (ms0_0 T hT t).IsWhole := hstage0_0 (((cfgA (F := F) T hT).slots t (0 : Fin 5)).cast nbuf0_0)
abbrev ms0_1 (t : Fin (cfgA (F := F) T hT).N) : Memref sig .tc .vmem S1x1x1024x256 .f32 := spec0_1.stage ((cfgA (F := F) T hT).slots t (1 : Fin 5))
abbrev hs0_1 (t : Fin (cfgA (F := F) T hT).N) : (ms0_1 T hT t).IsWhole := hstage0_1 (((cfgA (F := F) T hT).slots t (1 : Fin 5)).cast nbuf0_1)
abbrev ms0_2 (t : Fin (cfgA (F := F) T hT).N) : Memref sig .tc .vmem S1x1x1024x256 .f32 := spec0_2.stage ((cfgA (F := F) T hT).slots t (2 : Fin 5))
abbrev hs0_2 (t : Fin (cfgA (F := F) T hT).N) : (ms0_2 T hT t).IsWhole := hstage0_2 (((cfgA (F := F) T hT).slots t (2 : Fin 5)).cast nbuf0_2)
abbrev ms0_3 (t : Fin (cfgA (F := F) T hT).N) : Memref sig .tc .vmem S1x1x256x1024 .f32 := spec0_3.stage ((cfgA (F := F) T hT).slots t (3 : Fin 5))
abbrev hs0_3 (t : Fin (cfgA (F := F) T hT).N) : (ms0_3 T hT t).IsWhole := hstage0_3 (((cfgA (F := F) T hT).slots t (3 : Fin 5)).cast nbuf0_3)
abbrev ms0_4 (t : Fin (cfgA (F := F) T hT).N) : Memref sig .tc .vmem S64x4x8x256 .bf16 := spec0_4.stage ((cfgA (F := F) T hT).slots t (4 : Fin 5))
abbrev hs0_4 (t : Fin (cfgA (F := F) T hT).N) : (ms0_4 T hT t).IsWhole := hstage0_4 (((cfgA (F := F) T hT).slots t (4 : Fin 5)).cast nbuf0_4)

/-- A window's block at a point. -/
def iblk (w : Fin (cfgA (F := F) T hT).W) (t : Fin (cfgA (F := F) T hT).N) :
    (((cfgA (F := F) T hT).win w).xblock (crd T hT t)).Idx → Elt F ((cfgA (F := F) T hT).win w).elt :=
  (((cfgA (F := F) T hT).win w).blk t).view.read (Elt F) (V m c (Pipeline.arrRef spec0 w))

include hT in
theorem ix0_eq (t : Fin grid0.N) : ix0 (pfN (F := F) T) 0 (grid0.coords t) = ![last T t.val, 0, 0, 0] := ix4_eq (F := F) T hT t

theorem expert_eq (t : Fin grid0.N) (n : ℕ) (hn : n < 80) (e : n = t.val) :
    (![1, expert T n hn, 0, 0] : Fin 4 → ℕ) = ![1, expert T t.val t.isLt, 0, 0] := by subst e; rfl

theorem ix1_eq (t : Fin grid0.N) : ix0 (pfN (F := F) T) 1 (grid0.coords t) = ![1, expert T t.val t.isLt, 0, 0] :=
  (transform1_eq (F := F) T (grid0.coords t)).trans (expert_eq T t _ _ (coords_val t))
theorem ix2_eq (t : Fin grid0.N) : ix0 (pfN (F := F) T) 2 (grid0.coords t) = ![1, expert T t.val t.isLt, 0, 0] := ix1_eq (F := F) T t
theorem ix3_eq (t : Fin grid0.N) : ix0 (pfN (F := F) T) 3 (grid0.coords t) = ![1, expert T t.val t.isLt, 0, 0] := ix1_eq (F := F) T t

/-- The point's rows. -/
theorem block0 (t : Fin (cfgA (F := F) T hT).N) (r : Fin 64) (q : Fin 4) (s : Fin 8) (l : Fin 256) (R : Fin 5120)
    (hR : R.1 = last T t.val * 64 + r.1) :
    iblk T hT m c (0 : Fin 5) t (ix4 r q s l) = V m c main_arg1 (ix4 R q s l) := by
  unfold iblk
  rw [View.read_apply]
  show V m c main_arg1 _ = _
  congr 1
  funext a
  apply Fin.ext
  have e := ix0_eq (F := F) T hT t
  match a with
  | ⟨0, _⟩ => show ix0 (pfN (F := F) T) 0 (grid0.coords t) 0 * 64 + 1 * r.1 = R.1; rw [e, hR]; show last T t.val * 64 + 1 * r.1 = _; omega
  | ⟨1, _⟩ => show ix0 (pfN (F := F) T) 0 (grid0.coords t) 1 * 4 + 1 * q.1 = q.1; rw [e]; show 0 * 4 + 1 * q.1 = _; omega
  | ⟨2, _⟩ => show ix0 (pfN (F := F) T) 0 (grid0.coords t) 2 * 8 + 1 * s.1 = s.1; rw [e]; show 0 * 8 + 1 * s.1 = _; omega
  | ⟨3, _⟩ => show ix0 (pfN (F := F) T) 0 (grid0.coords t) 3 * 256 + 1 * l.1 = l.1; rw [e]; show 0 * 256 + 1 * l.1 = _; omega

/-- The point's expert's first projection, -/
theorem block1 (t : Fin (cfgA (F := F) T hT).N) (d : Fin 1024) (l : Fin 256) (x : Fin 32) (hx : x.1 = expert T t.val (pt_lt T hT t)) :
    iblk T hT m c (1 : Fin 5) t (ix4 0 0 d l) = V m c main_arg2 (ix4 1 x d l) := by
  unfold iblk
  rw [View.read_apply]
  show V m c main_arg2 _ = _
  congr 1
  funext a
  apply Fin.ext
  have e := ix1_eq (F := F) T t
  match a with
  | ⟨0, _⟩ => show ix0 (pfN (F := F) T) 1 (grid0.coords t) 0 * 1 + _ = _; rw [e]; rfl
  | ⟨1, _⟩ => show ix0 (pfN (F := F) T) 1 (grid0.coords t) 1 * 1 + 1 * 0 = x.1; rw [e, hx]; exact Nat.mul_one _
  | ⟨2, _⟩ => show ix0 (pfN (F := F) T) 1 (grid0.coords t) 2 * 1024 + 1 * d.1 = d.1; rw [e]; show 0 * 1024 + 1 * d.1 = _; omega
  | ⟨3, _⟩ => show ix0 (pfN (F := F) T) 1 (grid0.coords t) 3 * 256 + 1 * l.1 = l.1; rw [e]; show 0 * 256 + 1 * l.1 = _; omega

/-- its second -/
theorem block2 (t : Fin (cfgA (F := F) T hT).N) (d : Fin 1024) (l : Fin 256) (x : Fin 32) (hx : x.1 = expert T t.val (pt_lt T hT t)) :
    iblk T hT m c (2 : Fin 5) t (ix4 0 0 d l) = V m c main_arg3 (ix4 1 x d l) := by
  unfold iblk
  rw [View.read_apply]
  show V m c main_arg3 _ = _
  congr 1
  funext a
  apply Fin.ext
  have e := ix2_eq (F := F) T t
  match a with
  | ⟨0, _⟩ => show ix0 (pfN (F := F) T) 2 (grid0.coords t) 0 * 1 + _ = _; rw [e]; rfl
  | ⟨1, _⟩ => show ix0 (pfN (F := F) T) 2 (grid0.coords t) 1 * 1 + 1 * 0 = x.1; rw [e, hx]; exact Nat.mul_one _
  | ⟨2, _⟩ => show ix0 (pfN (F := F) T) 2 (grid0.coords t) 2 * 1024 + 1 * d.1 = d.1; rw [e]; show 0 * 1024 + 1 * d.1 = _; omega
  | ⟨3, _⟩ => show ix0 (pfN (F := F) T) 2 (grid0.coords t) 3 * 256 + 1 * l.1 = l.1; rw [e]; show 0 * 256 + 1 * l.1 = _; omega

/-- and its last. -/
theorem block3 (t : Fin (cfgA (F := F) T hT).N) (l : Fin 256) (d : Fin 1024) (x : Fin 32) (hx : x.1 = expert T t.val (pt_lt T hT t)) :
    iblk T hT m c (3 : Fin 5) t (ix4 0 0 l d) = V m c main_arg4 (ix4 1 x l d) := by
  unfold iblk
  rw [View.read_apply]
  show V m c main_arg4 _ = _
  congr 1
  funext a
  apply Fin.ext
  have e := ix3_eq (F := F) T t
  match a with
  | ⟨0, _⟩ => show ix0 (pfN (F := F) T) 3 (grid0.coords t) 0 * 1 + _ = _; rw [e]; rfl
  | ⟨1, _⟩ => show ix0 (pfN (F := F) T) 3 (grid0.coords t) 1 * 1 + 1 * 0 = x.1; rw [e, hx]; exact Nat.mul_one _
  | ⟨2, _⟩ => show ix0 (pfN (F := F) T) 3 (grid0.coords t) 2 * 256 + 1 * l.1 = l.1; rw [e]; show 0 * 256 + 1 * l.1 = _; omega
  | ⟨3, _⟩ => show ix0 (pfN (F := F) T) 3 (grid0.coords t) 3 * 1024 + 1 * d.1 = d.1; rw [e]; show 0 * 1024 + 1 * d.1 = _; omega

/-- Two tiles of one expert read the same weights. -/
theorem block1_same (t t' : Fin (cfgA (F := F) T hT).N) (h : expert T t.val (pt_lt T hT t) = expert T t'.val (pt_lt T hT t')) :
    (iblk T hT m c (1 : Fin 5) t : S1x1x1024x256.Idx → Elt F .f32) = iblk T hT m c (1 : Fin 5) t' := by
  funext y
  have hx : expert T t.val (pt_lt T hT t) < 32 := hT.ex _
  have ey : y = ix4 (0 : Fin 1) (0 : Fin 1) (y 2) (y 3) := by
    funext a
    match a with
    | ⟨0, _⟩ => exact Fin.ext (Nat.lt_one_iff.1 (y 0).isLt)
    | ⟨1, _⟩ => exact Fin.ext (Nat.lt_one_iff.1 (y 1).isLt)
    | ⟨2, _⟩ => rfl
    | ⟨3, _⟩ => rfl
  rw [ey]
  exact (block1 T hT m c t _ _ ⟨_, hx⟩ rfl).trans (block1 T hT m c t' _ _ ⟨_, hx⟩ h).symm
theorem block2_same (t t' : Fin (cfgA (F := F) T hT).N) (h : expert T t.val (pt_lt T hT t) = expert T t'.val (pt_lt T hT t')) :
    (iblk T hT m c (2 : Fin 5) t : S1x1x1024x256.Idx → Elt F .f32) = iblk T hT m c (2 : Fin 5) t' := by
  funext y
  have hx : expert T t.val (pt_lt T hT t) < 32 := hT.ex _
  have ey : y = ix4 (0 : Fin 1) (0 : Fin 1) (y 2) (y 3) := by
    funext a
    match a with
    | ⟨0, _⟩ => exact Fin.ext (Nat.lt_one_iff.1 (y 0).isLt)
    | ⟨1, _⟩ => exact Fin.ext (Nat.lt_one_iff.1 (y 1).isLt)
    | ⟨2, _⟩ => rfl
    | ⟨3, _⟩ => rfl
  rw [ey]
  exact (block2 T hT m c t _ _ ⟨_, hx⟩ rfl).trans (block2 T hT m c t' _ _ ⟨_, hx⟩ h).symm
theorem block3_same (t t' : Fin (cfgA (F := F) T hT).N) (h : expert T t.val (pt_lt T hT t) = expert T t'.val (pt_lt T hT t')) :
    (iblk T hT m c (3 : Fin 5) t : S1x1x256x1024.Idx → Elt F .f32) = iblk T hT m c (3 : Fin 5) t' := by
  funext y
  have hx : expert T t.val (pt_lt T hT t) < 32 := hT.ex _
  have ey : y = ix4 (0 : Fin 1) (0 : Fin 1) (y 2) (y 3) := by
    funext a
    match a with
    | ⟨0, _⟩ => exact Fin.ext (Nat.lt_one_iff.1 (y 0).isLt)
    | ⟨1, _⟩ => exact Fin.ext (Nat.lt_one_iff.1 (y 1).isLt)
    | ⟨2, _⟩ => rfl
    | ⟨3, _⟩ => rfl
  rw [ey]
  exact (block3 T hT m c t _ _ ⟨_, hx⟩ rfl).trans (block3 T hT m c t' _ _ ⟨_, hx⟩ h).symm

/-! ## What the body leaves, point by point -/

/-- The last point that computed a tile, up to a given one. -/
def lastPt (n : ℕ) : Fin (cfgA (F := F) T hT).N := ⟨min (last T n) 79, show min (last T n) 79 < 80 by omega⟩

/-- The expert's weights in the scratch buffers after point `n`. -/
def G (n : ℕ) : S1024x512.Idx → Elt F .bf16 := gu (iblk T hT m c (1 : Fin 5) (lastPt T hT n)) (iblk T hT m c (2 : Fin 5) (lastPt T hT n))
def D (n : ℕ) : S256x1024.Idx → Elt F .bf16 := dn (iblk T hT m c (3 : Fin 5) (lastPt T hT n))
/-- The tile in the output's staging buffer after point `n`. -/
@[irreducible] def O (n : ℕ) : S64x4x8x256.Idx → Elt F .bf16 := tile (iblk T hT m c (0 : Fin 5) (lastPt T hT n)) (G T hT m c n) (D T hT m c n)

theorem lastPt_of_lt (t : Fin (cfgA (F := F) T hT).N) (h : t.val < used T) : lastPt T hT t.val = t := by
  have := pt_lt T hT t
  apply Fin.ext
  show min (min t.val (used T - 1)) 79 = t.val
  omega

theorem lastPt_past (n : ℕ) (h : used T ≤ n) (h0 : n ≠ 0) : lastPt (F := F) T hT n = lastPt T hT (n - 1) := by
  have := hT.pos
  apply Fin.ext
  show min (min n (used T - 1)) 79 = min (min (n - 1) (used T - 1)) 79
  have : 0 < used T := hT.pos
  omega

theorem G_past (n : ℕ) (h : used T ≤ n) (h0 : n ≠ 0) : G T hT m c n = G T hT m c (n - 1) := by unfold G; rw [lastPt_past T hT n h h0]
theorem D_past (n : ℕ) (h : used T ≤ n) (h0 : n ≠ 0) : D T hT m c n = D T hT m c (n - 1) := by unfold D; rw [lastPt_past T hT n h h0]
theorem O_past (n : ℕ) (h : used T ≤ n) (h0 : n ≠ 0) : O T hT m c n = O T hT m c (n - 1) := by
  unfold O; rw [G_past T hT m c n h h0, D_past T hT m c n h h0, lastPt_past T hT n h h0]

theorem expert_step (t : Fin (cfgA (F := F) T hT).N) (h : t.val < used T) (h0 : t.val ≠ 0)
    (e : word T 0 ⟨t.val, by have := pt_lt T hT t; omega⟩ = word T 0 ⟨t.val - 1, by have := pt_lt T hT t; omega⟩) :
    expert T (lastPt (F := F) T hT t.val).val (pt_lt T hT _) = expert T (lastPt (F := F) T hT (t.val - 1)).val (pt_lt T hT _) := by
  have ht := pt_lt T hT t
  have e1 : (lastPt (F := F) T hT t.val).val = t.val := by show min (min t.val (used T - 1)) 79 = _; omega
  have e2 : (lastPt (F := F) T hT (t.val - 1)).val = t.val - 1 := by show min (min (t.val - 1) (used T - 1)) 79 = _; omega
  unfold expert
  simp only [e1, e2]
  rw [e]

theorem G_step (t : Fin (cfgA (F := F) T hT).N) (h : t.val < used T) (h0 : t.val ≠ 0)
    (e : word T 0 ⟨t.val, by have := pt_lt T hT t; omega⟩ = word T 0 ⟨t.val - 1, by have := pt_lt T hT t; omega⟩) :
    G T hT m c t.val = G T hT m c (t.val - 1) := by
  unfold G
  exact congrArg₂ gu (block1_same T hT m c _ _ (expert_step T hT t h h0 e)) (block2_same T hT m c _ _ (expert_step T hT t h h0 e))
theorem D_step (t : Fin (cfgA (F := F) T hT).N) (h : t.val < used T) (h0 : t.val ≠ 0)
    (e : word T 0 ⟨t.val, by have := pt_lt T hT t; omega⟩ = word T 0 ⟨t.val - 1, by have := pt_lt T hT t; omega⟩) :
    D T hT m c t.val = D T hT m c (t.val - 1) := by
  unfold D
  exact congrArg dn (block3_same T hT m c _ _ (expert_step T hT t h h0 e))

end Cert.ExpertsIdeal.Gen

end
-- ==== Proof.ExpertsFrame.lean ====
/-
  The experts program's run, at any plan with expert numbers in range and a tile in use: it terminates, leaves its
  arguments unchanged and the result array at the tiles its body computes.
-/
module

public import proofs.«01_k».proof.Proof.ExpertsBlocks

@[expose] public section

set_option maxRecDepth 16384
set_option Elab.async false

noncomputable section

namespace Cert.ExpertsIdeal.Gen

open Cert.ExpertsIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds library's side of the resources. -/
abbrev EP : Emb (UR sig nD τ) (MT nD τ sig Unit (Elt F) ℕ (UR sig nD τ) ℕ) := emb₁

variable (T : S8x128.Idx → BitVec 32) (hT : PlanOK T) (m : (ℓ : Loc nD τ sig) → Buf (Elt F) ℓ) (ρ : Dev nD → PrngReg)

/-- The scratch buffers before point `n`: the weights the point before left, anything before the first; the body's half
    of the plan. -/
def Phi (c : Dev nD) (n : ℕ) : sProp 𝕄 :=
  iprop((∃ a, ⌜n ≠ 0 → a = G T hT m c (n - 1)⌝ ∗ (scM0_0.view.loc (c : Thread nD τ) ↦{fullShare} a))
    ∗ (∃ a, ⌜n ≠ 0 → a = D T hT m c (n - 1)⌝ ∗ (scM0_1.view.loc (c : Thread nD τ) ↦{fullShare} a))
    ∗ (tbM0_0.view.loc (c : Thread nD τ) ↦{fullShare.right} T))

/-- The pipeline's proof data on a core. -/
def dats (_ : Fin 1) (c : Dev nD) : Dat τ (Elt F) Unit ℕ (UR sig nD τ) ℕ (cfgA (F := F) T hT) c where
  A w := V m c (Pipeline.arrRef spec0 w)
  after w t := match w with
    | ⟨0, _⟩ => iblk T hT m c (0 : Fin 5) t
    | ⟨1, _⟩ => iblk T hT m c (1 : Fin 5) t
    | ⟨2, _⟩ => iblk T hT m c (2 : Fin 5) t
    | ⟨3, _⟩ => iblk T hT m c (3 : Fin 5) t
    | ⟨4, _⟩ => O T hT m c t.val
  Φ t := Phi T hT m c t.val
  q _ := fullShare
  owed _ := 0

theorem after0_0 (c : Dev nD) (t : Fin (cfgA (F := F) T hT).N) : (dats T hT m 0 c).after (0 : Fin 5) t = iblk T hT m c (0 : Fin 5) t := rfl
theorem after0_1 (c : Dev nD) (t : Fin (cfgA (F := F) T hT).N) : (dats T hT m 0 c).after (1 : Fin 5) t = iblk T hT m c (1 : Fin 5) t := rfl
theorem after0_2 (c : Dev nD) (t : Fin (cfgA (F := F) T hT).N) : (dats T hT m 0 c).after (2 : Fin 5) t = iblk T hT m c (2 : Fin 5) t := rfl
theorem after0_3 (c : Dev nD) (t : Fin (cfgA (F := F) T hT).N) : (dats T hT m 0 c).after (3 : Fin 5) t = iblk T hT m c (3 : Fin 5) t := rfl
theorem after0_4 (c : Dev nD) (t : Fin (cfgA (F := F) T hT).N) : (dats T hT m 0 c).after (4 : Fin 5) t = O T hT m c t.val := rfl

/-- Input window 0 holds its block when the body runs. -/
theorem before0_0 (c : Dev nD) (t : Fin (cfgA (F := F) T hT).N) (d) : (dats T hT m 0 c).before (0 : Fin 5) t d = iblk T hT m c (0 : Fin 5) t :=
  ((dats T hT m 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block when the body runs. -/
theorem before0_1 (c : Dev nD) (t : Fin (cfgA (F := F) T hT).N) (d) : (dats T hT m 0 c).before (1 : Fin 5) t d = iblk T hT m c (1 : Fin 5) t :=
  ((dats T hT m 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block when the body runs. -/
theorem before0_2 (c : Dev nD) (t : Fin (cfgA (F := F) T hT).N) (d) : (dats T hT m 0 c).before (2 : Fin 5) t d = iblk T hT m c (2 : Fin 5) t :=
  ((dats T hT m 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block when the body runs. -/
theorem before0_3 (c : Dev nD) (t : Fin (cfgA (F := F) T hT).N) (d) : (dats T hT m 0 c).before (3 : Fin 5) t d = iblk T hT m c (3 : Fin 5) t :=
  ((dats T hT m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Past the tiles in use the output's staging buffer keeps what it holds. -/
theorem hcarry0_4 (c : Dev nD) : ∀ (t : Fin (cfgA (F := F) T hT).N) (ht : t.val ≠ 0), (cfgA (F := F) T hT).idle (4 : Fin 5) ((cfgA (F := F) T hT).grid.coords t) = true → (cfgA (F := F) T hT).fresh (4 : Fin 5) t.val = false →
    (dats T hT m 0 c).after (4 : Fin 5) t = (dats T hT m 0 c).after (4 : Fin 5) ⟨t.val - 1, by omega⟩ := by
  intro t ht hi _
  rw [idle_eq] at hi
  have h : used T ≤ t.val := by simpa using hi
  rw [after0_4, after0_4]
  exact O_past T hT m c t.val h ht

/-- What the output's staging buffer holds when the body runs. -/
theorem before0_4 (c : Dev nD) (t : Fin (cfgA (F := F) T hT).N) (d) :
    (dats T hT m 0 c).before (4 : Fin 5) t d = if t.val < used T then d else O T hT m c (t.val - 1) := by
  rw [(dats T hT m 0 c).before_out_traj (4 : Fin 5) rfl (fun _ _ => rfl) (hcarry0_4 T hT m c) t.val t rfl d]
  have hp : 0 < used T := hT.pos
  by_cases h : t.val < used T
  · have hf := (fresh_eq T hT t).trans (decide_eq_true h)
    simp only [hf, h, if_true]
  · have hf := (fresh_eq T hT t).trans (decide_eq_false h)
    simp only [hf, h, Bool.false_eq_true, if_false, after0_4]

/-- The body at a point on its staging buffers. -/
abbrev bodyAt0 (t : Fin (cfgA (F := F) T hT).N) : Prog (TpuEff nD τ sig (Elt F) Λ₀ .tc) PUnit :=
  cc0_moe_experts (crd T hT t) (Memref.whole main_arg0) (Memref.isWhole_whole _) (ms0_0 T hT t) (hs0_0 T hT t) (ms0_1 T hT t) (hs0_1 T hT t) (ms0_2 T hT t) (hs0_2 T hT t) (ms0_3 T hT t) (hs0_3 T hT t) (ms0_4 T hT t) (hs0_4 T hT t) (Memref.whole cc0_scratch0) (Memref.isWhole_whole _) (Memref.whole cc0_scratch1) (Memref.isWhole_whole _)

set_option maxHeartbeats 4000000 in
/-- The body's obligation at a point, by whether it stores the weights and whether it computes the tile. -/
theorem sound_body (c : Dev nD) (t : Fin (cfgA (F := F) T hT).N) :
    iprop((dats T hT m 0 c).Φ t.castSucc ∗ (dats T hT m 0 c).owesAt () t.castSucc
        ∗ (∃ d, owns (c : Thread nD τ) (ms0_0 T hT t) fullShare ((dats T hT m 0 c).before (0 : Fin 5) t d))
        ∗ (∃ d, owns (c : Thread nD τ) (ms0_1 T hT t) fullShare ((dats T hT m 0 c).before (1 : Fin 5) t d))
        ∗ (∃ d, owns (c : Thread nD τ) (ms0_2 T hT t) fullShare ((dats T hT m 0 c).before (2 : Fin 5) t d))
        ∗ (∃ d, owns (c : Thread nD τ) (ms0_3 T hT t) fullShare ((dats T hT m 0 c).before (3 : Fin 5) t d))
        ∗ (∃ d, owns (c : Thread nD τ) (ms0_4 T hT t) fullShare ((dats T hT m 0 c).before (4 : Fin 5) t d)))
      ⊢ wp frame (wpE (defs₀ (F := F)) Variants.none c none) Set.univ (bodyAt0 T hT t) fun _ =>
          iprop((dats T hT m 0 c).Φ t.succ ∗ (dats T hT m 0 c).owesAt () t.succ
            ∗ bigSep Finset.univ fun w : Fin (cfgA (F := F) T hT).W =>
                match (cfgA (F := F) T hT).idle w ((cfgA (F := F) T hT).grid.coords t) with
                | true =>
                  match ((cfgA (F := F) T hT).win w).flush t with
                  | false => iprop(∃ d, owns (c : Thread nD τ) (((cfgA (F := F) T hT).win w).stage ((cfgA (F := F) T hT).slots t w)) fullShare ((dats T hT m 0 c).before w t d))
                  | true => owns (c : Thread nD τ) (((cfgA (F := F) T hT).win w).stage ((cfgA (F := F) T hT).slots t w)) fullShare ((dats T hT m 0 c).after w t)
                | false => owns (c : Thread nD τ) (((cfgA (F := F) T hT).win w).stage ((cfgA (F := F) T hT).slots t w)) fullShare ((dats T hT m 0 c).after w t)) := by
  rw [bigSep_W0]
  have hlt := pt_lt T hT t
  have hs := storeAt_iff (F := F) T hT (crd T hT t)
  have hcp := computeAt_iff (F := F) T hT (crd T hT t)
  have hcv := crd_val T hT t
  have i4 := idle_eq T hT t
  have eΦ : (dats T hT m 0 c).Φ t.succ = Phi T hT m c (t.val + 1) := rfl
  have eΦ' : (dats T hT m 0 c).Φ t.castSucc = Phi T hT m c t.val := rfl
  have eo : (dats T hT m 0 c).owesAt () t.succ = (dats T hT m 0 c).owesAt () t.castSucc := rfl
  rewrite [eΦ, eΦ', eo]
  clear eΦ eΦ' eo
  by_cases q0 : StoreAt (F := F) T (crd T hT t)
  · have h : t.val < used T := hcv ▸ (hs.1 q0).1
    have q1 : ComputeAt (F := F) T (crd T hT t) := hcp.2 (hcv.symm ▸ h)
    have el := lastPt_of_lt T hT t h
    rewrite [i4, decide_eq_true h]
    simp only [Bool.not_true]
    simp only [before0_0, before0_1, before0_2, before0_3, before0_4, after0_0, after0_1, after0_2, after0_3, after0_4, h, if_true, if_false]
    unfold Phi
    iintro ⟨⟨⟨%a0, %ha0, HS0⟩, ⟨%a1, %ha1, HS1⟩, HT0⟩, Ho, ⟨%d0, H0⟩, ⟨%d1, H1⟩, ⟨%d2, H2⟩, ⟨%d3, H3⟩, ⟨%d4, H4⟩⟩
    iapply ((kernelRun0_A c (crd T hT t) (ms0_0 T hT t) (hs0_0 T hT t) (ms0_1 T hT t) (hs0_1 T hT t) (ms0_2 T hT t) (hs0_2 T hT t) (ms0_3 T hT t) (hs0_3 T hT t) (ms0_4 T hT t) (hs0_4 T hT t) T (iblk T hT m c (0 : Fin 5) t) (iblk T hT m c (1 : Fin 5) t) (iblk T hT m c (2 : Fin 5) t) (iblk T hT m c (3 : Fin 5) t) q0 q1).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [HS0]; · iexact HS0
    isplitl [HS1]; · iexact HS1
    iintro ⟨H0, H1, H2, H3, HT0, ⟨%e4, H4⟩, HS0, HS1⟩
    isplitl [HS0 HS1 HT0]
    · isplitl [HS0]
      · iexists _; isplitr; swap
        · iexact HS0
        · ipureintro; intro _; exact (storeA_scratch0 c _ _ _ _ _ _ _ _ _ _ _ _ _ _ _ _ _ _).trans (by show _ = G T hT m c t.val; unfold G; rw [el])
      isplitl [HS1]
      · iexists _; isplitr; swap
        · iexact HS1
        · ipureintro; intro _; exact (storeA_scratch1 c _ _ _ _ _ _ _ _ _ _ _ _ _ _ _ _ _ _).trans (by show _ = D T hT m c t.val; unfold D; rw [el])
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      refine (View.read_writes_of_cover _ _ VO0_4 VO0_4.junk _ (cover0_A_4 c _ _ _ _ _ _ _ _ _ _ _ _ _ _ _ _ _ _)).trans ?_
      rw [storeA_pieces]
      unfold O G D; rw [el]; rfl
  · by_cases q1 : ComputeAt (F := F) T (crd T hT t)
    · have h : t.val < used T := hcv ▸ hcp.1 q1
      have h0 : t.val ≠ 0 := fun e => q0 (hs.2 ⟨hcv.symm ▸ h, .inl (hcv.trans e)⟩)
      have hw : word T 0 ⟨t.val, by omega⟩ = word T 0 ⟨t.val - 1, by omega⟩ := by
        by_contra hne
        refine q0 (hs.2 ⟨hcv.symm ▸ h, .inr ?_⟩)
        simp only [hcv]
        exact hne
      have el := lastPt_of_lt T hT t h
      have eG := G_step T hT m c t h h0 hw
      have eD := D_step T hT m c t h h0 hw
      rewrite [i4, decide_eq_true h]
      simp only [Bool.not_true]
      simp only [before0_0, before0_1, before0_2, before0_3, before0_4, after0_0, after0_1, after0_2, after0_3, after0_4, h, if_true, if_false]
      unfold Phi
      iintro ⟨⟨⟨%a0, %ha0, HS0⟩, ⟨%a1, %ha1, HS1⟩, HT0⟩, Ho, ⟨%d0, H0⟩, ⟨%d1, H1⟩, ⟨%d2, H2⟩, ⟨%d3, H3⟩, ⟨%d4, H4⟩⟩
      obtain rfl := ha0 h0
      obtain rfl := ha1 h0
      iapply ((kernelRun0_B c (crd T hT t) (ms0_0 T hT t) (hs0_0 T hT t) (ms0_1 T hT t) (hs0_1 T hT t) (ms0_2 T hT t) (hs0_2 T hT t) (ms0_3 T hT t) (hs0_3 T hT t) (ms0_4 T hT t) (hs0_4 T hT t) T (iblk T hT m c (0 : Fin 5) t) (iblk T hT m c (1 : Fin 5) t) (iblk T hT m c (2 : Fin 5) t) (iblk T hT m c (3 : Fin 5) t) (G T hT m c (t.val - 1)) (D T hT m c (t.val - 1)) q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexists _; iexact H4
      isplitl [HS0]; · iexact HS0
      isplitl [HS1]; · iexact HS1
      iintro ⟨H0, H1, H2, H3, HT0, ⟨%e4, H4⟩, HS0, HS1⟩
      isplitl [HS0 HS1 HT0]
      · isplitl [HS0]
        · iexists _; isplitr; swap
          · iexact HS0
          · ipureintro; intro _; exact (storeB_scratch0 c _ _ _ _ _ _ _ _ _ _ _ _ _ _ _ _ _ _ _ _).trans eG.symm
        isplitl [HS1]
        · iexists _; isplitr; swap
          · iexact HS1
          · ipureintro; intro _; exact (storeB_scratch1 c _ _ _ _ _ _ _ _ _ _ _ _ _ _ _ _ _ _ _ _).trans eD.symm
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        refine (View.read_writes_of_cover _ _ VO0_4 VO0_4.junk _ (cover0_B_4 c _ _ _ _ _ _ _ _ _ _ _ _ _ _ _ _ _ _ _ _)).trans ?_
        rw [storeB_pieces, ← eG, ← eD]
        unfold O; rw [el]; rfl
    · have h : ¬t.val < used T := fun h => q1 (hcp.2 (hcv.symm ▸ h))
      have hp : 0 < used T := hT.pos
      have h0 : t.val ≠ 0 := by omega
      have eO := O_past T hT m c t.val (by omega) h0
      have eG := G_past T hT m c t.val (by omega) h0
      have eD := D_past T hT m c t.val (by omega) h0
      rewrite [i4, decide_eq_false h]
      simp only [Bool.not_false]
      simp only [before0_0, before0_1, before0_2, before0_3, before0_4, after0_0, after0_1, after0_2, after0_3, after0_4, h, if_true, if_false]
      unfold Phi
      iintro ⟨⟨⟨%a0, %ha0, HS0⟩, ⟨%a1, %ha1, HS1⟩, HT0⟩, Ho, ⟨%d0, H0⟩, ⟨%d1, H1⟩, ⟨%d2, H2⟩, ⟨%d3, H3⟩, ⟨%d4, H4⟩⟩
      obtain rfl := ha0 h0
      obtain rfl := ha1 h0
      iapply ((kernelRun0_C c (crd T hT t) (ms0_0 T hT t) (hs0_0 T hT t) (ms0_1 T hT t) (hs0_1 T hT t) (ms0_2 T hT t) (hs0_2 T hT t) (ms0_3 T hT t) (hs0_3 T hT t) (ms0_4 T hT t) (hs0_4 T hT t) T (iblk T hT m c (0 : Fin 5) t) (iblk T hT m c (1 : Fin 5) t) (iblk T hT m c (2 : Fin 5) t) (iblk T hT m c (3 : Fin 5) t) (G T hT m c (t.val - 1)) (D T hT m c (t.val - 1)) q0 q1).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexact H4
      isplitl [HS0]; · iexact HS0
      isplitl [HS1]; · iexact HS1
      iintro ⟨H0, H1, H2, H3, HT0, H4, HS0, HS1⟩
      isplitl [HS0 HS1 HT0]
      · isplitl [HS0]
        · iexists _; isplitr; swap
          · iexact HS0
          · ipureintro; intro _; exact (storeC_scratch0 c _ _ _ _ _ _ _ _ _ _ _ _ _ _ _ _ _ _ _ _).trans eG.symm
        isplitl [HS1]
        · iexists _; isplitr; swap
          · iexact HS1
          · ipureintro; intro _; exact (storeC_scratch1 c _ _ _ _ _ _ _ _ _ _ _ _ _ _ _ _ _ _ _ _).trans eD.symm
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      cases ((cfgA (F := F) T hT).win (4 : Fin 5)).flush t with
      | false => iexists d4; iexact H4
      | true => rw [eO]; iexact H4

/-- The body's obligation, at every point. -/
theorem body_obligation (c : Dev nD) : BodyObligation (dats T hT m 0 c) (defs₀ (F := F)) Variants.none () Set.univ := fun t => by
  rw [bigSep_W0]
  exact sound_body T hT m c t

/-! ## The launch -/

/-- The rounds library's launch element. -/
def u₀ : UR sig nD τ :=
  initOf (Pipeline.cells (pcs (F := F) T hT) ((launch0 (F := F)).cellOf_inj fun _ => adm T hT))
    (Pipeline.launchToks (pcs (F := F) T hT) ((launch0 (F := F)).cellOf_inj fun _ => adm T hT))

theorem share_eq (c : Dev nD) (w : Fin (cfgA (F := F) T hT).W) : (dats T hT m 0 c).share w = fullShare := by unfold Dat.share; split <;> rfl

/-- The plan as the launch hands it to the pipeline. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant before the first point, -/
theorem phi0_intro (c : Dev nD) :
    iprop(BI.emp ∗ Pipeline.prefHeld pre0 c (fun _ => fullShare.right) (adm (F := F) T hT).1 ∗ Pipeline.scopedRest spec0 c) ⊢ (dats T hT m 0 c).Φ 0 := by
  rw [prefHeld_eq, scopedRest0_eq, show (dats T hT m 0 c).Φ 0 = Phi T hT m c 0 from rfl]
  unfold Phi
  iintro ⟨-, ⟨HT0⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  iexact HT0

/-- and what it gives back after the last. -/
theorem phiN_exit (c : Dev nD) : (dats T hT m 0 c).Φ (Fin.last (cfgA (F := F) T hT).N) ⊢ iprop(BI.emp ∗ Pipeline.scopedRest spec0 c) := by
  rw [scopedRest0_eq, show (dats T hT m 0 c).Φ (Fin.last (cfgA (F := F) T hT).N) = Phi T hT m c (Fin.last (cfgA (F := F) T hT).N).val from rfl]
  unfold Phi
  iintro ⟨⟨%a0, -, HS0⟩, ⟨%a1, -, HS1⟩, -⟩
  isplitr; · iempintro
  isplitl [HS0]
  · iexists a0; iexact HS0
  iexists a1; iexact HS1

/-- At the end every array is at what the pipeline computes, and the plan unchanged. -/
def QC : PUnit × MemSt nD τ sig (Elt F) → Prop := fun r =>
  ∀ c : Dev nD, (∀ w : Fin (cfgA (F := F) T hT).W, r.2.mem (((cfgA (F := F) T hT).win w).arr.view.loc (c : Thread nD τ)) = (dats T hT m 0 c).arrAt w (cfgA (F := F) T hT).N)
    ∧ ∀ j, r.2.mem ((c : Thread nD τ).loc (pre0.ref j)) = (adm (F := F) T hT).1 j

/-- The launched plan. -/
abbrev Pinned : Prop := ∀ c : Dev nD, m ((c : Thread nD τ).loc main_arg0) = T

theorem V_pre (hp : Pinned T m) (c : Dev nD) (j : Fin 1) : V m c (pre0.ref j) = (adm (F := F) T hT).1 j := by
  fin_cases j
  · exact (V_main_arg0 m c).trans (hp c)

set_option backward.isDefEq.respectTransparency.types false in
set_option maxHeartbeats 4000000 in
/-- Every fair execution ends, with the arrays as computed and every counter at zero. -/
theorem run_main_quiescent (hp : Pinned T m) : θ_run (defs (F := F)) (onTc (τ := τ) (main (F := F))) (s₀ m ρ) (fun r => QC T hT m r ∧ r.2.sem = fun _ => 0) :=
  Pipeline.θ_run_region_noSem_pf_quiescent pcfgs (fun _ => adm T hT) (dats T hT m) () ((launch0 (F := F)).cellOf_inj fun _ => adm T hT) (0 : Fin 1)
    (launch0 (F := F)).win.to₀ (launch0 (F := F)).pre EP defs₀ Variants.none m ρ main
    (hbody := fun c => (body_obligation T hT m c).loose) (hne := (launch0 (F := F)).block_pos)
    (harr := (launch0 (F := F)).arr_whole) (hstage := (launch0 (F := F)).stage_whole) (howed := fun _ _ => rfl)
    (u₀ := u₀ (F := F) T hT) (hu₀ := .rfl)
    (V := V m)
    (hmain := hmain m)
    (hsplit := fun c => Pipeline.arrays_split (pcs (F := F) T hT) (dats T hT m) 0 (launch0 (F := F)).win.arr_inj c (launch0 (F := F)).arr_whole
      (share_eq T hT m c) _ _ fun _ => rfl)
    (hpf := V_pre T hT m hp)
    (X := fun _ => iprop(emp)) (Y := fun _ => iprop(emp)) (Z := fun _ => iprop(emp))
    (hX := fun c => by rw [unscopedRestP0_eq]; iintro -; isplitr <;> iempintro)
    (hin := phi0_intro T hT m)
    (hout := phiN_exit T hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same run, saying of the arguments that they are unchanged and of the result what it holds. -/
theorem run_main (hp : Pinned T m) :
    θ_run (defs (F := F)) (onTc (τ := τ) (main (F := F))) ⟨m, fun _ => 0, ρ⟩ (fun r => (∀ c : Dev nD,
      r.2.mem ((c.tc : Thread nD τ).loc main_v0) = (dats T hT m 0 c).arrAt (4 : Fin 5) (cfgA (F := F) T hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (4 : Fin 5), ((h.1 c).2 0).trans (hp c).symm,
    ((h.1 c).1 (0 : Fin 5)).trans (((dats T hT m 0 c).arrAt_in (0 : Fin 5) rfl _).trans (V_main_arg1 m c)),
    ((h.1 c).1 (1 : Fin 5)).trans (((dats T hT m 0 c).arrAt_in (1 : Fin 5) rfl _).trans (V_main_arg2 m c)),
    ((h.1 c).1 (2 : Fin 5)).trans (((dats T hT m 0 c).arrAt_in (2 : Fin 5) rfl _).trans (V_main_arg3 m c)),
    ((h.1 c).1 (3 : Fin 5)).trans (((dats T hT m 0 c).arrAt_in (3 : Fin 5) rfl _).trans (V_main_arg4 m c))⟩, h.2⟩) (run_main_quiescent T hT m ρ hp)

end Cert.ExpertsIdeal.Gen

end
-- ==== Proof.ExpertsArray.lean ====
/-
  What the experts' result array holds after the run: every row of a block in use is the row after the block's expert, and
  every row past the blocks in use is the row the program was given.
-/
module

public import proofs.«01_k».proof.Proof.ExpertsValue
public import proofs.«01_k».proof.Proof.ExpertsFrame

@[expose] public section

set_option maxRecDepth 16384

noncomputable section

namespace Cert.ExpertsArray

open Cert.ExpertsIdeal Cert.ExpertsIdeal.Gen Idealize.ShloMosaic Idealize.ShloMosaic.Pointwise Idealize.ShloMosaic.TcCoe

variable (T : S8x128.Idx → BitVec 32) (hT : PlanOK T)
variable (m : (ℓ : Loc nD τ sig) → Buf (Elt Ideal) ℓ) (c : Dev nD)

/-- The expert of the block a row lies in. -/
abbrev expertOf (R : Fin 5120) : Fin 32 := ⟨expert T (R.1 / 64) (by omega), hT.ex _⟩

/-- Lane group `q`, lane `l` of a row after its block's expert. -/
def lane (xs : S5120x4x8x256.Idx → EReal) (wg wu : S2x32x1024x256.Idx → EReal) (wd : S2x32x256x1024.Idx → EReal)
    (R : Fin 5120) (q : Fin 4) (s : Fin 8) (l : Fin 256) : EReal :=
  Cert.ExpertsValue.row (fun d => xs (ix4 R (⟨d.1 / 256, by omega⟩ : Fin 4) s (⟨d.1 % 256, by omega⟩ : Fin 256)))
    (fun d h => wg (ix4 1 (expertOf T hT R) d h)) (fun d h => wu (ix4 1 (expertOf T hT R) d h))
    (fun h d => wd (ix4 1 (expertOf T hT R) h d)) ⟨256 * q.1 + l.1, by omega⟩

/-- The array with every row after its block's expert. -/
def full : S5120x4x8x256.Idx → EReal := fun y =>
  lane T hT (m ((c : Thread nD τ).loc main_arg1)) (m ((c : Thread nD τ).loc main_arg2)) (m ((c : Thread nD τ).loc main_arg3))
    (m ((c : Thread nD τ).loc main_arg4)) (y 0) (y 1) (y 2) (y 3)

theorem lastPt_val (t : Fin (cfgA (F := Ideal) T hT).N) : (lastPt (F := Ideal) T hT t.val).val = last T t.val := by
  have := pt_lt T hT t
  show min (min t.val (used T - 1)) 79 = min t.val (used T - 1)
  omega

theorem last_idem (t : ℕ) : last T (last T t) = last T t := by
  show min (min t (used T - 1)) (used T - 1) = min t (used T - 1)
  omega

/-- The tile a point leaves is the array's, on the point's block. -/
theorem left_apply (t : Fin (cfgA (F := Ideal) T hT).N) (r : Fin 64) (q : Fin 4) (s : Fin 8) (l : Fin 256) (R : Fin 5120)
    (hR : R.1 = last T t.val * 64 + r.1) :
    O (F := Ideal) T hT m c t.val (ix4 r q s l) = full T hT m c (ix4 R q s l) := by
  have e := lastPt_val T hT t
  have hR' : R.1 = last T (lastPt (F := Ideal) T hT t.val).val * 64 + r.1 := by rw [e, last_idem, hR]
  have hx : (expertOf T hT R).1 = expert T (lastPt (F := Ideal) T hT t.val).val (pt_lt T hT _) := by
    show (word T 0 _).toNat = (word T 0 _).toNat
    congr 2
    exact Fin.ext (show R.1 / 64 = (lastPt (F := Ideal) T hT t.val).val by rw [e]; omega)
  unfold O G D
  refine (Cert.ExpertsValue.tile_apply _ _ _ _ r q s l).trans ?_
  show _ = lane T hT _ _ _ _ R q s l
  unfold lane
  congr 1
  · funext d
    exact (block0 T hT m c _ r _ s _ R hR').trans (congrFun (V_main_arg1 m c) _)
  · funext d h
    exact (block1 T hT m c _ d h _ hx).trans (congrFun (V_main_arg2 m c) _)
  · funext d h
    exact (block2 T hT m c _ d h _ hx).trans (congrFun (V_main_arg3 m c) _)
  · funext h d
    exact (block3 T hT m c _ h d _ hx).trans (congrFun (V_main_arg4 m c) _)

/-- A place of a point's output block in the array. -/
theorem place_eq (t : Fin (cfgA (F := Ideal) T hT).N) (r : Fin 64) (q : Fin 4) (s : Fin 8) (l : Fin 256) (R : Fin 5120)
    (hR : R.1 = last T t.val * 64 + r.1) :
    (((cfgA (F := Ideal) T hT).win (4 : Fin 5)).blk t).view.emb (ix4 r q s l : S64x4x8x256.Idx) = (ix4 R q s l : S5120x4x8x256.Idx) := by
  funext a
  apply Fin.ext
  have e := ix4_eq (F := Ideal) T hT t
  match a with
  | ⟨0, _⟩ => show ix0 (pfN (F := Ideal) T) 4 (grid0.coords t) 0 * 64 + 1 * r.1 = R.1; rw [e, hR]; show last T t.val * 64 + 1 * r.1 = _; omega
  | ⟨1, _⟩ => show ix0 (pfN (F := Ideal) T) 4 (grid0.coords t) 1 * 4 + 1 * q.1 = q.1; rw [e]; show 0 * 4 + 1 * q.1 = _; omega
  | ⟨2, _⟩ => show ix0 (pfN (F := Ideal) T) 4 (grid0.coords t) 2 * 8 + 1 * s.1 = s.1; rw [e]; show 0 * 8 + 1 * s.1 = _; omega
  | ⟨3, _⟩ => show ix0 (pfN (F := Ideal) T) 4 (grid0.coords t) 3 * 256 + 1 * l.1 = l.1; rw [e]; show 0 * 256 + 1 * l.1 = _; omega

theorem last_lt (t : Fin (cfgA (F := Ideal) T hT).N) : last T t.val < 80 := by
  have := pt_lt T hT t
  show min t.val (used T - 1) < 80
  omega

/-- What a point leaves is the array read through the point's block. -/
theorem flushed_eq (t : Fin (cfgA (F := Ideal) T hT).N) :
    (dats (F := Ideal) T hT m 0 c).flushed (4 : Fin 5) t
      = (((cfgA (F := Ideal) T hT).win (4 : Fin 5)).blk t).view.read (Elt Ideal) (full T hT m c) := by
  have h1 : (dats (F := Ideal) T hT m 0 c).flushed (4 : Fin 5) t = O (F := Ideal) T hT m c t.val := by
    show ((cfgA (F := Ideal) T hT).win (4 : Fin 5)).cut (grid0.coords t) ((dats (F := Ideal) T hT m 0 c).after (4 : Fin 5) t) = _
    rw [after0_4]
    rfl
  rw [h1]
  funext y
  have ey : y = (ix4 (y 0 : Fin 64) (y 1 : Fin 4) (y 2 : Fin 8) (y 3 : Fin 256) : S64x4x8x256.Idx) := by
    funext a
    match a with
    | ⟨0, _⟩ => rfl
    | ⟨1, _⟩ => rfl
    | ⟨2, _⟩ => rfl
    | ⟨3, _⟩ => rfl
  have hl := last_lt T hT t
  have h0 : (y 0).val < 64 := (y 0).isLt
  rw [View.read_apply]
  rw [ey]
  refine (left_apply T hT m c t _ _ _ _ ⟨last T t.val * 64 + (y 0).val, by omega⟩ rfl).trans ?_
  exact congrArg (full T hT m c) (place_eq T hT t _ _ _ _ _ rfl).symm

/-- A row of a block in use. -/
theorem array_used (R : Fin 5120) (q : Fin 4) (s : Fin 8) (l : Fin 256) (h : R.1 / 64 < used T) :
    (dats (F := Ideal) T hT m 0 c).arrAt (4 : Fin 5) (cfgA (F := Ideal) T hT).N (ix4 R q s l : S5120x4x8x256.Idx) = full T hT m c (ix4 R q s l) := by
  obtain ⟨t, hf, hl⟩ : ∃ t : Fin (cfgA (F := Ideal) T hT).N, ((cfgA (F := Ideal) T hT).win (4 : Fin 5)).flush t = true ∧ last T t.val = R.1 / 64 := by
    by_cases hu : R.1 / 64 + 1 < used T
    · refine ⟨⟨R.1 / 64, show R.1 / 64 < 80 by omega⟩, ?_, ?_⟩
      · rw [flush_eq]
        show (decide (R.1 / 64 + 1 = 80) || decide (R.1 / 64 + 1 < used T)) = true
        rw [decide_eq_true hu, Bool.or_true]
      · show min (R.1 / 64) (used T - 1) = _; omega
    · refine ⟨⟨79, show 79 < 80 by omega⟩, ?_, ?_⟩
      · rw [flush_eq]; rfl
      · show min 79 (used T - 1) = _; omega
  have e := place_eq T hT t ⟨R.1 % 64, by omega⟩ q s l R (by rw [hl]; show R.1 = R.1 / 64 * 64 + R.1 % 64; omega)
  refine (dats (F := Ideal) T hT m 0 c).arrAt_apply_of_mem (4 : Fin 5) (full T hT m c) (fun t _ => flushed_eq T hT m c t) _ t _ t.isLt hf ?_
  rw [← e]
  exact View.emb_mem_set _ _

/-- The result's array starts as the rows given. -/
theorem V_main_v0 : V (F := Ideal) m c main_v0 = m ((c : Thread nD τ).loc main_arg1) := by
  rfl

/-- A row past the blocks in use. -/
theorem array_unused (R : Fin 5120) (q : Fin 4) (s : Fin 8) (l : Fin 256) (h : used T ≤ R.1 / 64) :
    (dats (F := Ideal) T hT m 0 c).arrAt (4 : Fin 5) (cfgA (F := Ideal) T hT).N (ix4 R q s l : S5120x4x8x256.Idx)
      = m ((c : Thread nD τ).loc main_arg1) (ix4 R q s l) := by
  refine ((dats (F := Ideal) T hT m 0 c).arrAt_apply_of_forall_not_mem (4 : Fin 5) _ _ fun t _ _ hi => ?_).trans ?_
  · obtain ⟨y, hy⟩ := View.exists_emb_of_mem_set _ hi
    have hp := hT.pos
    have ey : y = (ix4 (y 0 : Fin 64) (y 1 : Fin 4) (y 2 : Fin 8) (y 3 : Fin 256) : S64x4x8x256.Idx) := by
      funext a
      match a with
      | ⟨0, _⟩ => rfl
      | ⟨1, _⟩ => rfl
      | ⟨2, _⟩ => rfl
      | ⟨3, _⟩ => rfl
    have hl := last_lt T hT t
    have h0 : (y 0).val < 64 := (y 0).isLt
    rw [ey] at hy
    have hp' := (place_eq T hT t (y 0) (y 1) (y 2) (y 3) ⟨last T t.val * 64 + (y 0).val, by omega⟩ rfl).symm.trans hy
    have h3 : last T t.val * 64 + (y 0).val = R.1 := congrArg (fun z : S5120x4x8x256.Idx => (z 0).val) hp'
    have h4 : last T t.val ≤ used T - 1 := Nat.min_le_right _ _
    have h5 : 0 < used T := hp
    omega
  · exact congrFun (V_main_v0 m c) _

end Cert.ExpertsArray

end
-- ==== Proof.ExpertsReferenceFacts.lean ====
module

public import proofs.«01_k».proof.ExpertsReferenceIdeal
public import Idealize.ShloMosaic.Lib.Decide
public import Idealize.ShloMosaic.Lib.StableHlo.Run

@[expose] public section

namespace Cert.ExpertsReferenceIdeal.Gen

open Idealize.ShloMosaic Idealize.SL.Sem

/-! ## The reference's side conditions -/

theorem slices_S8x128_S1x80_0_0 : S8x128.Slices ![0, 0] S1x80 := by decide
theorem shapeCasts_S1x80_S80 : S1x80.ShapeCasts S80 := by decide
theorem bitsLt_bf16_f32 : FTy.bits .bf16 < FTy.bits .f32 := by decide
theorem transposes_S5120x4x8x256_S5120x8x4x256_0_2_1_3 : S5120x4x8x256.Transposes [0, 2, 1, 3] S5120x8x4x256 := by decide
theorem shapeCasts_S5120x8x4x256_S80x512x1024 : S5120x8x4x256.ShapeCasts S80x512x1024 := by decide
theorem slices_S2x32x1024x256_S1x32x1024x256_1_0_0_0 : S2x32x1024x256.Slices ![1, 0, 0, 0] S1x32x1024x256 := by decide
theorem shapeCasts_S1x32x1024x256_S32x1024x256 : S1x32x1024x256.ShapeCasts S32x1024x256 := by decide
theorem bcast_S_S80 : S_.BroadcastsInDim S80 (![] : Fin 0 → Fin S80.rank) := by decide
theorem bcast_S80_S80x1_0 : S80.BroadcastsInDim S80x1 (![0] : Fin 1 → Fin S80x1.rank) := by decide
theorem bcast_S_S80x512x256 : S_.BroadcastsInDim S80x512x256 (![] : Fin 0 → Fin S80x512x256.rank) := by decide
theorem slices_S2x32x256x1024_S1x32x256x1024_1_0_0_0 : S2x32x256x1024.Slices ![1, 0, 0, 0] S1x32x256x1024 := by decide
theorem shapeCasts_S1x32x256x1024_S32x256x1024 : S1x32x256x1024.ShapeCasts S32x256x1024 := by decide
theorem slices_S8x128_S1x1_1_0 : S8x128.Slices ![1, 0] S1x1 := by decide
theorem shapeCasts_S1x1_S_ : S1x1.ShapeCasts S_ := by decide
theorem bcast_S80_S80x1x1_0 : S80.BroadcastsInDim S80x1x1 (![0] : Fin 1 → Fin S80x1x1.rank) := by decide
theorem bcast_S80x1x1_S80x512x1024_0_1_2 : S80x1x1.BroadcastsInDim S80x512x1024 (![0, 1, 2] : Fin 3 → Fin S80x512x1024.rank) := by decide
theorem shapeCasts_S80x512x1024_S5120x8x4x256 : S80x512x1024.ShapeCasts S5120x8x4x256 := by decide
theorem transposes_S5120x8x4x256_S5120x4x8x256_0_2_1_3 : S5120x8x4x256.Transposes [0, 2, 1, 3] S5120x4x8x256 := by decide
theorem gather_S32x1024x256_S80x1_S80x1024x256_12_0_n_n_0_1_11024256_wf : GatherDims.WF S32x1024x256 S80x1 S80x1024x256 [1, 2] [0] [] [0] [] 1 ![1, 1024, 256] := by decide
theorem dot_S80x512x1024_S80x1024x256_S80x512x256_2_1_1_2_0_0_wf : DotDims.WF S80x512x1024 S80x1024x256 S80x512x256 [2] [1] [1] [2] [0] [0] := by decide
theorem gather_S32x256x1024_S80x1_S80x256x1024_12_0_n_n_0_1_12561024_wf : GatherDims.WF S32x256x1024 S80x1 S80x256x1024 [1, 2] [0] [] [0] [] 1 ![1, 256, 1024] := by decide
theorem dot_S80x512x256_S80x256x1024_S80x512x1024_2_1_1_2_0_0_wf : DotDims.WF S80x512x256 S80x256x1024 S80x512x1024 [2] [1] [1] [2] [0] [0] := by decide

/-- The side conditions over the shapes, proved. -/
instance facts₀ : Cert.ExpertsReferenceIdeal.Facts₀ where
  slices_S8x128_S1x80_0_0 := @slices_S8x128_S1x80_0_0
  shapeCasts_S1x80_S80 := @shapeCasts_S1x80_S80
  bitsLt_bf16_f32 := @bitsLt_bf16_f32
  transposes_S5120x4x8x256_S5120x8x4x256_0_2_1_3 := @transposes_S5120x4x8x256_S5120x8x4x256_0_2_1_3
  shapeCasts_S5120x8x4x256_S80x512x1024 := @shapeCasts_S5120x8x4x256_S80x512x1024
  slices_S2x32x1024x256_S1x32x1024x256_1_0_0_0 := @slices_S2x32x1024x256_S1x32x1024x256_1_0_0_0
  shapeCasts_S1x32x1024x256_S32x1024x256 := @shapeCasts_S1x32x1024x256_S32x1024x256
  bcast_S_S80 := @bcast_S_S80
  bcast_S80_S80x1_0 := @bcast_S80_S80x1_0
  bcast_S_S80x512x256 := @bcast_S_S80x512x256
  slices_S2x32x256x1024_S1x32x256x1024_1_0_0_0 := @slices_S2x32x256x1024_S1x32x256x1024_1_0_0_0
  shapeCasts_S1x32x256x1024_S32x256x1024 := @shapeCasts_S1x32x256x1024_S32x256x1024
  slices_S8x128_S1x1_1_0 := @slices_S8x128_S1x1_1_0
  shapeCasts_S1x1_S_ := @shapeCasts_S1x1_S_
  bcast_S80_S80x1x1_0 := @bcast_S80_S80x1x1_0
  bcast_S80x1x1_S80x512x1024_0_1_2 := @bcast_S80x1x1_S80x512x1024_0_1_2
  shapeCasts_S80x512x1024_S5120x8x4x256 := @shapeCasts_S80x512x1024_S5120x8x4x256
  transposes_S5120x8x4x256_S5120x4x8x256_0_2_1_3 := @transposes_S5120x8x4x256_S5120x4x8x256_0_2_1_3
  gather_S32x1024x256_S80x1_S80x1024x256_12_0_n_n_0_1_11024256_wf := @gather_S32x1024x256_S80x1_S80x1024x256_12_0_n_n_0_1_11024256_wf
  dot_S80x512x1024_S80x1024x256_S80x512x256_2_1_1_2_0_0_wf := @dot_S80x512x1024_S80x1024x256_S80x512x256_2_1_1_2_0_0_wf
  gather_S32x256x1024_S80x1_S80x256x1024_12_0_n_n_0_1_12561024_wf := @gather_S32x256x1024_S80x1_S80x256x1024_12_0_n_n_0_1_12561024_wf
  dot_S80x512x256_S80x256x1024_S80x512x1024_2_1_1_2_0_0_wf := @dot_S80x512x256_S80x256x1024_S80x512x1024_2_1_1_2_0_0_wf

/-- Every side condition of the reference, proved. -/
instance facts : Cert.ExpertsReferenceIdeal.Facts where

end Cert.ExpertsReferenceIdeal.Gen
-- ==== Proof.ExpertsReference.lean ====
/-
  The experts reference's run: its operations in order, and the array that it returns as a tower of them.
-/
module

public import proofs.«01_k».proof.Proof.ExpertsReferenceFacts
public import Idealize.ShloMosaic.Lib.StableHlo.Run

@[expose] public section

noncomputable section

namespace Cert.ExpertsReferenceIdeal.Value

open Cert.ExpertsReferenceIdeal Cert.ExpertsReferenceIdeal.Gen Idealize.ShloMosaic Idealize.ShloMosaic.TcCoe Idealize.SL.Sem Idealize.ShloMosaic.StableHlo

variable {F : FTy → Type} [FloatOps F]

/-- The reference's operations, in order, the bodies of its two calls in their places. -/
abbrev ops : List (HloOp τ sig (Elt F)) :=
  [ unary main_arg0 main_v0 ((extractStridedSlice S1x80 ![0, 0] · slices_S8x128_S1x80_0_0) : (⟨S8x128, .i32⟩ : BufTy).Contents (Elt F) → (⟨S1x80, .i32⟩ : BufTy).Contents (Elt F)),
    reshape main_v0 main_v1 (rfl : (.i32 : EltTy) = .i32) shapeCasts_S1x80_S80,
    unary main_arg1 main_v2 ((extf .f32 · bitsLt_bf16_f32) : (⟨S5120x4x8x256, .bf16⟩ : BufTy).Contents (Elt F) → (⟨S5120x4x8x256, .f32⟩ : BufTy).Contents (Elt F)),
    unary main_v2 main_v3 ((transpose S5120x8x4x256 [0, 2, 1, 3] · transposes_S5120x4x8x256_S5120x8x4x256_0_2_1_3) : (⟨S5120x4x8x256, .f32⟩ : BufTy).Contents (Elt F) → (⟨S5120x8x4x256, .f32⟩ : BufTy).Contents (Elt F)),
    reshape main_v3 main_v4 (rfl : (.f32 : EltTy) = .f32) shapeCasts_S5120x8x4x256_S80x512x1024,
    unary main_arg2 main_v5 ((extractStridedSlice S1x32x1024x256 ![1, 0, 0, 0] · slices_S2x32x1024x256_S1x32x1024x256_1_0_0_0) : (⟨S2x32x1024x256, .f32⟩ : BufTy).Contents (Elt F) → (⟨S1x32x1024x256, .f32⟩ : BufTy).Contents (Elt F)),
    reshape main_v5 main_v6 (rfl : (.f32 : EltTy) = .f32) shapeCasts_S1x32x1024x256_S32x1024x256,
    nullary main_c (constantI S_ 32 0#32),
    unary main_c main_v7 (broadcastInDim S80 ![] bcast_S_S80 : (⟨S_, .i32⟩ : BufTy).Contents (Elt F) → (⟨S80, .i32⟩ : BufTy).Contents (Elt F)),
    binary main_v1 main_v7 main_v8 (cmpi .slt : (⟨S80, .i32⟩ : BufTy).Contents (Elt F) → (⟨S80, .i32⟩ : BufTy).Contents (Elt F) → (⟨S80, .i1⟩ : BufTy).Contents (Elt F)),
    nullary main_c_0 (constantI S_ 32 32#32),
    unary main_c_0 main_v9 (broadcastInDim S80 ![] bcast_S_S80 : (⟨S_, .i32⟩ : BufTy).Contents (Elt F) → (⟨S80, .i32⟩ : BufTy).Contents (Elt F)),
    binary main_v1 main_v9 main_v10 (addi : (⟨S80, .i32⟩ : BufTy).Contents (Elt F) → (⟨S80, .i32⟩ : BufTy).Contents (Elt F) → (⟨S80, .i32⟩ : BufTy).Contents (Elt F)),
    ternary main_v8 main_v10 main_v1 main_v11 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    unary main_v11 main_v12 (broadcastInDim S80x1 ![0] bcast_S80_S80x1_0 : (⟨S80, .i32⟩ : BufTy).Contents (Elt F) → (⟨S80x1, .i32⟩ : BufTy).Contents (Elt F)),
    binary main_v6 main_v12 main_v13 ((fun x i => Host.gather gather_S32x1024x256_S80x1_S80x1024x256_12_0_n_n_0_1_11024256 x i) : (⟨S32x1024x256, .f32⟩ : BufTy).Contents (Elt F) → (⟨S80x1, .i32⟩ : BufTy).Contents (Elt F) → (⟨S80x1024x256, .f32⟩ : BufTy).Contents (Elt F)),
    binary main_v4 main_v13 main_v14 ((fun l r => Host.dotGeneral dot_S80x512x1024_S80x1024x256_S80x512x256_2_1_1_2_0_0 none l r) : (⟨S80x512x1024, .f32⟩ : BufTy).Contents (Elt F) → (⟨S80x1024x256, .f32⟩ : BufTy).Contents (Elt F) → (⟨S80x512x256, .f32⟩ : BufTy).Contents (Elt F)),
    unary main_arg3 main_v15 ((extractStridedSlice S1x32x1024x256 ![1, 0, 0, 0] · slices_S2x32x1024x256_S1x32x1024x256_1_0_0_0) : (⟨S2x32x1024x256, .f32⟩ : BufTy).Contents (Elt F) → (⟨S1x32x1024x256, .f32⟩ : BufTy).Contents (Elt F)),
    reshape main_v15 main_v16 (rfl : (.f32 : EltTy) = .f32) shapeCasts_S1x32x1024x256_S32x1024x256,
    nullary main_c_1 (constantI S_ 32 0#32),
    unary main_c_1 main_v17 (broadcastInDim S80 ![] bcast_S_S80 : (⟨S_, .i32⟩ : BufTy).Contents (Elt F) → (⟨S80, .i32⟩ : BufTy).Contents (Elt F)),
    binary main_v1 main_v17 main_v18 (cmpi .slt : (⟨S80, .i32⟩ : BufTy).Contents (Elt F) → (⟨S80, .i32⟩ : BufTy).Contents (Elt F) → (⟨S80, .i1⟩ : BufTy).Contents (Elt F)),
    nullary main_c_2 (constantI S_ 32 32#32),
    unary main_c_2 main_v19 (broadcastInDim S80 ![] bcast_S_S80 : (⟨S_, .i32⟩ : BufTy).Contents (Elt F) → (⟨S80, .i32⟩ : BufTy).Contents (Elt F)),
    binary main_v1 main_v19 main_v20 (addi : (⟨S80, .i32⟩ : BufTy).Contents (Elt F) → (⟨S80, .i32⟩ : BufTy).Contents (Elt F) → (⟨S80, .i32⟩ : BufTy).Contents (Elt F)),
    ternary main_v18 main_v20 main_v1 main_v21 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    unary main_v21 main_v22 (broadcastInDim S80x1 ![0] bcast_S80_S80x1_0 : (⟨S80, .i32⟩ : BufTy).Contents (Elt F) → (⟨S80x1, .i32⟩ : BufTy).Contents (Elt F)),
    binary main_v16 main_v22 main_v23 ((fun x i => Host.gather gather_S32x1024x256_S80x1_S80x1024x256_12_0_n_n_0_1_11024256 x i) : (⟨S32x1024x256, .f32⟩ : BufTy).Contents (Elt F) → (⟨S80x1, .i32⟩ : BufTy).Contents (Elt F) → (⟨S80x1024x256, .f32⟩ : BufTy).Contents (Elt F)),
    binary main_v4 main_v23 main_v24 ((fun l r => Host.dotGeneral dot_S80x512x1024_S80x1024x256_S80x512x256_2_1_1_2_0_0 none l r) : (⟨S80x512x1024, .f32⟩ : BufTy).Contents (Elt F) → (⟨S80x1024x256, .f32⟩ : BufTy).Contents (Elt F) → (⟨S80x512x256, .f32⟩ : BufTy).Contents (Elt F)),
    unary main_v14 main_call0_v0 (Host.negf : (⟨S80x512x256, .f32⟩ : BufTy).Contents (Elt F) → (⟨S80x512x256, .f32⟩ : BufTy).Contents (Elt F)),
    unary main_call0_v0 main_call0_v1 (Host.exp : (⟨S80x512x256, .f32⟩ : BufTy).Contents (Elt F) → (⟨S80x512x256, .f32⟩ : BufTy).Contents (Elt F)),
    nullary main_call0_cst (constant S_ .f32 0x3F800000#32),
    unary main_call0_cst main_call0_v2 (broadcastInDim S80x512x256 ![] bcast_S_S80x512x256 : (⟨S_, .f32⟩ : BufTy).Contents (Elt F) → (⟨S80x512x256, .f32⟩ : BufTy).Contents (Elt F)),
    binary main_call0_v2 main_call0_v1 main_call0_v3 (addf : (⟨S80x512x256, .f32⟩ : BufTy).Contents (Elt F) → (⟨S80x512x256, .f32⟩ : BufTy).Contents (Elt F) → (⟨S80x512x256, .f32⟩ : BufTy).Contents (Elt F)),
    nullary main_call0_cst_0 (constant S_ .f32 0x3F800000#32),
    unary main_call0_cst_0 main_call0_v4 (broadcastInDim S80x512x256 ![] bcast_S_S80x512x256 : (⟨S_, .f32⟩ : BufTy).Contents (Elt F) → (⟨S80x512x256, .f32⟩ : BufTy).Contents (Elt F)),
    binary main_call0_v4 main_call0_v3 main_call0_v5 (Host.divf : (⟨S80x512x256, .f32⟩ : BufTy).Contents (Elt F) → (⟨S80x512x256, .f32⟩ : BufTy).Contents (Elt F) → (⟨S80x512x256, .f32⟩ : BufTy).Contents (Elt F)),
    binary main_v14 main_call0_v5 main_v25 (mulf : (⟨S80x512x256, .f32⟩ : BufTy).Contents (Elt F) → (⟨S80x512x256, .f32⟩ : BufTy).Contents (Elt F) → (⟨S80x512x256, .f32⟩ : BufTy).Contents (Elt F)),
    binary main_v25 main_v24 main_v26 (mulf : (⟨S80x512x256, .f32⟩ : BufTy).Contents (Elt F) → (⟨S80x512x256, .f32⟩ : BufTy).Contents (Elt F) → (⟨S80x512x256, .f32⟩ : BufTy).Contents (Elt F)),
    unary main_arg4 main_v27 ((extractStridedSlice S1x32x256x1024 ![1, 0, 0, 0] · slices_S2x32x256x1024_S1x32x256x1024_1_0_0_0) : (⟨S2x32x256x1024, .f32⟩ : BufTy).Contents (Elt F) → (⟨S1x32x256x1024, .f32⟩ : BufTy).Contents (Elt F)),
    reshape main_v27 main_v28 (rfl : (.f32 : EltTy) = .f32) shapeCasts_S1x32x256x1024_S32x256x1024,
    nullary main_c_3 (constantI S_ 32 0#32),
    unary main_c_3 main_v29 (broadcastInDim S80 ![] bcast_S_S80 : (⟨S_, .i32⟩ : BufTy).Contents (Elt F) → (⟨S80, .i32⟩ : BufTy).Contents (Elt F)),
    binary main_v1 main_v29 main_v30 (cmpi .slt : (⟨S80, .i32⟩ : BufTy).Contents (Elt F) → (⟨S80, .i32⟩ : BufTy).Contents (Elt F) → (⟨S80, .i1⟩ : BufTy).Contents (Elt F)),
    nullary main_c_4 (constantI S_ 32 32#32),
    unary main_c_4 main_v31 (broadcastInDim S80 ![] bcast_S_S80 : (⟨S_, .i32⟩ : BufTy).Contents (Elt F) → (⟨S80, .i32⟩ : BufTy).Contents (Elt F)),
    binary main_v1 main_v31 main_v32 (addi : (⟨S80, .i32⟩ : BufTy).Contents (Elt F) → (⟨S80, .i32⟩ : BufTy).Contents (Elt F) → (⟨S80, .i32⟩ : BufTy).Contents (Elt F)),
    ternary main_v30 main_v32 main_v1 main_v33 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    unary main_v33 main_v34 (broadcastInDim S80x1 ![0] bcast_S80_S80x1_0 : (⟨S80, .i32⟩ : BufTy).Contents (Elt F) → (⟨S80x1, .i32⟩ : BufTy).Contents (Elt F)),
    binary main_v28 main_v34 main_v35 ((fun x i => Host.gather gather_S32x256x1024_S80x1_S80x256x1024_12_0_n_n_0_1_12561024 x i) : (⟨S32x256x1024, .f32⟩ : BufTy).Contents (Elt F) → (⟨S80x1, .i32⟩ : BufTy).Contents (Elt F) → (⟨S80x256x1024, .f32⟩ : BufTy).Contents (Elt F)),
    binary main_v26 main_v35 main_v36 ((fun l r => Host.dotGeneral dot_S80x512x256_S80x256x1024_S80x512x1024_2_1_1_2_0_0 none l r) : (⟨S80x512x256, .f32⟩ : BufTy).Contents (Elt F) → (⟨S80x256x1024, .f32⟩ : BufTy).Contents (Elt F) → (⟨S80x512x1024, .f32⟩ : BufTy).Contents (Elt F)),
    nullary main_v37 (iotaInDim S80 32 0),
    unary main_arg0 main_v38 ((extractStridedSlice S1x1 ![1, 0] · slices_S8x128_S1x1_1_0) : (⟨S8x128, .i32⟩ : BufTy).Contents (Elt F) → (⟨S1x1, .i32⟩ : BufTy).Contents (Elt F)),
    reshape main_v38 main_v39 (rfl : (.i32 : EltTy) = .i32) shapeCasts_S1x1_S_,
    unary main_v39 main_v40 (broadcastInDim S80 ![] bcast_S_S80 : (⟨S_, .i32⟩ : BufTy).Contents (Elt F) → (⟨S80, .i32⟩ : BufTy).Contents (Elt F)),
    binary main_v37 main_v40 main_v41 (cmpi .slt : (⟨S80, .i32⟩ : BufTy).Contents (Elt F) → (⟨S80, .i32⟩ : BufTy).Contents (Elt F) → (⟨S80, .i1⟩ : BufTy).Contents (Elt F)),
    unary main_v41 main_v42 (broadcastInDim S80x1x1 ![0] bcast_S80_S80x1x1_0 : (⟨S80, .i1⟩ : BufTy).Contents (Elt F) → (⟨S80x1x1, .i1⟩ : BufTy).Contents (Elt F)),
    unary main_v42 main_call1_v0 (broadcastInDim S80x512x1024 ![0, 1, 2] bcast_S80x1x1_S80x512x1024_0_1_2 : (⟨S80x1x1, .i1⟩ : BufTy).Contents (Elt F) → (⟨S80x512x1024, .i1⟩ : BufTy).Contents (Elt F)),
    ternary main_call1_v0 main_v36 main_v4 main_v43 (select : (⟨S80x512x1024, .i1⟩ : BufTy).Contents (Elt F) → (⟨S80x512x1024, .f32⟩ : BufTy).Contents (Elt F) → (⟨S80x512x1024, .f32⟩ : BufTy).Contents (Elt F) → (⟨S80x512x1024, .f32⟩ : BufTy).Contents (Elt F)),
    unary main_v43 main_v44 ((truncf .bf16 · bitsLt_bf16_f32) : (⟨S80x512x1024, .f32⟩ : BufTy).Contents (Elt F) → (⟨S80x512x1024, .bf16⟩ : BufTy).Contents (Elt F)),
    reshape main_v44 main_v45 (rfl : (.bf16 : EltTy) = .bf16) shapeCasts_S80x512x1024_S5120x8x4x256,
    unary main_v45 main_v46 ((transpose S5120x4x8x256 [0, 2, 1, 3] · transposes_S5120x8x4x256_S5120x4x8x256_0_2_1_3) : (⟨S5120x8x4x256, .bf16⟩ : BufTy).Contents (Elt F) → (⟨S5120x4x8x256, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub .., unary_bufs_sub .., binary_bufs_sub .., unary_bufs_sub .., unary_bufs_sub .., ternary_bufs_sub .., unary_bufs_sub .., reshape_bufs_sub .., unary_bufs_sub ..⟩

/-! ## The result as a function of the arguments -/

/-- The expert of each tile, read off the plan; a negative number would count from the end. -/
def experts (plan : IVec S8x128 32) : IVec S80x1 32 :=
  let e : IVec S80 32 := shapeCast S80 (extractStridedSlice S1x80 ![0, 0] plan slices_S8x128_S1x80_0_0) shapeCasts_S1x80_S80
  broadcastInDim S80x1 ![0] bcast_S80_S80x1_0
    (select (cmpi .slt e (broadcastInDim S80 ![] bcast_S_S80 (constantI S_ 32 0#32)))
      (addi e (broadcastInDim S80 ![] bcast_S_S80 (constantI S_ 32 32#32))) e)

/-- The rows, tile by tile. -/
def inputs (xs : FVec F S5120x4x8x256 .bf16) : FVec F S80x512x1024 .f32 :=
  shapeCast S80x512x1024 (transpose S5120x8x4x256 [0, 2, 1, 3] (extf .f32 xs bitsLt_bf16_f32) transposes_S5120x4x8x256_S5120x8x4x256_0_2_1_3)
    shapeCasts_S5120x8x4x256_S80x512x1024

/-- One input weight of each tile's expert. -/
def widen (w : FVec F S2x32x1024x256 .f32) (e : IVec S80x1 32) : FVec F S80x1024x256 .f32 :=
  Host.gather gather_S32x1024x256_S80x1_S80x1024x256_12_0_n_n_0_1_11024256
    (shapeCast S32x1024x256 (extractStridedSlice S1x32x1024x256 ![1, 0, 0, 0] w slices_S2x32x1024x256_S1x32x1024x256_1_0_0_0) shapeCasts_S1x32x1024x256_S32x1024x256) e

/-- The output weight of each tile's expert. -/
def narrow (w : FVec F S2x32x256x1024 .f32) (e : IVec S80x1 32) : FVec F S80x256x1024 .f32 :=
  Host.gather gather_S32x256x1024_S80x1_S80x256x1024_12_0_n_n_0_1_12561024
    (shapeCast S32x256x1024 (extractStridedSlice S1x32x256x1024 ![1, 0, 0, 0] w slices_S2x32x256x1024_S1x32x256x1024_1_0_0_0) shapeCasts_S1x32x256x1024_S32x256x1024) e

/-- The rows against one input weight. -/
def hidden (x : FVec F S80x512x1024 .f32) (w : FVec F S80x1024x256 .f32) : FVec F S80x512x256 .f32 :=
  Host.dotGeneral dot_S80x512x1024_S80x1024x256_S80x512x256_2_1_1_2_0_0 none x w

/-- The gated hidden units. -/
def gated (a b : FVec F S80x512x256 .f32) : FVec F S80x512x256 .f32 :=
  mulf (mulf a (Host.divf (broadcastInDim S80x512x256 ![] bcast_S_S80x512x256 (constant S_ .f32 0x3F800000#32))
    (addf (broadcastInDim S80x512x256 ![] bcast_S_S80x512x256 (constant S_ .f32 0x3F800000#32)) (Host.exp (Host.negf a))))) b

/-- The hidden units against the output weight. -/
def leave (h : FVec F S80x512x256 .f32) (w : FVec F S80x256x1024 .f32) : FVec F S80x512x1024 .f32 :=
  Host.dotGeneral dot_S80x512x256_S80x256x1024_S80x512x1024_2_1_1_2_0_0 none h w

/-- Which tiles are used. -/
def inUse (plan : IVec S8x128 32) : IVec S80x512x1024 1 :=
  broadcastInDim S80x512x1024 ![0, 1, 2] bcast_S80x1x1_S80x512x1024_0_1_2 (broadcastInDim S80x1x1 ![0] bcast_S80_S80x1x1_0
    (cmpi .slt (iotaInDim S80 32 0) (broadcastInDim S80 ![] bcast_S_S80
      (shapeCast S_ (extractStridedSlice S1x1 ![1, 0] plan slices_S8x128_S1x1_1_0) shapeCasts_S1x1_S_))))

/-- The tiles back in the layout of the rows. -/
def laid (y : FVec F S80x512x1024 .f32) : FVec F S5120x4x8x256 .bf16 :=
  transpose S5120x4x8x256 [0, 2, 1, 3] (shapeCast S5120x8x4x256 (truncf .bf16 y bitsLt_bf16_f32) shapeCasts_S80x512x1024_S5120x8x4x256)
    transposes_S5120x8x4x256_S5120x4x8x256_0_2_1_3

/-- The reference's result as one function of its five arrays. -/
def result (plan : IVec S8x128 32) (xs : FVec F S5120x4x8x256 .bf16) (wg wu : FVec F S2x32x1024x256 .f32) (wd : FVec F S2x32x256x1024 .f32) :
    FVec F S5120x4x8x256 .bf16 :=
  laid (select (inUse plan)
    (leave (gated (hidden (inputs xs) (widen wg (experts plan))) (hidden (inputs xs) (widen wu (experts plan)))) (narrow wd (experts plan)))
    (inputs xs))

set_option maxHeartbeats 4000000 in
/-- The reference's run ends with `result` of its arguments in its result buffer and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v46).trans (by after_results <;> rfl),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl)⟩)
    (run_seq scopedRefs_eq scopedSems_eq defs main (fun _ => ops) main_eq (fun _ => ops_sub) m ρ)

end Cert.ExpertsReferenceIdeal.Value

end
-- ==== Proof.ExpertsReferenceValue.lean ====
/-
  The experts' reference at an index: a row of a tile in use after the tile's expert, and a row past the tiles in use as
  it was given.
-/
module

public import proofs.«01_k».proof.Proof.ExpertsReference
public import proofs.«01_k».proof.Proof.ExpertsValue

@[expose] public section

set_option maxRecDepth 16384

noncomputable section

namespace Cert.ExpertsReferenceValue

open Cert.ExpertsReferenceIdeal Cert.ExpertsReferenceIdeal.Gen Cert.ExpertsReferenceIdeal.Value Idealize.ShloMosaic Idealize.ShloMosaic.Pointwise
open Cert.ExpertsValue (gate row)
open Cert.ExpertsIdeal.Gen (slt_small toNat_ofNat_small)

/-! ## The plan -/

theorem experts_apply (plan : IVec S8x128 32) (t : Fin 80) (h : (plan (ix2 0 (⟨t.1, by omega⟩ : Fin 128))).toNat < 32) :
    experts plan (ix2 t 0) = plan (ix2 0 (⟨t.1, by omega⟩ : Fin 128)) := by
  pointwise [experts]
  have e : IntOp.cmpi .slt (plan (ix2 0 (⟨t.1, by omega⟩ : Fin 128))) 0#32 = BitVec.ofBool false := by
    show BitVec.ofBool ((plan (ix2 0 (⟨t.1, by omega⟩ : Fin 128))).slt 0#32) = _
    rw [slt_small _ _ (by omega) (by decide)]
    exact congrArg BitVec.ofBool (decide_eq_false (Nat.not_lt_zero _))
  rw [e]
  rfl

theorem inUse_apply (plan : IVec S8x128 32) (t : Fin 80) (n : Fin 512) (j : Fin 1024) (h : (plan (ix2 1 0)).toNat < 2 ^ 31) :
    inUse plan (ix3 t n j) = BitVec.ofBool (decide (t.1 < (plan (ix2 1 0)).toNat)) := by
  pointwise [inUse]
  show BitVec.ofBool ((BitVec.ofNat 32 t.1).slt (plan (ix2 1 0))) = _
  rw [slt_small _ _ (by rw [toNat_ofNat_small _ t.2]; omega) h, toNat_ofNat_small _ t.2]

/-! ## The weights of a tile's expert -/

theorem pick_in (y : FVec Ideal S32x1024x256 .f32) (e : IVec S80x1 32) (t : Fin 80) (d : Fin 1024) (h : Fin 256) (x : Fin 32)
    (hx : (e (ix2 t 0)).toInt = (x.1 : ℤ)) :
    Host.gather gather_S32x1024x256_S80x1_S80x1024x256_12_0_n_n_0_1_11024256 y e (ix3 t d h) = y (ix3 x d h) := by
  have hi : gather_S32x1024x256_S80x1_S80x1024x256_12_0_n_n_0_1_11024256.siIdx (ix3 t d h) ⟨0, by decide⟩ = ix2 t 0 := by
    funext a
    match a with
    | ⟨0, _⟩ => rfl
    | ⟨1, _⟩ => rfl
  refine congrArg y (funext fun a => Fin.ext ?_)
  match a with
  | ⟨0, _⟩ =>
    show min (e (gather_S32x1024x256_S80x1_S80x1024x256_12_0_n_n_0_1_11024256.siIdx (ix3 t d h) ⟨0, by decide⟩)).toInt.toNat 31 + 0 + 0 = x.1
    rw [hi, hx]
    omega
  | ⟨1, _⟩ => show 0 + 0 + d.1 = d.1; omega
  | ⟨2, _⟩ => show 0 + 0 + h.1 = h.1; omega

theorem pick_out (y : FVec Ideal S32x256x1024 .f32) (e : IVec S80x1 32) (t : Fin 80) (h : Fin 256) (d : Fin 1024) (x : Fin 32)
    (hx : (e (ix2 t 0)).toInt = (x.1 : ℤ)) :
    Host.gather gather_S32x256x1024_S80x1_S80x256x1024_12_0_n_n_0_1_12561024 y e (ix3 t h d) = y (ix3 x h d) := by
  have hi : gather_S32x256x1024_S80x1_S80x256x1024_12_0_n_n_0_1_12561024.siIdx (ix3 t h d) ⟨0, by decide⟩ = ix2 t 0 := by
    funext a
    match a with
    | ⟨0, _⟩ => rfl
    | ⟨1, _⟩ => rfl
  refine congrArg y (funext fun a => Fin.ext ?_)
  match a with
  | ⟨0, _⟩ =>
    show min (e (gather_S32x256x1024_S80x1_S80x256x1024_12_0_n_n_0_1_12561024.siIdx (ix3 t h d) ⟨0, by decide⟩)).toInt.toNat 31 + 0 + 0 = x.1
    rw [hi, hx]
    omega
  | ⟨1, _⟩ => show 0 + 0 + h.1 = h.1; omega
  | ⟨2, _⟩ => show 0 + 0 + d.1 = d.1; omega

theorem second_in (w : FVec Ideal S2x32x1024x256 .f32) (x : Fin 32) (d : Fin 1024) (h : Fin 256) :
    shapeCast S32x1024x256 (extractStridedSlice S1x32x1024x256 ![1, 0, 0, 0] w slices_S2x32x1024x256_S1x32x1024x256_1_0_0_0) shapeCasts_S1x32x1024x256_S32x1024x256 (ix3 x d h)
      = w (ix4 1 x d h) := by
  pointwise
theorem second_out (w : FVec Ideal S2x32x256x1024 .f32) (x : Fin 32) (h : Fin 256) (d : Fin 1024) :
    shapeCast S32x256x1024 (extractStridedSlice S1x32x256x1024 ![1, 0, 0, 0] w slices_S2x32x256x1024_S1x32x256x1024_1_0_0_0) shapeCasts_S1x32x256x1024_S32x256x1024 (ix3 x h d)
      = w (ix4 1 x h d) := by
  pointwise

theorem widen_apply (w : FVec Ideal S2x32x1024x256 .f32) (e : IVec S80x1 32) (t : Fin 80) (d : Fin 1024) (h : Fin 256) (x : Fin 32)
    (hx : (e (ix2 t 0)).toInt = (x.1 : ℤ)) : widen (F := Ideal) w e (ix3 t d h) = w (ix4 1 x d h) :=
  (pick_in _ e t d h x hx).trans (second_in w x d h)
theorem narrow_apply (w : FVec Ideal S2x32x256x1024 .f32) (e : IVec S80x1 32) (t : Fin 80) (h : Fin 256) (d : Fin 1024) (x : Fin 32)
    (hx : (e (ix2 t 0)).toInt = (x.1 : ℤ)) : narrow (F := Ideal) w e (ix3 t h d) = w (ix4 1 x h d) :=
  (pick_out _ e t h d x hx).trans (second_out w x h d)

/-! ## The rows -/

theorem hidden_apply (x : FVec Ideal S80x512x1024 .f32) (w : FVec Ideal S80x1024x256 .f32) (t : Fin 80) (n : Fin 512) (h : Fin 256) :
    hidden (F := Ideal) x w (ix3 t n h) = ∑ d : Fin 1024, x (ix3 t n d) * w (ix3 t d h) := by
  pointwise [Cert.ExpertsReferenceIdeal.Value.hidden]
theorem leave_apply (x : FVec Ideal S80x512x256 .f32) (w : FVec Ideal S80x256x1024 .f32) (t : Fin 80) (n : Fin 512) (j : Fin 1024) :
    leave (F := Ideal) x w (ix3 t n j) = ∑ h : Fin 256, x (ix3 t n h) * w (ix3 t h j) := by
  pointwise [Cert.ExpertsReferenceIdeal.Value.leave]
theorem gated_apply (a b : FVec Ideal S80x512x256 .f32) (t : Fin 80) (n : Fin 512) (h : Fin 256) :
    gated (F := Ideal) a b (ix3 t n h) = gate (a (ix3 t n h)) * b (ix3 t n h) := by
  pointwise [Cert.ExpertsReferenceIdeal.Value.gated]
  rfl
theorem inputs_apply (xs : FVec Ideal S5120x4x8x256 .bf16) (t : Fin 80) (n : Fin 512) (d : Fin 1024) :
    inputs (F := Ideal) xs (ix3 t n d)
      = xs (ix4 (⟨t.1 * 64 + n.1 / 8, by omega⟩ : Fin 5120) (⟨d.1 / 256, by omega⟩ : Fin 4) (⟨n.1 % 8, by omega⟩ : Fin 8) (⟨d.1 % 256, by omega⟩ : Fin 256)) := by
  pointwise [inputs]
theorem laid_apply (y : FVec Ideal S80x512x1024 .f32) (R : Fin 5120) (q : Fin 4) (s : Fin 8) (l : Fin 256) :
    laid (F := Ideal) y (ix4 R q s l)
      = y (ix3 (⟨R.1 / 64, by omega⟩ : Fin 80) (⟨R.1 % 64 * 8 + s.1, by omega⟩ : Fin 512) (⟨q.1 * 256 + l.1, by omega⟩ : Fin 1024)) := by
  pointwise [laid]

/-! ## The result -/

theorem select_true {s : Shape} (k : IVec s 1) (a b : FVec Ideal s .f32) (i : s.Idx) (h : k i = BitVec.ofBool true) : select k a b i = a i := by
  show Scalar.select (k i) (a i) (b i) = a i
  rw [h]; rfl
theorem select_false {s : Shape} (k : IVec s 1) (a b : FVec Ideal s .f32) (i : s.Idx) (h : k i = BitVec.ofBool false) : select k a b i = b i := by
  show Scalar.select (k i) (a i) (b i) = b i
  rw [h]; rfl

variable (plan : IVec S8x128 32) (xs : FVec Ideal S5120x4x8x256 .bf16) (wg wu : FVec Ideal S2x32x1024x256 .f32) (wd : FVec Ideal S2x32x256x1024 .f32)

/-- A row of the reference's tiles is the row it was given. -/
theorem inputs_row (R : Fin 5120) (s : Fin 8) (d : Fin 1024) :
    inputs (F := Ideal) xs (ix3 (⟨R.1 / 64, by omega⟩ : Fin 80) (⟨R.1 % 64 * 8 + s.1, by omega⟩ : Fin 512) d)
      = xs (ix4 R (⟨d.1 / 256, by omega⟩ : Fin 4) s (⟨d.1 % 256, by omega⟩ : Fin 256)) := by
  rw [inputs_apply]
  congr 2 <;> apply Fin.ext
  · show R.1 / 64 * 64 + (R.1 % 64 * 8 + s.1) / 8 = R.1; omega
  · show (R.1 % 64 * 8 + s.1) % 8 = s.1; omega

/-- A row of a tile in use. -/
theorem result_used (R : Fin 5120) (q : Fin 4) (s : Fin 8) (l : Fin 256) (x : Fin 32)
    (hx : (plan (ix2 0 (⟨R.1 / 64, by omega⟩ : Fin 128))).toNat = x.1)
    (h1 : (plan (ix2 1 0)).toNat < 2 ^ 31) (hu : R.1 / 64 < (plan (ix2 1 0)).toNat) :
    result (F := Ideal) plan xs wg wu wd (ix4 R q s l)
      = row (fun d => xs (ix4 R (⟨d.1 / 256, by omega⟩ : Fin 4) s (⟨d.1 % 256, by omega⟩ : Fin 256)))
          (fun d h => wg (ix4 1 x d h)) (fun d h => wu (ix4 1 x d h)) (fun h d => wd (ix4 1 x h d)) ⟨256 * q.1 + l.1, by omega⟩ := by
  have he : (experts plan (ix2 (⟨R.1 / 64, by omega⟩ : Fin 80) 0)).toInt = (x.1 : ℤ) := by
    rw [experts_apply plan ⟨R.1 / 64, by omega⟩ (by rw [hx]; exact x.2), Cert.ExpertsIdeal.Gen.toInt_small _ (by rw [hx]; omega), hx]
  have hj : (⟨q.1 * 256 + l.1, by omega⟩ : Fin 1024) = ⟨256 * q.1 + l.1, by omega⟩ := Fin.ext (by show q.1 * 256 + l.1 = 256 * q.1 + l.1; omega)
  unfold result
  rw [laid_apply, select_true _ _ _ _ ((inUse_apply plan _ _ _ h1).trans (congrArg BitVec.ofBool (decide_eq_true hu))), leave_apply]
  unfold row
  refine Finset.sum_congr rfl fun h _ => ?_
  rw [gated_apply, hidden_apply, hidden_apply, narrow_apply wd _ _ h _ x he, hj]
  simp only [inputs_row, widen_apply _ _ _ _ _ x he]

/-- A row past the tiles in use. -/
theorem result_unused (R : Fin 5120) (q : Fin 4) (s : Fin 8) (l : Fin 256)
    (h1 : (plan (ix2 1 0)).toNat < 2 ^ 31) (hu : (plan (ix2 1 0)).toNat ≤ R.1 / 64) :
    result (F := Ideal) plan xs wg wu wd (ix4 R q s l) = xs (ix4 R q s l) := by
  unfold result
  rw [laid_apply, select_false _ _ _ _ ((inUse_apply plan _ _ _ h1).trans (congrArg BitVec.ofBool (decide_eq_false (Nat.not_lt.2 hu)))), inputs_row]
  congr 2 <;> apply Fin.ext
  · show (q.1 * 256 + l.1) / 256 = q.1; omega
  · show (q.1 * 256 + l.1) % 256 = l.1; omega

end Cert.ExpertsReferenceValue

end
-- ==== Proof.ExpertsPre.lean ====
/-
  The experts' precondition, read: the expert numbers are in range and at least one tile is in use. With it the
  frames of the kernel, over either float values.
-/
module

public import proofs.«01_k».proof.Defs
public import proofs.«01_k».proof.Proof.ExpertsFrame
public import proofs.«01_k».proof.Proof.ExpertsBitsFacts
public import Idealize.ShloMosaic.Lib.Pointwise
public import Idealize.ShloMosaic.Lib.IdealHost

@[expose] public section

set_option maxRecDepth 16384

noncomputable section

namespace Cert.ExpertsPre

open Cert.Pre_plan_ok Idealize.ShloMosaic Idealize.ShloMosaic.Pointwise Idealize.SL.Sem
open Cert.ExpertsIdeal.Gen (word PlanOK)

/-- The side conditions the precondition's operations take. -/
theorem facts : Cert.Pre_plan_ok.Facts where
  slices_S8x128_S1x128_0_0 := by decide
  shapeCasts_S1x128_S128 := by decide
  bcast_S_S128 := by decide
  slices_S8x128_S1x1_1_0 := by decide
  shapeCasts_S1x1_S_ := by decide

theorem word_eq (T : S8x128.Idx → BitVec 32) (a : Fin 8) (b : Fin 128) : word T a b = T (ix2 a b) := by
  unfold word
  congr 1
  funext k
  match k with
  | ⟨0, _⟩ => rfl
  | ⟨1, _⟩ => rfl

theorem row_eq (T : IVec S8x128 32) (hs : S8x128.Slices ![0, 0] S1x128) (hc : S1x128.ShapeCasts S128) (j : Fin 128) :
    shapeCast S128 (extractStridedSlice S1x128 ![0, 0] T hs) hc (ix1 j) = T (ix2 (0 : Fin 8) j) := by
  pointwise

theorem count_eq (T : IVec S8x128 32) (hs : S8x128.Slices ![1, 0] S1x1) (hc : S1x1.ShapeCasts S_) (i : S_.Idx) :
    shapeCast S_ (extractStridedSlice S1x1 ![1, 0] T hs) hc i = T (ix2 (1 : Fin 8) (0 : Fin 128)) := by
  pointwise

theorem nonneg_of_sle (x : BitVec 32) (h : (0#32).sle x = true) : x.toNat < 2 ^ 31 := by
  have h' : (0#32).toInt ≤ x.toInt := by simpa [BitVec.sle] using h
  rw [BitVec.toInt_eq_toNat_cond x] at h'
  have := x.isLt
  simp at h'
  split at h' <;> omega

theorem lt_of_slt (x : BitVec 32) (h : x.slt 32#32 = true) (h0 : x.toNat < 2 ^ 31) : x.toNat < 32 := by
  have h' : x.toInt < (32#32).toInt := by simpa [BitVec.slt] using h
  rw [BitVec.toInt_eq_toNat_cond x, if_pos (by omega)] at h'
  have : (32#32 : BitVec 32).toInt = 32 := by decide
  omega

theorem pos_of_sle (x : BitVec 32) (h : (1#32).sle x = true) : 0 < x.toNat ∧ x.toNat < 2 ^ 31 := by
  have h' : (1#32).toInt ≤ x.toInt := by simpa [BitVec.sle] using h
  have e : (1#32 : BitVec 32).toInt = 1 := by decide
  rw [BitVec.toInt_eq_toNat_cond x, e] at h'
  have := x.isLt
  split at h' <;> omega

theorem ofBool_one {b : Bool} (h : BitVec.ofBool b = 1#1) : b = true := by
  cases b
  · exact absurd h (by decide)
  · rfl

attribute [local instance] facts in
/-- Where the precondition's three masks are all set the plan is one the kernel is called with. -/
theorem planOK {F : FTy → Type} [FloatOps F] (T : IVec S8x128 32) (a1 : FVec F S5120x4x8x256 .bf16) (a2 a3 : FVec F S2x32x1024x256 .f32) (a4 : FVec F S2x32x256x1024 .f32)
    (h1 : (fn T a1 a2 a3 a4).1 = fun _ => 1#1) (h2 : (fn T a1 a2 a3 a4).2.1 = fun _ => 1#1)
    (h3 : (fn T a1 a2 a3 a4).2.2 = fun _ => 1#1) : PlanOK T := by
  have g1 : ∀ j : Fin 128, (T (ix2 (0 : Fin 8) j)).toNat < 2 ^ 31 := fun j => by
    have e : BitVec.ofBool ((0#32).sle (shapeCast S128 (extractStridedSlice S1x128 ![0, 0] T Facts.slices_S8x128_S1x128_0_0) Facts.shapeCasts_S1x128_S128 (ix1 j))) = 1#1 := congrFun h1 (ix1 j)
    rw [row_eq] at e
    exact nonneg_of_sle _ (ofBool_one e)
  have g2 : ∀ j : Fin 128, (T (ix2 (0 : Fin 8) j)).toNat < 32 := fun j => by
    have e : BitVec.ofBool ((shapeCast S128 (extractStridedSlice S1x128 ![0, 0] T Facts.slices_S8x128_S1x128_0_0) Facts.shapeCasts_S1x128_S128 (ix1 j)).slt 32#32) = 1#1 := congrFun h2 (ix1 j)
    rw [row_eq] at e
    exact lt_of_slt _ (ofBool_one e) (g1 j)
  have g3 : 0 < (T (ix2 (1 : Fin 8) (0 : Fin 128))).toNat ∧ (T (ix2 (1 : Fin 8) (0 : Fin 128))).toNat < 2 ^ 31 := by
    have e : BitVec.ofBool ((1#32).sle (shapeCast S_ (extractStridedSlice S1x1 ![1, 0] T Facts.slices_S8x128_S1x1_1_0) Facts.shapeCasts_S1x1_S_ (fun k => k.elim0))) = 1#1 := congrFun h3 (fun k => k.elim0)
    rw [count_eq] at e
    exact pos_of_sle _ (ofBool_one e)
  exact ⟨fun j => by rw [word_eq]; exact g2 j, by rw [word_eq]; exact g3.1, by rw [word_eq]; exact g3.2⟩

attribute [local instance] facts in
theorem ok_ideal (m : (ℓ : Loc Cert.ExpertsIdeal.nD Cert.ExpertsIdeal.τ Cert.ExpertsIdeal.sig) → Buf (Elt Ideal) ℓ)
    (h : Pre_ExpertsIdeal (hPre_plan_ok := facts) m) (c : Dev Cert.ExpertsIdeal.nD) :
    PlanOK (m ((c.tc : Thread Cert.ExpertsIdeal.nD Cert.ExpertsIdeal.τ).loc Cert.ExpertsIdeal.main_arg0)) :=
  planOK (F := Ideal) _ _ _ _ _ (h c).1 (h c).2.1 (h c).2.2

attribute [local instance] facts in
theorem ok_bits (m : (ℓ : Loc Cert.Experts.nD Cert.Experts.τ Cert.Experts.sig) → Buf (Elt Bits) ℓ)
    (h : Pre_Experts (hPre_plan_ok := facts) m) (c : Dev Cert.Experts.nD) :
    PlanOK (m ((c.tc : Thread Cert.Experts.nD Cert.Experts.τ).loc Cert.Experts.main_arg0)) :=
  planOK (F := Bits) _ _ _ _ _ (h c).1 (h c).2.1 (h c).2.2

/-- The kernel over any float values, at a plan it is called with: it ends with its arguments unchanged and every
    counter at zero. -/
theorem frame {F : FTy → Type} [FloatOps F] (m : (ℓ : Loc Cert.ExpertsIdeal.nD Cert.ExpertsIdeal.τ Cert.ExpertsIdeal.sig) → Buf (Elt F) ℓ)
    (ρ : Dev Cert.ExpertsIdeal.nD → PrngReg)
    (hT : ∀ c : Dev Cert.ExpertsIdeal.nD, PlanOK (m ((c.tc : Thread Cert.ExpertsIdeal.nD Cert.ExpertsIdeal.τ).loc Cert.ExpertsIdeal.main_arg0))) :
    θ_run (Cert.ExpertsIdeal.defs (F := F)) (onTc (τ := Cert.ExpertsIdeal.τ) (Cert.ExpertsIdeal.main (F := F))) ⟨m, fun _ => 0, ρ⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0) :=
  (θ_run Cert.ExpertsIdeal.defs _ _).mono (fun _ h => ⟨fun c => (h.1 c).2, h.2⟩)
    (Cert.ExpertsIdeal.Gen.run_main (m (((0 : Dev Cert.ExpertsIdeal.nD).tc : Thread Cert.ExpertsIdeal.nD Cert.ExpertsIdeal.τ).loc Cert.ExpertsIdeal.main_arg0)) (hT 0) m ρ
      (fun c => by rw [Subsingleton.elim c 0]))

attribute [local instance] facts in
theorem frame_ideal : quiescent_ExpertsIdeal (hExpertsIdeal := Cert.ExpertsIdeal.Gen.facts) (hPre_plan_ok := facts) :=
  fun m ρ h => frame (F := Ideal) m ρ (ok_ideal m h)

/-! ## The two programs have one text -/

section
attribute [local instance] Cert.Experts.Gen.facts Cert.ExpertsIdeal.Gen.facts

theorem body_eq : @Cert.Experts.cc0_moe_experts Bits _ _ = @Cert.ExpertsIdeal.cc0_moe_experts Bits _ _ := rfl

theorem bodies_eq : Cert.Experts.defs₀ (F := Bits) = Cert.ExpertsIdeal.defs₀ (F := Bits) := by
  unfold Cert.Experts.defs₀ Cert.ExpertsIdeal.defs₀
  refine congrArg Defs.onTc ?_
  funext l a
  match l, a with
  | 0, (t, s) =>
    dsimp only
    rw [body_eq]
    rfl

theorem defs_eq : Cert.Experts.defs (F := Bits) = Cert.ExpertsIdeal.defs (F := Bits) := by
  unfold Cert.Experts.defs Cert.ExpertsIdeal.defs
  rw [bodies_eq]
  rfl

theorem main_eq : Cert.Experts.main (F := Bits) = Cert.ExpertsIdeal.main (F := Bits) := rfl
end

attribute [local instance] facts in
theorem frame_bits : quiescent_Experts (hExperts := Cert.Experts.Gen.facts) (hPre_plan_ok := facts) := by
  intro m ρ h
  have e := frame (F := Bits) m ρ (ok_bits m h)
  rw [defs_eq, main_eq]
  exact e

end Cert.ExpertsPre

end
-- ==== Proof.ExpertsEquation.lean ====
/-
  The experts' two programs end with the same array, and each with its arguments unchanged.
-/
module

public import proofs.«01_k».proof.Proof.ExpertsArray
public import proofs.«01_k».proof.Proof.ExpertsReferenceValue
public import proofs.«01_k».proof.Proof.ExpertsPre

@[expose] public section

noncomputable section

namespace Cert.ExpertsEquation

open Idealize.ShloMosaic Idealize.ShloMosaic.Pointwise Idealize.ShloMosaic.TcCoe Idealize.SL.Sem
open Cert.ExpertsIdeal.Gen (PlanOK dats cfgA used word expert)

/-- The kernel's result array is the reference's result, at every plan the kernel is called with. -/
theorem array_eq (m : (ℓ : Loc Cert.ExpertsIdeal.nD Cert.ExpertsIdeal.τ Cert.ExpertsIdeal.sig) → Buf (Elt Ideal) ℓ) (c : Dev Cert.ExpertsIdeal.nD)
    (T : Cert.ExpertsIdeal.S8x128.Idx → BitVec 32) (hT : PlanOK T) :
    (dats (F := Ideal) T hT m 0 c).arrAt (4 : Fin 5) (cfgA (F := Ideal) T hT).N
      = Cert.ExpertsReferenceIdeal.Value.result (F := Ideal) T
          (m ((c : Thread Cert.ExpertsIdeal.nD Cert.ExpertsIdeal.τ).loc Cert.ExpertsIdeal.main_arg1))
          (m ((c : Thread Cert.ExpertsIdeal.nD Cert.ExpertsIdeal.τ).loc Cert.ExpertsIdeal.main_arg2))
          (m ((c : Thread Cert.ExpertsIdeal.nD Cert.ExpertsIdeal.τ).loc Cert.ExpertsIdeal.main_arg3))
          (m ((c : Thread Cert.ExpertsIdeal.nD Cert.ExpertsIdeal.τ).loc Cert.ExpertsIdeal.main_arg4)) := by
  have hw : (T (ix2 1 0)).toNat = used T := congrArg BitVec.toNat (Cert.ExpertsPre.word_eq T 1 0).symm
  have hs : (T (ix2 1 0)).toNat < 2 ^ 31 := by rw [← Cert.ExpertsPre.word_eq T 1 0]; exact hT.small
  funext (y : Cert.ExpertsIdeal.S5120x4x8x256.Idx)
  have ey : y = (ix4 (y 0 : Fin 5120) (y 1 : Fin 4) (y 2 : Fin 8) (y 3 : Fin 256) : Cert.ExpertsIdeal.S5120x4x8x256.Idx) := by
    funext a
    match a with
    | ⟨0, _⟩ => rfl
    | ⟨1, _⟩ => rfl
    | ⟨2, _⟩ => rfl
    | ⟨3, _⟩ => rfl
  have h0 : (y 0).val < 5120 := (y 0).isLt
  rw [ey]
  by_cases hu : (y 0).val / 64 < used T
  · refine (Cert.ExpertsArray.array_used T hT m c _ _ _ _ hu).trans ?_
    refine Eq.symm (Cert.ExpertsReferenceValue.result_used T _ _ _ _ _ _ _ _ (Cert.ExpertsArray.expertOf T hT (y 0)) ?_ hs (by rw [hw]; exact hu))
    exact congrArg BitVec.toNat (Cert.ExpertsPre.word_eq T 0 _).symm
  · refine (Cert.ExpertsArray.array_unused T hT m c _ _ _ _ (Nat.le_of_not_lt hu)).trans ?_
    exact (Cert.ExpertsReferenceValue.result_unused T _ _ _ _ _ _ _ _ hs (by rw [hw]; exact Nat.le_of_not_lt hu)).symm

/-- The experts: both programs end with the reference's rows, at every plan the kernel is called with. -/
theorem experts :
    algebraic_ExpertsIdeal_ExpertsReferenceIdeal (hExpertsIdeal := Cert.ExpertsIdeal.Gen.facts) (hExpertsReferenceIdeal := Cert.ExpertsReferenceIdeal.Gen.facts)
      (hPre_plan_ok := Cert.ExpertsPre.facts) := by
  intro m g m' g' hpre hargs
  have hT := Cert.ExpertsPre.ok_ideal m hpre 0
  refine ⟨fun c => Cert.ExpertsReferenceIdeal.Value.result (F := Ideal)
    (m ((c.tc : Thread Cert.ExpertsIdeal.nD Cert.ExpertsIdeal.τ).loc Cert.ExpertsIdeal.main_arg0))
    (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg2))
    (m ((c.tc : Thread Cert.ExpertsIdeal.nD Cert.ExpertsIdeal.τ).loc Cert.ExpertsIdeal.main_arg3))
    (m ((c.tc : Thread Cert.ExpertsIdeal.nD Cert.ExpertsIdeal.τ).loc Cert.ExpertsIdeal.main_arg4)), ?_, ?_⟩
  · refine (θ_run _ _ _).mono (fun r h c => ?_) (Cert.ExpertsIdeal.Gen.run_main
      (m (((0 : Dev Cert.ExpertsIdeal.nD).tc : Thread Cert.ExpertsIdeal.nD Cert.ExpertsIdeal.τ).loc Cert.ExpertsIdeal.main_arg0)) hT m g
      (fun c => by rw [Subsingleton.elim c 0]))
    obtain rfl : c = 0 := Subsingleton.elim c 0
    exact ⟨(h.1 0).1.trans (array_eq m 0 _ hT), (h.1 0).2⟩
  · refine (θ_run _ _ _).mono (fun r h c => ?_) (Cert.ExpertsReferenceIdeal.Value.run (F := Ideal) m' g')
    obtain ⟨e0, e1, e2, e3, e4⟩ := hargs c
    refine ⟨(h c).1.trans ?_, (h c).2⟩
    rw [e0, e1, e2, e3, e4]

/-- The reference declares no semaphore, so every counter is at zero. -/
theorem reference_counters {α : Type} [Zero α] (f : GSem Cert.ExpertsReferenceIdeal.nD Cert.ExpertsReferenceIdeal.τ Cert.ExpertsReferenceIdeal.sig → α) : f = fun _ => 0 :=
  funext fun s => match s with
    | (_, .reg i) => i.elim0
    | (_, .dma i) => i.elim0

/-- The reference ends with its arguments unchanged and every counter at zero. -/
theorem reference_frame : quiescent_ExpertsReferenceIdeal (hExpertsReferenceIdeal := Cert.ExpertsReferenceIdeal.Gen.facts) :=
  fun m ρ _ => (θ_run _ _ _).mono (fun _ h => ⟨fun c => (h c).2, reference_counters _⟩) (Cert.ExpertsReferenceIdeal.Value.run (F := Ideal) m ρ)

theorem reference_frame_pre :
    quiescent_ExpertsReferenceIdeal_pre_plan_ok (hExpertsReferenceIdeal := Cert.ExpertsReferenceIdeal.Gen.facts) (hPre_plan_ok := Cert.ExpertsPre.facts) :=
  fun m ρ _ => (θ_run _ _ _).mono (fun _ h => ⟨fun c => (h c).2, reference_counters _⟩) (Cert.ExpertsReferenceIdeal.Value.run (F := Ideal) m ρ)

end Cert.ExpertsEquation

end
-- ==== Proof.ProjectionBlock.lean ====
/-
  What the Hyena input projection computes on one tile of 1024 rows: every row normalised by its root mean square,
  modulated, and multiplied into the weights.
-/
module

public import proofs.«01_k».proof.Proof.Gen.ProjectionIdeal.Value
public import Idealize.ShloMosaic.Lib.Pointwise
public import Idealize.ShloMosaic.Lib.IdealHost

@[expose] public section

set_option maxRecDepth 16384

noncomputable section

namespace Cert.ProjectionBlock

open Cert.ProjectionIdeal Cert.ProjectionIdeal.Gen Idealize.ShloMosaic Idealize.ShloMosaic.Pointwise

/-- A row `x`, normalised by its root mean square and the norm's weights `n`, scaled by one more than `s` and shifted by
    `b`, multiplied into the column `w` of the weights, `c` added. -/
def entry (x n s b w : Fin 1024 → EReal) (c : EReal) : EReal :=
  (∑ k : Fin 1024, (x k * Ideal.rsqrt (Ideal.div (∑ j : Fin 1024, x j * x j) (Ideal.ofBits .f32 0x44800000#32) + Ideal.ofBits .f32 0x358637BD#32) * n k
    * (Ideal.ofBits .f32 0x3F800000#32 + s k) + b k) * w k) + c

theorem payload_apply (x : FVec Ideal S1024x1024 .f32) (n : FVec Ideal S1x1024 .f32) (s b : FVec Ideal S1x1x1024 .f32)
    (w : FVec Ideal S1024x3072 .bf16) (c : FVec Ideal S1x3072 .f32) (r : Fin 1024) (l : Fin 3072) :
    k0_pay1 (F := Ideal) x n s b w c (ix2 r l)
      = entry (fun k => x (ix2 r k)) (fun k => n (ix2 0 k)) (fun k => s (ix3 0 0 k)) (fun k => b (ix3 0 0 k)) (fun k => w (ix2 k l)) (c (ix2 0 l)) := by
  unfold entry
  pointwise [k0_pay1]

theorem hz2 : (![0, 0] : Fin 2 → ℕ) = fun _ => 0 := by funext a; match a with | ⟨0, _⟩ => rfl | ⟨1, _⟩ => rfl

/-- Row `1` of a tile's modulation vectors is its scale. -/
theorem scale_row (x : FVec Ideal S1x6x1024 .f32) (k : Fin 1024) : View.ld (Val := Elt Ideal) (e' := .f32) x r0_2 (ix3 0 0 k) = x (ix3 0 1 k) := by
  refine congrArg x (funext fun a => Fin.ext ?_)
  match a with
  | ⟨0, _⟩ => rfl
  | ⟨1, _⟩ => rfl
  | ⟨2, _⟩ => show 0 + 1 * k.1 = k.1; omega

/-- Row `0` of a tile's modulation vectors is its shift. -/
theorem shift_row (x : FVec Ideal S1x6x1024 .f32) (k : Fin 1024) : View.ld (Val := Elt Ideal) (e' := .f32) x r0_3 (ix3 0 0 k) = x (ix3 0 0 k) := by
  refine congrArg x (funext fun a => Fin.ext ?_)
  match a with
  | ⟨0, _⟩ => rfl
  | ⟨1, _⟩ => rfl
  | ⟨2, _⟩ => show 0 + 1 * k.1 = k.1; omega

/-- What the body leaves in the output's staging buffer, at a row and a column of the tile. -/
theorem out_apply (x : FVec Ideal S1024x1024 .f32) (a : FVec Ideal S1x6x1024 .f32) (n : FVec Ideal S1x1024 .f32)
    (w : FVec Ideal S1024x3072 .bf16) (c : FVec Ideal S1x3072 .f32) (r : Fin 1024) (l : Fin 3072) :
    out0_5 (F := Ideal) x a n w c (ix2 r l)
      = entry (fun k => x (ix2 r k)) (fun k => n (ix2 0 k)) (fun k => a (ix3 0 1 k)) (fun k => a (ix3 0 0 k)) (fun k => w (ix2 k l)) (c (ix2 0 l)) := by
  have h : out0_5 (F := Ideal) x a n w c
      = k0_pay1 (F := Ideal) x n (View.ld (Val := Elt Ideal) (e' := .f32) a r0_2) (View.ld (Val := Elt Ideal) (e' := .f32) a r0_3) w c := by
    unfold out0_5
    have e0 : View.ld (Val := Elt Ideal) (e' := .f32) x r0_0 = x := View.ld_unit_zero (Val := Elt Ideal) hz2 _ _
    have e1 : View.ld (Val := Elt Ideal) (e' := .f32) n r0_1 = n := View.ld_unit_zero (Val := Elt Ideal) hz2 _ _
    have e4 : View.ld (Val := Elt Ideal) (e' := .bf16) w r0_4 = w := View.ld_unit_zero (Val := Elt Ideal) hz2 _ _
    have e5 : View.ld (Val := Elt Ideal) (e' := .f32) c r0_5 = c := View.ld_unit_zero (Val := Elt Ideal) hz2 _ _
    rw [e0, e1, e4, e5]
    exact View.canon_unit_zero hz2 _ _
  rw [h, payload_apply]
  exact congrArg₂ (fun s b => entry (fun k => x (ix2 r k)) (fun k => n (ix2 0 k)) s b (fun k => w (ix2 k l)) (c (ix2 0 l)))
    (funext fun k => scale_row a k) (funext fun k => shift_row a k)

end Cert.ProjectionBlock

end
-- ==== Proof.ProjectionArray.lean ====
/-
  What the Hyena input projection's result array holds after the run: every row of the launched tokens, normalised,
  modulated by the conditioning of its tile, and multiplied into the launched weights.
-/
module

public import proofs.«01_k».proof.Proof.ProjectionBlock
public import Idealize.ShloMosaic.Lib.StableHlo.ReadAt

@[expose] public section

set_option maxRecDepth 16384

noncomputable section

namespace Cert.ProjectionArray

open Cert.ProjectionIdeal Cert.ProjectionIdeal.Gen Idealize.ShloMosaic Idealize.ShloMosaic.Pointwise Idealize.ShloMosaic.TcCoe
open Cert.ProjectionBlock (entry)

variable (m : (ℓ : Loc nD τ sig) → Buf (Elt Ideal) ℓ) (c : Dev nD)

/-- The tokens of the launch. -/
abbrev tokens : FVec Ideal S12288x1024 .f32 := m ((c : Thread nD τ).loc main_arg0)
/-- The modulation vectors of the launch. -/
abbrev modulation : FVec Ideal S8x6x1024 .f32 := m ((c : Thread nD τ).loc main_arg1)
/-- The norms' weights of the launch. -/
abbrev norms : FVec Ideal S2x1024 .f32 := m ((c : Thread nD τ).loc main_arg2)
/-- The projection's weights of the launch. -/
abbrev weights : FVec Ideal S1x1024x3072 .f32 := m ((c : Thread nD τ).loc main_arg3)
/-- The projection's bias of the launch. -/
abbrev bias : FVec Ideal S1x3072 .f32 := m ((c : Thread nD τ).loc main_arg4)

/-! ## What the call is launched on -/

theorem norms_apply (k : Fin 1024) : V m c main_v5 (ix2 0 k) = norms m c (ix2 1 k) := by
  unfold V
  after_reads_at

theorem weights_apply (k : Fin 1024) (l : Fin 3072) : V m c main_v3 (ix2 k l) = weights m c (ix3 0 k l) := by
  unfold V
  after_reads_at

theorem bias_apply (l : Fin 3072) : V m c main_v6 (ix2 0 l) = bias m c (ix2 0 l) := by
  unfold V
  after_reads_at

/-! ## The blocks of a tile -/

theorem index0 : ∀ t : Fin cfg0.N, win0_0.index t = ![t.1, 0] := (by decide +kernel : ∀ t : Fin grid0.N, win0_0.index t = ![t.1, 0])
theorem index1 : ∀ t : Fin cfg0.N, win0_1.index t = ![if t.1 < 8 then 0 else 1 + (t.1 - 8) / 2, 0, 0] :=
  (by decide +kernel : ∀ t : Fin grid0.N, win0_1.index t = ![if t.1 < 8 then 0 else 1 + (t.1 - 8) / 2, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.1, 0] := (by decide +kernel : ∀ t : Fin grid0.N, win0_5.index t = ![t.1, 0])

/-- The row of the modulation vectors a row of the tokens is conditioned on: the first for the context, then one for each
    latent sequence of 2048 tokens. -/
def condition (R : Fin 12288) : Fin 8 := if R.1 < 8192 then 0 else ⟨1 + (R.1 - 8192) / 2048, by omega⟩

/-- A tile's tokens. -/
theorem block0 (t : Fin cfg0.N) (r k : Fin 1024) (R : Fin 12288) (hR : R.1 = t.1 * 1024 + r.1) :
    iblk m c 0 t (ix2 r k) = tokens m c (ix2 R k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 1024 + 1 * r.1 = R.1; rw [index0, hR]; show t.1 * 1024 + 1 * r.1 = _; omega
  | ⟨1, _⟩ => show win0_0.index t 1 * 1024 + 1 * k.1 = k.1; rw [index0]; show 0 * 1024 + 1 * k.1 = k.1; omega

/-- A tile's modulation vectors. -/
theorem block1 (t : Fin cfg0.N) (r : Fin 1024) (i : Fin 6) (k : Fin 1024) (R : Fin 12288) (hR : R.1 = t.1 * 1024 + r.1) :
    iblk m c 1 t (ix3 0 i k) = modulation m c (ix3 (condition R) i k) := by
  refine Eq.trans ?_ (congrFun (V_main_arg1 m c) _)
  unfold iblk
  rw [View.read_apply]
  show V m c main_arg1 _ = V m c main_arg1 _
  congr 1
  funext a
  apply Fin.ext
  match a with
  | ⟨0, _⟩ =>
    show win0_1.index t 0 * 1 + 1 * 0 = (condition R).1
    rw [index1]
    show (if t.1 < 8 then 0 else 1 + (t.1 - 8) / 2) * 1 + 1 * 0 = (condition R).1
    unfold condition
    have := r.2
    by_cases h : t.1 < 8
    · rw [if_pos h, if_pos (by omega)]; rfl
    · rw [if_neg h, if_neg (by omega)]; show (1 + (t.1 - 8) / 2) * 1 + 1 * 0 = 1 + (R.1 - 8192) / 2048; omega
  | ⟨1, _⟩ => show win0_1.index t 1 * 6 + 1 * i.1 = i.1; rw [index1]; show 0 * 6 + 1 * i.1 = i.1; omega
  | ⟨2, _⟩ => show win0_1.index t 2 * 1024 + 1 * k.1 = k.1; rw [index1]; show 0 * 1024 + 1 * k.1 = k.1; omega

/-- A tile's norm weights. -/
theorem block2 (t : Fin cfg0.N) (k : Fin 1024) : iblk m c 2 t (ix2 0 k) = norms m c (ix2 1 k) := by
  rw [← norms_apply]
  unfold iblk
  rw [View.read_apply]
  show V m c main_v5 _ = _
  congr 1
  funext a
  apply Fin.ext
  match a with
  | ⟨0, _⟩ => show win0_2.index t 0 * 1 + 1 * 0 = 0; rw [index2]; rfl
  | ⟨1, _⟩ => show win0_2.index t 1 * 1024 + 1 * k.1 = k.1; rw [index2]; show 0 * 1024 + 1 * k.1 = k.1; omega

/-- A tile's projection weights. -/
theorem block3 (t : Fin cfg0.N) (k : Fin 1024) (l : Fin 3072) : iblk m c 3 t (ix2 k l) = weights m c (ix3 0 k l) := by
  rw [← weights_apply]
  unfold iblk
  rw [View.read_apply]
  show V m c main_v3 _ = _
  congr 1
  funext a
  apply Fin.ext
  match a with
  | ⟨0, _⟩ => show win0_3.index t 0 * 1024 + 1 * k.1 = k.1; rw [index3]; show 0 * 1024 + 1 * k.1 = k.1; omega
  | ⟨1, _⟩ => show win0_3.index t 1 * 3072 + 1 * l.1 = l.1; rw [index3]; show 0 * 3072 + 1 * l.1 = l.1; omega

/-- A tile's bias. -/
theorem block4 (t : Fin cfg0.N) (l : Fin 3072) : iblk m c 4 t (ix2 0 l) = bias m c (ix2 0 l) := by
  rw [← bias_apply]
  unfold iblk
  rw [View.read_apply]
  show V m c main_v6 _ = _
  congr 1
  funext a
  apply Fin.ext
  match a with
  | ⟨0, _⟩ => show win0_4.index t 0 * 1 + 1 * 0 = 0; rw [index4]; rfl
  | ⟨1, _⟩ => show win0_4.index t 1 * 3072 + 1 * l.1 = l.1; rw [index4]; show 0 * 3072 + 1 * l.1 = l.1; omega

/-- What the projection gives at row `R` and column `l`, of its five arrays. -/
def value (x : FVec Ideal S12288x1024 .f32) (a : FVec Ideal S8x6x1024 .f32) (n : FVec Ideal S2x1024 .f32) (w : FVec Ideal S1x1024x3072 .f32)
    (b : FVec Ideal S1x3072 .f32) (R : Fin 12288) (l : Fin 3072) : EReal :=
  entry (fun k => x (ix2 R k)) (fun k => n (ix2 1 k)) (fun k => a (ix3 (condition R) 1 k)) (fun k => a (ix3 (condition R) 0 k))
    (fun k => w (ix3 0 k l)) (b (ix2 0 l))

/-- The result array at a row and a column. -/
theorem array_apply (R : Fin 12288) (l : Fin 3072) :
    (dats m 0 c).arrAt 5 cfg0.N (ix2 R l) = value (tokens m c) (modulation m c) (norms m c) (weights m c) (bias m c) R l := by
  have hN : cfg0.N = 12 := N_0
  obtain ⟨t, ht⟩ : ∃ t : Fin cfg0.N, t.1 = R.1 / 1024 := ⟨⟨_, by omega⟩, rfl⟩
  obtain ⟨r, hr⟩ : ∃ r : Fin 1024, r.1 = R.1 % 1024 := ⟨⟨_, by omega⟩, rfl⟩
  have hR : R.1 = t.1 * 1024 + r.1 := by omega
  have h := congrFun (Value.blocks5 m c t (flush0_5 t)) (ix2 r l)
  rw [Value.flushed5, View.read_apply] at h
  have e : (dats m 0 c).arrAt 5 cfg0.N (ix2 R l)
      = out0_5 (F := Ideal) (iblk m c 0 t) (iblk m c 1 t) (iblk m c 2 t) (iblk m c 3 t) (iblk m c 4 t) (ix2 r l) := by
    refine Eq.trans ?_ h
    show (dats m 0 c).arrAt 5 cfg0.N _ = (dats m 0 c).arrAt 5 cfg0.N _
    congr 1
    funext a
    apply Fin.ext
    match a with
    | ⟨0, _⟩ => show R.1 = win0_5.index t 0 * 1024 + 1 * r.1; rw [index5, hR]; show _ = t.1 * 1024 + 1 * r.1; omega
    | ⟨1, _⟩ => show l.1 = win0_5.index t 1 * 3072 + 1 * l.1; rw [index5]; show _ = 0 * 3072 + 1 * l.1; omega
  rw [e, ProjectionBlock.out_apply]
  unfold value
  simp only [block0 m c t r _ R hR, block1 m c t r _ _ R hR, block2, block3, block4]

end Cert.ProjectionArray

end
-- ==== Proof.ProjectionReference.lean ====
/-
  What the projection's reference computes: for the context and for the latent sequences, the tokens normalised by their
  root mean square, modulated, and multiplied into the weights, read at an index of the result.
-/
module

public import proofs.«01_k».proof.Proof.Gen.ProjectionReferenceIdeal.Run
public import proofs.«01_k».proof.Proof.ProjectionArray

@[expose] public section

set_option maxRecDepth 16384

noncomputable section

namespace Cert.ProjectionReference

open Cert.ProjectionReferenceIdeal Cert.ProjectionReferenceIdeal.Gen Idealize.ShloMosaic Idealize.ShloMosaic.TcCoe Idealize.SL.Sem Idealize.ShloMosaic.Pointwise
open Cert.ProjectionBlock (entry)
open Cert.ProjectionArray (condition value)

/-! ## The context -/

/-- The context's tokens. -/
def context (x : FVec Ideal S12288x1024 .f32) : FVec Ideal S32x256x1024 .f32 :=
  shapeCast _ (extractStridedSlice S8192x1024 ![0, 0] x slices_S12288x1024_S8192x1024_0_0) shapeCasts_S8192x1024_S32x256x1024

/-- The reciprocal root mean squares of the context's tokens. -/
def contextRms (y : FVec Ideal S32x256x1024 .f32) : FVec Ideal S32x256x1 .f32 :=
  Host.rsqrt (addf (Host.divf (broadcastInDim S32x256x1 ![0, 1] bcast_S32x256_S32x256x1_0_1 (Host.reduceAdd (mulf y y) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))

/-- The context's tokens, normalised and modulated. -/
def contextInput (y : FVec Ideal S32x256x1024 .f32) (a : FVec Ideal S8x6x1024 .f32) (n : FVec Ideal S2x1024 .f32) : FVec Ideal S32x256x1024 .f32 :=
  addf (mulf (mulf (mulf y (broadcastInDim S32x256x1024 ![0, 1, 2] bcast_S32x256x1_S32x256x1024_0_1_2 (contextRms y)))
      (broadcastInDim S32x256x1024 ![0, 1, 2] bcast_S1x1x1024_S32x256x1024_0_1_2 (broadcastInDim S1x1x1024 ![2] bcast_S1024_S1x1x1024_2 (shapeCast _ (extractStridedSlice S1x1024 ![1, 0] n slices_S2x1024_S1x1024_1_0) shapeCasts_S1x1024_S1024))))
      (broadcastInDim S32x256x1024 ![0, 1, 2] bcast_S1x1x1024_S32x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] a slices_S8x6x1024_S1x1x1024_0_1_0) shapeCasts_S1x1x1024_S1x1024)))))
    (broadcastInDim S32x256x1024 ![0, 1, 2] bcast_S1x1x1024_S32x256x1024_0_1_2 (broadcastInDim S1x1x1024 ![0, 2] bcast_S1x1024_S1x1x1024_0_2 (shapeCast _ (extractStridedSlice S1x1x1024 ![0, 0, 0] a slices_S8x6x1024_S1x1x1024_0_0_0) shapeCasts_S1x1x1024_S1x1024)))

/-- The context's tokens, multiplied into the weights, the bias added. -/
def contextOutput (h : FVec Ideal S32x256x1024 .f32) (w : FVec Ideal S1x1024x3072 .f32) (b : FVec Ideal S1x3072 .f32) : FVec Ideal S32x256x3072 .f32 :=
  addf (Host.dotGeneral dot_S32x256x1024_S1024x3072_S32x256x3072_2_0_01_1_n_n none h (shapeCast _ w shapeCasts_S1x1024x3072_S1024x3072))
    (broadcastInDim S32x256x3072 ![0, 1, 2] bcast_S1x1x3072_S32x256x3072_0_1_2 (broadcastInDim S1x1x3072 ![2] bcast_S3072_S1x1x3072_2 (shapeCast _ b shapeCasts_S1x3072_S3072)))

theorem context_apply (x : FVec Ideal S12288x1024 .f32) (s : Fin 32) (p : Fin 256) (k : Fin 1024) :
    context x (ix3 s p k) = x (ix2 (⟨s.1 * 256 + p.1, by omega⟩ : Fin 12288) k) := by
  pointwise [context]

theorem contextRms_apply (y : FVec Ideal S32x256x1024 .f32) (s : Fin 32) (p : Fin 256) :
    contextRms y (ix3 s p 0) = Ideal.rsqrt (Ideal.div (∑ j : Fin 1024, y (ix3 s p j) * y (ix3 s p j)) (Ideal.ofBits .f32 0x44800000#32) + Ideal.ofBits .f32 0x358637BD#32) := by
  pointwise [contextRms]

theorem contextInput_apply (y : FVec Ideal S32x256x1024 .f32) (a : FVec Ideal S8x6x1024 .f32) (n : FVec Ideal S2x1024 .f32) (s : Fin 32) (p : Fin 256) (k : Fin 1024) :
    contextInput y a n (ix3 s p k) = y (ix3 s p k) * contextRms y (ix3 s p 0) * n (ix2 1 k) * (Ideal.ofBits .f32 0x3F800000#32 + a (ix3 0 1 k)) + a (ix3 0 0 k) := by
  pointwise [contextInput]

theorem contextOutput_apply (h : FVec Ideal S32x256x1024 .f32) (w : FVec Ideal S1x1024x3072 .f32) (b : FVec Ideal S1x3072 .f32) (s : Fin 32) (p : Fin 256) (l : Fin 3072) :
    contextOutput h w b (ix3 s p l) = (∑ k : Fin 1024, h (ix3 s p k) * w (ix3 0 k l)) + b (ix2 0 l) := by
  pointwise [contextOutput]

/-! ## The latent sequences -/

/-- The latent tokens. -/
def latent (x : FVec Ideal S12288x1024 .f32) : FVec Ideal S2x2048x1024 .f32 :=
  shapeCast _ (extractStridedSlice S4096x1024 ![8192, 0] x slices_S12288x1024_S4096x1024_8192_0) shapeCasts_S4096x1024_S2x2048x1024

/-- The reciprocal root mean squares of the latent tokens. -/
def latentRms (y : FVec Ideal S2x2048x1024 .f32) : FVec Ideal S2x2048x1 .f32 :=
  Host.rsqrt (addf (Host.divf (broadcastInDim S2x2048x1 ![0, 1] bcast_S2x2048_S2x2048x1_0_1 (Host.reduceAdd (mulf y y) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))

/-- The latent tokens, normalised and modulated. -/
def latentInput (y : FVec Ideal S2x2048x1024 .f32) (a : FVec Ideal S8x6x1024 .f32) (n : FVec Ideal S2x1024 .f32) : FVec Ideal S2x2048x1024 .f32 :=
  addf (mulf (mulf (mulf y (broadcastInDim S2x2048x1024 ![0, 1, 2] bcast_S2x2048x1_S2x2048x1024_0_1_2 (latentRms y)))
      (broadcastInDim S2x2048x1024 ![0, 1, 2] bcast_S1x1x1024_S2x2048x1024_0_1_2 (broadcastInDim S1x1x1024 ![2] bcast_S1024_S1x1x1024_2 (shapeCast _ (extractStridedSlice S1x1024 ![1, 0] n slices_S2x1024_S1x1024_1_0) shapeCasts_S1x1024_S1024))))
      (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] a slices_S8x6x1024_S2x1x1024_1_1_0) shapeCasts_S2x1x1024_S2x1024)))))
    (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] a slices_S8x6x1024_S2x1x1024_1_0_0) shapeCasts_S2x1x1024_S2x1024)))

/-- The latent tokens, multiplied into the weights, the bias added. -/
def latentOutput (h : FVec Ideal S2x2048x1024 .f32) (w : FVec Ideal S1x1024x3072 .f32) (b : FVec Ideal S1x3072 .f32) : FVec Ideal S2x2048x3072 .f32 :=
  addf (Host.dotGeneral dot_S2x2048x1024_S1024x3072_S2x2048x3072_2_0_01_1_n_n none h (shapeCast _ w shapeCasts_S1x1024x3072_S1024x3072))
    (broadcastInDim S2x2048x3072 ![0, 1, 2] bcast_S1x1x3072_S2x2048x3072_0_1_2 (broadcastInDim S1x1x3072 ![2] bcast_S3072_S1x1x3072_2 (shapeCast _ b shapeCasts_S1x3072_S3072)))

theorem latent_apply (x : FVec Ideal S12288x1024 .f32) (s : Fin 2) (p : Fin 2048) (k : Fin 1024) :
    latent x (ix3 s p k) = x (ix2 (⟨8192 + (s.1 * 2048 + p.1), by omega⟩ : Fin 12288) k) := by
  pointwise [latent]

theorem latentRms_apply (y : FVec Ideal S2x2048x1024 .f32) (s : Fin 2) (p : Fin 2048) :
    latentRms y (ix3 s p 0) = Ideal.rsqrt (Ideal.div (∑ j : Fin 1024, y (ix3 s p j) * y (ix3 s p j)) (Ideal.ofBits .f32 0x44800000#32) + Ideal.ofBits .f32 0x358637BD#32) := by
  pointwise [latentRms]

theorem latentInput_apply (y : FVec Ideal S2x2048x1024 .f32) (a : FVec Ideal S8x6x1024 .f32) (n : FVec Ideal S2x1024 .f32) (s : Fin 2) (p : Fin 2048) (k : Fin 1024) :
    latentInput y a n (ix3 s p k)
      = y (ix3 s p k) * latentRms y (ix3 s p 0) * n (ix2 1 k) * (Ideal.ofBits .f32 0x3F800000#32 + a (ix3 (⟨1 + s.1, by omega⟩ : Fin 8) 1 k)) + a (ix3 (⟨1 + s.1, by omega⟩ : Fin 8) 0 k) := by
  pointwise [latentInput]

theorem latentOutput_apply (h : FVec Ideal S2x2048x1024 .f32) (w : FVec Ideal S1x1024x3072 .f32) (b : FVec Ideal S1x3072 .f32) (s : Fin 2) (p : Fin 2048) (l : Fin 3072) :
    latentOutput h w b (ix3 s p l) = (∑ k : Fin 1024, h (ix3 s p k) * w (ix3 0 k l)) + b (ix2 0 l) := by
  pointwise [latentOutput]

/-! ## The result -/

/-- The context's rows followed by the latent rows. -/
def joined (y : FVec Ideal S32x256x3072 .f32) (z : FVec Ideal S2x2048x3072 .f32) : FVec Ideal S12288x3072 .bf16 :=
  truncf .bf16 (concatenate S12288x3072 0 [⟨S8192x3072, (shapeCast _ y shapeCasts_S32x256x3072_S8192x3072)⟩, ⟨S4096x3072, (shapeCast _ z shapeCasts_S2x2048x3072_S4096x3072)⟩]
    concatenates_S8192x3072_S4096x3072_S12288x3072_d0) bitsLt_bf16_f32

theorem joined_context (y : FVec Ideal S32x256x3072 .f32) (z : FVec Ideal S2x2048x3072 .f32) (r : Fin 8192) (l : Fin 3072) :
    joined y z (ix2 (⟨r.1, by omega⟩ : Fin 12288) l) = y (ix3 (⟨r.1 / 256, by omega⟩ : Fin 32) (⟨r.1 % 256, by omega⟩ : Fin 256) l) := by
  pointwise [joined]

theorem joined_latent (y : FVec Ideal S32x256x3072 .f32) (z : FVec Ideal S2x2048x3072 .f32) (r : Fin 4096) (l : Fin 3072) :
    joined y z (ix2 (⟨8192 + r.1, by omega⟩ : Fin 12288) l) = z (ix3 (⟨r.1 / 2048, by omega⟩ : Fin 2) (⟨r.1 % 2048, by omega⟩ : Fin 2048) l) := by
  pointwise [joined]

/-- The reference's result as one function of its five arrays. -/
def result (x : FVec Ideal S12288x1024 .f32) (a : FVec Ideal S8x6x1024 .f32) (n : FVec Ideal S2x1024 .f32) (w : FVec Ideal S1x1024x3072 .f32)
    (b : FVec Ideal S1x3072 .f32) : FVec Ideal S12288x3072 .bf16 :=
  joined (contextOutput (contextInput (context x) a n) w b) (latentOutput (latentInput (latent x) a n) w b)

/-- The result at a row and a column. -/
theorem result_apply (x : FVec Ideal S12288x1024 .f32) (a : FVec Ideal S8x6x1024 .f32) (n : FVec Ideal S2x1024 .f32) (w : FVec Ideal S1x1024x3072 .f32)
    (b : FVec Ideal S1x3072 .f32) (R : Fin 12288) (l : Fin 3072) : result x a n w b (ix2 R l) = value x a n w b R l := by
  unfold result value entry
  by_cases h : R.1 < 8192
  · have e := joined_context (contextOutput (contextInput (context x) a n) w b) (latentOutput (latentInput (latent x) a n) w b) ⟨R.1, h⟩ l
    have er : (⟨R.1 / 256 * 256 + R.1 % 256, by omega⟩ : Fin 12288) = R := Fin.ext (by simp only; omega)
    have ec : condition R = 0 := if_pos h
    rw [e, contextOutput_apply, ec]
    simp only [contextInput_apply, contextRms_apply, context_apply, er]
  · have e := joined_latent (contextOutput (contextInput (context x) a n) w b) (latentOutput (latentInput (latent x) a n) w b) ⟨R.1 - 8192, by omega⟩ l
    have eR : (⟨8192 + (R.1 - 8192), by omega⟩ : Fin 12288) = R := Fin.ext (by simp only; omega)
    have er : (⟨8192 + ((R.1 - 8192) / 2048 * 2048 + (R.1 - 8192) % 2048), by omega⟩ : Fin 12288) = R := Fin.ext (by simp only; omega)
    have ec : condition R = (⟨1 + (R.1 - 8192) / 2048, by omega⟩ : Fin 8) := if_neg h
    rw [eR] at e
    rw [e, latentOutput_apply, ec]
    simp only [latentInput_apply, latentRms_apply, latent_apply, er]

end Cert.ProjectionReference

end
-- ==== Proof.ProjectionEquation.lean ====
/-
  The Hyena input projection's two programs end with the same result, and its reference ends with its arguments unchanged.
-/
module

public import proofs.«01_k».proof.Defs
public import proofs.«01_k».proof.Proof.ProjectionReference

@[expose] public section

set_option maxRecDepth 16384

noncomputable section

namespace Cert.ProjectionEquation

open Idealize.ShloMosaic Idealize.ShloMosaic.TcCoe Idealize.SL.Sem Idealize.ShloMosaic.Pointwise
open Cert.ProjectionArray (tokens modulation norms weights bias)

/-- The result array after the run is the reference's function of the launched arrays. -/
theorem array_eq (m : (ℓ : Loc Cert.ProjectionIdeal.nD Cert.ProjectionIdeal.τ Cert.ProjectionIdeal.sig) → Buf (Elt Ideal) ℓ) (c : Dev Cert.ProjectionIdeal.nD) :
    (Cert.ProjectionIdeal.Gen.dats m 0 c).arrAt 5 Cert.ProjectionIdeal.cfg0.N
      = Cert.ProjectionReference.result (tokens m c) (modulation m c) (norms m c) (weights m c) (bias m c) := by
  funext i
  obtain ⟨R, l, rfl⟩ : ∃ (R : Fin 12288) (l : Fin 3072), i = ix2 R l := ⟨i 0, i 1, eq_ix2 i⟩
  rw [Cert.ProjectionArray.array_apply]
  exact (Cert.ProjectionReference.result_apply _ _ _ _ _ R l).symm

set_option maxHeartbeats 1000000 in
/-- The reference's run ends with `result` of its arguments in its result buffer. -/
theorem reference_result (m : (ℓ : Loc Cert.ProjectionReferenceIdeal.nD Cert.ProjectionReferenceIdeal.τ Cert.ProjectionReferenceIdeal.sig) → Buf (Elt Ideal) ℓ)
    (c : Dev Cert.ProjectionReferenceIdeal.nD) :
    Cert.ProjectionReferenceIdeal.Value.res_out0 (F := Ideal) m c
      = Cert.ProjectionReference.result (m ((c.tc : Thread Cert.ProjectionReferenceIdeal.nD Cert.ProjectionReferenceIdeal.τ).loc Cert.ProjectionReferenceIdeal.main_arg0))
        (m ((c.tc : Thread Cert.ProjectionReferenceIdeal.nD Cert.ProjectionReferenceIdeal.τ).loc Cert.ProjectionReferenceIdeal.main_arg1))
        (m ((c.tc : Thread Cert.ProjectionReferenceIdeal.nD Cert.ProjectionReferenceIdeal.τ).loc Cert.ProjectionReferenceIdeal.main_arg2))
        (m ((c.tc : Thread Cert.ProjectionReferenceIdeal.nD Cert.ProjectionReferenceIdeal.τ).loc Cert.ProjectionReferenceIdeal.main_arg3))
        (m ((c.tc : Thread Cert.ProjectionReferenceIdeal.nD Cert.ProjectionReferenceIdeal.τ).loc Cert.ProjectionReferenceIdeal.main_arg4)) := rfl

/-- The projection: both programs end with the reference's projection. -/
theorem projection :
    algebraic_ProjectionIdeal_ProjectionReferenceIdeal (hProjectionIdeal := Cert.ProjectionIdeal.Gen.facts)
      (hProjectionReferenceIdeal := Cert.ProjectionReferenceIdeal.Gen.facts) := by
  intro m g m' g' _ hargs
  refine ⟨fun c => Cert.ProjectionReference.result (tokens m c) (modulation m c) (norms m c) (weights m c) (bias m c), ?_, ?_⟩
  · exact (θ_run _ _ _).mono (fun r h c => ⟨(h c).1.trans (array_eq m c), (h c).2⟩) (Cert.ProjectionIdeal.Value.run_blocks m g)
  · refine (θ_run _ _ _).mono (fun r h c => ?_) (Cert.ProjectionReferenceIdeal.Value.run m' g')
    obtain ⟨e0, e1, e2, e3, e4⟩ := hargs c
    refine ⟨(h c).1.trans ((reference_result m' c).trans ?_), (h c).2⟩
    rw [e0, e1, e2, e3, e4]

/-- The reference declares no semaphore, so every counter is at zero. -/
theorem reference_counters {α : Type} [Zero α]
    (f : GSem Cert.ProjectionReferenceIdeal.nD Cert.ProjectionReferenceIdeal.τ Cert.ProjectionReferenceIdeal.sig → α) : f = fun _ => 0 :=
  funext fun s => match s with
    | (_, .reg i) => i.elim0
    | (_, .dma i) => i.elim0

/-- The reference ends with its arguments unchanged and every counter at zero. -/
theorem reference_frame : quiescent_ProjectionReferenceIdeal (hProjectionReferenceIdeal := Cert.ProjectionReferenceIdeal.Gen.facts) :=
  fun m ρ _ => (θ_run _ _ _).mono (fun _ h => ⟨fun c => (h c).2, reference_counters _⟩) (Cert.ProjectionReferenceIdeal.Value.run m ρ)

end Cert.ProjectionEquation

end
-- ==== Proof.QkvIdealTiles.lean ====
/-
  The query, key and value call's tiles: when a window is stored or left alone, and what the body stores.
-/
module

public import proofs.«01_k».proof.Proof.Gen.QkvIdeal.Frame
public import proofs.«01_k».proof.Proof.Gen.QkvIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384
set_option Elab.async false

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body stores the prompts' keys and values. -/
abbrev cond0_0 (i : grid0.Coords) : Prop := k0_cond1 i = 1#1
/-- Decided over the tiles. -/
theorem hcond0_0 : ∀ t : Fin cfg0.N, cond0_0 (grid0.coords t) ↔ t.val < 16 :=
  (by decide +kernel : ∀ t : Fin grid0.N, cond0_0 (grid0.coords t) ↔ t.val < 16)

/-- The condition under which the body stores the samples' keys and values. -/
abbrev cond0_1 (i : grid0.Coords) : Prop := k0_cond2 i = 1#1
/-- Decided over the tiles. -/
theorem hcond0_1 : ∀ t : Fin cfg0.N, cond0_1 (grid0.coords t) ↔ 16 ≤ t.val :=
  (by decide +kernel : ∀ t : Fin grid0.N, cond0_1 (grid0.coords t) ↔ 16 ≤ t.val)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl

/-- Each window's staging buffer at a tile. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x4x256x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x4x256x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x4x256x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x4x256x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4x256x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x4x512x256 .bf16 := win0_18.stage (cfg0.slots t 18)
abbrev hs0_18 (t : Fin cfg0.N) : (ms0_18 t).IsWhole := hstage0_18 ((cfg0.slots t 18).cast nbuf0_18)

/-- The two result windows are left alone at the samples' tiles, -/
theorem idle0_13 : ∀ t : Fin cfg0.N, cfg0.idle 13 (grid0.coords t) = decide (16 ≤ t.val) :=
  (by decide +kernel : ∀ t : Fin grid0.N, idle0 13 (grid0.coords t) = decide (16 ≤ t.val))
theorem idle0_14 : ∀ t : Fin cfg0.N, cfg0.idle 14 (grid0.coords t) = decide (16 ≤ t.val) :=
  (by decide +kernel : ∀ t : Fin grid0.N, idle0 14 (grid0.coords t) = decide (16 ≤ t.val))
/-- and written back after the prompts' tiles but the last, and at the end. -/
theorem flush0_13 : ∀ t : Fin cfg0.N, (cfg0.win 13).flush t = (decide (t.val < 15) || decide (t.val = 23)) :=
  (by decide +kernel : ∀ t : Fin grid0.N, win0_13.flush t = (decide (t.val < 15) || decide (t.val = 23)))
theorem flush0_14 : ∀ t : Fin cfg0.N, (cfg0.win 14).flush t = (decide (t.val < 15) || decide (t.val = 23)) :=
  (by decide +kernel : ∀ t : Fin grid0.N, win0_14.flush t = (decide (t.val < 15) || decide (t.val = 23)))

/-- At the samples' tiles the result buffer holds what the last prompts' tile stored. -/
theorem fresh0_13 (t : Fin cfg0.N) : cfg0.fresh 13 t.val = decide (t.val < 16) := by
  have e := Pipeline.Cfg.fresh_tab cfg0 13 (fun n => decide (n < 16) || decide (n = 24)) (by decide) (fun s => by
    rw [flush0_13, idle0_13, Bool.eq_iff_iff]
    simp only [Bool.and_eq_true, Bool.or_eq_true, decide_eq_true_eq]
    have hs : s.val < 24 := lt_of_lt_of_eq s.isLt (show cfg0.N = 24 from N_0)
    omega) t.val (Nat.le_of_lt t.isLt)
  have ht : t.val < 24 := lt_of_lt_of_eq t.isLt (show cfg0.N = 24 from N_0)
  rw [e, decide_eq_false (show ¬t.val = 24 by omega), Bool.or_false]

/-- At the samples' tiles the result buffer holds what the last prompts' tile stored. -/
theorem fresh0_14 (t : Fin cfg0.N) : cfg0.fresh 14 t.val = decide (t.val < 16) := by
  have e := Pipeline.Cfg.fresh_tab cfg0 14 (fun n => decide (n < 16) || decide (n = 24)) (by decide) (fun s => by
    rw [flush0_14, idle0_14, Bool.eq_iff_iff]
    simp only [Bool.and_eq_true, Bool.or_eq_true, decide_eq_true_eq]
    have hs : s.val < 24 := lt_of_lt_of_eq s.isLt (show cfg0.N = 24 from N_0)
    omega) t.val (Nat.le_of_lt t.isLt)
  have ht : t.val < 24 := lt_of_lt_of_eq t.isLt (show cfg0.N = 24 from N_0)
  rw [e, decide_eq_false (show ¬t.val = 24 by omega), Bool.or_false]

/-- A buffer of the result's block, through which its contents are stated. -/
abbrev VO0_13 : View sig .tc .vmem S2x4x256x64 .f32 := (Memref.whole cc0_stg13_0 : Memref sig .tc .vmem S2x4x256x64 .f32).view

/-- A buffer of the result's block, through which its contents are stated. -/
abbrev VO0_14 : View sig .tc .vmem S2x4x256x64 .f32 := (Memref.whole cc0_stg14_0 : Memref sig .tc .vmem S2x4x256x64 .f32).view

/-! ## What the body computes at a tile -/

/-- The projection of the tile's rows. -/
def accOf (i : grid0.Coords) (x0 : S512x1024.Idx → Elt F .f32) (x1 : S512x1024.Idx → Elt F .f32) (x2 : S1x6x1024.Idx → Elt F .f32) (x3 : S1x1024.Idx → Elt F .f32) (x4 : S1024x1536.Idx → Elt F .bf16) : FVec F S512x1536 .f32 :=
  k0_pay39 i (fun y => x0 ((Rect.unit (s := S512x1024) ![0, 0] S512x1024.size inb_S512x1024_S512x1024_0_0).toLoadRect.idx y)) (fun y => x1 ((Rect.unit (s := S512x1024) ![0, 0] S512x1024.size inb_S512x1024_S512x1024_0_0).toLoadRect.idx y)) (fun y => x3 ((Rect.unit (s := S1x1024) ![0, 0] S1x1024.size inb_S1x1024_S1x1024_0_0).toLoadRect.idx y))
    (fun y => x2 ((Rect.unit (s := S1x6x1024) ![0, 1, 0] S1x1x1024.size inb_S1x6x1024_S1x1x1024_0_1_0).toLoadRect.idx y)) (fun y => x2 ((Rect.unit (s := S1x6x1024) ![0, 0, 0] S1x1x1024.size inb_S1x6x1024_S1x1x1024_0_0_0).toLoadRect.idx y)) (fun y => x4 ((Rect.unit (s := S1024x1536) ![0, 0] S1024x1536.size inb_S1024x1536_S1024x1536_0_0).toLoadRect.idx y))

/-- The tile's keys. -/
def kOf (i : grid0.Coords) (x0 : S512x1024.Idx → Elt F .f32) (x1 : S512x1024.Idx → Elt F .f32) (x2 : S1x6x1024.Idx → Elt F .f32) (x3 : S1x1024.Idx → Elt F .f32) (x4 : S1024x1536.Idx → Elt F .bf16) (x6 : S1x256.Idx → Elt F .f32) (x7 : S256x256.Idx → Elt F .bf16) (x8 : S512x256.Idx → Elt F .f32) (x9 : S512x256.Idx → Elt F .f32) : FVec F S512x256 .f32 :=
  k0_pay54 (accOf i x0 x1 x2 x3 x4) (k0_pay40 (fun y => x7 ((Rect.unit (s := S256x256) ![0, 0] S256x256.size inb_S256x256_S256x256_0_0).toLoadRect.idx y))) (k0_pay41 (fun y => x8 ((Rect.unit (s := S512x256) ![0, 0] S512x256.size inb_S512x256_S512x256_0_0).toLoadRect.idx y))) (k0_pay42 (fun y => x9 ((Rect.unit (s := S512x256) ![0, 0] S512x256.size inb_S512x256_S512x256_0_0).toLoadRect.idx y)))
    (iota .tc S1x256 32 [1] iota_S1x256_d1_w32) (fun y => x6 ((Rect.unit (s := S1x256) ![0, 0] S1x256.size inb_S1x256_S1x256_0_0).toLoadRect.idx y))

/-- The tile's values. -/
def vOf (i : grid0.Coords) (x0 : S512x1024.Idx → Elt F .f32) (x1 : S512x1024.Idx → Elt F .f32) (x2 : S1x6x1024.Idx → Elt F .f32) (x3 : S1x1024.Idx → Elt F .f32) (x4 : S1024x1536.Idx → Elt F .bf16) : FVec F S512x256 .f32 :=
  k0_pay55 (accOf i x0 x1 x2 x3 x4)

/-- The eight stores of the keys, a sequence's head each, the last one first. -/
def kPieces (k : FVec F S512x256 .f32) : List (View.Piece (Elt F) S2x4x256x64 .f32) :=
  [⟨Rect.unit ![1, 3, 0, 0] S1x1x256x64.size inb_S2x4x256x64_S1x1x256x64_1_3_0_0, shapeCast S1x1x256x64 (extractStridedSlice S256x64 ![256, 192] k slices_S512x256_o256_192_S256x64) shapeCasts_S256x64_S1x1x256x64⟩,
    ⟨Rect.unit ![1, 2, 0, 0] S1x1x256x64.size inb_S2x4x256x64_S1x1x256x64_1_2_0_0, k0_pay29 k⟩,
    ⟨Rect.unit ![1, 1, 0, 0] S1x1x256x64.size inb_S2x4x256x64_S1x1x256x64_1_1_0_0, k0_pay25 k⟩,
    ⟨Rect.unit ![1, 0, 0, 0] S1x1x256x64.size inb_S2x4x256x64_S1x1x256x64_1_0_0_0, k0_pay21 k⟩,
    ⟨Rect.unit ![0, 3, 0, 0] S1x1x256x64.size inb_S2x4x256x64_S1x1x256x64_0_3_0_0, k0_pay16 k⟩,
    ⟨Rect.unit ![0, 2, 0, 0] S1x1x256x64.size inb_S2x4x256x64_S1x1x256x64_0_2_0_0, k0_pay12 k⟩,
    ⟨Rect.unit ![0, 1, 0, 0] S1x1x256x64.size inb_S2x4x256x64_S1x1x256x64_0_1_0_0, k0_pay7 k⟩,
    ⟨Rect.unit ![0, 0, 0, 0] S1x1x256x64.size inb_S2x4x256x64_S1x1x256x64_0_0_0_0, k0_pay3 k⟩]

/-- The eight stores of the values. -/
def vPieces (v : FVec F S512x256 .f32) : List (View.Piece (Elt F) S2x4x256x64 .f32) :=
  [⟨Rect.unit ![1, 3, 0, 0] S1x1x256x64.size inb_S2x4x256x64_S1x1x256x64_1_3_0_0, shapeCast S1x1x256x64 (extractStridedSlice S256x64 ![256, 192] v slices_S512x256_o256_192_S256x64) shapeCasts_S256x64_S1x1x256x64⟩,
    ⟨Rect.unit ![1, 2, 0, 0] S1x1x256x64.size inb_S2x4x256x64_S1x1x256x64_1_2_0_0, k0_pay30 v⟩,
    ⟨Rect.unit ![1, 1, 0, 0] S1x1x256x64.size inb_S2x4x256x64_S1x1x256x64_1_1_0_0, k0_pay26 v⟩,
    ⟨Rect.unit ![1, 0, 0, 0] S1x1x256x64.size inb_S2x4x256x64_S1x1x256x64_1_0_0_0, k0_pay22 v⟩,
    ⟨Rect.unit ![0, 3, 0, 0] S1x1x256x64.size inb_S2x4x256x64_S1x1x256x64_0_3_0_0, k0_pay18 (k0_pay17 v)⟩,
    ⟨Rect.unit ![0, 2, 0, 0] S1x1x256x64.size inb_S2x4x256x64_S1x1x256x64_0_2_0_0, k0_pay13 v⟩,
    ⟨Rect.unit ![0, 1, 0, 0] S1x1x256x64.size inb_S2x4x256x64_S1x1x256x64_0_1_0_0, k0_pay8 v⟩,
    ⟨Rect.unit ![0, 0, 0, 0] S1x1x256x64.size inb_S2x4x256x64_S1x1x256x64_0_0_0_0, k0_pay4 v⟩]

theorem kPieces_cover (k : FVec F S512x256 .f32) (y : S2x4x256x64.Idx) : ∃ pc ∈ kPieces k, y ∈ pc.1.set :=
  View.cover_of_tiledL (kPieces k) S1x1x256x64.size (by sl_kernel_rfl) y
theorem vPieces_cover (v : FVec F S512x256 .f32) (y : S2x4x256x64.Idx) : ∃ pc ∈ vPieces v, y ∈ pc.1.set :=
  View.cover_of_tiledL (vPieces v) S1x1x256x64.size (by sl_kernel_rfl) y

/-- What a prompts' tile leaves in the keys' block, -/
def kBlock (k : FVec F S512x256 .f32) : S2x4x256x64.Idx → Elt F .f32 :=
  VO0_13.read (Elt F) (VO0_13.writes (Elt F) VO0_13.junk (kPieces k))
/-- and in the values'. -/
def vBlock (v : FVec F S512x256 .f32) : S2x4x256x64.Idx → Elt F .f32 :=
  VO0_14.read (Elt F) (VO0_14.writes (Elt F) VO0_14.junk (vPieces v))

end Cert.QkvIdeal.Gen

end
-- ==== Proof.QkvEntry.lean ====
/-
  The keys and values of a token, as functions of extended reals.
-/
module

public import Idealize.ShloMosaic.Lib.Pointwise

@[expose] public section

noncomputable section

namespace Cert.QkvEntry

open Idealize.ShloMosaic

/-- A token `x`, normalised by its root mean square and the norm's weights `n`, scaled by one more than `s` and shifted by
    `b`, multiplied into the column `w` of the weights. -/
def projected (x n s b w : Fin 1024 → EReal) : EReal :=
  ∑ k : Fin 1024, (x k * Ideal.rsqrt (Ideal.div (∑ j : Fin 1024, x j * x j) (Ideal.ofBits .f32 0x44800000#32) + Ideal.ofBits .f32 0x358637BD#32) * n k
    * (Ideal.ofBits .f32 0x3F800000#32 + s k) + b k) * w k

/-- A head `a`, normalised by its root mean square and the norm's weights `g`. -/
def normed (a g : Fin 64 → EReal) (d : Fin 64) : EReal :=
  a d * Ideal.rsqrt (Ideal.div (∑ e : Fin 64, a e * a e) (Ideal.ofBits .f32 0x42800000#32) + Ideal.ofBits .f32 0x358637BD#32) * g d

/-- The key of head `h`: its 64 of the first 256 columns, normalised. -/
def key (x n s b : Fin 1024 → EReal) (w : Fin 1024 → Fin 512 → EReal) (g : Fin 64 → EReal) (h : Fin 4) (d : Fin 64) : EReal :=
  normed (fun e => projected x n s b (fun k => w k (⟨h.1 * 64 + e.1, by omega⟩ : Fin 512))) g d

/-- The value of head `h`: its 64 of the last 256 columns. -/
def value (x n s b : Fin 1024 → EReal) (w : Fin 1024 → Fin 512 → EReal) (h : Fin 4) (d : Fin 64) : EReal :=
  projected x n s b (fun k => w k (⟨256 + h.1 * 64 + d.1, by omega⟩ : Fin 512))

/-- The pattern of one sixty-fourth, -/
theorem ofBits_sixty_fourth : Ideal.ofBits .f32 0x3C800000#32 = ((1 / 64 : ℝ) : EReal) := by
  simp [Ideal.ofBits, Ideal.ieee]; norm_num
  rw [← EReal.coe_mul]; norm_num

/-- of sixty-four, -/
theorem ofBits_sixty_four : Ideal.ofBits .f32 0x42800000#32 = ((64 : ℝ) : EReal) := by
  simp [Ideal.ofBits, Ideal.ieee]; norm_num
  rw [← EReal.coe_mul]; norm_num

/-- of one, -/
theorem ofBits_one : Ideal.ofBits .f32 0x3F800000#32 = 1 := by
  simp [Ideal.ofBits, Ideal.ieee]; norm_num
  rw [← EReal.coe_mul]; norm_num

/-- and of zero. -/
theorem ofBits_zero : Ideal.ofBits .f32 0x00000000#32 = 0 := by simp [Ideal.ofBits, Ideal.ieee]

/-- Division by sixty-four is multiplication by one sixty-fourth. -/
theorem div_sixty_four (x : EReal) : Ideal.div x (Ideal.ofBits .f32 0x42800000#32) = x * Ideal.ofBits .f32 0x3C800000#32 := by
  rw [ofBits_sixty_four, ofBits_sixty_fourth, Ideal.div_coe (by norm_num)]

/-- A table of ones inside a head and zeros outside sums the head's entries. -/
theorem sum_head (f g : Fin 256 → EReal) (h : Fin 4) (hg : ∀ e, g e = if e.1 / 64 = h.1 then 1 else 0) :
    ∑ e, f e * g e = ∑ e : Fin 64, f (⟨h.1 * 64 + e.1, by omega⟩ : Fin 256) := by
  have e1 : ∀ e, f e * g e = if e.1 / 64 = h.1 then f e else 0 := fun e => by
    rw [hg]; split
    · exact mul_one _
    · exact mul_zero _
  rw [Finset.sum_congr rfl fun e _ => e1 e]
  refine (Equiv.sum_comp (finProdFinEquiv (m := 4) (n := 64)) (fun e : Fin 256 => if e.1 / 64 = h.1 then f e else 0)).symm.trans ?_
  rw [Fintype.sum_prod_type, Finset.sum_eq_single h]
  · refine Finset.sum_congr rfl fun e _ => ?_
    have hv : (finProdFinEquiv (h, e) : Fin (4 * 64)).1 = e.1 + 64 * h.1 := rfl
    rw [if_pos (by rw [hv]; omega)]
    exact congrArg f (Fin.ext (by rw [hv]; show _ = h.1 * 64 + e.1; omega))
  · intro j _ hj
    refine Finset.sum_eq_zero fun e _ => ?_
    have hv : (finProdFinEquiv (j, e) : Fin (4 * 64)).1 = e.1 + 64 * j.1 := rfl
    exact if_neg (by rw [hv]; intro hc; exact hj (Fin.ext (by omega)))
  · exact fun hn => absurd (Finset.mem_univ h) hn

end Cert.QkvEntry

end
-- ==== Proof.QkvBlock.lean ====
/-
  What the query, key and value call stores at a tile of the prompts: every row normalised by its root mean square,
  modulated and multiplied into the weights, the keys of each head normalised, the rotation one that moves nothing.
-/
module

public import proofs.«01_k».proof.Proof.QkvIdealTiles
public import proofs.«01_k».proof.Proof.QkvEntry
public import Idealize.ShloMosaic.Lib.Pointwise
public import Idealize.ShloMosaic.Lib.IdealHost

@[expose] public section

set_option maxRecDepth 16384

noncomputable section

namespace Cert.QkvBlock

open Cert.QkvIdeal Cert.QkvIdeal.Gen Idealize.ShloMosaic Idealize.ShloMosaic.Pointwise
open Cert.QkvEntry (projected normed)

/-! ## The projection -/

/-- The rows of a tile, normalised and modulated, multiplied into the weights. -/
theorem project_apply (i : grid0.Coords) (hi : Scalar.cmpi .slt (BitVec.ofNat 32 (i 0).val) 16#32 = 1#1) (x x' : FVec Ideal S512x1024 .f32) (n : FVec Ideal S1x1024 .f32)
    (s b : FVec Ideal S1x1x1024 .f32) (w : FVec Ideal S1024x1536 .bf16) (r : Fin 512) (l : Fin 1536) :
    k0_pay39 (F := Ideal) i x x' n s b w (ix2 r l)
      = projected (fun k => x (ix2 r k)) (fun k => n (ix2 0 k)) (fun k => s (ix3 0 0 k)) (fun k => b (ix3 0 0 k)) (fun k => w (ix2 k l)) := by
  unfold projected
  have e : ∀ a b : FVec Ideal S512x1024 .f32, Scalar.select (Scalar.cmpi .slt (BitVec.ofNat 32 (i 0).val) 16#32) a b = a := fun a b => by rw [hi]; rfl
  unfold k0_pay39
  dsimp only
  rw [e]
  pointwise

/-! ## The keys -/

/-- The keys, normalised. -/
def keyNorm (acc : FVec Ideal S512x1536 .f32) (hs : FVec Ideal S256x256 .bf16) (g : FVec Ideal S1x256 .f32) : FVec Ideal S512x256 .f32 :=
  mulf (mulf (extractStridedSlice S512x256 ![0, 1024] acc slices_S512x1536_o0_1024_S512x256)
      (rsqrt (addf (mulf (matmul dot_S512x256_S256x256_S512x256_1_0_0_1_n_n none (truncf .bf16 (mulf (extractStridedSlice S512x256 ![0, 1024] acc slices_S512x1536_o0_1024_S512x256) (extractStridedSlice S512x256 ![0, 1024] acc slices_S512x1536_o0_1024_S512x256)) bitsLt_bf16_f32) (shapeCast S256x256 hs shapeCasts_S256x256_S256x256) (constant S512x256 .f32 0x00000000#32))
        (broadcast S512x256 (Scalar.ofBits .f32 0x3C800000#32))) (broadcast S512x256 (Scalar.ofBits .f32 0x358637BD#32)))))
    (broadcastTo S512x256 (shapeCast S1x256 g shapeCasts_S1x256_S1x256) broadcasts_S1x256_S512x256)

theorem keyNorm_apply (acc : FVec Ideal S512x1536 .f32) (hs : FVec Ideal S256x256 .bf16) (g : FVec Ideal S1x256 .f32) (r : Fin 512) (l : Fin 256) :
    keyNorm acc hs g (ix2 r l)
      = acc (ix2 r (⟨1024 + l.1, by omega⟩ : Fin 1536)) * Ideal.rsqrt ((∑ e : Fin 256, acc (ix2 r (⟨1024 + e.1, by omega⟩ : Fin 1536)) * acc (ix2 r (⟨1024 + e.1, by omega⟩ : Fin 1536)) * hs (ix2 e l)) * Ideal.ofBits .f32 0x3C800000#32 + Ideal.ofBits .f32 0x358637BD#32)
        * g (ix2 0 l) := by
  pointwise [keyNorm]

/-- The keys' payload is the normalised keys, times one table, plus their partners times another. -/
theorem keys_rotated (acc : FVec Ideal S512x1536 .f32) (hs : FVec Ideal S256x256 .bf16) (cs sn : FVec Ideal S512x256 .f32) (v : IVec S1x256 32) (g : FVec Ideal S1x256 .f32)
    (y : S512x256.Idx) :
    ∃ p : EReal, k0_pay54 (F := Ideal) acc (k0_pay40 (F := Ideal) hs) (k0_pay41 (F := Ideal) cs) (k0_pay42 (F := Ideal) sn) v g y
      = keyNorm acc hs g y * shapeCast S512x256 cs shapeCasts_S512x256_S512x256 y + p * shapeCast S512x256 sn shapeCasts_S512x256_S512x256 y := ⟨_, rfl⟩

theorem same_shape (x : FVec Ideal S512x256 .f32) (r : Fin 512) (l : Fin 256) : shapeCast S512x256 x shapeCasts_S512x256_S512x256 (ix2 r l) = x (ix2 r l) := by
  pointwise

/-- Where the tables hold one and zero, and the third sums the entries of a head, the keys are the head's, normalised. -/
theorem keys_apply (acc : FVec Ideal S512x1536 .f32) (hs : FVec Ideal S256x256 .bf16) (cs sn : FVec Ideal S512x256 .f32) (v : IVec S1x256 32) (g : FVec Ideal S1x256 .f32)
    (hcs : ∀ r l, cs (ix2 r l) = Ideal.ofBits .f32 0x3F800000#32) (hsn : ∀ r l, sn (ix2 r l) = Ideal.ofBits .f32 0x00000000#32)
    (hhs : ∀ e l : Fin 256, hs (ix2 e l) = if e.1 / 64 = l.1 / 64 then 1 else 0) (r : Fin 512) (j : Fin 4) (d : Fin 64) :
    k0_pay54 (F := Ideal) acc (k0_pay40 (F := Ideal) hs) (k0_pay41 (F := Ideal) cs) (k0_pay42 (F := Ideal) sn) v g (ix2 r (⟨j.1 * 64 + d.1, by omega⟩ : Fin 256))
      = normed (fun e => acc (ix2 r (⟨1024 + (j.1 * 64 + e.1), by omega⟩ : Fin 1536))) (fun e => g (ix2 0 (⟨j.1 * 64 + e.1, by omega⟩ : Fin 256))) d := by
  obtain ⟨p, hp⟩ := keys_rotated acc hs cs sn v g (ix2 r (⟨j.1 * 64 + d.1, by omega⟩ : Fin 256))
  rw [hp, same_shape, same_shape, hcs, hsn, QkvEntry.ofBits_one, QkvEntry.ofBits_zero, mul_one, mul_zero, add_zero, keyNorm_apply]
  have hj : (j.1 * 64 + d.1) / 64 = j.1 := by omega
  rw [QkvEntry.sum_head (fun e => acc (ix2 r (⟨1024 + e.1, by omega⟩ : Fin 1536)) * acc (ix2 r (⟨1024 + e.1, by omega⟩ : Fin 1536))) (fun e => hs (ix2 e (⟨j.1 * 64 + d.1, by omega⟩ : Fin 256))) j
    (fun e => by rw [hhs]; show (if e.1 / 64 = (j.1 * 64 + d.1) / 64 then (1 : EReal) else 0) = _; rw [hj])]
  unfold normed
  rw [QkvEntry.div_sixty_four]

/-- The values' columns. -/
theorem values_apply (acc : FVec Ideal S512x1536 .f32) (r : Fin 512) (l : Fin 256) :
    k0_pay55 (F := Ideal) acc (ix2 r l) = acc (ix2 r (⟨1280 + l.1, by omega⟩ : Fin 1536)) := by
  pointwise [k0_pay55]

/-! ## What the body reads -/

theorem hz2 : (![0, 0] : Fin 2 → ℕ) = fun _ => 0 := by funext a; match a with | ⟨0, _⟩ => rfl | ⟨1, _⟩ => rfl

theorem scale_row (x : S1x6x1024.Idx → Elt Ideal .f32) (k : Fin 1024) : x ((Rect.unit (s := S1x6x1024) ![0, 1, 0] S1x1x1024.size inb_S1x6x1024_S1x1x1024_0_1_0).toLoadRect.idx (ix3 0 0 k)) = x (ix3 0 1 k) := by
  refine congrArg x (funext fun a => Fin.ext ?_)
  match a with
  | ⟨0, _⟩ => rfl
  | ⟨1, _⟩ => rfl
  | ⟨2, _⟩ => show 0 + 1 * k.1 = k.1; omega
theorem shift_row (x : S1x6x1024.Idx → Elt Ideal .f32) (k : Fin 1024) : x ((Rect.unit (s := S1x6x1024) ![0, 0, 0] S1x1x1024.size inb_S1x6x1024_S1x1x1024_0_0_0).toLoadRect.idx (ix3 0 0 k)) = x (ix3 0 0 k) := by
  refine congrArg x (funext fun a => Fin.ext ?_)
  match a with
  | ⟨0, _⟩ => rfl
  | ⟨1, _⟩ => rfl
  | ⟨2, _⟩ => show 0 + 1 * k.1 = k.1; omega
theorem whole_row (x : S1x256.Idx → Elt Ideal .f32) (l : Fin 256) : x ((Rect.unit (s := S1x256) ![0, 0] S1x256.size inb_S1x256_S1x256_0_0).toLoadRect.idx (ix2 0 l)) = x (ix2 0 l) := by
  refine congrArg x (funext fun a => Fin.ext ?_)
  match a with
  | ⟨0, _⟩ => rfl
  | ⟨1, _⟩ => show 0 + 1 * l.1 = l.1; omega
theorem whole_table (x : S256x256.Idx → Elt Ideal .bf16) (e l : Fin 256) : x ((Rect.unit (s := S256x256) ![0, 0] S256x256.size inb_S256x256_S256x256_0_0).toLoadRect.idx (ix2 e l)) = x (ix2 e l) := by
  refine congrArg x (funext fun a => Fin.ext ?_)
  match a with
  | ⟨0, _⟩ => show 0 + 1 * e.1 = e.1; omega
  | ⟨1, _⟩ => show 0 + 1 * l.1 = l.1; omega
theorem whole_angles (x : S512x256.Idx → Elt Ideal .f32) (r : Fin 512) (l : Fin 256) : x ((Rect.unit (s := S512x256) ![0, 0] S512x256.size inb_S512x256_S512x256_0_0).toLoadRect.idx (ix2 r l)) = x (ix2 r l) := by
  refine congrArg x (funext fun a => Fin.ext ?_)
  match a with
  | ⟨0, _⟩ => show 0 + 1 * r.1 = r.1; omega
  | ⟨1, _⟩ => show 0 + 1 * l.1 = l.1; omega
theorem whole_tokens (x : S512x1024.Idx → Elt Ideal .f32) (r : Fin 512) (k : Fin 1024) : x ((Rect.unit (s := S512x1024) ![0, 0] S512x1024.size inb_S512x1024_S512x1024_0_0).toLoadRect.idx (ix2 r k)) = x (ix2 r k) := by
  refine congrArg x (funext fun a => Fin.ext ?_)
  match a with
  | ⟨0, _⟩ => show 0 + 1 * r.1 = r.1; omega
  | ⟨1, _⟩ => show 0 + 1 * k.1 = k.1; omega
theorem whole_norm (x : S1x1024.Idx → Elt Ideal .f32) (k : Fin 1024) : x ((Rect.unit (s := S1x1024) ![0, 0] S1x1024.size inb_S1x1024_S1x1024_0_0).toLoadRect.idx (ix2 0 k)) = x (ix2 0 k) := by
  refine congrArg x (funext fun a => Fin.ext ?_)
  match a with
  | ⟨0, _⟩ => rfl
  | ⟨1, _⟩ => show 0 + 1 * k.1 = k.1; omega
theorem whole_weights (x : S1024x1536.Idx → Elt Ideal .bf16) (k : Fin 1024) (l : Fin 1536) : x ((Rect.unit (s := S1024x1536) ![0, 0] S1024x1536.size inb_S1024x1536_S1024x1536_0_0).toLoadRect.idx (ix2 k l)) = x (ix2 k l) := by
  refine congrArg x (funext fun a => Fin.ext ?_)
  match a with
  | ⟨0, _⟩ => show 0 + 1 * k.1 = k.1; omega
  | ⟨1, _⟩ => show 0 + 1 * l.1 = l.1; omega

/-- The projection at a row and a column. -/
theorem accOf_apply (i : grid0.Coords) (hi : Scalar.cmpi .slt (BitVec.ofNat 32 (i 0).val) 16#32 = 1#1) (x0 x1 : S512x1024.Idx → Elt Ideal .f32) (x2 : S1x6x1024.Idx → Elt Ideal .f32)
    (x3 : S1x1024.Idx → Elt Ideal .f32) (x4 : S1024x1536.Idx → Elt Ideal .bf16) (r : Fin 512) (l : Fin 1536) :
    accOf (F := Ideal) i x0 x1 x2 x3 x4 (ix2 r l)
      = projected (fun k => x0 (ix2 r k)) (fun k => x3 (ix2 0 k)) (fun k => x2 (ix3 0 1 k)) (fun k => x2 (ix3 0 0 k)) (fun k => x4 (ix2 k l)) := by
  unfold accOf
  rw [project_apply i hi]
  simp only [whole_tokens, whole_norm, scale_row, shift_row, whole_weights]

/-! ## What it leaves in the result blocks -/

/-- Where a sequence's head of a tile's keys or values goes. -/
def place (k : FVec Ideal S512x256 .f32) : S2x4x256x64.Idx → Elt Ideal .f32 := fun y =>
  k (ix2 (⟨256 * (y 0).1 + (y 2).1, by have h0 : (y 0).1 < 2 := (y 0).2; have h2 : (y 2).1 < 256 := (y 2).2; omega⟩ : Fin 512)
    (⟨64 * (y 1).1 + (y 3).1, by have h1 : (y 1).1 < 4 := (y 1).2; have h3 : (y 3).1 < 64 := (y 3).2; omega⟩ : Fin 256))

theorem piece (k : FVec Ideal S512x256 .f32) (b : Fin 2) (h : Fin 4) (off : Fin 4 → ℕ) (h0 : off 0 = b.1) (h1 : off 1 = h.1) (h2 : off 2 = 0) (h3 : off 3 = 0)
    (inb : ∀ a, off a + S1x1x256x64.size a ≤ S2x4x256x64.size a) (w : S1x1x256x64.Idx → Elt Ideal .f32)
    (hw : ∀ (p : Fin 256) (d : Fin 64), w (ix4 0 0 p d) = k (ix2 (⟨256 * b.1 + p.1, by omega⟩ : Fin 512) (⟨64 * h.1 + d.1, by omega⟩ : Fin 256)))
    (x : S1x1x256x64.Idx) : w x = place k ((Rect.unit (s := S2x4x256x64) off S1x1x256x64.size inb).emb x) := by
  have ex : x = (ix4 (0 : Fin 1) (0 : Fin 1) (x 2 : Fin 256) (x 3 : Fin 64) : S1x1x256x64.Idx) := by
    have e := eq_ix4 (n0 := 1) (n1 := 1) (n2 := 256) (n3 := 64) x
    have e0 : (x 0 : Fin 1) = (0 : Fin 1) := Subsingleton.elim (α := Fin 1) _ _
    have e1 : (x 1 : Fin 1) = (0 : Fin 1) := Subsingleton.elim (α := Fin 1) _ _
    refine e.trans ?_
    rw [e0, e1]
  rw [ex]
  refine (hw (x 2) (x 3)).trans ?_
  unfold place
  refine congrArg k ?_
  refine congrArg₂ ix2 (Fin.ext ?_) (Fin.ext ?_)
  · show 256 * b.1 + (x 2).1 = 256 * (off 0 + 1 * 0) + (off 2 + 1 * (x 2).1); rw [h0, h2]; omega
  · show 64 * h.1 + (x 3).1 = 64 * (off 1 + 1 * 0) + (off 3 + 1 * (x 3).1); rw [h1, h3]; omega

/-- The eight stores of `kPieces` put the heads in their places. -/
theorem kPieces_place (k : FVec Ideal S512x256 .f32) : ∀ p ∈ kPieces (F := Ideal) k, ∀ x : p.1.shape.Idx, p.2 x = place k (p.1.emb x) := by
  unfold kPieces
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact piece k 1 3 ![1, 3, 0, 0] rfl rfl rfl rfl inb_S2x4x256x64_S1x1x256x64_1_3_0_0 _ (fun p d => by pointwise)
  · exact piece k 1 2 ![1, 2, 0, 0] rfl rfl rfl rfl inb_S2x4x256x64_S1x1x256x64_1_2_0_0 _ (fun p d => by pointwise [k0_pay29])
  · exact piece k 1 1 ![1, 1, 0, 0] rfl rfl rfl rfl inb_S2x4x256x64_S1x1x256x64_1_1_0_0 _ (fun p d => by pointwise [k0_pay25])
  · exact piece k 1 0 ![1, 0, 0, 0] rfl rfl rfl rfl inb_S2x4x256x64_S1x1x256x64_1_0_0_0 _ (fun p d => by pointwise [k0_pay21])
  · exact piece k 0 3 ![0, 3, 0, 0] rfl rfl rfl rfl inb_S2x4x256x64_S1x1x256x64_0_3_0_0 _ (fun p d => by pointwise [k0_pay16])
  · exact piece k 0 2 ![0, 2, 0, 0] rfl rfl rfl rfl inb_S2x4x256x64_S1x1x256x64_0_2_0_0 _ (fun p d => by pointwise [k0_pay12])
  · exact piece k 0 1 ![0, 1, 0, 0] rfl rfl rfl rfl inb_S2x4x256x64_S1x1x256x64_0_1_0_0 _ (fun p d => by pointwise [k0_pay7])
  · exact piece k 0 0 ![0, 0, 0, 0] rfl rfl rfl rfl inb_S2x4x256x64_S1x1x256x64_0_0_0_0 _ (fun p d => by pointwise [k0_pay3])

/-- The eight stores of `vPieces` put the heads in their places. -/
theorem vPieces_place (k : FVec Ideal S512x256 .f32) : ∀ p ∈ vPieces (F := Ideal) k, ∀ x : p.1.shape.Idx, p.2 x = place k (p.1.emb x) := by
  unfold vPieces
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact piece k 1 3 ![1, 3, 0, 0] rfl rfl rfl rfl inb_S2x4x256x64_S1x1x256x64_1_3_0_0 _ (fun p d => by pointwise)
  · exact piece k 1 2 ![1, 2, 0, 0] rfl rfl rfl rfl inb_S2x4x256x64_S1x1x256x64_1_2_0_0 _ (fun p d => by pointwise [k0_pay30])
  · exact piece k 1 1 ![1, 1, 0, 0] rfl rfl rfl rfl inb_S2x4x256x64_S1x1x256x64_1_1_0_0 _ (fun p d => by pointwise [k0_pay26])
  · exact piece k 1 0 ![1, 0, 0, 0] rfl rfl rfl rfl inb_S2x4x256x64_S1x1x256x64_1_0_0_0 _ (fun p d => by pointwise [k0_pay22])
  · exact piece k 0 3 ![0, 3, 0, 0] rfl rfl rfl rfl inb_S2x4x256x64_S1x1x256x64_0_3_0_0 _ (fun p d => by pointwise [k0_pay18, k0_pay17])
  · exact piece k 0 2 ![0, 2, 0, 0] rfl rfl rfl rfl inb_S2x4x256x64_S1x1x256x64_0_2_0_0 _ (fun p d => by pointwise [k0_pay13])
  · exact piece k 0 1 ![0, 1, 0, 0] rfl rfl rfl rfl inb_S2x4x256x64_S1x1x256x64_0_1_0_0 _ (fun p d => by pointwise [k0_pay8])
  · exact piece k 0 0 ![0, 0, 0, 0] rfl rfl rfl rfl inb_S2x4x256x64_S1x1x256x64_0_0_0_0 _ (fun p d => by pointwise [k0_pay4])

/-- The keys' block at a sequence, a head, a token and an entry. -/
theorem kBlock_apply (k : FVec Ideal S512x256 .f32) (y : S2x4x256x64.Idx) : kBlock (F := Ideal) k y = place k y := by
  unfold kBlock
  exact View.read_writes_apply_of_pieces _ _ (place k) (kPieces (F := Ideal) k) (kPieces_place k) y (kPieces_cover k y)
/-- The values' block. -/
theorem vBlock_apply (v : FVec Ideal S512x256 .f32) (y : S2x4x256x64.Idx) : vBlock (F := Ideal) v y = place v y := by
  unfold vBlock
  exact View.read_writes_apply_of_pieces _ _ (place v) (vPieces (F := Ideal) v) (vPieces_place v) y (vPieces_cover v y)

end Cert.QkvBlock

end
-- ==== Proof.QkvLaunch.lean ====
/-
  What the query, key and value call is launched on: the arrays the host operations before it make of the arguments.
-/
module

public import proofs.«01_k».proof.Proof.Gen.QkvIdeal.Frame
public import Idealize.ShloMosaic.Lib.Pointwise
public import Idealize.ShloMosaic.Lib.IdealHost
public import Idealize.ShloMosaic.Lib.StableHlo.ReadAt

@[expose] public section

set_option maxRecDepth 16384

noncomputable section

namespace Cert.QkvArray

open Cert.QkvIdeal Cert.QkvIdeal.Gen Idealize.ShloMosaic Idealize.ShloMosaic.Pointwise Idealize.ShloMosaic.TcCoe

variable (m : (ℓ : Loc nD τ sig) → Buf (Elt Ideal) ℓ) (c : Dev nD)

/-- The prompts' tokens of the launch. -/
abbrev tokens : FVec Ideal S32x256x1024 .f32 := m ((c : Thread nD τ).loc main_arg0)
/-- The modulation vectors of the launch. -/
abbrev modulation : FVec Ideal S8x6x1024 .f32 := m ((c : Thread nD τ).loc main_arg2)
/-- The norms' weights of the launch. -/
abbrev norms : FVec Ideal S2x1024 .f32 := m ((c : Thread nD τ).loc main_arg3)
/-- The keys' and values' weights of the launch. -/
abbrev weights : FVec Ideal S1x1024x512 .f32 := m ((c : Thread nD τ).loc main_arg5)
/-- The key norm's weights of the launch. -/
abbrev keyNorms : FVec Ideal S1x64 .f32 := m ((c : Thread nD τ).loc main_arg7)

theorem tokens_apply (R : Fin 8192) (k : Fin 1024) :
    V m c main_v0 (ix2 R k) = tokens m c (ix3 (⟨R.1 / 256, by omega⟩ : Fin 32) (⟨R.1 % 256, by omega⟩ : Fin 256) k) := by
  unfold V
  after_reads_at

theorem norms_apply (k : Fin 1024) : V m c main_v60 (ix2 0 k) = norms m c (ix2 0 k) := by
  unfold V
  after_reads_at

theorem weights_apply (k : Fin 1024) (l : Fin 512) : V m c main_v5 (ix2 k (⟨1024 + l.1, by omega⟩ : Fin 1536)) = weights m c (ix3 0 k l) := by
  unfold V
  after_reads_at
  after_reads_at

theorem keyNorms_apply (l : Fin 256) : V m c main_v68 (ix2 0 l) = keyNorms m c (ix2 0 (⟨l.1 % 64, by omega⟩ : Fin 64)) := by
  unfold V
  after_reads_at

/-- The first rows of two tables, one after the other, are the first's. -/
theorem joined_first (a : FVec Ideal S512x256 .f32) (b : FVec Ideal S2048x256 .f32) (r : Fin 512) (l : Fin 256) :
    concatenate S2560x256 0 [⟨S512x256, a⟩, ⟨S2048x256, b⟩] concatenates_S512x256_S2048x256_S2560x256_d0 (ix2 (⟨r.1, by omega⟩ : Fin 2560) l) = a (ix2 r l) := by
  pointwise

theorem spread_apply (x : BitVec 32) (r : Fin 512) (l : Fin 256) :
    broadcastInDim S512x256 ![] bcast_S_S512x256 (constant (F := Ideal) S_ .f32 x) (ix2 r l) = Ideal.ofBits .f32 x := by
  pointwise

theorem ones_apply (r : Fin 512) (l : Fin 256) : V m c main_v57 (ix2 (⟨r.1, by omega⟩ : Fin 2560) l) = Ideal.ofBits .f32 0x3F800000#32 := by
  unfold V
  after_reads_simp
  exact (joined_first _ _ r l).trans (spread_apply _ r l)

theorem zeros_apply (r : Fin 512) (l : Fin 256) : V m c main_v59 (ix2 (⟨r.1, by omega⟩ : Fin 2560) l) = Ideal.ofBits .f32 0x00000000#32 := by
  unfold V
  after_reads_simp
  exact (joined_first _ _ r l).trans (spread_apply _ r l)

theorem table_apply (e l : Fin 256) : V m c main_v69 (ix2 e l) = Ideal.ofBits .f32 (lit0 (S256x256.rowMajor (ix2 e l))) := by
  unfold V
  after_reads_simp
  rfl

end Cert.QkvArray

end
-- ==== Proof.QkvIdealRunA.lean ====
/-
  The query, key and value call's body at a tile: its run, with what it leaves in the blocks of the keys and values it
  returns.
-/
module

public import proofs.«01_k».proof.Proof.QkvIdealTiles
public import proofs.«01_k».proof.Proof.Gen.QkvIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384
set_option Elab.async false

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- A prompts' tile: what the body leaves in the two result blocks, with the proof that it runs to them. -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S512x256 .f32) (harg10 : arg10.IsWhole) (arg11 : Memref sig .tc .vmem S256x1024 .bf16) (harg11 : arg11.IsWhole) (arg12 : Memref sig .tc .vmem S1024x256 .bf16) (harg12 : arg12.IsWhole) (arg13 : Memref sig .tc .vmem S512x1024 .bf16) (harg13 : arg13.IsWhole) (arg14 : Memref sig .tc .vmem S2x4x256x64 .f32) (harg14 : arg14.IsWhole) (arg15 : Memref sig .tc .vmem S2x4x256x64 .f32) (harg15 : arg15.IsWhole) (arg16 : Memref sig .tc .vmem S2x4x256x256 .bf16) (harg16 : arg16.IsWhole) (arg17 : Memref sig .tc .vmem S2x4x256x256 .bf16) (harg17 : arg17.IsWhole) (arg18 : Memref sig .tc .vmem S1x4x256x512 .bf16) (harg18 : arg18.IsWhole) (arg19 : Memref sig .tc .vmem S1x4x512x256 .bf16) (harg19 : arg19.IsWhole) (hc0 : cond0_0 i) (hc1 : ¬cond0_1 i)
    (x0 : Vec F S512x1024 .f32) (x1 : Vec F S512x1024 .f32) (x2 : Vec F S1x6x1024 .f32) (x3 : Vec F S1x1024 .f32) (x4 : Vec F S1024x1536 .bf16) (x5 : Vec F S1x256 .f32) (x6 : Vec F S1x256 .f32) (x7 : Vec F S256x256 .bf16) (x8 : Vec F S512x256 .f32) (x9 : Vec F S512x256 .f32) (x10 : Vec F S256x1024 .bf16) (x11 : Vec F S1024x256 .bf16) :
    Σ' (out13 : List (View.Piece (Elt F) S2x4x256x64 .f32)), { out14 : List (View.Piece (Elt F) S2x4x256x64 .f32) //
      ∀ (E : Set ℕ) (K : PUnit → sProp 𝕄),
        iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (∃ d, owns (c : Thread nD τ) arg13 fullShare d) ∗ (∃ f, arg14.view.loc (c : Thread nD τ) ↦[arg14.view.set]{fullShare} arg14.view.writes (Elt F) f out13) ∗ (∃ f, arg15.view.loc (c : Thread nD τ) ↦[arg15.view.set]{fullShare} arg15.view.writes (Elt F) f out14) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } :=
  ⟨_, _, fun E K => by
    simp only [cc0_qkv_eq_skeleton]; unfold cc0_qkv_skel
    simp only [k0_part6_eq_skeleton, k0_part7_eq_skeleton, k0_part8_eq_skeleton, k0_part9_eq_skeleton, k0_part10_eq_skeleton, k0_part1_eq_skeleton, k0_part2_eq_skeleton, k0_part3_eq_skeleton, k0_part4_eq_skeleton]
    unfold owns
    iintro ⟨H0, H1, H2, H3, H4, H5, H6, H7, H8, H9, H10, H11, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    sl_exec! (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _, _; isplitr; swap; · iexact H12
      ipureintro; rfl
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl⟩

/-- The stores the run finds are the keys' and the values'. -/
theorem runA_pieces (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S512x256 .f32) (harg10 : arg10.IsWhole) (arg11 : Memref sig .tc .vmem S256x1024 .bf16) (harg11 : arg11.IsWhole) (arg12 : Memref sig .tc .vmem S1024x256 .bf16) (harg12 : arg12.IsWhole) (arg13 : Memref sig .tc .vmem S512x1024 .bf16) (harg13 : arg13.IsWhole) (arg14 : Memref sig .tc .vmem S2x4x256x64 .f32) (harg14 : arg14.IsWhole) (arg15 : Memref sig .tc .vmem S2x4x256x64 .f32) (harg15 : arg15.IsWhole) (arg16 : Memref sig .tc .vmem S2x4x256x256 .bf16) (harg16 : arg16.IsWhole) (arg17 : Memref sig .tc .vmem S2x4x256x256 .bf16) (harg17 : arg17.IsWhole) (arg18 : Memref sig .tc .vmem S1x4x256x512 .bf16) (harg18 : arg18.IsWhole) (arg19 : Memref sig .tc .vmem S1x4x512x256 .bf16) (harg19 : arg19.IsWhole) (hc0 : cond0_0 i) (hc1 : ¬cond0_1 i)
    (x0 : Vec F S512x1024 .f32) (x1 : Vec F S512x1024 .f32) (x2 : Vec F S1x6x1024 .f32) (x3 : Vec F S1x1024 .f32) (x4 : Vec F S1024x1536 .bf16) (x5 : Vec F S1x256 .f32) (x6 : Vec F S1x256 .f32) (x7 : Vec F S256x256 .bf16) (x8 : Vec F S512x256 .f32) (x9 : Vec F S512x256 .f32) (x10 : Vec F S256x1024 .bf16) (x11 : Vec F S1024x256 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).1 = kPieces (kOf i x0 x1 x2 x3 x4 x6 x7 x8 x9)
      ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).2.1 = vPieces (vOf i x0 x1 x2 x3 x4) := by
  unfold kernelRun0_A; dsimp only
  have hr : kernelRun0_A.sl.r i arg1 arg2 arg3 arg4 arg5 x0 x1 x2 x3 x4 = accOf i x0 x1 x2 x3 x4 := by
    unfold kernelRun0_A.sl.r accOf
    simp only [View.readAt_rep]
    all_goals rfl
  have h1 : kernelRun0_A.sl.r_1 arg8 x7 = k0_pay40 (fun y => x7 ((Rect.unit (s := S256x256) ![0, 0] S256x256.size inb_S256x256_S256x256_0_0).toLoadRect.idx y)) := by
    unfold kernelRun0_A.sl.r_1
    rw [View.readAt_rep]
    all_goals rfl
  have h2 : kernelRun0_A.sl.r_2 arg9 x8 = k0_pay41 (fun y => x8 ((Rect.unit (s := S512x256) ![0, 0] S512x256.size inb_S512x256_S512x256_0_0).toLoadRect.idx y)) := by
    unfold kernelRun0_A.sl.r_2
    rw [View.readAt_rep]
    all_goals rfl
  have h3 : kernelRun0_A.sl.r_3 arg10 x9 = k0_pay42 (fun y => x9 ((Rect.unit (s := S512x256) ![0, 0] S512x256.size inb_S512x256_S512x256_0_0).toLoadRect.idx y)) := by
    unfold kernelRun0_A.sl.r_3
    rw [View.readAt_rep]
    all_goals rfl
  constructor
  · unfold kernelRun0_A.sl.H13_8 kernelRun0_A.sl.v303 kernelRun0_A.sl.v287 kernelRun0_A.sl.v271 kernelRun0_A.sl.v255 kernelRun0_A.sl.v239 kernelRun0_A.sl.v223 kernelRun0_A.sl.v207
    unfold kernelRun0_A.sl.v300 kernelRun0_A.sl.v284 kernelRun0_A.sl.v268 kernelRun0_A.sl.v252 kernelRun0_A.sl.v236 kernelRun0_A.sl.v220 kernelRun0_A.sl.v204
    rw [hr, h1, h2, h3, View.readAt_rep]
    unfold kernelRun0_A.sl.v40 kPieces kOf k0_pay60 k0_pay29 k0_pay25 k0_pay21 k0_pay16 k0_pay12 k0_pay7 k0_pay3
    dsimp only
    all_goals rfl
  · unfold kernelRun0_A.sl.H14_8 kernelRun0_A.sl.v307 kernelRun0_A.sl.v291 kernelRun0_A.sl.v275 kernelRun0_A.sl.v259 kernelRun0_A.sl.v243 kernelRun0_A.sl.v227 kernelRun0_A.sl.v211
    unfold kernelRun0_A.sl.v304 kernelRun0_A.sl.v288 kernelRun0_A.sl.v272 kernelRun0_A.sl.v256 kernelRun0_A.sl.v240 kernelRun0_A.sl.v224 kernelRun0_A.sl.v208
    rw [hr]
    unfold vPieces vOf k0_pay61 k0_pay30 k0_pay26 k0_pay22 k0_pay18 k0_pay17 k0_pay13 k0_pay8 k0_pay4
    dsimp only
    all_goals rfl

end Cert.QkvIdeal.Gen

end
-- ==== Proof.QkvIdealRunB.lean ====
/-
  The query, key and value call's body at a tile: its run at the samples' tiles.
-/
module

public import proofs.«01_k».proof.Proof.QkvIdealRunA
public import proofs.«01_k».proof.Proof.Gen.QkvIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384
set_option Elab.async false

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A samples' tile: the body runs and leaves the two result blocks as they were. -/
theorem kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S512x256 .f32) (harg10 : arg10.IsWhole) (arg11 : Memref sig .tc .vmem S256x1024 .bf16) (harg11 : arg11.IsWhole) (arg12 : Memref sig .tc .vmem S1024x256 .bf16) (harg12 : arg12.IsWhole) (arg13 : Memref sig .tc .vmem S512x1024 .bf16) (harg13 : arg13.IsWhole) (arg14 : Memref sig .tc .vmem S2x4x256x64 .f32) (harg14 : arg14.IsWhole) (arg15 : Memref sig .tc .vmem S2x4x256x64 .f32) (harg15 : arg15.IsWhole) (arg16 : Memref sig .tc .vmem S2x4x256x256 .bf16) (harg16 : arg16.IsWhole) (arg17 : Memref sig .tc .vmem S2x4x256x256 .bf16) (harg17 : arg17.IsWhole) (arg18 : Memref sig .tc .vmem S1x4x256x512 .bf16) (harg18 : arg18.IsWhole) (arg19 : Memref sig .tc .vmem S1x4x512x256 .bf16) (harg19 : arg19.IsWhole) (hc0 : ¬cond0_0 i) (hc1 : cond0_1 i)
    (x0 : Vec F S512x1024 .f32) (x1 : Vec F S512x1024 .f32) (x2 : Vec F S1x6x1024 .f32) (x3 : Vec F S1x1024 .f32) (x4 : Vec F S1024x1536 .bf16) (x5 : Vec F S1x256 .f32) (x6 : Vec F S1x256 .f32) (x7 : Vec F S256x256 .bf16) (x8 : Vec F S512x256 .f32) (x9 : Vec F S512x256 .f32) (x10 : Vec F S256x1024 .bf16) (x11 : Vec F S1024x256 .bf16) (y13 : S2x4x256x64.Idx → Elt F .f32) (y14 : S2x4x256x64.Idx → Elt F .f32) :
      ∀ (E : Set ℕ) (K : PUnit → sProp 𝕄),
        iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (∃ d, owns (c : Thread nD τ) arg13 fullShare d) ∗ owns (c : Thread nD τ) arg14 fullShare y13 ∗ owns (c : Thread nD τ) arg15 fullShare y14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (∃ d, owns (c : Thread nD τ) arg13 fullShare d) ∗ owns (c : Thread nD τ) arg14 fullShare y13 ∗ owns (c : Thread nD τ) arg15 fullShare y14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_qkv_eq_skeleton]; unfold cc0_qkv_skel
    simp only [k0_part6_eq_skeleton, k0_part7_eq_skeleton, k0_part8_eq_skeleton, k0_part9_eq_skeleton, k0_part10_eq_skeleton, k0_part5_eq_skeleton]
    unfold owns
    iintro ⟨H0, H1, H2, H3, H4, H5, H6, H7, H8, H9, H10, H11, ⟨%d12, %f12, -, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
    sl_exec (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _, _; isplitr; swap; · iexact H12
      ipureintro; rfl
    isplitl [H13]
    · iexists _; isplitr; swap; · iexact H13
      ipureintro; exact hf13
    isplitl [H14]
    · iexists _; isplitr; swap; · iexact H14
      ipureintro; exact hf14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.QkvIdeal.Gen

end
-- ==== Proof.QkvIdealFrame.lean ====
/-
  The query, key and value call's body at a tile: the whole run, with the arrays of the keys and values it
  returns.
-/
module

public import proofs.«01_k».proof.Proof.QkvIdealRunB
public import Idealize.ShloMosaic.Lib.Claim
public import proofs.«01_k».proof.Proof.Gen.QkvIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384
set_option Elab.async false

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1140000 in
/-- A run that ends with every input array unchanged ends with the arguments unchanged. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The prompts' tile whose keys and values the result blocks hold at a tile: its own, or the last one. -/
def lastTile (t : Fin cfg0.N) : Fin cfg0.N := if h : t.val < 16 then t else ⟨15, lt_of_lt_of_eq (by decide) (show 24 = cfg0.N from N_0.symm)⟩

/-- The keys' block at a tile, -/
def keyBlock (c : Dev nD) (t : Fin cfg0.N) : S2x4x256x64.Idx → Elt F .f32 :=
  kBlock (kOf (grid0.coords (lastTile t)) (iblk m c 0 (lastTile t)) (iblk m c 1 (lastTile t)) (iblk m c 2 (lastTile t)) (iblk m c 3 (lastTile t)) (iblk m c 4 (lastTile t))
    (iblk m c 6 (lastTile t)) (iblk m c 7 (lastTile t)) (iblk m c 8 (lastTile t)) (iblk m c 9 (lastTile t)))
/-- and the values'. -/
def valueBlock (c : Dev nD) (t : Fin cfg0.N) : S2x4x256x64.Idx → Elt F .f32 :=
  vBlock (vOf (grid0.coords (lastTile t)) (iblk m c 0 (lastTile t)) (iblk m c 1 (lastTile t)) (iblk m c 2 (lastTile t)) (iblk m c 3 (lastTile t)) (iblk m c 4 (lastTile t)))

theorem lastTile_past (t : Fin cfg0.N) (h : 16 ≤ t.val) : lastTile t = lastTile ⟨t.val - 1, by omega⟩ := by
  unfold lastTile
  rw [dif_neg (by omega)]
  by_cases h' : t.val - 1 < 16
  · rw [dif_pos h']; apply Fin.ext; show 15 = t.val - 1; omega
  · rw [dif_neg h']

theorem keyBlock_past (c : Dev nD) (t : Fin cfg0.N) (h : 16 ≤ t.val) : keyBlock m c t = keyBlock m c ⟨t.val - 1, by omega⟩ := by
  unfold keyBlock; rw [lastTile_past t h]
theorem valueBlock_past (c : Dev nD) (t : Fin cfg0.N) (h : 16 ≤ t.val) : valueBlock m c t = valueBlock m c ⟨t.val - 1, by omega⟩ := by
  unfold valueBlock; rw [lastTile_past t h]

/-- The windows of which nothing is said: the queries and the tiled keys and values. -/
def forgets0 : Fin 19 → Bool := fun w => w.val == 12 || w.val == 15 || w.val == 16 || w.val == 17 || w.val == 18

/-- The pipeline's proof data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => keyBlock m c t
    | ⟨14, _⟩ => valueBlock m c t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_13 (c : Dev nD) (t : Fin cfg0.N) : (dats m 0 c).after 13 t = keyBlock m c t := by dsimp only [dats]
theorem after0_14 (c : Dev nD) (t : Fin cfg0.N) : (dats m 0 c).after 14 t = valueBlock m c t := by dsimp only [dats]

/-- What each window holds when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem before0_13 (c : Dev nD) (t : Fin cfg0.N) (d) : (dats m 0 c).before 13 t d = if t.val < 16 then d else keyBlock m c t := by
  have hN : t.val < 24 := lt_of_lt_of_eq t.isLt (show cfg0.N = 24 from N_0)
  rw [(dats m 0 c).before_out_traj 13 rfl (fun _ _ => rfl) (fun t ht hi _ => by
    rw [after0_13, after0_13]
    have hi' : cfg0.idle 13 (grid0.coords t) = true := hi
    rw [idle0_13] at hi'
    exact keyBlock_past m c t (by simpa using hi')) t.val t rfl d]
  by_cases h : t.val < 16
  · have hf := (fresh0_13 t).trans (decide_eq_true h)
    simp only [hf, h, if_true]
  · have hf := (fresh0_13 t).trans (decide_eq_false h)
    simp only [hf, h, Bool.false_eq_true, if_false, after0_13]
    exact (keyBlock_past m c t (by omega)).symm

theorem before0_14 (c : Dev nD) (t : Fin cfg0.N) (d) : (dats m 0 c).before 14 t d = if t.val < 16 then d else valueBlock m c t := by
  have hN : t.val < 24 := lt_of_lt_of_eq t.isLt (show cfg0.N = 24 from N_0)
  rw [(dats m 0 c).before_out_traj 14 rfl (fun _ _ => rfl) (fun t ht hi _ => by
    rw [after0_14, after0_14]
    have hi' : cfg0.idle 14 (grid0.coords t) = true := hi
    rw [idle0_14] at hi'
    exact valueBlock_past m c t (by simpa using hi')) t.val t rfl d]
  by_cases h : t.val < 16
  · have hf := (fresh0_14 t).trans (decide_eq_true h)
    simp only [hf, h, if_true]
  · have hf := (fresh0_14 t).trans (decide_eq_false h)
    simp only [hf, h, Bool.false_eq_true, if_false, after0_14]
    exact (valueBlock_past m c t (by omega)).symm

/-! ## The body's obligation -/

/-- What the body is called with at a tile, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- A samples' tile hands the result block back as it found it. -/
theorem leaves0_13 (c : Dev nD) (t : Fin cfg0.N) (h : 16 ≤ t.val) :
    owns (c : Thread nD τ) (ms0_13 t) fullShare (keyBlock m c t) ⊢ (dats m 0 c).leavesExact 13 t := by
  unfold Dat.leavesExact
  rw [(idle0_13 t).trans (decide_eq_true h), after0_13]
  cases (cfg0.win 13).flush t with
  | false =>
    iintro H
    iexists (keyBlock m c t)
    rw [before0_13, if_neg (by omega)]
    iexact H
  | true => exact .rfl

/-- A samples' tile hands the result block back as it found it. -/
theorem leaves0_14 (c : Dev nD) (t : Fin cfg0.N) (h : 16 ≤ t.val) :
    owns (c : Thread nD τ) (ms0_14 t) fullShare (valueBlock m c t) ⊢ (dats m 0 c).leavesExact 14 t := by
  unfold Dat.leavesExact
  rw [(idle0_14 t).trans (decide_eq_true h), after0_14]
  cases (cfg0.win 14).flush t with
  | false =>
    iintro H
    iexists (valueBlock m c t)
    rw [before0_14, if_neg (by omega)]
    iexact H
  | true => exact .rfl

set_option maxHeartbeats 8000000 in
/-- The body's obligation at a tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  have hN : t.val < 24 := lt_of_lt_of_eq t.isLt (show cfg0.N = 24 from N_0)
  by_cases h0 : t.val < 16
  · by_cases h1 : 16 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 13 t = owns (c : Thread nD τ) (ms0_13 t) fullShare ((dats m 0 c).after 13 t) from by
      unfold Dat.leavesExact; rw [(idle0_13 t).trans (decide_eq_false h1)], after0_13]
      rw [show (dats m 0 c).leavesExact 14 t = owns (c : Thread nD τ) (ms0_14 t) fullShare ((dats m 0 c).after 14 t) from by
      unfold Dat.leavesExact; rw [(idle0_14 t).trans (decide_eq_false h1)], after0_14]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 Set.univ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iintro ⟨H0, H1, H2, H3, H4, H5, H6, H7, H8, H9, H10, H11, H12, ⟨%e13, H13⟩, ⟨%e14, H14⟩, H15, H16, H17, H18⟩
      isplitl [HΦ]; · iexact HΦ
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      isplitl [H9]; · iapply owns_of_rep; iexact H9
      isplitl [H10]; · iapply owns_of_rep; iexact H10
      isplitl [H11]; · iapply owns_of_rep; iexact H11
      isplitl [H12]; · iexact H12
      isplitl [H13]
      · unfold owns; iexists _; isplitr; swap
        · iexact H13
        · ipureintro
          rw [(runA_pieces c _ _ _ _ _ _ _ _ _ _ _ _ _ _ _ _ _ _ _ _ _ _ _ _ _ _ _ _ _ _ _ _ _ _ _ _ _ _ _ _ _ _ _ _ _ _ _ _ _ _ _ _ _).1]
          refine (View.read_writes_of_cover _ _ VO0_13 VO0_13.junk _ (kPieces_cover _)).trans ?_
          unfold keyBlock lastTile; rw [dif_pos h0]; rfl
      isplitl [H14]
      · unfold owns; iexists _; isplitr; swap
        · iexact H14
        · ipureintro
          rw [(runA_pieces c _ _ _ _ _ _ _ _ _ _ _ _ _ _ _ _ _ _ _ _ _ _ _ _ _ _ _ _ _ _ _ _ _ _ _ _ _ _ _ _ _ _ _ _ _ _ _ _ _ _ _ _ _).2]
          refine (View.read_writes_of_cover _ _ VO0_14 VO0_14.junk _ (vPieces_cover _)).trans ?_
          unfold valueBlock lastTile; rw [dif_pos h0]; rfl
      isplitl [H15]; · iexact H15
      isplitl [H16]; · iexact H16
      isplitl [H17]; · iexact H17
      iexact H18
  · by_cases h1 : 16 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      simp only [before0_13, h0, if_false]
      simp only [before0_14, h0, if_false]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (keyBlock m c t) (valueBlock m c t)) Set.univ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iexists _; iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      iintro ⟨H0, H1, H2, H3, H4, H5, H6, H7, H8, H9, H10, H11, H12, H13, H14, H15, H16, H17, H18⟩
      isplitl [HΦ]; · iexact HΦ
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      isplitl [H9]; · iapply owns_of_rep; iexact H9
      isplitl [H10]; · iapply owns_of_rep; iexact H10
      isplitl [H11]; · iapply owns_of_rep; iexact H11
      isplitl [H12]; · iexact H12
      isplitl [H13]; · iapply leaves0_13 m c t h1; iexact H13
      isplitl [H14]; · iapply leaves0_14 m c t h1; iexact H14
      isplitl [H15]; · iexact H15
      isplitl [H16]; · iexact H16
      isplitl [H17]; · iexact H17
      iexact H18
    · exfalso; omega

theorem defs₀_row (t : Fin cfg0.N) :
    defs₀ (F := F) .tc cfg0.body (cfg0.bodyArgs t (cfg0.slots t)) = bodyAt0 t := by
  unfold defs₀; rw [Defs.onTc_tc]

/-- The body's obligation, at every tile. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every fair execution ends, with the arrays as computed and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_forget m ρ (fun c => (dats m 0 c).toRForget forgets0) (A_eq m) (run_main m ρ)

/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- The two results after the run, and the arguments. -/
theorem run_results : θ_run defs (onTc (τ := τ) (main (F := F))) ⟨m, fun _ => 0, ρ⟩ (fun r => ∀ c : Dev nD,
      r.2.mem ((c.tc : Thread nD τ).loc main_v99_1) = (dats m 0 c).arrAt 13 cfg0.N
      ∧ r.2.mem ((c.tc : Thread nD τ).loc main_v99_2) = (dats m 0 c).arrAt 14 cfg0.N) :=
  (θ_run defs _ _).mono (fun _ h c => ⟨((dats m 0 c).toRForget_arrAt_iff (fgt := forgets0) (w := 13) rfl _ _).mp ((h c).1 13),
    ((dats m 0 c).toRForget_arrAt_iff (fgt := forgets0) (w := 14) rfl _ _).mp ((h c).1 14)⟩) (run_main m ρ)

end Cert.QkvIdeal.Gen

end
-- ==== Proof.QkvTable0.lean ====
/-
  The table that sums a head's entries: rows 0 to 63, ones in the columns of their own head, zeros elsewhere.
-/
module

public import proofs.«01_k».proof.QkvIdeal.P03

@[expose] public section

set_option maxRecDepth 16384

namespace Cert.QkvTable

open Cert.QkvIdeal

theorem rows0_0 : ∀ i : Fin 4, ∀ j : Fin 256, lit0t ((0 + i.1) * 256 + j.1) = if (0 + i.1) / 64 = j.1 / 64 then 0x3F800000#32 else 0x00000000#32 := by
  decide +kernel
theorem rows0_1 : ∀ i : Fin 4, ∀ j : Fin 256, lit0t ((4 + i.1) * 256 + j.1) = if (4 + i.1) / 64 = j.1 / 64 then 0x3F800000#32 else 0x00000000#32 := by
  decide +kernel
theorem rows0_2 : ∀ i : Fin 4, ∀ j : Fin 256, lit0t ((8 + i.1) * 256 + j.1) = if (8 + i.1) / 64 = j.1 / 64 then 0x3F800000#32 else 0x00000000#32 := by
  decide +kernel
theorem rows0_3 : ∀ i : Fin 4, ∀ j : Fin 256, lit0t ((12 + i.1) * 256 + j.1) = if (12 + i.1) / 64 = j.1 / 64 then 0x3F800000#32 else 0x00000000#32 := by
  decide +kernel
theorem rows0_4 : ∀ i : Fin 4, ∀ j : Fin 256, lit0t ((16 + i.1) * 256 + j.1) = if (16 + i.1) / 64 = j.1 / 64 then 0x3F800000#32 else 0x00000000#32 := by
  decide +kernel
theorem rows0_5 : ∀ i : Fin 4, ∀ j : Fin 256, lit0t ((20 + i.1) * 256 + j.1) = if (20 + i.1) / 64 = j.1 / 64 then 0x3F800000#32 else 0x00000000#32 := by
  decide +kernel
theorem rows0_6 : ∀ i : Fin 4, ∀ j : Fin 256, lit0t ((24 + i.1) * 256 + j.1) = if (24 + i.1) / 64 = j.1 / 64 then 0x3F800000#32 else 0x00000000#32 := by
  decide +kernel
theorem rows0_7 : ∀ i : Fin 4, ∀ j : Fin 256, lit0t ((28 + i.1) * 256 + j.1) = if (28 + i.1) / 64 = j.1 / 64 then 0x3F800000#32 else 0x00000000#32 := by
  decide +kernel
theorem rows0_8 : ∀ i : Fin 4, ∀ j : Fin 256, lit0t ((32 + i.1) * 256 + j.1) = if (32 + i.1) / 64 = j.1 / 64 then 0x3F800000#32 else 0x00000000#32 := by
  decide +kernel
theorem rows0_9 : ∀ i : Fin 4, ∀ j : Fin 256, lit0t ((36 + i.1) * 256 + j.1) = if (36 + i.1) / 64 = j.1 / 64 then 0x3F800000#32 else 0x00000000#32 := by
  decide +kernel
theorem rows0_10 : ∀ i : Fin 4, ∀ j : Fin 256, lit0t ((40 + i.1) * 256 + j.1) = if (40 + i.1) / 64 = j.1 / 64 then 0x3F800000#32 else 0x00000000#32 := by
  decide +kernel
theorem rows0_11 : ∀ i : Fin 4, ∀ j : Fin 256, lit0t ((44 + i.1) * 256 + j.1) = if (44 + i.1) / 64 = j.1 / 64 then 0x3F800000#32 else 0x00000000#32 := by
  decide +kernel
theorem rows0_12 : ∀ i : Fin 4, ∀ j : Fin 256, lit0t ((48 + i.1) * 256 + j.1) = if (48 + i.1) / 64 = j.1 / 64 then 0x3F800000#32 else 0x00000000#32 := by
  decide +kernel
theorem rows0_13 : ∀ i : Fin 4, ∀ j : Fin 256, lit0t ((52 + i.1) * 256 + j.1) = if (52 + i.1) / 64 = j.1 / 64 then 0x3F800000#32 else 0x00000000#32 := by
  decide +kernel
theorem rows0_14 : ∀ i : Fin 4, ∀ j : Fin 256, lit0t ((56 + i.1) * 256 + j.1) = if (56 + i.1) / 64 = j.1 / 64 then 0x3F800000#32 else 0x00000000#32 := by
  decide +kernel
theorem rows0_15 : ∀ i : Fin 4, ∀ j : Fin 256, lit0t ((60 + i.1) * 256 + j.1) = if (60 + i.1) / 64 = j.1 / 64 then 0x3F800000#32 else 0x00000000#32 := by
  decide +kernel

theorem rows0 (i : Fin 64) (j : Fin 256) : lit0t ((0 + i.1) * 256 + j.1) = if (0 + i.1) / 64 = j.1 / 64 then 0x3F800000#32 else 0x00000000#32 := by
  obtain ⟨a, ha⟩ : ∃ a : Fin 4, a.1 = i.1 % 4 := ⟨⟨_, by omega⟩, rfl⟩
  have hq : i.1 / 4 = 0 ∨ i.1 / 4 = 1 ∨ i.1 / 4 = 2 ∨ i.1 / 4 = 3 ∨ i.1 / 4 = 4 ∨ i.1 / 4 = 5 ∨ i.1 / 4 = 6 ∨ i.1 / 4 = 7 ∨ i.1 / 4 = 8 ∨ i.1 / 4 = 9 ∨ i.1 / 4 = 10 ∨ i.1 / 4 = 11 ∨ i.1 / 4 = 12 ∨ i.1 / 4 = 13 ∨ i.1 / 4 = 14 ∨ i.1 / 4 = 15 := by omega
  rcases hq with h | h | h | h | h | h | h | h | h | h | h | h | h | h | h | h
  · rw [show 0 + i.1 = 0 + a.1 by omega]; exact rows0_0 a j
  · rw [show 0 + i.1 = 4 + a.1 by omega]; exact rows0_1 a j
  · rw [show 0 + i.1 = 8 + a.1 by omega]; exact rows0_2 a j
  · rw [show 0 + i.1 = 12 + a.1 by omega]; exact rows0_3 a j
  · rw [show 0 + i.1 = 16 + a.1 by omega]; exact rows0_4 a j
  · rw [show 0 + i.1 = 20 + a.1 by omega]; exact rows0_5 a j
  · rw [show 0 + i.1 = 24 + a.1 by omega]; exact rows0_6 a j
  · rw [show 0 + i.1 = 28 + a.1 by omega]; exact rows0_7 a j
  · rw [show 0 + i.1 = 32 + a.1 by omega]; exact rows0_8 a j
  · rw [show 0 + i.1 = 36 + a.1 by omega]; exact rows0_9 a j
  · rw [show 0 + i.1 = 40 + a.1 by omega]; exact rows0_10 a j
  · rw [show 0 + i.1 = 44 + a.1 by omega]; exact rows0_11 a j
  · rw [show 0 + i.1 = 48 + a.1 by omega]; exact rows0_12 a j
  · rw [show 0 + i.1 = 52 + a.1 by omega]; exact rows0_13 a j
  · rw [show 0 + i.1 = 56 + a.1 by omega]; exact rows0_14 a j
  · rw [show 0 + i.1 = 60 + a.1 by omega]; exact rows0_15 a j

end Cert.QkvTable
-- ==== Proof.QkvTable1.lean ====
/-
  The table that sums a head's entries: rows 64 to 127, ones in the columns of their own head, zeros elsewhere.
-/
module

public import proofs.«01_k».proof.QkvIdeal.P03

@[expose] public section

set_option maxRecDepth 16384

namespace Cert.QkvTable

open Cert.QkvIdeal

theorem rows1_0 : ∀ i : Fin 4, ∀ j : Fin 256, lit0t ((64 + i.1) * 256 + j.1) = if (64 + i.1) / 64 = j.1 / 64 then 0x3F800000#32 else 0x00000000#32 := by
  decide +kernel
theorem rows1_1 : ∀ i : Fin 4, ∀ j : Fin 256, lit0t ((68 + i.1) * 256 + j.1) = if (68 + i.1) / 64 = j.1 / 64 then 0x3F800000#32 else 0x00000000#32 := by
  decide +kernel
theorem rows1_2 : ∀ i : Fin 4, ∀ j : Fin 256, lit0t ((72 + i.1) * 256 + j.1) = if (72 + i.1) / 64 = j.1 / 64 then 0x3F800000#32 else 0x00000000#32 := by
  decide +kernel
theorem rows1_3 : ∀ i : Fin 4, ∀ j : Fin 256, lit0t ((76 + i.1) * 256 + j.1) = if (76 + i.1) / 64 = j.1 / 64 then 0x3F800000#32 else 0x00000000#32 := by
  decide +kernel
theorem rows1_4 : ∀ i : Fin 4, ∀ j : Fin 256, lit0t ((80 + i.1) * 256 + j.1) = if (80 + i.1) / 64 = j.1 / 64 then 0x3F800000#32 else 0x00000000#32 := by
  decide +kernel
theorem rows1_5 : ∀ i : Fin 4, ∀ j : Fin 256, lit0t ((84 + i.1) * 256 + j.1) = if (84 + i.1) / 64 = j.1 / 64 then 0x3F800000#32 else 0x00000000#32 := by
  decide +kernel
theorem rows1_6 : ∀ i : Fin 4, ∀ j : Fin 256, lit0t ((88 + i.1) * 256 + j.1) = if (88 + i.1) / 64 = j.1 / 64 then 0x3F800000#32 else 0x00000000#32 := by
  decide +kernel
theorem rows1_7 : ∀ i : Fin 4, ∀ j : Fin 256, lit0t ((92 + i.1) * 256 + j.1) = if (92 + i.1) / 64 = j.1 / 64 then 0x3F800000#32 else 0x00000000#32 := by
  decide +kernel
theorem rows1_8 : ∀ i : Fin 4, ∀ j : Fin 256, lit0t ((96 + i.1) * 256 + j.1) = if (96 + i.1) / 64 = j.1 / 64 then 0x3F800000#32 else 0x00000000#32 := by
  decide +kernel
theorem rows1_9 : ∀ i : Fin 4, ∀ j : Fin 256, lit0t ((100 + i.1) * 256 + j.1) = if (100 + i.1) / 64 = j.1 / 64 then 0x3F800000#32 else 0x00000000#32 := by
  decide +kernel
theorem rows1_10 : ∀ i : Fin 4, ∀ j : Fin 256, lit0t ((104 + i.1) * 256 + j.1) = if (104 + i.1) / 64 = j.1 / 64 then 0x3F800000#32 else 0x00000000#32 := by
  decide +kernel
theorem rows1_11 : ∀ i : Fin 4, ∀ j : Fin 256, lit0t ((108 + i.1) * 256 + j.1) = if (108 + i.1) / 64 = j.1 / 64 then 0x3F800000#32 else 0x00000000#32 := by
  decide +kernel
theorem rows1_12 : ∀ i : Fin 4, ∀ j : Fin 256, lit0t ((112 + i.1) * 256 + j.1) = if (112 + i.1) / 64 = j.1 / 64 then 0x3F800000#32 else 0x00000000#32 := by
  decide +kernel
theorem rows1_13 : ∀ i : Fin 4, ∀ j : Fin 256, lit0t ((116 + i.1) * 256 + j.1) = if (116 + i.1) / 64 = j.1 / 64 then 0x3F800000#32 else 0x00000000#32 := by
  decide +kernel
theorem rows1_14 : ∀ i : Fin 4, ∀ j : Fin 256, lit0t ((120 + i.1) * 256 + j.1) = if (120 + i.1) / 64 = j.1 / 64 then 0x3F800000#32 else 0x00000000#32 := by
  decide +kernel
theorem rows1_15 : ∀ i : Fin 4, ∀ j : Fin 256, lit0t ((124 + i.1) * 256 + j.1) = if (124 + i.1) / 64 = j.1 / 64 then 0x3F800000#32 else 0x00000000#32 := by
  decide +kernel

theorem rows1 (i : Fin 64) (j : Fin 256) : lit0t ((64 + i.1) * 256 + j.1) = if (64 + i.1) / 64 = j.1 / 64 then 0x3F800000#32 else 0x00000000#32 := by
  obtain ⟨a, ha⟩ : ∃ a : Fin 4, a.1 = i.1 % 4 := ⟨⟨_, by omega⟩, rfl⟩
  have hq : i.1 / 4 = 0 ∨ i.1 / 4 = 1 ∨ i.1 / 4 = 2 ∨ i.1 / 4 = 3 ∨ i.1 / 4 = 4 ∨ i.1 / 4 = 5 ∨ i.1 / 4 = 6 ∨ i.1 / 4 = 7 ∨ i.1 / 4 = 8 ∨ i.1 / 4 = 9 ∨ i.1 / 4 = 10 ∨ i.1 / 4 = 11 ∨ i.1 / 4 = 12 ∨ i.1 / 4 = 13 ∨ i.1 / 4 = 14 ∨ i.1 / 4 = 15 := by omega
  rcases hq with h | h | h | h | h | h | h | h | h | h | h | h | h | h | h | h
  · rw [show 64 + i.1 = 64 + a.1 by omega]; exact rows1_0 a j
  · rw [show 64 + i.1 = 68 + a.1 by omega]; exact rows1_1 a j
  · rw [show 64 + i.1 = 72 + a.1 by omega]; exact rows1_2 a j
  · rw [show 64 + i.1 = 76 + a.1 by omega]; exact rows1_3 a j
  · rw [show 64 + i.1 = 80 + a.1 by omega]; exact rows1_4 a j
  · rw [show 64 + i.1 = 84 + a.1 by omega]; exact rows1_5 a j
  · rw [show 64 + i.1 = 88 + a.1 by omega]; exact rows1_6 a j
  · rw [show 64 + i.1 = 92 + a.1 by omega]; exact rows1_7 a j
  · rw [show 64 + i.1 = 96 + a.1 by omega]; exact rows1_8 a j
  · rw [show 64 + i.1 = 100 + a.1 by omega]; exact rows1_9 a j
  · rw [show 64 + i.1 = 104 + a.1 by omega]; exact rows1_10 a j
  · rw [show 64 + i.1 = 108 + a.1 by omega]; exact rows1_11 a j
  · rw [show 64 + i.1 = 112 + a.1 by omega]; exact rows1_12 a j
  · rw [show 64 + i.1 = 116 + a.1 by omega]; exact rows1_13 a j
  · rw [show 64 + i.1 = 120 + a.1 by omega]; exact rows1_14 a j
  · rw [show 64 + i.1 = 124 + a.1 by omega]; exact rows1_15 a j

end Cert.QkvTable
-- ==== Proof.QkvTable2.lean ====
/-
  The table that sums a head's entries: rows 128 to 191, ones in the columns of their own head, zeros elsewhere.
-/
module

public import proofs.«01_k».proof.QkvIdeal.P03

@[expose] public section

set_option maxRecDepth 16384

namespace Cert.QkvTable

open Cert.QkvIdeal

theorem rows2_0 : ∀ i : Fin 4, ∀ j : Fin 256, lit0t ((128 + i.1) * 256 + j.1) = if (128 + i.1) / 64 = j.1 / 64 then 0x3F800000#32 else 0x00000000#32 := by
  decide +kernel
theorem rows2_1 : ∀ i : Fin 4, ∀ j : Fin 256, lit0t ((132 + i.1) * 256 + j.1) = if (132 + i.1) / 64 = j.1 / 64 then 0x3F800000#32 else 0x00000000#32 := by
  decide +kernel
theorem rows2_2 : ∀ i : Fin 4, ∀ j : Fin 256, lit0t ((136 + i.1) * 256 + j.1) = if (136 + i.1) / 64 = j.1 / 64 then 0x3F800000#32 else 0x00000000#32 := by
  decide +kernel
theorem rows2_3 : ∀ i : Fin 4, ∀ j : Fin 256, lit0t ((140 + i.1) * 256 + j.1) = if (140 + i.1) / 64 = j.1 / 64 then 0x3F800000#32 else 0x00000000#32 := by
  decide +kernel
theorem rows2_4 : ∀ i : Fin 4, ∀ j : Fin 256, lit0t ((144 + i.1) * 256 + j.1) = if (144 + i.1) / 64 = j.1 / 64 then 0x3F800000#32 else 0x00000000#32 := by
  decide +kernel
theorem rows2_5 : ∀ i : Fin 4, ∀ j : Fin 256, lit0t ((148 + i.1) * 256 + j.1) = if (148 + i.1) / 64 = j.1 / 64 then 0x3F800000#32 else 0x00000000#32 := by
  decide +kernel
theorem rows2_6 : ∀ i : Fin 4, ∀ j : Fin 256, lit0t ((152 + i.1) * 256 + j.1) = if (152 + i.1) / 64 = j.1 / 64 then 0x3F800000#32 else 0x00000000#32 := by
  decide +kernel
theorem rows2_7 : ∀ i : Fin 4, ∀ j : Fin 256, lit0t ((156 + i.1) * 256 + j.1) = if (156 + i.1) / 64 = j.1 / 64 then 0x3F800000#32 else 0x00000000#32 := by
  decide +kernel
theorem rows2_8 : ∀ i : Fin 4, ∀ j : Fin 256, lit0t ((160 + i.1) * 256 + j.1) = if (160 + i.1) / 64 = j.1 / 64 then 0x3F800000#32 else 0x00000000#32 := by
  decide +kernel
theorem rows2_9 : ∀ i : Fin 4, ∀ j : Fin 256, lit0t ((164 + i.1) * 256 + j.1) = if (164 + i.1) / 64 = j.1 / 64 then 0x3F800000#32 else 0x00000000#32 := by
  decide +kernel
theorem rows2_10 : ∀ i : Fin 4, ∀ j : Fin 256, lit0t ((168 + i.1) * 256 + j.1) = if (168 + i.1) / 64 = j.1 / 64 then 0x3F800000#32 else 0x00000000#32 := by
  decide +kernel
theorem rows2_11 : ∀ i : Fin 4, ∀ j : Fin 256, lit0t ((172 + i.1) * 256 + j.1) = if (172 + i.1) / 64 = j.1 / 64 then 0x3F800000#32 else 0x00000000#32 := by
  decide +kernel
theorem rows2_12 : ∀ i : Fin 4, ∀ j : Fin 256, lit0t ((176 + i.1) * 256 + j.1) = if (176 + i.1) / 64 = j.1 / 64 then 0x3F800000#32 else 0x00000000#32 := by
  decide +kernel
theorem rows2_13 : ∀ i : Fin 4, ∀ j : Fin 256, lit0t ((180 + i.1) * 256 + j.1) = if (180 + i.1) / 64 = j.1 / 64 then 0x3F800000#32 else 0x00000000#32 := by
  decide +kernel
theorem rows2_14 : ∀ i : Fin 4, ∀ j : Fin 256, lit0t ((184 + i.1) * 256 + j.1) = if (184 + i.1) / 64 = j.1 / 64 then 0x3F800000#32 else 0x00000000#32 := by
  decide +kernel
theorem rows2_15 : ∀ i : Fin 4, ∀ j : Fin 256, lit0t ((188 + i.1) * 256 + j.1) = if (188 + i.1) / 64 = j.1 / 64 then 0x3F800000#32 else 0x00000000#32 := by
  decide +kernel

theorem rows2 (i : Fin 64) (j : Fin 256) : lit0t ((128 + i.1) * 256 + j.1) = if (128 + i.1) / 64 = j.1 / 64 then 0x3F800000#32 else 0x00000000#32 := by
  obtain ⟨a, ha⟩ : ∃ a : Fin 4, a.1 = i.1 % 4 := ⟨⟨_, by omega⟩, rfl⟩
  have hq : i.1 / 4 = 0 ∨ i.1 / 4 = 1 ∨ i.1 / 4 = 2 ∨ i.1 / 4 = 3 ∨ i.1 / 4 = 4 ∨ i.1 / 4 = 5 ∨ i.1 / 4 = 6 ∨ i.1 / 4 = 7 ∨ i.1 / 4 = 8 ∨ i.1 / 4 = 9 ∨ i.1 / 4 = 10 ∨ i.1 / 4 = 11 ∨ i.1 / 4 = 12 ∨ i.1 / 4 = 13 ∨ i.1 / 4 = 14 ∨ i.1 / 4 = 15 := by omega
  rcases hq with h | h | h | h | h | h | h | h | h | h | h | h | h | h | h | h
  · rw [show 128 + i.1 = 128 + a.1 by omega]; exact rows2_0 a j
  · rw [show 128 + i.1 = 132 + a.1 by omega]; exact rows2_1 a j
  · rw [show 128 + i.1 = 136 + a.1 by omega]; exact rows2_2 a j
  · rw [show 128 + i.1 = 140 + a.1 by omega]; exact rows2_3 a j
  · rw [show 128 + i.1 = 144 + a.1 by omega]; exact rows2_4 a j
  · rw [show 128 + i.1 = 148 + a.1 by omega]; exact rows2_5 a j
  · rw [show 128 + i.1 = 152 + a.1 by omega]; exact rows2_6 a j
  · rw [show 128 + i.1 = 156 + a.1 by omega]; exact rows2_7 a j
  · rw [show 128 + i.1 = 160 + a.1 by omega]; exact rows2_8 a j
  · rw [show 128 + i.1 = 164 + a.1 by omega]; exact rows2_9 a j
  · rw [show 128 + i.1 = 168 + a.1 by omega]; exact rows2_10 a j
  · rw [show 128 + i.1 = 172 + a.1 by omega]; exact rows2_11 a j
  · rw [show 128 + i.1 = 176 + a.1 by omega]; exact rows2_12 a j
  · rw [show 128 + i.1 = 180 + a.1 by omega]; exact rows2_13 a j
  · rw [show 128 + i.1 = 184 + a.1 by omega]; exact rows2_14 a j
  · rw [show 128 + i.1 = 188 + a.1 by omega]; exact rows2_15 a j

end Cert.QkvTable
-- ==== Proof.QkvTable3.lean ====
/-
  The table that sums a head's entries: rows 192 to 255, ones in the columns of their own head, zeros elsewhere.
-/
module

public import proofs.«01_k».proof.QkvIdeal.P03

@[expose] public section

set_option maxRecDepth 16384

namespace Cert.QkvTable

open Cert.QkvIdeal

theorem rows3_0 : ∀ i : Fin 4, ∀ j : Fin 256, lit0t ((192 + i.1) * 256 + j.1) = if (192 + i.1) / 64 = j.1 / 64 then 0x3F800000#32 else 0x00000000#32 := by
  decide +kernel
theorem rows3_1 : ∀ i : Fin 4, ∀ j : Fin 256, lit0t ((196 + i.1) * 256 + j.1) = if (196 + i.1) / 64 = j.1 / 64 then 0x3F800000#32 else 0x00000000#32 := by
  decide +kernel
theorem rows3_2 : ∀ i : Fin 4, ∀ j : Fin 256, lit0t ((200 + i.1) * 256 + j.1) = if (200 + i.1) / 64 = j.1 / 64 then 0x3F800000#32 else 0x00000000#32 := by
  decide +kernel
theorem rows3_3 : ∀ i : Fin 4, ∀ j : Fin 256, lit0t ((204 + i.1) * 256 + j.1) = if (204 + i.1) / 64 = j.1 / 64 then 0x3F800000#32 else 0x00000000#32 := by
  decide +kernel
theorem rows3_4 : ∀ i : Fin 4, ∀ j : Fin 256, lit0t ((208 + i.1) * 256 + j.1) = if (208 + i.1) / 64 = j.1 / 64 then 0x3F800000#32 else 0x00000000#32 := by
  decide +kernel
theorem rows3_5 : ∀ i : Fin 4, ∀ j : Fin 256, lit0t ((212 + i.1) * 256 + j.1) = if (212 + i.1) / 64 = j.1 / 64 then 0x3F800000#32 else 0x00000000#32 := by
  decide +kernel
theorem rows3_6 : ∀ i : Fin 4, ∀ j : Fin 256, lit0t ((216 + i.1) * 256 + j.1) = if (216 + i.1) / 64 = j.1 / 64 then 0x3F800000#32 else 0x00000000#32 := by
  decide +kernel
theorem rows3_7 : ∀ i : Fin 4, ∀ j : Fin 256, lit0t ((220 + i.1) * 256 + j.1) = if (220 + i.1) / 64 = j.1 / 64 then 0x3F800000#32 else 0x00000000#32 := by
  decide +kernel
theorem rows3_8 : ∀ i : Fin 4, ∀ j : Fin 256, lit0t ((224 + i.1) * 256 + j.1) = if (224 + i.1) / 64 = j.1 / 64 then 0x3F800000#32 else 0x00000000#32 := by
  decide +kernel
theorem rows3_9 : ∀ i : Fin 4, ∀ j : Fin 256, lit0t ((228 + i.1) * 256 + j.1) = if (228 + i.1) / 64 = j.1 / 64 then 0x3F800000#32 else 0x00000000#32 := by
  decide +kernel
theorem rows3_10 : ∀ i : Fin 4, ∀ j : Fin 256, lit0t ((232 + i.1) * 256 + j.1) = if (232 + i.1) / 64 = j.1 / 64 then 0x3F800000#32 else 0x00000000#32 := by
  decide +kernel
theorem rows3_11 : ∀ i : Fin 4, ∀ j : Fin 256, lit0t ((236 + i.1) * 256 + j.1) = if (236 + i.1) / 64 = j.1 / 64 then 0x3F800000#32 else 0x00000000#32 := by
  decide +kernel
theorem rows3_12 : ∀ i : Fin 4, ∀ j : Fin 256, lit0t ((240 + i.1) * 256 + j.1) = if (240 + i.1) / 64 = j.1 / 64 then 0x3F800000#32 else 0x00000000#32 := by
  decide +kernel
theorem rows3_13 : ∀ i : Fin 4, ∀ j : Fin 256, lit0t ((244 + i.1) * 256 + j.1) = if (244 + i.1) / 64 = j.1 / 64 then 0x3F800000#32 else 0x00000000#32 := by
  decide +kernel
theorem rows3_14 : ∀ i : Fin 4, ∀ j : Fin 256, lit0t ((248 + i.1) * 256 + j.1) = if (248 + i.1) / 64 = j.1 / 64 then 0x3F800000#32 else 0x00000000#32 := by
  decide +kernel
theorem rows3_15 : ∀ i : Fin 4, ∀ j : Fin 256, lit0t ((252 + i.1) * 256 + j.1) = if (252 + i.1) / 64 = j.1 / 64 then 0x3F800000#32 else 0x00000000#32 := by
  decide +kernel

theorem rows3 (i : Fin 64) (j : Fin 256) : lit0t ((192 + i.1) * 256 + j.1) = if (192 + i.1) / 64 = j.1 / 64 then 0x3F800000#32 else 0x00000000#32 := by
  obtain ⟨a, ha⟩ : ∃ a : Fin 4, a.1 = i.1 % 4 := ⟨⟨_, by omega⟩, rfl⟩
  have hq : i.1 / 4 = 0 ∨ i.1 / 4 = 1 ∨ i.1 / 4 = 2 ∨ i.1 / 4 = 3 ∨ i.1 / 4 = 4 ∨ i.1 / 4 = 5 ∨ i.1 / 4 = 6 ∨ i.1 / 4 = 7 ∨ i.1 / 4 = 8 ∨ i.1 / 4 = 9 ∨ i.1 / 4 = 10 ∨ i.1 / 4 = 11 ∨ i.1 / 4 = 12 ∨ i.1 / 4 = 13 ∨ i.1 / 4 = 14 ∨ i.1 / 4 = 15 := by omega
  rcases hq with h | h | h | h | h | h | h | h | h | h | h | h | h | h | h | h
  · rw [show 192 + i.1 = 192 + a.1 by omega]; exact rows3_0 a j
  · rw [show 192 + i.1 = 196 + a.1 by omega]; exact rows3_1 a j
  · rw [show 192 + i.1 = 200 + a.1 by omega]; exact rows3_2 a j
  · rw [show 192 + i.1 = 204 + a.1 by omega]; exact rows3_3 a j
  · rw [show 192 + i.1 = 208 + a.1 by omega]; exact rows3_4 a j
  · rw [show 192 + i.1 = 212 + a.1 by omega]; exact rows3_5 a j
  · rw [show 192 + i.1 = 216 + a.1 by omega]; exact rows3_6 a j
  · rw [show 192 + i.1 = 220 + a.1 by omega]; exact rows3_7 a j
  · rw [show 192 + i.1 = 224 + a.1 by omega]; exact rows3_8 a j
  · rw [show 192 + i.1 = 228 + a.1 by omega]; exact rows3_9 a j
  · rw [show 192 + i.1 = 232 + a.1 by omega]; exact rows3_10 a j
  · rw [show 192 + i.1 = 236 + a.1 by omega]; exact rows3_11 a j
  · rw [show 192 + i.1 = 240 + a.1 by omega]; exact rows3_12 a j
  · rw [show 192 + i.1 = 244 + a.1 by omega]; exact rows3_13 a j
  · rw [show 192 + i.1 = 248 + a.1 by omega]; exact rows3_14 a j
  · rw [show 192 + i.1 = 252 + a.1 by omega]; exact rows3_15 a j

end Cert.QkvTable
-- ==== Proof.QkvArray.lean ====
/-
  What the query, key and value call's two result arrays hold after the run: the keys and the values of the prompts'
  tokens, the heads before the tokens.
-/
module

public import proofs.«01_k».proof.Proof.QkvBlock
public import proofs.«01_k».proof.Proof.QkvLaunch
public import proofs.«01_k».proof.Proof.QkvIdealFrame
public import proofs.«01_k».proof.Proof.QkvTable0
public import proofs.«01_k».proof.Proof.QkvTable1
public import proofs.«01_k».proof.Proof.QkvTable2
public import proofs.«01_k».proof.Proof.QkvTable3

@[expose] public section

set_option maxRecDepth 16384

noncomputable section

namespace Cert.QkvArray

open Cert.QkvIdeal Cert.QkvIdeal.Gen Idealize.ShloMosaic Idealize.ShloMosaic.Pointwise Idealize.ShloMosaic.TcCoe
open Cert.QkvEntry (projected normed)

variable (m : (ℓ : Loc nD τ sig) → Buf (Elt Ideal) ℓ) (c : Dev nD)

/-! ## The table that sums a head's entries -/

theorem rows (e l : Fin 256) : lit0t (e.1 * 256 + l.1) = if e.1 / 64 = l.1 / 64 then 0x3F800000#32 else 0x00000000#32 := by
  obtain ⟨i, hi⟩ : ∃ i : Fin 64, i.1 = e.1 % 64 := ⟨⟨_, by omega⟩, rfl⟩
  have hq : e.1 / 64 = 0 ∨ e.1 / 64 = 1 ∨ e.1 / 64 = 2 ∨ e.1 / 64 = 3 := by omega
  rcases hq with h | h | h | h
  · rw [show e.1 = 0 + i.1 by omega]; exact QkvTable.rows0 i l
  · rw [show e.1 = 64 + i.1 by omega]; exact QkvTable.rows1 i l
  · rw [show e.1 = 128 + i.1 by omega]; exact QkvTable.rows2 i l
  · rw [show e.1 = 192 + i.1 by omega]; exact QkvTable.rows3 i l

theorem table_entry (e l : Fin 256) : V m c main_v69 (ix2 e l) = if e.1 / 64 = l.1 / 64 then (1 : EReal) else 0 := by
  rw [table_apply]
  have hv : (S256x256.rowMajor (ix2 e l)).1 = e.1 * 256 + l.1 := by
    exact Shape.rowMajor_val_two (d := ![256, 256]) (ix2 e l)
  have hl : lit0 (S256x256.rowMajor (ix2 e l)) = lit0t (e.1 * 256 + l.1) := congrArg lit0t hv
  rw [hl, rows]
  split
  · exact QkvEntry.ofBits_one
  · exact QkvEntry.ofBits_zero

/-! ## The blocks of a prompts' tile -/

theorem index0 : ∀ t : Fin cfg0.N, t.1 < 16 → win0_0.index t = ![t.1, 0] := (by decide +kernel : ∀ t : Fin grid0.N, t.1 < 16 → win0_0.index t = ![t.1, 0])
theorem index2 : ∀ t : Fin cfg0.N, t.1 < 16 → win0_2.index t = ![0, 0, 0] := (by decide +kernel : ∀ t : Fin grid0.N, t.1 < 16 → win0_2.index t = ![0, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, t.1 < 16 → win0_8.index t = ![0, 0] := (by decide +kernel : ∀ t : Fin grid0.N, t.1 < 16 → win0_8.index t = ![0, 0])
theorem index9 : ∀ t : Fin cfg0.N, t.1 < 16 → win0_9.index t = ![0, 0] := (by decide +kernel : ∀ t : Fin grid0.N, t.1 < 16 → win0_9.index t = ![0, 0])
theorem index13 : ∀ t : Fin cfg0.N, win0_13.index t = ![min t.1 15, 0, 0, 0] := (by decide +kernel : ∀ t : Fin grid0.N, win0_13.index t = ![min t.1 15, 0, 0, 0])
theorem index14 : ∀ t : Fin cfg0.N, win0_14.index t = ![min t.1 15, 0, 0, 0] := (by decide +kernel : ∀ t : Fin grid0.N, win0_14.index t = ![min t.1 15, 0, 0, 0])

/-- A prompts' tile takes its rows from the prompts' tokens. -/
theorem taken : ∀ t : Fin cfg0.N, t.1 < 16 → Scalar.cmpi .slt (BitVec.ofNat 32 (grid0.coords t 0).val) 16#32 = 1#1 :=
  (by decide +kernel : ∀ t : Fin grid0.N, t.1 < 16 → Scalar.cmpi .slt (BitVec.ofNat 32 (grid0.coords t 0).val) 16#32 = 1#1)

set_option maxHeartbeats 1000000 in
theorem block0 (t : Fin cfg0.N) (ht : t.1 < 16) (r : Fin 512) (k : Fin 1024) (s : Fin 32) (p : Fin 256) (h : s.1 * 256 + p.1 = t.1 * 512 + r.1) :
    iblk m c 0 t (ix2 r k) = tokens m c (ix3 s p k) := by
  have e := tokens_apply m c (⟨t.1 * 512 + r.1, by omega⟩ : Fin 8192) k
  rw [show (⟨(t.1 * 512 + r.1) / 256, by omega⟩ : Fin 32) = s from Fin.ext (by show (t.1 * 512 + r.1) / 256 = s.1; omega),
    show (⟨(t.1 * 512 + r.1) % 256, by omega⟩ : Fin 256) = p from Fin.ext (by show (t.1 * 512 + r.1) % 256 = p.1; omega)] at e
  rw [← e]
  clear e
  unfold iblk
  rw [View.read_apply]
  show V m c main_v0 _ = V m c main_v0 _
  congr 1
  funext a
  apply Fin.ext
  match a with
  | ⟨0, _⟩ => show win0_0.index t 0 * 512 + 1 * r.1 = t.1 * 512 + r.1; rw [index0 t ht]; show t.1 * 512 + 1 * r.1 = _; omega
  | ⟨1, _⟩ => show win0_0.index t 1 * 1024 + 1 * k.1 = k.1; rw [show win0_0.index t 1 = 0 from congrFun (index0 t ht) 1]; omega

theorem block2 (t : Fin cfg0.N) (ht : t.1 < 16) (i : Fin 6) (k : Fin 1024) : iblk m c 2 t (ix3 0 i k) = modulation m c (ix3 0 i k) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 1 + 1 * 0 = 0; rw [index2 t ht]; rfl
  | ⟨1, _⟩ => show win0_2.index t 1 * 6 + 1 * i.1 = i.1; rw [index2 t ht]; show 0 * 6 + 1 * i.1 = i.1; omega
  | ⟨2, _⟩ => show win0_2.index t 2 * 1024 + 1 * k.1 = k.1; rw [index2 t ht]; show 0 * 1024 + 1 * k.1 = k.1; omega

theorem block3 (t : Fin cfg0.N) (k : Fin 1024) : iblk m c 3 t (ix2 0 k) = norms m c (ix2 0 k) := by
  rw [← norms_apply]
  unfold iblk
  rw [View.read_apply]
  show V m c main_v60 _ = _
  congr 1
  funext a
  apply Fin.ext
  match a with
  | ⟨0, _⟩ => show win0_3.index t 0 * 1 + 1 * 0 = 0; rw [index3]; rfl
  | ⟨1, _⟩ => show win0_3.index t 1 * 1024 + 1 * k.1 = k.1; rw [index3]; show 0 * 1024 + 1 * k.1 = k.1; omega

theorem block4 (t : Fin cfg0.N) (k : Fin 1024) (L : Fin 1536) (l : Fin 512) (hL : L.1 = 1024 + l.1) : iblk m c 4 t (ix2 k L) = weights m c (ix3 0 k l) := by
  rw [← weights_apply]
  unfold iblk
  rw [View.read_apply]
  show V m c main_v5 _ = _
  congr 1
  funext a
  apply Fin.ext
  match a with
  | ⟨0, _⟩ => show win0_4.index t 0 * 1024 + 1 * k.1 = k.1; rw [index4]; show 0 * 1024 + 1 * k.1 = k.1; omega
  | ⟨1, _⟩ => show win0_4.index t 1 * 1536 + 1 * L.1 = 1024 + l.1; rw [index4]; show 0 * 1536 + 1 * L.1 = 1024 + l.1; omega

theorem block6 (t : Fin cfg0.N) (l : Fin 256) (e : Fin 64) (he : l.1 % 64 = e.1) : iblk m c 6 t (ix2 0 l) = keyNorms m c (ix2 0 e) := by
  have h := keyNorms_apply m c l
  rw [show (⟨l.1 % 64, by omega⟩ : Fin 64) = e from Fin.ext he] at h
  rw [← h]
  unfold iblk
  rw [View.read_apply]
  show V m c main_v68 _ = _
  congr 1
  funext a
  apply Fin.ext
  match a with
  | ⟨0, _⟩ => show win0_6.index t 0 * 1 + 1 * 0 = 0; rw [index6]; rfl
  | ⟨1, _⟩ => show win0_6.index t 1 * 256 + 1 * l.1 = l.1; rw [index6]; show 0 * 256 + 1 * l.1 = l.1; omega

theorem block7 (t : Fin cfg0.N) (e l : Fin 256) : iblk m c 7 t (ix2 e l) = if e.1 / 64 = l.1 / 64 then (1 : EReal) else 0 := by
  rw [← table_entry m c e l]
  unfold iblk
  rw [View.read_apply]
  show V m c main_v69 _ = _
  congr 1
  funext a
  apply Fin.ext
  match a with
  | ⟨0, _⟩ => show win0_7.index t 0 * 256 + 1 * e.1 = e.1; rw [index7]; show 0 * 256 + 1 * e.1 = e.1; omega
  | ⟨1, _⟩ => show win0_7.index t 1 * 256 + 1 * l.1 = l.1; rw [index7]; show 0 * 256 + 1 * l.1 = l.1; omega

theorem block8 (t : Fin cfg0.N) (ht : t.1 < 16) (r : Fin 512) (l : Fin 256) : iblk m c 8 t (ix2 r l) = Ideal.ofBits .f32 0x3F800000#32 := by
  rw [← ones_apply m c r l]
  unfold iblk
  rw [View.read_apply]
  show V m c main_v57 _ = _
  congr 1
  funext a
  apply Fin.ext
  match a with
  | ⟨0, _⟩ => show win0_8.index t 0 * 512 + 1 * r.1 = r.1; rw [index8 t ht]; show 0 * 512 + 1 * r.1 = r.1; omega
  | ⟨1, _⟩ => show win0_8.index t 1 * 256 + 1 * l.1 = l.1; rw [index8 t ht]; show 0 * 256 + 1 * l.1 = l.1; omega

theorem block9 (t : Fin cfg0.N) (ht : t.1 < 16) (r : Fin 512) (l : Fin 256) : iblk m c 9 t (ix2 r l) = Ideal.ofBits .f32 0x00000000#32 := by
  rw [← zeros_apply m c r l]
  unfold iblk
  rw [View.read_apply]
  show V m c main_v59 _ = _
  congr 1
  funext a
  apply Fin.ext
  match a with
  | ⟨0, _⟩ => show win0_9.index t 0 * 512 + 1 * r.1 = r.1; rw [index9 t ht]; show 0 * 512 + 1 * r.1 = r.1; omega
  | ⟨1, _⟩ => show win0_9.index t 1 * 256 + 1 * l.1 = l.1; rw [index9 t ht]; show 0 * 256 + 1 * l.1 = l.1; omega

/-! ## The keys and values of a prompts' tile -/

theorem acc_apply (t : Fin cfg0.N) (ht : t.1 < 16) (r : Fin 512) (L : Fin 1536) (l : Fin 512) (hL : L.1 = 1024 + l.1) (s : Fin 32) (p : Fin 256) (h : s.1 * 256 + p.1 = t.1 * 512 + r.1) :
    accOf (F := Ideal) (grid0.coords t) (iblk m c 0 t) (iblk m c 1 t) (iblk m c 2 t) (iblk m c 3 t) (iblk m c 4 t) (ix2 r L)
      = projected (fun k => tokens m c (ix3 s p k)) (fun k => norms m c (ix2 0 k)) (fun k => modulation m c (ix3 0 1 k)) (fun k => modulation m c (ix3 0 0 k)) (fun k => weights m c (ix3 0 k l)) := by
  rw [QkvBlock.accOf_apply _ (taken t ht)]
  simp only [fun k => block0 m c t ht r k s p h, block2 m c t ht, block3 m c t, fun k => block4 m c t k L l hL]

set_option maxHeartbeats 2000000 in
/-- The keys of a prompts' tile. -/
theorem tile_keys (t : Fin cfg0.N) (ht : t.1 < 16) (r : Fin 512) (j : Fin 4) (d : Fin 64) (L : Fin 256) (hL : L.1 = j.1 * 64 + d.1) (s : Fin 32) (p : Fin 256) (h : s.1 * 256 + p.1 = t.1 * 512 + r.1) :
    kOf (F := Ideal) (grid0.coords t) (iblk m c 0 t) (iblk m c 1 t) (iblk m c 2 t) (iblk m c 3 t) (iblk m c 4 t) (iblk m c 6 t) (iblk m c 7 t) (iblk m c 8 t) (iblk m c 9 t) (ix2 r L)
      = QkvEntry.key (fun k => tokens m c (ix3 s p k)) (fun k => norms m c (ix2 0 k)) (fun k => modulation m c (ix3 0 1 k)) (fun k => modulation m c (ix3 0 0 k)) (fun k l => weights m c (ix3 0 k l)) (fun e => keyNorms m c (ix2 0 e)) j d := by
  rw [show L = (⟨j.1 * 64 + d.1, by omega⟩ : Fin 256) from Fin.ext hL]
  unfold kOf
  rw [QkvBlock.keys_apply _ _ _ _ _ _ (fun r l => (QkvBlock.whole_angles (iblk m c 8 t) r l).trans (block8 m c t ht r l)) (fun r l => (QkvBlock.whole_angles (iblk m c 9 t) r l).trans (block9 m c t ht r l))
    (fun e l => (QkvBlock.whole_table (iblk m c 7 t) e l).trans (block7 m c t e l))]
  unfold QkvEntry.key
  refine congrArg₂ (fun a g => normed a g d) (funext fun e => ?_) (funext fun e => ?_)
  · exact acc_apply m c t ht r _ _ rfl s p h
  · exact (QkvBlock.whole_row (iblk m c 6 t) _).trans (block6 m c t _ e (by show (j.1 * 64 + e.1) % 64 = e.1; omega))

/-- The values of a prompts' tile. -/
theorem tile_values (t : Fin cfg0.N) (ht : t.1 < 16) (r : Fin 512) (j : Fin 4) (d : Fin 64) (L : Fin 256) (hL : L.1 = j.1 * 64 + d.1) (s : Fin 32) (p : Fin 256) (h : s.1 * 256 + p.1 = t.1 * 512 + r.1) :
    vOf (F := Ideal) (grid0.coords t) (iblk m c 0 t) (iblk m c 1 t) (iblk m c 2 t) (iblk m c 3 t) (iblk m c 4 t) (ix2 r L)
      = QkvEntry.value (fun k => tokens m c (ix3 s p k)) (fun k => norms m c (ix2 0 k)) (fun k => modulation m c (ix3 0 1 k)) (fun k => modulation m c (ix3 0 0 k)) (fun k l => weights m c (ix3 0 k l)) j d := by
  unfold vOf
  rw [QkvBlock.values_apply]
  unfold QkvEntry.value
  exact acc_apply m c t ht r _ _ (by show 1280 + L.1 = 1024 + (256 + j.1 * 64 + d.1); omega) s p h

/-! ## The result arrays -/

theorem idx_inj : ∀ t t' : Fin cfg0.N, (decide (t.1 < 15) || decide (t.1 = 23)) = true → (decide (t'.1 < 15) || decide (t'.1 = 23)) = true → min t.1 15 = min t'.1 15 → t = t' := by
  intro t t' h h' e
  simp only [Bool.or_eq_true, decide_eq_true_eq] at h h'
  exact Fin.ext (by omega)

theorem disjoint13 : ∀ t t' : Fin cfg0.N, (cfg0.win 13).flush t = true → (cfg0.win 13).flush t' = true → t ≠ t' →
    Disjoint ((cfg0.win 13).blk t).view.set ((cfg0.win 13).blk t').view.set :=
  fun t t' h h' hne => (cfg0.win 13).disjoint_blk fun e => hne (idx_inj t t' (by rw [← flush0_13]; exact h) (by rw [← flush0_13]; exact h') (by
    have e0 := congrFun (show win0_13.index t = win0_13.index t' from e) 0
    rw [index13, index13] at e0; exact e0))
theorem disjoint14 : ∀ t t' : Fin cfg0.N, (cfg0.win 14).flush t = true → (cfg0.win 14).flush t' = true → t ≠ t' →
    Disjoint ((cfg0.win 14).blk t).view.set ((cfg0.win 14).blk t').view.set :=
  fun t t' h h' hne => (cfg0.win 14).disjoint_blk fun e => hne (idx_inj t t' (by rw [← flush0_14]; exact h) (by rw [← flush0_14]; exact h') (by
    have e0 := congrFun (show win0_14.index t = win0_14.index t' from e) 0
    rw [index14, index14] at e0; exact e0))

/-- The tile that writes a sequence back, and the prompts' tile whose block it writes. -/
theorem written (s : Fin 32) : ∃ t : Fin cfg0.N, (decide (t.1 < 15) || decide (t.1 = 23)) = true ∧ min t.1 15 = s.1 / 2 ∧ (lastTile t).1 = s.1 / 2 := by
  have hN : cfg0.N = 24 := N_0
  by_cases h : s.1 / 2 < 15
  · refine ⟨⟨s.1 / 2, by omega⟩, by simp [h], by show min (s.1 / 2) 15 = _; omega, ?_⟩
    unfold lastTile
    rw [dif_pos (show s.1 / 2 < 16 by omega)]
  · refine ⟨⟨23, by omega⟩, by simp, by show min 23 15 = _; omega, ?_⟩
    unfold lastTile
    rw [dif_neg (show ¬ 23 < 16 by omega)]
    show 15 = _
    omega

/-- The keys' array. -/
theorem keys_array (s : Fin 32) (j : Fin 4) (p : Fin 256) (d : Fin 64) :
    (dats m 0 c).arrAt 13 cfg0.N (ix4 s j p d)
      = QkvEntry.key (fun k => tokens m c (ix3 s p k)) (fun k => norms m c (ix2 0 k)) (fun k => modulation m c (ix3 0 1 k)) (fun k => modulation m c (ix3 0 0 k)) (fun k l => weights m c (ix3 0 k l)) (fun e => keyNorms m c (ix2 0 e)) j d := by
  obtain ⟨t, hf, hi, hl⟩ := written s
  obtain ⟨b, hb⟩ : ∃ b : Fin 2, b.1 = s.1 % 2 := ⟨⟨_, by omega⟩, rfl⟩
  have h := congrFun ((dats m 0 c).read_blk_arrAt_eq_flushed 13 disjoint13 cfg0.N t t.isLt ((flush0_13 t).trans hf)) (ix4 b j p d)
  rw [show (dats m 0 c).flushed 13 t = (cfg0.win 13).cut (grid0.coords t) (keyBlock m c t) by show (cfg0.win 13).cut (grid0.coords t) ((dats m 0 c).after 13 t) = _; rw [after0_13], View.read_apply] at h
  have e : (dats m 0 c).arrAt 13 cfg0.N (ix4 s j p d) = keyBlock m c t (ix4 b j p d) := by
    refine Eq.trans ?_ h
    show (dats m 0 c).arrAt 13 cfg0.N _ = (dats m 0 c).arrAt 13 cfg0.N _
    congr 1
    funext a
    apply Fin.ext
    match a with
    | ⟨0, _⟩ => show s.1 = win0_13.index t 0 * 2 + 1 * b.1; rw [index13]; show s.1 = min t.1 15 * 2 + 1 * b.1; omega
    | ⟨1, _⟩ => show j.1 = win0_13.index t 1 * 4 + 1 * j.1; rw [index13]; show _ = 0 * 4 + 1 * j.1; omega
    | ⟨2, _⟩ => show p.1 = win0_13.index t 2 * 256 + 1 * p.1; rw [index13]; show _ = 0 * 256 + 1 * p.1; omega
    | ⟨3, _⟩ => show d.1 = win0_13.index t 3 * 64 + 1 * d.1; rw [index13]; show _ = 0 * 64 + 1 * d.1; omega
  rw [e]
  unfold keyBlock
  rw [QkvBlock.kBlock_apply]
  exact tile_keys m c (lastTile t) (by omega) _ j d _ (by show 64 * j.1 + d.1 = _; omega) s p (by show _ = (lastTile t).1 * 512 + (256 * b.1 + p.1); omega)

/-- The values' array. -/
theorem values_array (s : Fin 32) (j : Fin 4) (p : Fin 256) (d : Fin 64) :
    (dats m 0 c).arrAt 14 cfg0.N (ix4 s j p d)
      = QkvEntry.value (fun k => tokens m c (ix3 s p k)) (fun k => norms m c (ix2 0 k)) (fun k => modulation m c (ix3 0 1 k)) (fun k => modulation m c (ix3 0 0 k)) (fun k l => weights m c (ix3 0 k l)) j d := by
  obtain ⟨t, hf, hi, hl⟩ := written s
  obtain ⟨b, hb⟩ : ∃ b : Fin 2, b.1 = s.1 % 2 := ⟨⟨_, by omega⟩, rfl⟩
  have h := congrFun ((dats m 0 c).read_blk_arrAt_eq_flushed 14 disjoint14 cfg0.N t t.isLt ((flush0_14 t).trans hf)) (ix4 b j p d)
  rw [show (dats m 0 c).flushed 14 t = (cfg0.win 14).cut (grid0.coords t) (valueBlock m c t) by show (cfg0.win 14).cut (grid0.coords t) ((dats m 0 c).after 14 t) = _; rw [after0_14], View.read_apply] at h
  have e : (dats m 0 c).arrAt 14 cfg0.N (ix4 s j p d) = valueBlock m c t (ix4 b j p d) := by
    refine Eq.trans ?_ h
    show (dats m 0 c).arrAt 14 cfg0.N _ = (dats m 0 c).arrAt 14 cfg0.N _
    congr 1
    funext a
    apply Fin.ext
    match a with
    | ⟨0, _⟩ => show s.1 = win0_14.index t 0 * 2 + 1 * b.1; rw [index14]; show s.1 = min t.1 15 * 2 + 1 * b.1; omega
    | ⟨1, _⟩ => show j.1 = win0_14.index t 1 * 4 + 1 * j.1; rw [index14]; show _ = 0 * 4 + 1 * j.1; omega
    | ⟨2, _⟩ => show p.1 = win0_14.index t 2 * 256 + 1 * p.1; rw [index14]; show _ = 0 * 256 + 1 * p.1; omega
    | ⟨3, _⟩ => show d.1 = win0_14.index t 3 * 64 + 1 * d.1; rw [index14]; show _ = 0 * 64 + 1 * d.1; omega
  rw [e]
  unfold valueBlock
  rw [QkvBlock.vBlock_apply]
  exact tile_values m c (lastTile t) (by omega) _ j d _ (by show 64 * j.1 + d.1 = _; omega) s p (by show _ = (lastTile t).1 * 512 + (256 * b.1 + p.1); omega)

end Cert.QkvArray

end
-- ==== Proof.QkvReference.lean ====
/-
  What the keys' and values' reference computes: the prompts' tokens normalised by their root mean square, modulated and
  multiplied into the weights, the keys of each head normalised, read at an index of the two results.
-/
module

public import proofs.«01_k».proof.Proof.Gen.QkvReferenceIdeal.Run
public import proofs.«01_k».proof.Proof.QkvEntry
public import Idealize.ShloMosaic.Lib.Pointwise

@[expose] public section

set_option maxRecDepth 16384

noncomputable section

namespace Cert.QkvReference

open Cert.QkvReferenceIdeal Cert.QkvReferenceIdeal.Gen Idealize.ShloMosaic Idealize.ShloMosaic.TcCoe Idealize.SL.Sem Idealize.ShloMosaic.Pointwise

/-- The reciprocal root mean squares of the tokens. -/
def rms (y : FVec Ideal S32x256x1024 .f32) : FVec Ideal S32x256x1 .f32 :=
  Host.rsqrt (addf (Host.divf (broadcastInDim S32x256x1 ![0, 1] bcast_S32x256_S32x256x1_0_1 (Host.reduceAdd (mulf y y) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))

/-- The tokens, normalised and modulated. -/
def input (y : FVec Ideal S32x256x1024 .f32) (a : FVec Ideal S8x6x1024 .f32) (n : FVec Ideal S2x1024 .f32) : FVec Ideal S32x256x1024 .f32 :=
  addf (mulf (mulf (mulf y (broadcastInDim S32x256x1024 ![0, 1, 2] bcast_S32x256x1_S32x256x1024_0_1_2 (rms y)))
      (broadcastInDim S32x256x1024 ![0, 1, 2] bcast_S1x1x1024_S32x256x1024_0_1_2 (broadcastInDim S1x1x1024 ![2] bcast_S1024_S1x1x1024_2 (shapeCast _ (extractStridedSlice S1x1024 ![0, 0] n slices_S2x1024_S1x1024_0_0) shapeCasts_S1x1024_S1024))))
      (broadcastInDim S32x256x1024 ![0, 1, 2] bcast_S1x1x1024_S32x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] a slices_S8x6x1024_S1x1x1024_0_1_0) shapeCasts_S1x1x1024_S1x1024)))))
    (broadcastInDim S32x256x1024 ![0, 1, 2] bcast_S1x1x1024_S32x256x1024_0_1_2 (broadcastInDim S1x1x1024 ![0, 2] bcast_S1x1024_S1x1x1024_0_2 (shapeCast _ (extractStridedSlice S1x1x1024 ![0, 0, 0] a slices_S8x6x1024_S1x1x1024_0_0_0) shapeCasts_S1x1x1024_S1x1024)))

/-- The tokens multiplied into the weights, the columns split into keys and values, heads and a head's entries. -/
def heads (h : FVec Ideal S32x256x1024 .f32) (w : FVec Ideal S1x1024x512 .f32) : FVec Ideal S32x256x2x4x64 .f32 :=
  shapeCast _ (Host.dotGeneral dot_S32x256x1024_S1024x512_S32x256x512_2_0_01_1_n_n none h (shapeCast _ w shapeCasts_S1x1024x512_S1024x512)) shapeCasts_S32x256x512_S32x256x2x4x64

/-- The keys before their norm. -/
def keysOf (y : FVec Ideal S32x256x2x4x64 .f32) : FVec Ideal S32x256x4x64 .f32 :=
  shapeCast _ (extractStridedSlice S32x256x1x4x64 ![0, 0, 0, 0, 0] y slices_S32x256x2x4x64_S32x256x1x4x64_0_0_0_0_0) shapeCasts_S32x256x1x4x64_S32x256x4x64

/-- The keys' reciprocal root mean squares. -/
def keyRms (k : FVec Ideal S32x256x4x64 .f32) : FVec Ideal S32x256x4x1 .f32 :=
  Host.rsqrt (addf (Host.divf (broadcastInDim S32x256x4x1 ![0, 1, 2] bcast_S32x256x4_S32x256x4x1_0_1_2 (Host.reduceAdd (mulf k k) (constant S_ .f32 0x00000000#32) reducesTo_S32x256x4x64_S32x256x4_d3 h_S_)) (broadcastInDim S32x256x4x1 ![] bcast_S_S32x256x4x1 (constant S_ .f32 0x42800000#32))) (broadcastInDim S32x256x4x1 ![] bcast_S_S32x256x4x1 (constant S_ .f32 0x358637BD#32)))

/-- The keys, normalised, the heads before the tokens. -/
def keys (k : FVec Ideal S32x256x4x64 .f32) (g : FVec Ideal S1x64 .f32) : FVec Ideal S32x4x256x64 .f32 :=
  transpose S32x4x256x64 [0, 2, 1, 3] (mulf (mulf k (broadcastInDim S32x256x4x64 ![0, 1, 2, 3] bcast_S32x256x4x1_S32x256x4x64_0_1_2_3 (keyRms k)))
    (broadcastInDim S32x256x4x64 ![0, 1, 2, 3] bcast_S1x1x1x64_S32x256x4x64_0_1_2_3 (broadcastInDim S1x1x1x64 ![3] bcast_S64_S1x1x1x64_3 (shapeCast _ g shapeCasts_S1x64_S64)))) transposes_S32x256x4x64_S32x4x256x64_0_2_1_3

/-- The values, the heads before the tokens. -/
def values (y : FVec Ideal S32x256x2x4x64 .f32) : FVec Ideal S32x4x256x64 .f32 :=
  transpose S32x4x256x64 [0, 2, 1, 3] (shapeCast _ (extractStridedSlice S32x256x1x4x64 ![0, 0, 1, 0, 0] y slices_S32x256x2x4x64_S32x256x1x4x64_0_0_1_0_0) shapeCasts_S32x256x1x4x64_S32x256x4x64) transposes_S32x256x4x64_S32x4x256x64_0_2_1_3

theorem rms_apply (y : FVec Ideal S32x256x1024 .f32) (s : Fin 32) (p : Fin 256) :
    rms y (ix3 s p 0) = Ideal.rsqrt (Ideal.div (∑ j : Fin 1024, y (ix3 s p j) * y (ix3 s p j)) (Ideal.ofBits .f32 0x44800000#32) + Ideal.ofBits .f32 0x358637BD#32) := by
  pointwise [rms]

theorem input_apply (y : FVec Ideal S32x256x1024 .f32) (a : FVec Ideal S8x6x1024 .f32) (n : FVec Ideal S2x1024 .f32) (s : Fin 32) (p : Fin 256) (k : Fin 1024) :
    input y a n (ix3 s p k) = y (ix3 s p k) * rms y (ix3 s p 0) * n (ix2 0 k) * (Ideal.ofBits .f32 0x3F800000#32 + a (ix3 0 1 k)) + a (ix3 0 0 k) := by
  pointwise [input]

theorem keysOf_apply (h : FVec Ideal S32x256x1024 .f32) (w : FVec Ideal S1x1024x512 .f32) (s : Fin 32) (p : Fin 256) (j : Fin 4) (d : Fin 64) :
    keysOf (heads h w) (ix4 s p j d) = ∑ k : Fin 1024, h (ix3 s p k) * w (ix3 0 k (⟨j.1 * 64 + d.1, by omega⟩ : Fin 512)) := by
  pointwise [keysOf, heads]

theorem values_apply (h : FVec Ideal S32x256x1024 .f32) (w : FVec Ideal S1x1024x512 .f32) (s : Fin 32) (j : Fin 4) (p : Fin 256) (d : Fin 64) :
    values (heads h w) (ix4 s j p d) = ∑ k : Fin 1024, h (ix3 s p k) * w (ix3 0 k (⟨256 + j.1 * 64 + d.1, by omega⟩ : Fin 512)) := by
  pointwise [values, heads]

theorem keyRms_apply (k : FVec Ideal S32x256x4x64 .f32) (s : Fin 32) (p : Fin 256) (j : Fin 4) :
    keyRms k (ix4 s p j 0) = Ideal.rsqrt (Ideal.div (∑ e : Fin 64, k (ix4 s p j e) * k (ix4 s p j e)) (Ideal.ofBits .f32 0x42800000#32) + Ideal.ofBits .f32 0x358637BD#32) := by
  pointwise [keyRms]

theorem keys_apply (k : FVec Ideal S32x256x4x64 .f32) (g : FVec Ideal S1x64 .f32) (s : Fin 32) (j : Fin 4) (p : Fin 256) (d : Fin 64) :
    keys k g (ix4 s j p d) = k (ix4 s p j d) * keyRms k (ix4 s p j 0) * g (ix2 0 d) := by
  pointwise [keys]

/-- The two results as functions of the arrays. -/
def newKeys (x : FVec Ideal S32x256x1024 .f32) (a : FVec Ideal S8x6x1024 .f32) (n : FVec Ideal S2x1024 .f32) (w : FVec Ideal S1x1024x512 .f32)
    (g : FVec Ideal S1x64 .f32) : FVec Ideal S32x4x256x64 .f32 := keys (keysOf (heads (input x a n) w)) g
def newValues (x : FVec Ideal S32x256x1024 .f32) (a : FVec Ideal S8x6x1024 .f32) (n : FVec Ideal S2x1024 .f32) (w : FVec Ideal S1x1024x512 .f32) :
    FVec Ideal S32x4x256x64 .f32 := values (heads (input x a n) w)

theorem newKeys_apply (x : FVec Ideal S32x256x1024 .f32) (a : FVec Ideal S8x6x1024 .f32) (n : FVec Ideal S2x1024 .f32) (w : FVec Ideal S1x1024x512 .f32)
    (g : FVec Ideal S1x64 .f32) (s : Fin 32) (j : Fin 4) (p : Fin 256) (d : Fin 64) :
    newKeys x a n w g (ix4 s j p d)
      = QkvEntry.key (fun k => x (ix3 s p k)) (fun k => n (ix2 0 k)) (fun k => a (ix3 0 1 k)) (fun k => a (ix3 0 0 k)) (fun k l => w (ix3 0 k l)) (fun e => g (ix2 0 e)) j d := by
  unfold newKeys QkvEntry.key QkvEntry.normed QkvEntry.projected
  simp only [keys_apply, keyRms_apply, keysOf_apply, input_apply, rms_apply]

theorem newValues_apply (x : FVec Ideal S32x256x1024 .f32) (a : FVec Ideal S8x6x1024 .f32) (n : FVec Ideal S2x1024 .f32) (w : FVec Ideal S1x1024x512 .f32)
    (s : Fin 32) (j : Fin 4) (p : Fin 256) (d : Fin 64) :
    newValues x a n w (ix4 s j p d)
      = QkvEntry.value (fun k => x (ix3 s p k)) (fun k => n (ix2 0 k)) (fun k => a (ix3 0 1 k)) (fun k => a (ix3 0 0 k)) (fun k l => w (ix3 0 k l)) j d := by
  unfold newValues QkvEntry.value QkvEntry.projected
  simp only [values_apply, input_apply, rms_apply]

set_option maxHeartbeats 2000000 in
/-- The reference ends with the two results of its arguments. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48) = newKeys (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7))
      ∧ r.2.mem ((c.tc : Thread nD τ).loc main_v49) = newValues (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans rfl, (h c).2.1.trans rfl, (h c).2.2⟩) (Cert.QkvReferenceIdeal.Value.run m ρ)

end Cert.QkvReference

end
-- ==== Proof.QkvEquation.lean ====
/-
  The query, key and value call's two programs end with the same new keys and values, and its reference ends with its
  arguments unchanged.
-/
module

public import proofs.«01_k».proof.Defs
public import proofs.«01_k».proof.Proof.QkvArray
public import proofs.«01_k».proof.Proof.QkvReference

@[expose] public section

set_option maxRecDepth 16384

noncomputable section

namespace Cert.QkvEquation

open Idealize.ShloMosaic Idealize.ShloMosaic.TcCoe Idealize.SL.Sem Idealize.ShloMosaic.Pointwise
open Cert.QkvArray (tokens modulation norms weights keyNorms)

/-- The array of the new keys after the run is the reference's function of the launched arrays. -/
theorem keys_eq (m : (ℓ : Loc Cert.QkvIdeal.nD Cert.QkvIdeal.τ Cert.QkvIdeal.sig) → Buf (Elt Ideal) ℓ) (c : Dev Cert.QkvIdeal.nD) :
    (Cert.QkvIdeal.Gen.dats m 0 c).arrAt 13 Cert.QkvIdeal.cfg0.N
      = Cert.QkvReference.newKeys (tokens m c) (modulation m c) (norms m c) (weights m c) (keyNorms m c) := by
  funext i
  obtain ⟨s, j, p, d, rfl⟩ : ∃ (s : Fin 32) (j : Fin 4) (p : Fin 256) (d : Fin 64), i = ix4 s j p d := ⟨i 0, i 1, i 2, i 3, eq_ix4 i⟩
  rw [Cert.QkvArray.keys_array]
  exact (Cert.QkvReference.newKeys_apply _ _ _ _ _ s j p d).symm

/-- The array of the new values likewise. -/
theorem values_eq (m : (ℓ : Loc Cert.QkvIdeal.nD Cert.QkvIdeal.τ Cert.QkvIdeal.sig) → Buf (Elt Ideal) ℓ) (c : Dev Cert.QkvIdeal.nD) :
    (Cert.QkvIdeal.Gen.dats m 0 c).arrAt 14 Cert.QkvIdeal.cfg0.N
      = Cert.QkvReference.newValues (tokens m c) (modulation m c) (norms m c) (weights m c) := by
  funext i
  obtain ⟨s, j, p, d, rfl⟩ : ∃ (s : Fin 32) (j : Fin 4) (p : Fin 256) (d : Fin 64), i = ix4 s j p d := ⟨i 0, i 1, i 2, i 3, eq_ix4 i⟩
  rw [Cert.QkvArray.values_array]
  exact (Cert.QkvReference.newValues_apply _ _ _ _ s j p d).symm

/-- The new keys and values: both programs end with the reference's. -/
theorem newKeysValues :
    algebraic_QkvIdeal_QkvReferenceIdeal (hQkvIdeal := Cert.QkvIdeal.Gen.facts) (hQkvReferenceIdeal := Cert.QkvReferenceIdeal.Gen.facts) := by
  intro m g m' g' _ hargs
  refine ⟨fun c => Cert.QkvReference.newKeys (tokens m c) (modulation m c) (norms m c) (weights m c) (keyNorms m c),
    fun c => Cert.QkvReference.newValues (tokens m c) (modulation m c) (norms m c) (weights m c), ?_, ?_⟩
  · exact (θ_run _ _ _).mono (fun r h c => ⟨(h.1 c).1.trans (keys_eq m c), (h.1 c).2.trans (values_eq m c), h.2 c⟩)
      (θ_run_and (Cert.QkvIdeal.Gen.run_results m g) (Cert.QkvIdeal.Gen.unchanged m g))
  · refine (θ_run _ _ _).mono (fun r h c => ?_) (Cert.QkvReference.run_results m' g')
    obtain ⟨e0, e1, e2, e3, e4, e5, e6, e7⟩ := hargs c
    refine ⟨(h c).1.trans ?_, (h c).2.1.trans ?_, (h c).2.2⟩
    · rw [e0, e2, e3, e5, e7]
    · rw [e0, e2, e3, e5]

/-- The reference declares no semaphore, so every counter is at zero. -/
theorem reference_counters {α : Type} [Zero α]
    (f : GSem Cert.QkvReferenceIdeal.nD Cert.QkvReferenceIdeal.τ Cert.QkvReferenceIdeal.sig → α) : f = fun _ => 0 :=
  funext fun s => match s with
    | (_, .reg i) => i.elim0
    | (_, .dma i) => i.elim0

/-- The reference ends with its arguments unchanged and every counter at zero. -/
theorem reference_frame : quiescent_QkvReferenceIdeal (hQkvReferenceIdeal := Cert.QkvReferenceIdeal.Gen.facts) :=
  fun m ρ _ => (θ_run _ _ _).mono (fun _ h => ⟨fun c => (h c).2.2, reference_counters _⟩) (Cert.QkvReference.run_results m ρ)

end Cert.QkvEquation

end
-- ==== Proof.lean ====
/-
  The certificate: the programs' frames as their frame modules prove them, the idealization's trivial preservation, and
  the result arrays of the latent attention, the experts, the Hyena input projection and the query, key and value call
  equal to their references'.
-/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import proofs.«01_k».proof.Proof.Finite
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal.Value
public import proofs.«01_k».proof.Proof.Gen.ProjectionReferenceIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Run
public import proofs.«01_k».proof.Proof.ExpertsEquation
public import proofs.«01_k».proof.Proof.ProjectionEquation
public import proofs.«01_k».proof.Proof.QkvFrame
public import proofs.«01_k».proof.Proof.QkvEquation
public import Idealize.ShloMosaic.Adequacy
public import Idealize.ShloMosaic.Init

@[expose] public section

noncomputable section

namespace Cert.Proof

open Idealize.ShloMosaic Idealize.SL.Sem

/-- The latent attention: both programs end with the reference's attention, for finite queries and keys. -/
theorem latent_attention :
    algebraic_KernelIdeal_ReferenceIdeal_pre_finite (hKernelIdeal := Cert.KernelIdeal.Gen.facts) (hReferenceIdeal := Cert.ReferenceIdeal.Gen.facts)
      (hPre_finite := Cert.Finite.facts) := by
  intro m g m' g' hpre hargs
  refine ⟨fun c => Cert.Reference.result (Cert.Host.queries m c) (Cert.Host.keys m c) (Cert.Host.values m c) (Cert.Host.cacheK m c) (Cert.Host.cacheV m c), ?_, ?_⟩
  · refine (θ_run _ _ _).mono (fun r h c => ?_) (Cert.KernelIdeal.Value.run_blocks m g)
    obtain ⟨hq, hk, hc⟩ := Cert.Finite.of_pre m hpre c
    exact ⟨(h c).1.trans (Cert.Equation.array_eq m c hq hk hc), (h c).2⟩
  · refine (θ_run _ _ _).mono (fun r h c => ?_) (Cert.Reference.run m' g')
    obtain ⟨_, e1, e2, e3, e4, e5⟩ := hargs c
    refine ⟨(h c).1.trans ?_, (h c).2⟩
    rw [e1, e2, e3, e4, e5]

/-- The reference declares no semaphore, so every counter is at zero. -/
theorem reference_counters {α : Type} [Zero α] (f : GSem Cert.ReferenceIdeal.nD Cert.ReferenceIdeal.τ Cert.ReferenceIdeal.sig → α) : f = fun _ => 0 :=
  funext fun s => match s with
    | (_, .reg i) => i.elim0
    | (_, .dma i) => i.elim0

/-- The reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun _ h => ⟨fun c => (h c).2, reference_counters _⟩) (Cert.Reference.run m ρ)

/-- The certificate. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Projection.Gen.facts, Cert.ProjectionIdeal.Gen.facts, Cert.ProjectionReferenceIdeal.Gen.facts,
    Cert.Qkv.Gen.facts, Cert.QkvIdeal.Gen.facts, Cert.QkvReferenceIdeal.Gen.facts,
    Cert.Finite.facts, Cert.ExpertsPre.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    Cert.ExpertsPre.frame_bits,
    Cert.ExpertsPre.frame_ideal,
    Cert.ExpertsEquation.reference_frame,
    Cert.ExpertsEquation.reference_frame_pre,
    fun m ρ _ => Cert.Projection.Gen.frame m ρ,
    fun m ρ _ => Cert.ProjectionIdeal.Gen.frame m ρ,
    Cert.ProjectionEquation.reference_frame,
    fun m ρ _ => Cert.Qkv.Gen.frame m ρ,
    fun m ρ _ => Cert.QkvIdeal.Gen.frame m ρ,
    Cert.QkvEquation.reference_frame,
    trivial,
    latent_attention,
    trivial,
    Cert.ExpertsEquation.experts,
    trivial,
    Cert.ProjectionEquation.projection,
    trivial,
    Cert.QkvEquation.newKeysValues⟩

end Cert.Proof

end
